-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)) (v6 : (c : Dev Cert.KernelIdeal.nD) → Buf (Elt Ideal) ((c.tc : Thread Cert.KernelIdeal.nD Cert.KernelIdeal.τ).loc Cert.KernelIdeal.main_v3_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_v3_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v132) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_v13) = v3 c
          ∧ r.2.mem ((c.tc : Thread Cert.ReferenceIdeal.nD Cert.ReferenceIdeal.τ).loc Cert.ReferenceIdeal.main_v142) = v4 c
          ∧ r.2.mem ((c.tc : Thread Cert.ReferenceIdeal.nD Cert.ReferenceIdeal.τ).loc Cert.ReferenceIdeal.main_v35) = v5 c
          ∧ r.2.mem ((c.tc : Thread Cert.ReferenceIdeal.nD Cert.ReferenceIdeal.τ).loc Cert.ReferenceIdeal.main_v36) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x4096 : Shape := ⟨3, ![8, 1, 4096]⟩
abbrev S8x1x4x128 : Shape := ⟨4, ![8, 1, 4, 128]⟩
abbrev S8x4x32640x64 : Shape := ⟨4, ![8, 4, 32640, 64]⟩
abbrev S8x4x1020x128 : Shape := ⟨4, ![8, 4, 1020, 128]⟩
abbrev S8x4x32640x4 : Shape := ⟨4, ![8, 4, 32640, 4]⟩
abbrev S8x4x128x128 : Shape := ⟨4, ![8, 4, 128, 128]⟩
abbrev S32x8x128 : Shape := ⟨3, ![32, 8, 128]⟩
abbrev S32x128 : Shape := ⟨2, ![32, 128]⟩
abbrev S32x64 : Shape := ⟨2, ![32, 64]⟩
abbrev S32x4 : Shape := ⟨2, ![32, 4]⟩
abbrev S1x8x128 : Shape := ⟨3, ![1, 8, 128]⟩
abbrev S1x1x6528x64 : Shape := ⟨4, ![1, 1, 6528, 64]⟩
abbrev S1x1x1020x128 : Shape := ⟨4, ![1, 1, 1020, 128]⟩
abbrev S1x1x6528x4 : Shape := ⟨4, ![1, 1, 6528, 4]⟩
abbrev S1x1x128x128 : Shape := ⟨4, ![1, 1, 128, 128]⟩
abbrev S1024x128 : Shape := ⟨2, ![1024, 128]⟩
abbrev S8x6528 : Shape := ⟨2, ![8, 6528]⟩
abbrev S8x128 : Shape := ⟨2, ![8, 128]⟩
abbrev S128x128 : Shape := ⟨2, ![128, 128]⟩
abbrev S32 : Shape := ⟨1, ![32]⟩
abbrev S32x1 : Shape := ⟨2, ![32, 1]⟩
abbrev S128x64 : Shape := ⟨2, ![128, 64]⟩
abbrev S128x4 : Shape := ⟨2, ![128, 4]⟩
abbrev S1020x128 : Shape := ⟨2, ![1020, 128]⟩
abbrev S1x1x384x64 : Shape := ⟨4, ![1, 1, 384, 64]⟩
abbrev S384x64 : Shape := ⟨2, ![384, 64]⟩
abbrev S96x64 : Shape := ⟨2, ![96, 64]⟩
abbrev S96x128 : Shape := ⟨2, ![96, 128]⟩
abbrev S384x128 : Shape := ⟨2, ![384, 128]⟩
abbrev S1x128 : Shape := ⟨2, ![1, 128]⟩
abbrev S16x128 : Shape := ⟨2, ![16, 128]⟩
abbrev S8x384 : Shape := ⟨2, ![8, 384]⟩
abbrev S8 : Shape := ⟨1, ![8]⟩
abbrev S8x1 : Shape := ⟨2, ![8, 1]⟩
abbrev S4x128 : Shape := ⟨2, ![4, 128]⟩
abbrev S1x1x384x4 : Shape := ⟨4, ![1, 1, 384, 4]⟩
abbrev S384x4 : Shape := ⟨2, ![384, 4]⟩
abbrev S144x128 : Shape := ⟨2, ![144, 128]⟩
abbrev S8x144 : Shape := ⟨2, ![8, 144]⟩

abbrev nBuf : Space → Nat
  | .hbm => 21
  | .vmem => 36
  | .smem => 0
  | _ => 0

abbrev bufTy : (tb : Table) → Fin (tcTables nBuf tb) → BufTy
  | .hbm, ⟨0, _⟩ => ⟨S8x1x4096, .bf16⟩
  | .hbm, ⟨1, _⟩ => ⟨S8x1x4x128, .bf16⟩
  | .hbm, ⟨2, _⟩ => ⟨S8x1x4x128, .bf16⟩
  | .hbm, ⟨3, _⟩ => ⟨S8x4x32640x64, .i8⟩
  | .hbm, ⟨4, _⟩ => ⟨S8x4x1020x128, .bf16⟩
  | .hbm, ⟨5, _⟩ => ⟨S8x4x1020x128, .bf16⟩
  | .hbm, ⟨6, _⟩ => ⟨S8x4x32640x64, .i8⟩
  | .hbm, ⟨7, _⟩ => ⟨S8x4x32640x4, .bf16⟩
  | .hbm, ⟨8, _⟩ => ⟨S8x4x32640x4, .bf16⟩
  | .hbm, ⟨9, _⟩ => ⟨S8x4x128x128, .bf16⟩
  | .hbm, ⟨10, _⟩ => ⟨S8x4x128x128, .bf16⟩
  | .hbm, ⟨11, _⟩ => ⟨S32x8x128, .bf16⟩
  | .hbm, ⟨12, _⟩ => ⟨S32x128, .bf16⟩
  | .hbm, ⟨13, _⟩ => ⟨S32x128, .bf16⟩
  | .hbm, ⟨14, _⟩ => ⟨S32x8x128, .bf16⟩
  | .hbm, ⟨15, _⟩ => ⟨S32x64, .i8⟩
  | .hbm, ⟨16, _⟩ => ⟨S32x4, .bf16⟩
  | .hbm, ⟨17, _⟩ => ⟨S32x4, .bf16⟩
  | .hbm, ⟨18, _⟩ => ⟨S32x64, .i8⟩
  | .hbm, ⟨19, _⟩ => ⟨S32x4, .bf16⟩
  | .hbm, ⟨20, _⟩ => ⟨S32x4, .bf16⟩
  | .local _ .vmem, ⟨0, _⟩ => ⟨S1x8x128, .bf16⟩
  | .local _ .vmem, ⟨1, _⟩ => ⟨S1x8x128, .bf16⟩
  | .local _ .vmem, ⟨2, _⟩ => ⟨S32x128, .bf16⟩
  | .local _ .vmem, ⟨3, _⟩ => ⟨S32x128, .bf16⟩
  | .local _ .vmem, ⟨4, _⟩ => ⟨S1x1x6528x64, .i8⟩
  | .local _ .vmem, ⟨5, _⟩ => ⟨S1x1x6528x64, .i8⟩
  | .local _ .vmem, ⟨6, _⟩ => ⟨S1x1x1020x128, .bf16⟩
  | .local _ .vmem, ⟨7, _⟩ => ⟨S1x1x1020x128, .bf16⟩
  | .local _ .vmem, ⟨8, _⟩ => ⟨S1x1x1020x128, .bf16⟩
  | .local _ .vmem, ⟨9, _⟩ => ⟨S1x1x1020x128, .bf16⟩
  | .local _ .vmem, ⟨10, _⟩ => ⟨S1x1x6528x64, .i8⟩
  | .local _ .vmem, ⟨11, _⟩ => ⟨S1x1x6528x64, .i8⟩
  | .local _ .vmem, ⟨12, _⟩ => ⟨S1x1x6528x4, .bf16⟩
  | .local _ .vmem, ⟨13, _⟩ => ⟨S1x1x6528x4, .bf16⟩
  | .local _ .vmem, ⟨14, _⟩ => ⟨S1x1x6528x4, .bf16⟩
  | .local _ .vmem, ⟨15, _⟩ => ⟨S1x1x6528x4, .bf16⟩
  | .local _ .vmem, ⟨16, _⟩ => ⟨S1x1x128x128, .bf16⟩
  | .local _ .vmem, ⟨17, _⟩ => ⟨S1x1x128x128, .bf16⟩
  | .local _ .vmem, ⟨18, _⟩ => ⟨S1x1x128x128, .bf16⟩
  | .local _ .vmem, ⟨19, _⟩ => ⟨S1x1x128x128, .bf16⟩
  | .local _ .vmem, ⟨20, _⟩ => ⟨S1x8x128, .bf16⟩
  | .local _ .vmem, ⟨21, _⟩ => ⟨S1x8x128, .bf16⟩
  | .local _ .vmem, ⟨22, _⟩ => ⟨S32x64, .i8⟩
  | .local _ .vmem, ⟨23, _⟩ => ⟨S32x4, .bf16⟩
  | .local _ .vmem, ⟨24, _⟩ => ⟨S32x4, .bf16⟩
  | .local _ .vmem, ⟨25, _⟩ => ⟨S32x64, .i8⟩
  | .local _ .vmem, ⟨26, _⟩ => ⟨S32x4, .bf16⟩
  | .local _ .vmem, ⟨27, _⟩ => ⟨S32x4, .bf16⟩
  | .local _ .vmem, ⟨28, _⟩ => ⟨S1024x128, .f32⟩
  | .local _ .vmem, ⟨29, _⟩ => ⟨S1024x128, .f32⟩
  | .local _ .vmem, ⟨30, _⟩ => ⟨S8x6528, .f32⟩
  | .local _ .vmem, ⟨31, _⟩ => ⟨S8x128, .f32⟩
  | .local _ .vmem, ⟨32, _⟩ => ⟨S8x128, .f32⟩
  | .local _ .vmem, ⟨33, _⟩ => ⟨S8x128, .f32⟩
  | .local _ .vmem, ⟨34, _⟩ => ⟨S32x128, .f32⟩
  | .local _ .vmem, ⟨35, _⟩ => ⟨S32x128, .f32⟩
  | _, _ => ⟨S8x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev main_v3_3 : Ref sig .tc := ⟨.hbm, 17, rfl⟩
abbrev main_v3_4 : Ref sig .tc := ⟨.hbm, 18, rfl⟩
abbrev main_v3_5 : Ref sig .tc := ⟨.hbm, 19, rfl⟩
abbrev main_v3_6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_scratch7 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨2, ![32, 5], ![false, false]⟩

@[reducible] def k0_t1_loop : Scf.Loop 32 :=
  let c0_i32_8 : BitVec 32 := 0#32
  let c17_i32 : BitVec 32 := 17#32
  let v29 : BitVec 32 := Scalar.addi c0_i32_8 c17_i32
  let c1_i32_9 : BitVec 32 := 1#32
  ⟨c0_i32_8, v29, c1_i32_9⟩
def k0_off1 (k0_t1 : Fin k0_t1_loop.trips) : Fin 4 → Nat :=
  let c0_46 : Index := 0#32
  let c0_47 : Index := 0#32
  let c0_i32_8 : BitVec 32 := 0#32
  let c1_i32_9 : BitVec 32 := 1#32
  let arg28 : BitVec 32 := Scf.iv c0_i32_8 c1_i32_9 k0_t1
  let c384_i32 : BitVec 32 := 384#32
  let v112 : BitVec 32 := Scalar.muli arg28 c384_i32
  let v113 : Index := Scalar.indexCast v112
  let c0_48 : Index := 0#32
  ![0, 0, v113.toNat, 0]
def k0_off2 (i : grid0.Coords) (k0_t1 : Fin k0_t1_loop.trips) (c0_i32_50 : BitVec 32) : Fin 2 → Nat :=
  let arg1 : BitVec 32 := BitVec.ofNat 32 (i 1).val
  let c204_i32 : BitVec 32 := 204#32
  let v124 : BitVec 32 := Scalar.muli arg1 c204_i32
  let c0_i32_8 : BitVec 32 := 0#32
  let c1_i32_9 : BitVec 32 := 1#32
  let arg28 : BitVec 32 := Scf.iv c0_i32_8 c1_i32_9 k0_t1
  let c12_i32 : BitVec 32 := 12#32
  let v125 : BitVec 32 := Scalar.muli arg28 c12_i32
  let v126 : BitVec 32 := Scalar.addi v124 v125
  let v127 : BitVec 32 := Scalar.addi v126 c0_i32_50
  let v128 : Index := Scalar.indexCast v127
  let c0_51 : Index := 0#32
  ![v128.toNat, 0]
def k0_mult1 (k0_t1 : Fin k0_t1_loop.trips) : BitVec 32 :=
  let c0_i32_8 : BitVec 32 := 0#32
  let c1_i32_9 : BitVec 32 := 1#32
  let arg28 : BitVec 32 := Scf.iv c0_i32_8 c1_i32_9 k0_t1
  let c384_i32_92 : BitVec 32 := 384#32
  let v347 : BitVec 32 := Scalar.muli arg28 c384_i32_92
  v347
def k0_off3 (k0_t1 : Fin k0_t1_loop.trips) : Fin 2 → Nat :=
  let c0_93 : Index := 0#32
  let c0_i32_8 : BitVec 32 := 0#32
  let c1_i32_9 : BitVec 32 := 1#32
  let arg28 : BitVec 32 := Scf.iv c0_i32_8 c1_i32_9 k0_t1
  let c384_i32_92 : BitVec 32 := 384#32
  let v347 : BitVec 32 := Scalar.muli arg28 c384_i32_92
  let v348 : BitVec 32 := v347
  let v349 : Index := Scalar.indexCast v348
  ![0, v349.toNat]
@[reducible] def k0_t2_loop : Scf.Loop 32 :=
  let c0_i32_41 : BitVec 32 := 0#32
  let c17_i32_42 : BitVec 32 := 17#32
  let v108 : BitVec 32 := Scalar.addi c0_i32_41 c17_i32_42
  let c1_i32_43 : BitVec 32 := 1#32
  ⟨c0_i32_41, v108, c1_i32_43⟩
def k0_off4 (k0_t2 : Fin k0_t2_loop.trips) : Fin 4 → Nat :=
  let c0_46 : Index := 0#32
  let c0_47 : Index := 0#32
  let c0_i32_41 : BitVec 32 := 0#32
  let c1_i32_43 : BitVec 32 := 1#32
  let arg28 : BitVec 32 := Scf.iv c0_i32_41 c1_i32_43 k0_t2
  let c384_i32 : BitVec 32 := 384#32
  let v112 : BitVec 32 := Scalar.muli arg28 c384_i32
  let v113 : Index := Scalar.indexCast v112
  let c0_48 : Index := 0#32
  ![0, 0, v113.toNat, 0]
def k0_off5 (k0_t2 : Fin k0_t2_loop.trips) : Fin 4 → Nat :=
  let c0_50 : Index := 0#32
  let c0_51 : Index := 0#32
  let c0_i32_41 : BitVec 32 := 0#32
  let c1_i32_43 : BitVec 32 := 1#32
  let arg28 : BitVec 32 := Scf.iv c0_i32_41 c1_i32_43 k0_t2
  let c384_i32 : BitVec 32 := 384#32
  let v112 : BitVec 32 := Scalar.muli arg28 c384_i32
  let v124 : Index := Scalar.indexCast v112
  let c0_52 : Index := 0#32
  ![0, 0, v124.toNat, 0]
def k0_mult2 (k0_t2 : Fin k0_t2_loop.trips) : BitVec 32 :=
  let c0_i32_41 : BitVec 32 := 0#32
  let c1_i32_43 : BitVec 32 := 1#32
  let arg28 : BitVec 32 := Scf.iv c0_i32_41 c1_i32_43 k0_t2
  let c384_i32_58 : BitVec 32 := 384#32
  let v136 : BitVec 32 := Scalar.muli arg28 c384_i32_58
  v136
def k0_off6 (k0_t2 : Fin k0_t2_loop.trips) : Fin 2 → Nat :=
  let c0_59 : Index := 0#32
  let c0_i32_41 : BitVec 32 := 0#32
  let c1_i32_43 : BitVec 32 := 1#32
  let arg28 : BitVec 32 := Scf.iv c0_i32_41 c1_i32_43 k0_t2
  let c384_i32_58 : BitVec 32 := 384#32
  let v136 : BitVec 32 := Scalar.muli arg28 c384_i32_58
  let v137 : BitVec 32 := v136
  let v138 : Index := Scalar.indexCast v137
  ![0, v138.toNat]
def k0_cond3 (i : grid0.Coords) : BitVec 1 :=
  let arg1 : BitVec 32 := BitVec.ofNat 32 (i 1).val
  let c4_i32 : BitVec 32 := 4#32
  let v109 : BitVec 1 := Scalar.cmpi .eq arg1 c4_i32
  let v110 : BitVec 32 := Scalar.extui v109
  let c0_i32_45 : BitVec 32 := 0#32
  let v111 : BitVec 1 := Scalar.cmpi .ne v110 c0_i32_45
  v111

def k0_off7 (i : grid0.Coords) : Fin 2 → Nat :=
  let arg0 : BitVec 32 := BitVec.ofNat 32 (i 0).val
  let v112 : Index := Scalar.indexCast arg0
  let c0_46 : Index := 0#32
  ![v112.toNat, 0]
def k0_cond1 (i : grid0.Coords) : BitVec 1 :=
  let arg0 : BitVec 32 := BitVec.ofNat 32 (i 0).val
  let c0_i32 : BitVec 32 := 0#32
  let v21 : BitVec 1 := Scalar.cmpi .eq arg0 c0_i32
  let arg1 : BitVec 32 := BitVec.ofNat 32 (i 1).val
  let c0_i32_4 : BitVec 32 := 0#32
  let v22 : BitVec 1 := Scalar.cmpi .eq arg1 c0_i32_4
  let v23 : BitVec 1 := Scalar.andi v21 v22
  let v24 : BitVec 32 := Scalar.extui v23
  let c0_i32_5 : BitVec 32 := 0#32
  let v25 : BitVec 1 := Scalar.cmpi .ne v24 c0_i32_5
  v25

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg1.toNat, c0_i32_10.toNat]

def cc0_transform_4 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_6 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg1.toNat, c0_i32_10.toNat]

def cc0_transform_7 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg1.toNat, c0_i32_10.toNat]

def cc0_transform_8 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg1.toNat, c0_i32_10.toNat]

def cc0_transform_9 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_10 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S32x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x6528x64 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1020x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1020x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x6528x64 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x6528x4 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x6528x4 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S32x64 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S32x4 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S32x4 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S32x64 .i8 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S32x4 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S32x4 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]
-- ==== ReferenceIdeal.lean ====
abbrev S8x1x4096 : Shape := ⟨3, ![8, 1, 4096]⟩
abbrev S8x1x4x128 : Shape := ⟨4, ![8, 1, 4, 128]⟩
abbrev S8x4x32640x64 : Shape := ⟨4, ![8, 4, 32640, 64]⟩
abbrev S8x4x1020x128 : Shape := ⟨4, ![8, 4, 1020, 128]⟩
abbrev S8x4x32640x4 : Shape := ⟨4, ![8, 4, 32640, 4]⟩
abbrev S8x4x128x128 : Shape := ⟨4, ![8, 4, 128, 128]⟩
abbrev S32x8x128 : Shape := ⟨3, ![32, 8, 128]⟩
abbrev S32x128 : Shape := ⟨2, ![32, 128]⟩
abbrev S32x4x32 : Shape := ⟨3, ![32, 4, 32]⟩
abbrev S_ : Shape := ⟨0, ![]⟩
abbrev S32x4 : Shape := ⟨2, ![32, 4]⟩
abbrev S32x4x1 : Shape := ⟨3, ![32, 4, 1]⟩
abbrev S32x1x128 : Shape := ⟨3, ![32, 1, 128]⟩
abbrev S32x1020x32x64 : Shape := ⟨4, ![32, 1020, 32, 64]⟩
abbrev S32x1020x32x64x1 : Shape := ⟨5, ![32, 1020, 32, 64, 1]⟩
abbrev S32x1020x32x64x2 : Shape := ⟨5, ![32, 1020, 32, 64, 2]⟩
abbrev S32x1020x32x128 : Shape := ⟨4, ![32, 1020, 32, 128]⟩
abbrev S32x1020x1x128 : Shape := ⟨4, ![32, 1020, 1, 128]⟩
abbrev S32x32640x128 : Shape := ⟨3, ![32, 32640, 128]⟩
abbrev S32x32640x64 : Shape := ⟨3, ![32, 32640, 64]⟩
abbrev S32x32640x64x1 : Shape := ⟨4, ![32, 32640, 64, 1]⟩
abbrev S32x32640x64x2 : Shape := ⟨4, ![32, 32640, 64, 2]⟩
abbrev S32x32640x4x32 : Shape := ⟨4, ![32, 32640, 4, 32]⟩
abbrev S32x32640x4x1 : Shape := ⟨4, ![32, 32640, 4, 1]⟩
abbrev S32x128x128 : Shape := ⟨3, ![32, 128, 128]⟩
abbrev S32x32769x128 : Shape := ⟨3, ![32, 32769, 128]⟩
abbrev S32x8x32769 : Shape := ⟨3, ![32, 8, 32769]⟩
abbrev S32x8 : Shape := ⟨2, ![32, 8]⟩
abbrev S32x8x1 : Shape := ⟨3, ![32, 8, 1]⟩
abbrev S32x64x2 : Shape := ⟨3, ![32, 64, 2]⟩
abbrev S32x64x1 : Shape := ⟨3, ![32, 64, 1]⟩
abbrev S32x64 : Shape := ⟨2, ![32, 64]⟩

abbrev nBuf : Space → Nat
  | .hbm => 193
  | .vmem => 0
  | .smem => 0
  | _ => 0

abbrev hbmTy0_0 (i : Nat) : BufTy := match i % 128 with
  | 0 => ⟨S8x1x4096, .bf16⟩
  | 1 => ⟨S8x1x4x128, .bf16⟩
  | 2 => ⟨S8x1x4x128, .bf16⟩
  | 3 => ⟨S8x4x32640x64, .i8⟩
  | 4 => ⟨S8x4x1020x128, .bf16⟩
  | 5 => ⟨S8x4x1020x128, .bf16⟩
  | 6 => ⟨S8x4x32640x64, .i8⟩
  | 7 => ⟨S8x4x32640x4, .bf16⟩
  | 8 => ⟨S8x4x32640x4, .bf16⟩
  | 9 => ⟨S8x4x128x128, .bf16⟩
  | 10 => ⟨S8x4x128x128, .bf16⟩
  | 11 => ⟨S32x8x128, .bf16⟩
  | 12 => ⟨S32x128, .bf16⟩
  | 13 => ⟨S32x128, .f32⟩
  | 14 => ⟨S32x4x32, .f32⟩
  | 15 => ⟨S_, .f32⟩
  | 16 => ⟨S32x4, .f32⟩
  | 17 => ⟨S_, .f32⟩
  | 18 => ⟨S32x4, .f32⟩
  | 19 => ⟨S32x4, .f32⟩
  | 20 => ⟨S_, .f32⟩
  | 21 => ⟨S32x4, .f32⟩
  | 22 => ⟨S32x4, .i1⟩
  | 23 => ⟨S_, .f32⟩
  | 24 => ⟨S32x4, .f32⟩
  | 25 => ⟨S32x4, .f32⟩
  | 26 => ⟨S_, .f32⟩
  | 27 => ⟨S_, .f32⟩
  | 28 => ⟨S32x4, .f32⟩
  | 29 => ⟨S32x4, .f32⟩
  | 30 => ⟨S32x4, .bf16⟩
  | 31 => ⟨S32x4, .bf16⟩
  | 32 => ⟨S32x4, .f32⟩
  | 33 => ⟨S32x4x1, .f32⟩
  | 34 => ⟨S32x4x32, .f32⟩
  | 35 => ⟨S32x4x32, .f32⟩
  | 36 => ⟨S32x4, .f32⟩
  | 37 => ⟨S32x4x1, .f32⟩
  | 38 => ⟨S32x4x32, .f32⟩
  | 39 => ⟨S32x4x32, .f32⟩
  | 40 => ⟨S32x4x32, .f32⟩
  | 41 => ⟨S_, .f32⟩
  | 42 => ⟨S_, .f32⟩
  | 43 => ⟨S_, .f32⟩
  | 44 => ⟨S32x4x32, .f32⟩
  | 45 => ⟨S32x4x32, .f32⟩
  | 46 => ⟨S_, .f32⟩
  | 47 => ⟨S32x4x32, .f32⟩
  | 48 => ⟨S32x4x32, .f32⟩
  | 49 => ⟨S32x128, .bf16⟩
  | 50 => ⟨S32x128, .f32⟩
  | 51 => ⟨S32x4x32, .f32⟩
  | 52 => ⟨S_, .f32⟩
  | 53 => ⟨S32x4, .f32⟩
  | 54 => ⟨S_, .f32⟩
  | 55 => ⟨S32x4, .f32⟩
  | 56 => ⟨S32x4, .f32⟩
  | 57 => ⟨S_, .f32⟩
  | 58 => ⟨S32x4, .f32⟩
  | 59 => ⟨S32x4, .i1⟩
  | 60 => ⟨S_, .f32⟩
  | 61 => ⟨S32x4, .f32⟩
  | 62 => ⟨S32x4, .f32⟩
  | 63 => ⟨S_, .f32⟩
  | 64 => ⟨S_, .f32⟩
  | 65 => ⟨S32x4, .f32⟩
  | 66 => ⟨S32x4, .f32⟩
  | 67 => ⟨S32x4, .bf16⟩
  | 68 => ⟨S32x4, .bf16⟩
  | 69 => ⟨S32x4, .f32⟩
  | 70 => ⟨S32x4x1, .f32⟩
  | 71 => ⟨S32x4x32, .f32⟩
  | 72 => ⟨S32x4x32, .f32⟩
  | 73 => ⟨S32x4, .f32⟩
  | 74 => ⟨S32x4x1, .f32⟩
  | 75 => ⟨S32x4x32, .f32⟩
  | 76 => ⟨S32x4x32, .f32⟩
  | 77 => ⟨S32x4x32, .f32⟩
  | 78 => ⟨S_, .f32⟩
  | 79 => ⟨S_, .f32⟩
  | 80 => ⟨S_, .f32⟩
  | 81 => ⟨S32x4x32, .f32⟩
  | 82 => ⟨S32x4x32, .f32⟩
  | 83 => ⟨S_, .f32⟩
  | 84 => ⟨S32x4x32, .f32⟩
  | 85 => ⟨S32x4x32, .f32⟩
  | 86 => ⟨S32x4x32, .bf16⟩
  | 87 => ⟨S32x4x1, .bf16⟩
  | 88 => ⟨S32x4x32, .bf16⟩
  | 89 => ⟨S32x4x32, .bf16⟩
  | 90 => ⟨S32x4x1, .bf16⟩
  | 91 => ⟨S32x4x32, .bf16⟩
  | 92 => ⟨S32x4x32, .bf16⟩
  | 93 => ⟨S32x1x128, .bf16⟩
  | 94 => ⟨S32x4x32, .bf16⟩
  | 95 => ⟨S32x4x1, .bf16⟩
  | 96 => ⟨S32x4x32, .bf16⟩
  | 97 => ⟨S32x4x32, .bf16⟩
  | 98 => ⟨S32x4x1, .bf16⟩
  | 99 => ⟨S32x4x32, .bf16⟩
  | 100 => ⟨S32x4x32, .bf16⟩
  | 101 => ⟨S32x1x128, .bf16⟩
  | 102 => ⟨S32x1020x32x64, .i8⟩
  | 103 => ⟨S32x1020x32x64, .i32⟩
  | 104 => ⟨S_, .i32⟩
  | 105 => ⟨S32x1020x32x64, .i32⟩
  | 106 => ⟨S32x1020x32x64, .i32⟩
  | 107 => ⟨S_, .i32⟩
  | 108 => ⟨S32x1020x32x64, .i32⟩
  | 109 => ⟨S32x1020x32x64, .i32⟩
  | 110 => ⟨S_, .i32⟩
  | 111 => ⟨S32x1020x32x64, .i32⟩
  | 112 => ⟨S32x1020x32x64, .i32⟩
  | 113 => ⟨S32x1020x32x64x1, .i32⟩
  | 114 => ⟨S32x1020x32x64x1, .i32⟩
  | 115 => ⟨S32x1020x32x64x2, .i32⟩
  | 116 => ⟨S32x1020x32x128, .i32⟩
  | 117 => ⟨S32x1020x32x128, .bf16⟩
  | 118 => ⟨S32x1020x1x128, .bf16⟩
  | 119 => ⟨S32x1020x32x128, .bf16⟩
  | 120 => ⟨S32x1020x32x128, .bf16⟩
  | 121 => ⟨S32x1020x1x128, .bf16⟩
  | 122 => ⟨S32x1020x32x128, .bf16⟩
  | 123 => ⟨S32x1020x32x128, .bf16⟩
  | 124 => ⟨S32x32640x128, .bf16⟩
  | 125 => ⟨S32x32640x64, .i8⟩
  | 126 => ⟨S32x32640x64, .i32⟩
  | 127 => ⟨S_, .i32⟩
  | _ => ⟨S8x1x4096, .bf16⟩

abbrev hbmTy0_1 (i : Nat) : BufTy := match i % 128 with
  | 0 => ⟨S32x32640x64, .i32⟩
  | 1 => ⟨S32x32640x64, .i32⟩
  | 2 => ⟨S_, .i32⟩
  | 3 => ⟨S32x32640x64, .i32⟩
  | 4 => ⟨S32x32640x64, .i32⟩
  | 5 => ⟨S_, .i32⟩
  | 6 => ⟨S32x32640x64, .i32⟩
  | 7 => ⟨S32x32640x64, .i32⟩
  | 8 => ⟨S32x32640x64x1, .i32⟩
  | 9 => ⟨S32x32640x64x1, .i32⟩
  | 10 => ⟨S32x32640x64x2, .i32⟩
  | 11 => ⟨S32x32640x128, .i32⟩
  | 12 => ⟨S32x32640x128, .bf16⟩
  | 13 => ⟨S32x32640x4x32, .bf16⟩
  | 14 => ⟨S32x32640x4x1, .bf16⟩
  | 15 => ⟨S32x32640x4x32, .bf16⟩
  | 16 => ⟨S32x32640x4x32, .bf16⟩
  | 17 => ⟨S32x32640x4x1, .bf16⟩
  | 18 => ⟨S32x32640x4x32, .bf16⟩
  | 19 => ⟨S32x32640x4x32, .bf16⟩
  | 20 => ⟨S32x32640x128, .bf16⟩
  | 21 => ⟨S32x128x128, .bf16⟩
  | 22 => ⟨S32x32769x128, .bf16⟩
  | 23 => ⟨S32x128x128, .bf16⟩
  | 24 => ⟨S32x32769x128, .bf16⟩
  | 25 => ⟨S32x8x32769, .f32⟩
  | 26 => ⟨S_, .f32⟩
  | 27 => ⟨S32x8x32769, .f32⟩
  | 28 => ⟨S32x8x32769, .f32⟩
  | 29 => ⟨S_, .f32⟩
  | 30 => ⟨S32x8, .f32⟩
  | 31 => ⟨S32x8x1, .f32⟩
  | 32 => ⟨S32x8x32769, .f32⟩
  | 33 => ⟨S32x8x32769, .f32⟩
  | 34 => ⟨S32x8x32769, .f32⟩
  | 35 => ⟨S32x32769x128, .f32⟩
  | 36 => ⟨S32x8x128, .f32⟩
  | 37 => ⟨S_, .f32⟩
  | 38 => ⟨S32x8, .f32⟩
  | 39 => ⟨S32x8x1, .f32⟩
  | 40 => ⟨S32x8x128, .f32⟩
  | 41 => ⟨S32x8x128, .f32⟩
  | 42 => ⟨S32x8x128, .bf16⟩
  | 43 => ⟨S32x4x32, .i32⟩
  | 44 => ⟨S32x64x2, .i32⟩
  | 45 => ⟨S32x64x1, .i32⟩
  | 46 => ⟨S32x64, .i32⟩
  | 47 => ⟨S32x64x1, .i32⟩
  | 48 => ⟨S32x64, .i32⟩
  | 49 => ⟨S_, .i32⟩
  | 50 => ⟨S32x64, .i32⟩
  | 51 => ⟨S32x64, .i32⟩
  | 52 => ⟨S32x64, .i32⟩
  | 53 => ⟨S32x64, .i8⟩
  | 54 => ⟨S32x4x32, .i32⟩
  | 55 => ⟨S32x64x2, .i32⟩
  | 56 => ⟨S32x64x1, .i32⟩
  | 57 => ⟨S32x64, .i32⟩
  | 58 => ⟨S32x64x1, .i32⟩
  | 59 => ⟨S32x64, .i32⟩
  | 60 => ⟨S_, .i32⟩
  | 61 => ⟨S32x64, .i32⟩
  | 62 => ⟨S32x64, .i32⟩
  | 63 => ⟨S32x64, .i32⟩
  | 64 => ⟨S32x64, .i8⟩
  | _ => ⟨S8x1x4096, .bf16⟩

abbrev hbmTy (i : Nat) : BufTy := match i / 128 with
  | 0 => hbmTy0_0 i
  | 1 => hbmTy0_1 i
  | _ => ⟨S8x1x4096, .bf16⟩

abbrev bufTy : (tb : Table) → Fin (tcTables nBuf tb) → BufTy
  | .hbm, ⟨i, _⟩ => hbmTy i
  | _, _ => ⟨S8x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_cst_5 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_6 : Ref sig .tc := ⟨.hbm, 52, rfl⟩
abbrev main_v27 : Ref sig .tc := ⟨.hbm, 53, rfl⟩
abbrev main_cst_7 : Ref sig .tc := ⟨.hbm, 54, rfl⟩
abbrev main_v28 : Ref sig .tc := ⟨.hbm, 55, rfl⟩
abbrev main_v29 : Ref sig .tc := ⟨.hbm, 56, rfl⟩
abbrev main_cst_8 : Ref sig .tc := ⟨.hbm, 57, rfl⟩
abbrev main_v30 : Ref sig .tc := ⟨.hbm, 58, rfl⟩
abbrev main_v31 : Ref sig .tc := ⟨.hbm, 59, rfl⟩
abbrev main_cst_9 : Ref sig .tc := ⟨.hbm, 60, rfl⟩
abbrev main_v32 : Ref sig .tc := ⟨.hbm, 61, rfl⟩
abbrev main_v33 : Ref sig .tc := ⟨.hbm, 62, rfl⟩
abbrev main_cst_10 : Ref sig .tc := ⟨.hbm, 63, rfl⟩
abbrev main_call3_v0 : Ref sig .tc := ⟨.hbm, 64, rfl⟩
abbrev main_call3_v1 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_11 : Ref sig .tc := ⟨.hbm, 78, rfl⟩
abbrev main_cst_12 : Ref sig .tc := ⟨.hbm, 79, rfl⟩
abbrev main_call5_v0 : Ref sig .tc := ⟨.hbm, 80, rfl⟩
abbrev main_call5_v1 : Ref sig .tc := ⟨.hbm, 81, rfl⟩
abbrev main_call5_v2 : Ref sig .tc := ⟨.hbm, 82, rfl⟩
abbrev main_call5_v3 : Ref sig .tc := ⟨.hbm, 83, rfl⟩
abbrev main_call5_v4 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_c : Ref sig .tc := ⟨.hbm, 104, rfl⟩
abbrev main_v65 : Ref sig .tc := ⟨.hbm, 105, rfl⟩
abbrev main_v66 : Ref sig .tc := ⟨.hbm, 106, rfl⟩
abbrev main_c_13 : Ref sig .tc := ⟨.hbm, 107, rfl⟩
abbrev main_v67 : Ref sig .tc := ⟨.hbm, 108, rfl⟩
abbrev main_v68 : Ref sig .tc := ⟨.hbm, 109, rfl⟩
abbrev main_c_14 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_c_15 : Ref sig .tc := ⟨.hbm, 127, rfl⟩
abbrev main_v85 : Ref sig .tc := ⟨.hbm, 128, rfl⟩
abbrev main_v86 : Ref sig .tc := ⟨.hbm, 129, rfl⟩
abbrev main_c_16 : Ref sig .tc := ⟨.hbm, 130, rfl⟩
abbrev main_v87 : Ref sig .tc := ⟨.hbm, 131, rfl⟩
abbrev main_v88 : Ref sig .tc := ⟨.hbm, 132, rfl⟩
abbrev main_c_17 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_18 : Ref sig .tc := ⟨.hbm, 154, rfl⟩
abbrev main_v109 : Ref sig .tc := ⟨.hbm, 155, rfl⟩
abbrev main_v110 : Ref sig .tc := ⟨.hbm, 156, rfl⟩
abbrev main_cst_19 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_cst_20 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_c_21 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_c_22 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩

abbrev nD : Nat := 1
abbrev τ : Topo := Topo.v7x

variable {F : FTy → Type} [FloatOps F]
-- ==== Proof.KernelCond.lean ====
/-
  The conditions of the three branches of the kernel body of `Kernel`, by the grid point.
-/
module

public import proofs.«01_k».proof.Proof.Gen.Kernel.Frame
public import proofs.«01_k».proof.Proof.Gen.Kernel.Loops
public import proofs.«01_k».proof.Proof.Gen.Kernel.Points
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI Idealize.SL.Sem

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 160 = 0 :=
  (fun t => by
    have ht : t.val < 160 := Nat.lt_of_lt_of_eq t.isLt N_0
    have e0 : (grid0.coords t 0).val = t.val / 5 % 32 := Pipeline.Grid.coords_val t 0 (by decide) rfl
    have e1 : (grid0.coords t 1).val = t.val / 1 % 5 := Pipeline.Grid.coords_val t 1 (by decide) rfl
    simp only [cond0_0, k0_cond1, e0, e1]
    word_cmp
   : ∀ t : Fin grid0.N, cond0_0 (grid0.coords t) ↔ t.val % 160 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 5) — by arithmetic of the point. -/
theorem hcond0_1 : ∀ t : Fin cfg0.N, cond0_1 (grid0.coords t) ↔ t.val % 5 = 0 :=
  (fun t => by
    have ht : t.val < 160 := Nat.lt_of_lt_of_eq t.isLt N_0
    have e0 : (grid0.coords t 0).val = t.val / 5 % 32 := Pipeline.Grid.coords_val t 0 (by decide) rfl
    have e1 : (grid0.coords t 1).val = t.val / 1 % 5 := Pipeline.Grid.coords_val t 1 (by decide) rfl
    simp only [cond0_1, e0, e1]
    word_cmp
   : ∀ t : Fin grid0.N, cond0_1 (grid0.coords t) ↔ t.val % 5 = 0)

/-- The condition of the body's `scf.if` 2 (`k0_h3`), from the grid coordinates (the skeleton's scalar
    chain substituted). -/
abbrev cond0_2 (i : grid0.Coords) : Prop := k0_cond3 i = 1#1
/-- It holds at the points ≡ 4 (mod 5) — by arithmetic of the point. -/
theorem hcond0_2 : ∀ t : Fin cfg0.N, cond0_2 (grid0.coords t) ↔ t.val % 5 = 4 :=
  (fun t => by
    have ht : t.val < 160 := Nat.lt_of_lt_of_eq t.isLt N_0
    have e0 : (grid0.coords t 0).val = t.val / 5 % 32 := Pipeline.Grid.coords_val t 0 (by decide) rfl
    have e1 : (grid0.coords t 1).val = t.val / 1 % 5 := Pipeline.Grid.coords_val t 1 (by decide) rfl
    simp only [cond0_2, k0_cond3, e0, e1]
    word_cmp
   : ∀ t : Fin grid0.N, cond0_2 (grid0.coords t) ↔ t.val % 5 = 4)

end Cert.Kernel.Body

end
-- ==== Proof.KernelRunA.lean ====
/-
  One run of the kernel body of `Kernel` at the first point (every branch but the last taken): what the body's stores leave in each buffer, as
  pieces, with every buffer's contents before the point a parameter.
-/
module

public import proofs.«01_k».proof.Proof.KernelCond

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.proofsInPublic true in
set_option maxHeartbeats 1600000 in
/-- The body's run at the first point (every branch but the last taken): from every buffer at given contents it comes to its continuation with the
    inputs and the buffers it does not store into as they were, and each buffer it stores into with the listed pieces
    written. -/
noncomputable def runA (c : Dev nD) (i : grid0.Coords) (arg2 : Memref sig .tc .vmem S1x8x128 .bf16) (harg2 : arg2.IsWhole) (arg3 : Memref sig .tc .vmem S32x128 .bf16) (harg3 : arg3.IsWhole) (arg4 : Memref sig .tc .vmem S32x128 .bf16) (harg4 : arg4.IsWhole) (arg5 : Memref sig .tc .vmem S1x1x6528x64 .i8) (harg5 : arg5.IsWhole) (arg6 : Memref sig .tc .vmem S1x1x1020x128 .bf16) (harg6 : arg6.IsWhole) (arg7 : Memref sig .tc .vmem S1x1x1020x128 .bf16) (harg7 : arg7.IsWhole) (arg8 : Memref sig .tc .vmem S1x1x6528x64 .i8) (harg8 : arg8.IsWhole) (arg9 : Memref sig .tc .vmem S1x1x6528x4 .bf16) (harg9 : arg9.IsWhole) (arg10 : Memref sig .tc .vmem S1x1x6528x4 .bf16) (harg10 : arg10.IsWhole) (arg11 : Memref sig .tc .vmem S1x1x128x128 .bf16) (harg11 : arg11.IsWhole) (arg12 : Memref sig .tc .vmem S1x1x128x128 .bf16) (harg12 : arg12.IsWhole) (arg13 : Memref sig .tc .vmem S1x8x128 .bf16) (harg13 : arg13.IsWhole) (arg14 : Memref sig .tc .vmem S32x64 .i8) (harg14 : arg14.IsWhole) (arg15 : Memref sig .tc .vmem S32x4 .bf16) (harg15 : arg15.IsWhole) (arg16 : Memref sig .tc .vmem S32x4 .bf16) (harg16 : arg16.IsWhole) (arg17 : Memref sig .tc .vmem S32x64 .i8) (harg17 : arg17.IsWhole) (arg18 : Memref sig .tc .vmem S32x4 .bf16) (harg18 : arg18.IsWhole) (arg19 : Memref sig .tc .vmem S32x4 .bf16) (harg19 : arg19.IsWhole) (arg20 : Memref sig .tc .vmem S1024x128 .f32) (harg20 : arg20.IsWhole) (arg21 : Memref sig .tc .vmem S1024x128 .f32) (harg21 : arg21.IsWhole) (arg22 : Memref sig .tc .vmem S8x6528 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (arg26 : Memref sig .tc .vmem S32x128 .f32) (harg26 : arg26.IsWhole) (arg27 : Memref sig .tc .vmem S32x128 .f32) (harg27 : arg27.IsWhole) (hc0 : cond0_0 i) (hc1 : cond0_1 i) (hc2 : ¬cond0_2 i)
    (x0 : Vec F S1x8x128 .bf16) (x1 : Vec F S32x128 .bf16) (x2 : Vec F S32x128 .bf16) (x3 : Vec F S1x1x6528x64 .i8) (x4 : Vec F S1x1x1020x128 .bf16) (x5 : Vec F S1x1x1020x128 .bf16) (x6 : Vec F S1x1x6528x64 .i8) (x7 : Vec F S1x1x6528x4 .bf16) (x8 : Vec F S1x1x6528x4 .bf16) (x9 : Vec F S1x1x128x128 .bf16) (x10 : Vec F S1x1x128x128 .bf16) (d11 : Vec F S1x8x128 .bf16) (xs0 : Vec F S1024x128 .f32) (xs1 : Vec F S1024x128 .f32) :
    Σ' (Larg14 : List (View.Piece (Elt F) S32x64 .i8)), Σ' (Larg15 : List (View.Piece (Elt F) S32x4 .bf16)), Σ' (Larg16 : List (View.Piece (Elt F) S32x4 .bf16)), Σ' (Larg17 : List (View.Piece (Elt F) S32x64 .i8)), Σ' (Larg18 : List (View.Piece (Elt F) S32x4 .bf16)), Σ' (Larg19 : List (View.Piece (Elt F) S32x4 .bf16)), Σ' (Larg20 : List (View.Piece (Elt F) S1024x128 .f32)), Σ' (Larg21 : List (View.Piece (Elt F) S1024x128 .f32)), Σ' (Larg23 : List (View.Piece (Elt F) S8x128 .f32)), Σ' (Larg24 : List (View.Piece (Elt F) S8x128 .f32)), Σ' (Larg25 : List (View.Piece (Elt F) S8x128 .f32)), Σ' (Larg26 : List (View.Piece (Elt F) S32x128 .f32)), { Larg27 : List (View.Piece (Elt F) S32x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare d11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs0 ∗ owns (c : Thread nD τ) arg21 fullShare xs1 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare d11 ∗ (∃ f, arg14.view.loc (c : Thread nD τ) ↦[arg14.view.set]{fullShare} arg14.view.writes (Elt F) f Larg14) ∗ (∃ f, arg15.view.loc (c : Thread nD τ) ↦[arg15.view.set]{fullShare} arg15.view.writes (Elt F) f Larg15) ∗ (∃ f, arg16.view.loc (c : Thread nD τ) ↦[arg16.view.set]{fullShare} arg16.view.writes (Elt F) f Larg16) ∗ (∃ f, arg17.view.loc (c : Thread nD τ) ↦[arg17.view.set]{fullShare} arg17.view.writes (Elt F) f Larg17) ∗ (∃ f, arg18.view.loc (c : Thread nD τ) ↦[arg18.view.set]{fullShare} arg18.view.writes (Elt F) f Larg18) ∗ (∃ f, arg19.view.loc (c : Thread nD τ) ↦[arg19.view.set]{fullShare} arg19.view.writes (Elt F) f Larg19) ∗ (arg20.view.loc (c : Thread nD τ) ↦[arg20.view.set]{fullShare} arg20.view.writes (Elt F) (harg20.unread xs0) Larg20) ∗ (arg21.view.loc (c : Thread nD τ) ↦[arg21.view.set]{fullShare} arg21.view.writes (Elt F) (harg21.unread xs1) Larg21) ∗ (∃ d, owns (c : Thread nD τ) arg22 fullShare d) ∗ (∃ f, arg23.view.loc (c : Thread nD τ) ↦[arg23.view.set]{fullShare} arg23.view.writes (Elt F) f Larg23) ∗ (∃ f, arg24.view.loc (c : Thread nD τ) ↦[arg24.view.set]{fullShare} arg24.view.writes (Elt F) f Larg24) ∗ (∃ f, arg25.view.loc (c : Thread nD τ) ↦[arg25.view.set]{fullShare} arg25.view.writes (Elt F) f Larg25) ∗ (∃ f, arg26.view.loc (c : Thread nD τ) ↦[arg26.view.set]{fullShare} arg26.view.writes (Elt F) f Larg26) ∗ (∃ f, arg27.view.loc (c : Thread nD τ) ↦[arg27.view.set]{fullShare} arg27.view.writes (Elt F) f Larg27)) -∗ K ⟨⟩))
          ⊢ wp frame (wpE (defs₀ (F := F)) Variants.none c none) E (cc0_kivi_decode i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, ?_, ?_, ?_, ?_, fun E K => ?run⟩
  case run =>
    simp only [cc0_kivi_decode_eq_skeleton]; unfold cc0_kivi_decode_skel
    simp only [k0_part16_eq_skeleton, k0_part14_eq_skeleton, k0_part1_eq_skeleton, k0_part2_eq_skeleton, k0_part3_eq_skeleton, k0_part4_eq_skeleton, k0_part5_eq_skeleton, k0_part6_eq_skeleton, k0_part7_eq_skeleton, k0_part15_eq_skeleton]
    unfold owns
    iintro ⟨⟨%farg2, %hfarg2, Harg2⟩, ⟨%farg3, %hfarg3, Harg3⟩, ⟨%farg4, %hfarg4, Harg4⟩, ⟨%farg5, %hfarg5, Harg5⟩, ⟨%farg6, %hfarg6, Harg6⟩, ⟨%farg7, %hfarg7, Harg7⟩, ⟨%farg8, %hfarg8, Harg8⟩, ⟨%farg9, %hfarg9, Harg9⟩, ⟨%farg10, %hfarg10, Harg10⟩, ⟨%farg11, %hfarg11, Harg11⟩, ⟨%farg12, %hfarg12, Harg12⟩, ⟨%farg13, %hfarg13, Harg13⟩, ⟨%darg14, %farg14, -, Harg14⟩, ⟨%darg15, %farg15, -, Harg15⟩, ⟨%darg16, %farg16, -, Harg16⟩, ⟨%darg17, %farg17, -, Harg17⟩, ⟨%darg18, %farg18, -, Harg18⟩, ⟨%darg19, %farg19, -, Harg19⟩, ⟨%farg20, %hfarg20, Harg20⟩, ⟨%farg21, %hfarg21, Harg21⟩, ⟨%darg22, %farg22, -, Harg22⟩, ⟨%darg23, %farg23, -, Harg23⟩, ⟨%darg24, %farg24, -, Harg24⟩, ⟨%darg25, %farg25, -, Harg25⟩, ⟨%darg26, %farg26, -, Harg26⟩, ⟨%darg27, %farg27, -, Harg27⟩, Hk⟩
    obtain rfl := harg2.eq_unread hfarg2; obtain rfl := harg3.eq_unread hfarg3; obtain rfl := harg4.eq_unread hfarg4; obtain rfl := harg5.eq_unread hfarg5; obtain rfl := harg6.eq_unread hfarg6; obtain rfl := harg7.eq_unread hfarg7; obtain rfl := harg8.eq_unread hfarg8; obtain rfl := harg9.eq_unread hfarg9; obtain rfl := harg10.eq_unread hfarg10; obtain rfl := harg11.eq_unread hfarg11; obtain rfl := harg12.eq_unread hfarg12; obtain rfl := harg13.eq_unread hfarg13; obtain rfl := harg20.eq_unread hfarg20; obtain rfl := harg21.eq_unread hfarg21
    have hrd0 : ∀ (𝒱 : Variants) (c : Dev nD) (bd : Option 𝒱.V) (i : grid0.Coords) (arg2 : Memref sig .tc .vmem S1x8x128 .bf16) (harg2 : arg2.IsWhole) (arg3 : Memref sig .tc .vmem S32x128 .bf16) (harg3 : arg3.IsWhole) (arg4 : Memref sig .tc .vmem S32x128 .bf16) (harg4 : arg4.IsWhole) (arg5 : Memref sig .tc .vmem S1x1x6528x64 .i8) (harg5 : arg5.IsWhole) (arg6 : Memref sig .tc .vmem S1x1x1020x128 .bf16) (harg6 : arg6.IsWhole) (arg7 : Memref sig .tc .vmem S1x1x1020x128 .bf16) (harg7 : arg7.IsWhole) (arg8 : Memref sig .tc .vmem S1x1x6528x64 .i8) (harg8 : arg8.IsWhole) (arg9 : Memref sig .tc .vmem S1x1x6528x4 .bf16) (harg9 : arg9.IsWhole) (arg10 : Memref sig .tc .vmem S1x1x6528x4 .bf16) (harg10 : arg10.IsWhole) (arg11 : Memref sig .tc .vmem S1x1x128x128 .bf16) (harg11 : arg11.IsWhole) (arg12 : Memref sig .tc .vmem S1x1x128x128 .bf16) (harg12 : arg12.IsWhole) (arg13 : Memref sig .tc .vmem S1x8x128 .bf16) (harg13 : arg13.IsWhole) (arg14 : Memref sig .tc .vmem S32x64 .i8) (harg14 : arg14.IsWhole) (arg15 : Memref sig .tc .vmem S32x4 .bf16) (harg15 : arg15.IsWhole) (arg16 : Memref sig .tc .vmem S32x4 .bf16) (harg16 : arg16.IsWhole) (arg17 : Memref sig .tc .vmem S32x64 .i8) (harg17 : arg17.IsWhole) (arg18 : Memref sig .tc .vmem S32x4 .bf16) (harg18 : arg18.IsWhole) (arg19 : Memref sig .tc .vmem S32x4 .bf16) (harg19 : arg19.IsWhole) (arg20 : Memref sig .tc .vmem S1024x128 .f32) (harg20 : arg20.IsWhole) (arg21 : Memref sig .tc .vmem S1024x128 .f32) (harg21 : arg21.IsWhole) (arg22 : Memref sig .tc .vmem S8x6528 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (arg26 : Memref sig .tc .vmem S32x128 .f32) (harg26 : arg26.IsWhole) (arg27 : Memref sig .tc .vmem S32x128 .f32) (harg27 : arg27.IsWhole) (arg1 : BitVec 32) (v17 : Vec F S1x8x128 .bf16) (X_arg5 : BufTy.Contents (Elt F) arg5.view.ty) (X_arg20 : BufTy.Contents (Elt F) arg20.view.ty) (X_arg21 : BufTy.Contents (Elt F) arg21.view.ty) (hrdF : BufTy.Contents (Elt F) arg22.view.ty) (hrdB : LoadRect S8x6528), arg22.view.readAt (Elt F) hrdB (arg22.view.writes (Elt F) hrdF (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v17 X_arg5 X_arg20 X_arg21 (Scf.trips k0_t1_loop.lb k0_t1_loop.ub k0_t1_loop.st))) = arg22.view.readCov (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v17 X_arg5 X_arg20 X_arg21 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v17 X_arg5 X_arg20 X_arg21 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v17 X_arg5 X_arg20 X_arg21 (Scf.trips k0_t1_loop.lb k0_t1_loop.ub k0_t1_loop.st)) S8x384.size (by sl_kernel_rfl) (hrdB.idx hrdJ))
    sl_exec (disch := first | sl_exact hc0 | sl_exact hc1 | sl_exact hc2)
    sl_step
    iapply Hk
    isplitl [Harg2]
    · iexists _; isplitr; · ipureintro; exact harg2.read_unread _
      iexact Harg2
    isplitl [Harg3]
    · iexists _; isplitr; · ipureintro; exact harg3.read_unread _
      iexact Harg3
    isplitl [Harg4]
    · iexists _; isplitr; · ipureintro; exact harg4.read_unread _
      iexact Harg4
    isplitl [Harg5]
    · iexists _; isplitr; · ipureintro; exact harg5.read_unread _
      iexact Harg5
    isplitl [Harg6]
    · iexists _; isplitr; · ipureintro; exact harg6.read_unread _
      iexact Harg6
    isplitl [Harg7]
    · iexists _; isplitr; · ipureintro; exact harg7.read_unread _
      iexact Harg7
    isplitl [Harg8]
    · iexists _; isplitr; · ipureintro; exact harg8.read_unread _
      iexact Harg8
    isplitl [Harg9]
    · iexists _; isplitr; · ipureintro; exact harg9.read_unread _
      iexact Harg9
    isplitl [Harg10]
    · iexists _; isplitr; · ipureintro; exact harg10.read_unread _
      iexact Harg10
    isplitl [Harg11]
    · iexists _; isplitr; · ipureintro; exact harg11.read_unread _
      iexact Harg11
    isplitl [Harg12]
    · iexists _; isplitr; · ipureintro; exact harg12.read_unread _
      iexact Harg12
    isplitl [Harg13]
    · iexists _; isplitr; · ipureintro; exact harg13.read_unread _
      iexact Harg13
    isplitl [Harg14]
    · iexists _; iexact Harg14
    isplitl [Harg15]
    · iexists _; iexact Harg15
    isplitl [Harg16]
    · iexists _; iexact Harg16
    isplitl [Harg17]
    · iexists _; iexact Harg17
    isplitl [Harg18]
    · iexists _; iexact Harg18
    isplitl [Harg19]
    · iexists _; iexact Harg19
    isplitl [Harg20]
    · iexact Harg20
    isplitl [Harg21]
    · iexact Harg21
    isplitl [Harg22]
    · iexists _, _; isplitr; swap; · iexact Harg22
      ipureintro; rfl
    isplitl [Harg23]
    · iexists _; iexact Harg23
    isplitl [Harg24]
    · iexists _; iexact Harg24
    isplitl [Harg25]
    · iexists _; iexact Harg25
    isplitl [Harg26]
    · iexists _; iexact Harg26
    iexists _; iexact Harg27

end Cert.Kernel.Body

end
-- ==== Proof.KernelRunB.lean ====
/-
  One run of the kernel body of `Kernel` at a point that neither starts nor ends a head: what the body's stores leave in each buffer, as
  pieces, with every buffer's contents before the point a parameter.
-/
module

public import proofs.«01_k».proof.Proof.KernelCond

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.proofsInPublic true in
set_option maxHeartbeats 1600000 in
/-- The body's run at a point that neither starts nor ends a head: from every buffer at given contents it comes to its continuation with the
    inputs and the buffers it does not store into as they were, and each buffer it stores into with the listed pieces
    written. -/
noncomputable def runB (c : Dev nD) (i : grid0.Coords) (arg2 : Memref sig .tc .vmem S1x8x128 .bf16) (harg2 : arg2.IsWhole) (arg3 : Memref sig .tc .vmem S32x128 .bf16) (harg3 : arg3.IsWhole) (arg4 : Memref sig .tc .vmem S32x128 .bf16) (harg4 : arg4.IsWhole) (arg5 : Memref sig .tc .vmem S1x1x6528x64 .i8) (harg5 : arg5.IsWhole) (arg6 : Memref sig .tc .vmem S1x1x1020x128 .bf16) (harg6 : arg6.IsWhole) (arg7 : Memref sig .tc .vmem S1x1x1020x128 .bf16) (harg7 : arg7.IsWhole) (arg8 : Memref sig .tc .vmem S1x1x6528x64 .i8) (harg8 : arg8.IsWhole) (arg9 : Memref sig .tc .vmem S1x1x6528x4 .bf16) (harg9 : arg9.IsWhole) (arg10 : Memref sig .tc .vmem S1x1x6528x4 .bf16) (harg10 : arg10.IsWhole) (arg11 : Memref sig .tc .vmem S1x1x128x128 .bf16) (harg11 : arg11.IsWhole) (arg12 : Memref sig .tc .vmem S1x1x128x128 .bf16) (harg12 : arg12.IsWhole) (arg13 : Memref sig .tc .vmem S1x8x128 .bf16) (harg13 : arg13.IsWhole) (arg14 : Memref sig .tc .vmem S32x64 .i8) (harg14 : arg14.IsWhole) (arg15 : Memref sig .tc .vmem S32x4 .bf16) (harg15 : arg15.IsWhole) (arg16 : Memref sig .tc .vmem S32x4 .bf16) (harg16 : arg16.IsWhole) (arg17 : Memref sig .tc .vmem S32x64 .i8) (harg17 : arg17.IsWhole) (arg18 : Memref sig .tc .vmem S32x4 .bf16) (harg18 : arg18.IsWhole) (arg19 : Memref sig .tc .vmem S32x4 .bf16) (harg19 : arg19.IsWhole) (arg20 : Memref sig .tc .vmem S1024x128 .f32) (harg20 : arg20.IsWhole) (arg21 : Memref sig .tc .vmem S1024x128 .f32) (harg21 : arg21.IsWhole) (arg22 : Memref sig .tc .vmem S8x6528 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (arg26 : Memref sig .tc .vmem S32x128 .f32) (harg26 : arg26.IsWhole) (arg27 : Memref sig .tc .vmem S32x128 .f32) (harg27 : arg27.IsWhole) (hc0 : ¬cond0_0 i) (hc1 : ¬cond0_1 i) (hc2 : ¬cond0_2 i)
    (x0 : Vec F S1x8x128 .bf16) (x1 : Vec F S32x128 .bf16) (x2 : Vec F S32x128 .bf16) (x3 : Vec F S1x1x6528x64 .i8) (x4 : Vec F S1x1x1020x128 .bf16) (x5 : Vec F S1x1x1020x128 .bf16) (x6 : Vec F S1x1x6528x64 .i8) (x7 : Vec F S1x1x6528x4 .bf16) (x8 : Vec F S1x1x6528x4 .bf16) (x9 : Vec F S1x1x128x128 .bf16) (x10 : Vec F S1x1x128x128 .bf16) (d11 : Vec F S1x8x128 .bf16) (d12 : Vec F S32x64 .i8) (d13 : Vec F S32x4 .bf16) (d14 : Vec F S32x4 .bf16) (d15 : Vec F S32x64 .i8) (d16 : Vec F S32x4 .bf16) (d17 : Vec F S32x4 .bf16) (xs0 : Vec F S1024x128 .f32) (xs1 : Vec F S1024x128 .f32) (xs3 : Vec F S8x128 .f32) (xs4 : Vec F S8x128 .f32) (xs5 : Vec F S8x128 .f32) (xs6 : Vec F S32x128 .f32) (xs7 : Vec F S32x128 .f32) :
    Σ' (Larg23 : List (View.Piece (Elt F) S8x128 .f32)), Σ' (Larg24 : List (View.Piece (Elt F) S8x128 .f32)), { Larg25 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare d11 ∗ owns (c : Thread nD τ) arg14 fullShare d12 ∗ owns (c : Thread nD τ) arg15 fullShare d13 ∗ owns (c : Thread nD τ) arg16 fullShare d14 ∗ owns (c : Thread nD τ) arg17 fullShare d15 ∗ owns (c : Thread nD τ) arg18 fullShare d16 ∗ owns (c : Thread nD τ) arg19 fullShare d17 ∗ owns (c : Thread nD τ) arg20 fullShare xs0 ∗ owns (c : Thread nD τ) arg21 fullShare xs1 ∗ (∃ d, owns (c : Thread nD τ) arg22 fullShare d) ∗ owns (c : Thread nD τ) arg23 fullShare xs3 ∗ owns (c : Thread nD τ) arg24 fullShare xs4 ∗ owns (c : Thread nD τ) arg25 fullShare xs5 ∗ owns (c : Thread nD τ) arg26 fullShare xs6 ∗ owns (c : Thread nD τ) arg27 fullShare xs7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare d11 ∗ owns (c : Thread nD τ) arg14 fullShare d12 ∗ owns (c : Thread nD τ) arg15 fullShare d13 ∗ owns (c : Thread nD τ) arg16 fullShare d14 ∗ owns (c : Thread nD τ) arg17 fullShare d15 ∗ owns (c : Thread nD τ) arg18 fullShare d16 ∗ owns (c : Thread nD τ) arg19 fullShare d17 ∗ owns (c : Thread nD τ) arg20 fullShare xs0 ∗ owns (c : Thread nD τ) arg21 fullShare xs1 ∗ (∃ d, owns (c : Thread nD τ) arg22 fullShare d) ∗ (∃ f, arg23.view.loc (c : Thread nD τ) ↦[arg23.view.set]{fullShare} arg23.view.writes (Elt F) f Larg23) ∗ (∃ f, arg24.view.loc (c : Thread nD τ) ↦[arg24.view.set]{fullShare} arg24.view.writes (Elt F) f Larg24) ∗ (∃ f, arg25.view.loc (c : Thread nD τ) ↦[arg25.view.set]{fullShare} arg25.view.writes (Elt F) f Larg25) ∗ owns (c : Thread nD τ) arg26 fullShare xs6 ∗ owns (c : Thread nD τ) arg27 fullShare xs7) -∗ K ⟨⟩))
          ⊢ wp frame (wpE (defs₀ (F := F)) Variants.none c none) E (cc0_kivi_decode i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, fun E K => ?run⟩
  case run =>
    simp only [cc0_kivi_decode_eq_skeleton]; unfold cc0_kivi_decode_skel
    simp only [k0_part16_eq_skeleton, k0_part14_eq_skeleton, k0_part15_eq_skeleton]
    unfold owns
    iintro ⟨⟨%farg2, %hfarg2, Harg2⟩, ⟨%farg3, %hfarg3, Harg3⟩, ⟨%farg4, %hfarg4, Harg4⟩, ⟨%farg5, %hfarg5, Harg5⟩, ⟨%farg6, %hfarg6, Harg6⟩, ⟨%farg7, %hfarg7, Harg7⟩, ⟨%farg8, %hfarg8, Harg8⟩, ⟨%farg9, %hfarg9, Harg9⟩, ⟨%farg10, %hfarg10, Harg10⟩, ⟨%farg11, %hfarg11, Harg11⟩, ⟨%farg12, %hfarg12, Harg12⟩, ⟨%farg13, %hfarg13, Harg13⟩, ⟨%farg14, %hfarg14, Harg14⟩, ⟨%farg15, %hfarg15, Harg15⟩, ⟨%farg16, %hfarg16, Harg16⟩, ⟨%farg17, %hfarg17, Harg17⟩, ⟨%farg18, %hfarg18, Harg18⟩, ⟨%farg19, %hfarg19, Harg19⟩, ⟨%farg20, %hfarg20, Harg20⟩, ⟨%farg21, %hfarg21, Harg21⟩, ⟨%darg22, %farg22, -, Harg22⟩, ⟨%farg23, %hfarg23, Harg23⟩, ⟨%farg24, %hfarg24, Harg24⟩, ⟨%farg25, %hfarg25, Harg25⟩, ⟨%farg26, %hfarg26, Harg26⟩, ⟨%farg27, %hfarg27, Harg27⟩, Hk⟩
    obtain rfl := harg2.eq_unread hfarg2; obtain rfl := harg3.eq_unread hfarg3; obtain rfl := harg4.eq_unread hfarg4; obtain rfl := harg5.eq_unread hfarg5; obtain rfl := harg6.eq_unread hfarg6; obtain rfl := harg7.eq_unread hfarg7; obtain rfl := harg8.eq_unread hfarg8; obtain rfl := harg9.eq_unread hfarg9; obtain rfl := harg10.eq_unread hfarg10; obtain rfl := harg11.eq_unread hfarg11; obtain rfl := harg12.eq_unread hfarg12; obtain rfl := harg13.eq_unread hfarg13; obtain rfl := harg14.eq_unread hfarg14; obtain rfl := harg15.eq_unread hfarg15; obtain rfl := harg16.eq_unread hfarg16; obtain rfl := harg17.eq_unread hfarg17; obtain rfl := harg18.eq_unread hfarg18; obtain rfl := harg19.eq_unread hfarg19; obtain rfl := harg20.eq_unread hfarg20; obtain rfl := harg21.eq_unread hfarg21; obtain rfl := harg23.eq_unread hfarg23; obtain rfl := harg24.eq_unread hfarg24; obtain rfl := harg25.eq_unread hfarg25; obtain rfl := harg26.eq_unread hfarg26; obtain rfl := harg27.eq_unread hfarg27
    have hrd0 : ∀ (𝒱 : Variants) (c : Dev nD) (bd : Option 𝒱.V) (i : grid0.Coords) (arg2 : Memref sig .tc .vmem S1x8x128 .bf16) (harg2 : arg2.IsWhole) (arg3 : Memref sig .tc .vmem S32x128 .bf16) (harg3 : arg3.IsWhole) (arg4 : Memref sig .tc .vmem S32x128 .bf16) (harg4 : arg4.IsWhole) (arg5 : Memref sig .tc .vmem S1x1x6528x64 .i8) (harg5 : arg5.IsWhole) (arg6 : Memref sig .tc .vmem S1x1x1020x128 .bf16) (harg6 : arg6.IsWhole) (arg7 : Memref sig .tc .vmem S1x1x1020x128 .bf16) (harg7 : arg7.IsWhole) (arg8 : Memref sig .tc .vmem S1x1x6528x64 .i8) (harg8 : arg8.IsWhole) (arg9 : Memref sig .tc .vmem S1x1x6528x4 .bf16) (harg9 : arg9.IsWhole) (arg10 : Memref sig .tc .vmem S1x1x6528x4 .bf16) (harg10 : arg10.IsWhole) (arg11 : Memref sig .tc .vmem S1x1x128x128 .bf16) (harg11 : arg11.IsWhole) (arg12 : Memref sig .tc .vmem S1x1x128x128 .bf16) (harg12 : arg12.IsWhole) (arg13 : Memref sig .tc .vmem S1x8x128 .bf16) (harg13 : arg13.IsWhole) (arg14 : Memref sig .tc .vmem S32x64 .i8) (harg14 : arg14.IsWhole) (arg15 : Memref sig .tc .vmem S32x4 .bf16) (harg15 : arg15.IsWhole) (arg16 : Memref sig .tc .vmem S32x4 .bf16) (harg16 : arg16.IsWhole) (arg17 : Memref sig .tc .vmem S32x64 .i8) (harg17 : arg17.IsWhole) (arg18 : Memref sig .tc .vmem S32x4 .bf16) (harg18 : arg18.IsWhole) (arg19 : Memref sig .tc .vmem S32x4 .bf16) (harg19 : arg19.IsWhole) (arg20 : Memref sig .tc .vmem S1024x128 .f32) (harg20 : arg20.IsWhole) (arg21 : Memref sig .tc .vmem S1024x128 .f32) (harg21 : arg21.IsWhole) (arg22 : Memref sig .tc .vmem S8x6528 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (arg26 : Memref sig .tc .vmem S32x128 .f32) (harg26 : arg26.IsWhole) (arg27 : Memref sig .tc .vmem S32x128 .f32) (harg27 : arg27.IsWhole) (arg1 : BitVec 32) (v17 : Vec F S1x8x128 .bf16) (X_arg5 : BufTy.Contents (Elt F) arg5.view.ty) (X_arg20 : BufTy.Contents (Elt F) arg20.view.ty) (X_arg21 : BufTy.Contents (Elt F) arg21.view.ty) (hrdF : BufTy.Contents (Elt F) arg22.view.ty) (hrdB : LoadRect S8x6528), arg22.view.readAt (Elt F) hrdB (arg22.view.writes (Elt F) hrdF (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v17 X_arg5 X_arg20 X_arg21 (Scf.trips k0_t1_loop.lb k0_t1_loop.ub k0_t1_loop.st))) = arg22.view.readCov (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v17 X_arg5 X_arg20 X_arg21 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v17 X_arg5 X_arg20 X_arg21 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v17 X_arg5 X_arg20 X_arg21 (Scf.trips k0_t1_loop.lb k0_t1_loop.ub k0_t1_loop.st)) S8x384.size (by sl_kernel_rfl) (hrdB.idx hrdJ))
    sl_exec (disch := first | sl_exact hc0 | sl_exact hc1 | sl_exact hc2)
    sl_step
    iapply Hk
    isplitl [Harg2]
    · iexists _; isplitr; · ipureintro; exact harg2.read_unread _
      iexact Harg2
    isplitl [Harg3]
    · iexists _; isplitr; · ipureintro; exact harg3.read_unread _
      iexact Harg3
    isplitl [Harg4]
    · iexists _; isplitr; · ipureintro; exact harg4.read_unread _
      iexact Harg4
    isplitl [Harg5]
    · iexists _; isplitr; · ipureintro; exact harg5.read_unread _
      iexact Harg5
    isplitl [Harg6]
    · iexists _; isplitr; · ipureintro; exact harg6.read_unread _
      iexact Harg6
    isplitl [Harg7]
    · iexists _; isplitr; · ipureintro; exact harg7.read_unread _
      iexact Harg7
    isplitl [Harg8]
    · iexists _; isplitr; · ipureintro; exact harg8.read_unread _
      iexact Harg8
    isplitl [Harg9]
    · iexists _; isplitr; · ipureintro; exact harg9.read_unread _
      iexact Harg9
    isplitl [Harg10]
    · iexists _; isplitr; · ipureintro; exact harg10.read_unread _
      iexact Harg10
    isplitl [Harg11]
    · iexists _; isplitr; · ipureintro; exact harg11.read_unread _
      iexact Harg11
    isplitl [Harg12]
    · iexists _; isplitr; · ipureintro; exact harg12.read_unread _
      iexact Harg12
    isplitl [Harg13]
    · iexists _; isplitr; · ipureintro; exact harg13.read_unread _
      iexact Harg13
    isplitl [Harg14]
    · iexists _; isplitr; · ipureintro; exact harg14.read_unread _
      iexact Harg14
    isplitl [Harg15]
    · iexists _; isplitr; · ipureintro; exact harg15.read_unread _
      iexact Harg15
    isplitl [Harg16]
    · iexists _; isplitr; · ipureintro; exact harg16.read_unread _
      iexact Harg16
    isplitl [Harg17]
    · iexists _; isplitr; · ipureintro; exact harg17.read_unread _
      iexact Harg17
    isplitl [Harg18]
    · iexists _; isplitr; · ipureintro; exact harg18.read_unread _
      iexact Harg18
    isplitl [Harg19]
    · iexists _; isplitr; · ipureintro; exact harg19.read_unread _
      iexact Harg19
    isplitl [Harg20]
    · iexists _; isplitr; · ipureintro; exact harg20.read_unread _
      iexact Harg20
    isplitl [Harg21]
    · iexists _; isplitr; · ipureintro; exact harg21.read_unread _
      iexact Harg21
    isplitl [Harg22]
    · iexists _, _; isplitr; swap; · iexact Harg22
      ipureintro; rfl
    isplitl [Harg23]
    · iexists _; iexact Harg23
    isplitl [Harg24]
    · iexists _; iexact Harg24
    isplitl [Harg25]
    · iexists _; iexact Harg25
    isplitl [Harg26]
    · iexists _; isplitr; · ipureintro; exact harg26.read_unread _
      iexact Harg26
    iexists _; isplitr; · ipureintro; exact harg27.read_unread _
    iexact Harg27

end Cert.Kernel.Body

end
-- ==== Proof.KernelRunC.lean ====
/-
  One run of the kernel body of `Kernel` at the last block of a head: what the body's stores leave in each buffer, as
  pieces, with every buffer's contents before the point a parameter.
-/
module

public import proofs.«01_k».proof.Proof.KernelCond

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.proofsInPublic true in
set_option maxHeartbeats 1600000 in
/-- The body's run at the last block of a head: from every buffer at given contents it comes to its continuation with the
    inputs and the buffers it does not store into as they were, and each buffer it stores into with the listed pieces
    written. -/
noncomputable def runC (c : Dev nD) (i : grid0.Coords) (arg2 : Memref sig .tc .vmem S1x8x128 .bf16) (harg2 : arg2.IsWhole) (arg3 : Memref sig .tc .vmem S32x128 .bf16) (harg3 : arg3.IsWhole) (arg4 : Memref sig .tc .vmem S32x128 .bf16) (harg4 : arg4.IsWhole) (arg5 : Memref sig .tc .vmem S1x1x6528x64 .i8) (harg5 : arg5.IsWhole) (arg6 : Memref sig .tc .vmem S1x1x1020x128 .bf16) (harg6 : arg6.IsWhole) (arg7 : Memref sig .tc .vmem S1x1x1020x128 .bf16) (harg7 : arg7.IsWhole) (arg8 : Memref sig .tc .vmem S1x1x6528x64 .i8) (harg8 : arg8.IsWhole) (arg9 : Memref sig .tc .vmem S1x1x6528x4 .bf16) (harg9 : arg9.IsWhole) (arg10 : Memref sig .tc .vmem S1x1x6528x4 .bf16) (harg10 : arg10.IsWhole) (arg11 : Memref sig .tc .vmem S1x1x128x128 .bf16) (harg11 : arg11.IsWhole) (arg12 : Memref sig .tc .vmem S1x1x128x128 .bf16) (harg12 : arg12.IsWhole) (arg13 : Memref sig .tc .vmem S1x8x128 .bf16) (harg13 : arg13.IsWhole) (arg14 : Memref sig .tc .vmem S32x64 .i8) (harg14 : arg14.IsWhole) (arg15 : Memref sig .tc .vmem S32x4 .bf16) (harg15 : arg15.IsWhole) (arg16 : Memref sig .tc .vmem S32x4 .bf16) (harg16 : arg16.IsWhole) (arg17 : Memref sig .tc .vmem S32x64 .i8) (harg17 : arg17.IsWhole) (arg18 : Memref sig .tc .vmem S32x4 .bf16) (harg18 : arg18.IsWhole) (arg19 : Memref sig .tc .vmem S32x4 .bf16) (harg19 : arg19.IsWhole) (arg20 : Memref sig .tc .vmem S1024x128 .f32) (harg20 : arg20.IsWhole) (arg21 : Memref sig .tc .vmem S1024x128 .f32) (harg21 : arg21.IsWhole) (arg22 : Memref sig .tc .vmem S8x6528 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (arg26 : Memref sig .tc .vmem S32x128 .f32) (harg26 : arg26.IsWhole) (arg27 : Memref sig .tc .vmem S32x128 .f32) (harg27 : arg27.IsWhole) (hc0 : ¬cond0_0 i) (hc1 : ¬cond0_1 i) (hc2 : cond0_2 i)
    (x0 : Vec F S1x8x128 .bf16) (x1 : Vec F S32x128 .bf16) (x2 : Vec F S32x128 .bf16) (x3 : Vec F S1x1x6528x64 .i8) (x4 : Vec F S1x1x1020x128 .bf16) (x5 : Vec F S1x1x1020x128 .bf16) (x6 : Vec F S1x1x6528x64 .i8) (x7 : Vec F S1x1x6528x4 .bf16) (x8 : Vec F S1x1x6528x4 .bf16) (x9 : Vec F S1x1x128x128 .bf16) (x10 : Vec F S1x1x128x128 .bf16) (d12 : Vec F S32x64 .i8) (d13 : Vec F S32x4 .bf16) (d14 : Vec F S32x4 .bf16) (d15 : Vec F S32x64 .i8) (d16 : Vec F S32x4 .bf16) (d17 : Vec F S32x4 .bf16) (xs0 : Vec F S1024x128 .f32) (xs1 : Vec F S1024x128 .f32) (xs3 : Vec F S8x128 .f32) (xs4 : Vec F S8x128 .f32) (xs5 : Vec F S8x128 .f32) (xs6 : Vec F S32x128 .f32) (xs7 : Vec F S32x128 .f32) :
    Σ' (Larg13 : List (View.Piece (Elt F) S1x8x128 .bf16)), Σ' (Larg23 : List (View.Piece (Elt F) S8x128 .f32)), Σ' (Larg24 : List (View.Piece (Elt F) S8x128 .f32)), { Larg25 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare d12 ∗ owns (c : Thread nD τ) arg15 fullShare d13 ∗ owns (c : Thread nD τ) arg16 fullShare d14 ∗ owns (c : Thread nD τ) arg17 fullShare d15 ∗ owns (c : Thread nD τ) arg18 fullShare d16 ∗ owns (c : Thread nD τ) arg19 fullShare d17 ∗ owns (c : Thread nD τ) arg20 fullShare xs0 ∗ owns (c : Thread nD τ) arg21 fullShare xs1 ∗ (∃ d, owns (c : Thread nD τ) arg22 fullShare d) ∗ owns (c : Thread nD τ) arg23 fullShare xs3 ∗ owns (c : Thread nD τ) arg24 fullShare xs4 ∗ owns (c : Thread nD τ) arg25 fullShare xs5 ∗ owns (c : Thread nD τ) arg26 fullShare xs6 ∗ owns (c : Thread nD τ) arg27 fullShare xs7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f Larg13) ∗ owns (c : Thread nD τ) arg14 fullShare d12 ∗ owns (c : Thread nD τ) arg15 fullShare d13 ∗ owns (c : Thread nD τ) arg16 fullShare d14 ∗ owns (c : Thread nD τ) arg17 fullShare d15 ∗ owns (c : Thread nD τ) arg18 fullShare d16 ∗ owns (c : Thread nD τ) arg19 fullShare d17 ∗ owns (c : Thread nD τ) arg20 fullShare xs0 ∗ owns (c : Thread nD τ) arg21 fullShare xs1 ∗ (∃ d, owns (c : Thread nD τ) arg22 fullShare d) ∗ (∃ f, arg23.view.loc (c : Thread nD τ) ↦[arg23.view.set]{fullShare} arg23.view.writes (Elt F) f Larg23) ∗ (∃ f, arg24.view.loc (c : Thread nD τ) ↦[arg24.view.set]{fullShare} arg24.view.writes (Elt F) f Larg24) ∗ (∃ f, arg25.view.loc (c : Thread nD τ) ↦[arg25.view.set]{fullShare} arg25.view.writes (Elt F) f Larg25) ∗ owns (c : Thread nD τ) arg26 fullShare xs6 ∗ owns (c : Thread nD τ) arg27 fullShare xs7) -∗ K ⟨⟩))
          ⊢ wp frame (wpE (defs₀ (F := F)) Variants.none c none) E (cc0_kivi_decode i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, fun E K => ?run⟩
  case run =>
    simp only [cc0_kivi_decode_eq_skeleton]; unfold cc0_kivi_decode_skel
    simp only [k0_part16_eq_skeleton, k0_part14_eq_skeleton, k0_part15_eq_skeleton, k0_part13_eq_skeleton]
    unfold owns
    iintro ⟨⟨%farg2, %hfarg2, Harg2⟩, ⟨%farg3, %hfarg3, Harg3⟩, ⟨%farg4, %hfarg4, Harg4⟩, ⟨%farg5, %hfarg5, Harg5⟩, ⟨%farg6, %hfarg6, Harg6⟩, ⟨%farg7, %hfarg7, Harg7⟩, ⟨%farg8, %hfarg8, Harg8⟩, ⟨%farg9, %hfarg9, Harg9⟩, ⟨%farg10, %hfarg10, Harg10⟩, ⟨%farg11, %hfarg11, Harg11⟩, ⟨%farg12, %hfarg12, Harg12⟩, ⟨%darg13, %farg13, -, Harg13⟩, ⟨%farg14, %hfarg14, Harg14⟩, ⟨%farg15, %hfarg15, Harg15⟩, ⟨%farg16, %hfarg16, Harg16⟩, ⟨%farg17, %hfarg17, Harg17⟩, ⟨%farg18, %hfarg18, Harg18⟩, ⟨%farg19, %hfarg19, Harg19⟩, ⟨%farg20, %hfarg20, Harg20⟩, ⟨%farg21, %hfarg21, Harg21⟩, ⟨%darg22, %farg22, -, Harg22⟩, ⟨%farg23, %hfarg23, Harg23⟩, ⟨%farg24, %hfarg24, Harg24⟩, ⟨%farg25, %hfarg25, Harg25⟩, ⟨%farg26, %hfarg26, Harg26⟩, ⟨%farg27, %hfarg27, Harg27⟩, Hk⟩
    obtain rfl := harg2.eq_unread hfarg2; obtain rfl := harg3.eq_unread hfarg3; obtain rfl := harg4.eq_unread hfarg4; obtain rfl := harg5.eq_unread hfarg5; obtain rfl := harg6.eq_unread hfarg6; obtain rfl := harg7.eq_unread hfarg7; obtain rfl := harg8.eq_unread hfarg8; obtain rfl := harg9.eq_unread hfarg9; obtain rfl := harg10.eq_unread hfarg10; obtain rfl := harg11.eq_unread hfarg11; obtain rfl := harg12.eq_unread hfarg12; obtain rfl := harg14.eq_unread hfarg14; obtain rfl := harg15.eq_unread hfarg15; obtain rfl := harg16.eq_unread hfarg16; obtain rfl := harg17.eq_unread hfarg17; obtain rfl := harg18.eq_unread hfarg18; obtain rfl := harg19.eq_unread hfarg19; obtain rfl := harg20.eq_unread hfarg20; obtain rfl := harg21.eq_unread hfarg21; obtain rfl := harg23.eq_unread hfarg23; obtain rfl := harg24.eq_unread hfarg24; obtain rfl := harg25.eq_unread hfarg25; obtain rfl := harg26.eq_unread hfarg26; obtain rfl := harg27.eq_unread hfarg27
    have hrd0 : ∀ (𝒱 : Variants) (c : Dev nD) (bd : Option 𝒱.V) (i : grid0.Coords) (arg2 : Memref sig .tc .vmem S1x8x128 .bf16) (harg2 : arg2.IsWhole) (arg3 : Memref sig .tc .vmem S32x128 .bf16) (harg3 : arg3.IsWhole) (arg4 : Memref sig .tc .vmem S32x128 .bf16) (harg4 : arg4.IsWhole) (arg5 : Memref sig .tc .vmem S1x1x6528x64 .i8) (harg5 : arg5.IsWhole) (arg6 : Memref sig .tc .vmem S1x1x1020x128 .bf16) (harg6 : arg6.IsWhole) (arg7 : Memref sig .tc .vmem S1x1x1020x128 .bf16) (harg7 : arg7.IsWhole) (arg8 : Memref sig .tc .vmem S1x1x6528x64 .i8) (harg8 : arg8.IsWhole) (arg9 : Memref sig .tc .vmem S1x1x6528x4 .bf16) (harg9 : arg9.IsWhole) (arg10 : Memref sig .tc .vmem S1x1x6528x4 .bf16) (harg10 : arg10.IsWhole) (arg11 : Memref sig .tc .vmem S1x1x128x128 .bf16) (harg11 : arg11.IsWhole) (arg12 : Memref sig .tc .vmem S1x1x128x128 .bf16) (harg12 : arg12.IsWhole) (arg13 : Memref sig .tc .vmem S1x8x128 .bf16) (harg13 : arg13.IsWhole) (arg14 : Memref sig .tc .vmem S32x64 .i8) (harg14 : arg14.IsWhole) (arg15 : Memref sig .tc .vmem S32x4 .bf16) (harg15 : arg15.IsWhole) (arg16 : Memref sig .tc .vmem S32x4 .bf16) (harg16 : arg16.IsWhole) (arg17 : Memref sig .tc .vmem S32x64 .i8) (harg17 : arg17.IsWhole) (arg18 : Memref sig .tc .vmem S32x4 .bf16) (harg18 : arg18.IsWhole) (arg19 : Memref sig .tc .vmem S32x4 .bf16) (harg19 : arg19.IsWhole) (arg20 : Memref sig .tc .vmem S1024x128 .f32) (harg20 : arg20.IsWhole) (arg21 : Memref sig .tc .vmem S1024x128 .f32) (harg21 : arg21.IsWhole) (arg22 : Memref sig .tc .vmem S8x6528 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (arg26 : Memref sig .tc .vmem S32x128 .f32) (harg26 : arg26.IsWhole) (arg27 : Memref sig .tc .vmem S32x128 .f32) (harg27 : arg27.IsWhole) (arg1 : BitVec 32) (v17 : Vec F S1x8x128 .bf16) (X_arg5 : BufTy.Contents (Elt F) arg5.view.ty) (X_arg20 : BufTy.Contents (Elt F) arg20.view.ty) (X_arg21 : BufTy.Contents (Elt F) arg21.view.ty) (hrdF : BufTy.Contents (Elt F) arg22.view.ty) (hrdB : LoadRect S8x6528), arg22.view.readAt (Elt F) hrdB (arg22.view.writes (Elt F) hrdF (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v17 X_arg5 X_arg20 X_arg21 (Scf.trips k0_t1_loop.lb k0_t1_loop.ub k0_t1_loop.st))) = arg22.view.readCov (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v17 X_arg5 X_arg20 X_arg21 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v17 X_arg5 X_arg20 X_arg21 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v17 X_arg5 X_arg20 X_arg21 (Scf.trips k0_t1_loop.lb k0_t1_loop.ub k0_t1_loop.st)) S8x384.size (by sl_kernel_rfl) (hrdB.idx hrdJ))
    sl_exec (disch := first | sl_exact hc0 | sl_exact hc1 | sl_exact hc2)
    sl_step
    iapply Hk
    isplitl [Harg2]
    · iexists _; isplitr; · ipureintro; exact harg2.read_unread _
      iexact Harg2
    isplitl [Harg3]
    · iexists _; isplitr; · ipureintro; exact harg3.read_unread _
      iexact Harg3
    isplitl [Harg4]
    · iexists _; isplitr; · ipureintro; exact harg4.read_unread _
      iexact Harg4
    isplitl [Harg5]
    · iexists _; isplitr; · ipureintro; exact harg5.read_unread _
      iexact Harg5
    isplitl [Harg6]
    · iexists _; isplitr; · ipureintro; exact harg6.read_unread _
      iexact Harg6
    isplitl [Harg7]
    · iexists _; isplitr; · ipureintro; exact harg7.read_unread _
      iexact Harg7
    isplitl [Harg8]
    · iexists _; isplitr; · ipureintro; exact harg8.read_unread _
      iexact Harg8
    isplitl [Harg9]
    · iexists _; isplitr; · ipureintro; exact harg9.read_unread _
      iexact Harg9
    isplitl [Harg10]
    · iexists _; isplitr; · ipureintro; exact harg10.read_unread _
      iexact Harg10
    isplitl [Harg11]
    · iexists _; isplitr; · ipureintro; exact harg11.read_unread _
      iexact Harg11
    isplitl [Harg12]
    · iexists _; isplitr; · ipureintro; exact harg12.read_unread _
      iexact Harg12
    isplitl [Harg13]
    · iexists _; iexact Harg13
    isplitl [Harg14]
    · iexists _; isplitr; · ipureintro; exact harg14.read_unread _
      iexact Harg14
    isplitl [Harg15]
    · iexists _; isplitr; · ipureintro; exact harg15.read_unread _
      iexact Harg15
    isplitl [Harg16]
    · iexists _; isplitr; · ipureintro; exact harg16.read_unread _
      iexact Harg16
    isplitl [Harg17]
    · iexists _; isplitr; · ipureintro; exact harg17.read_unread _
      iexact Harg17
    isplitl [Harg18]
    · iexists _; isplitr; · ipureintro; exact harg18.read_unread _
      iexact Harg18
    isplitl [Harg19]
    · iexists _; isplitr; · ipureintro; exact harg19.read_unread _
      iexact Harg19
    isplitl [Harg20]
    · iexists _; isplitr; · ipureintro; exact harg20.read_unread _
      iexact Harg20
    isplitl [Harg21]
    · iexists _; isplitr; · ipureintro; exact harg21.read_unread _
      iexact Harg21
    isplitl [Harg22]
    · iexists _, _; isplitr; swap; · iexact Harg22
      ipureintro; rfl
    isplitl [Harg23]
    · iexists _; iexact Harg23
    isplitl [Harg24]
    · iexists _; iexact Harg24
    isplitl [Harg25]
    · iexists _; iexact Harg25
    isplitl [Harg26]
    · iexists _; isplitr; · ipureintro; exact harg26.read_unread _
      iexact Harg26
    iexists _; isplitr; · ipureintro; exact harg27.read_unread _
    iexact Harg27

end Cert.Kernel.Body

end
-- ==== Proof.KernelRunD.lean ====
/-
  One run of the kernel body of `Kernel` at the first block of a head that is not the first: what the body's stores leave in each buffer, as
  pieces, with every buffer's contents before the point a parameter.
-/
module

public import proofs.«01_k».proof.Proof.KernelCond

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.proofsInPublic true in
set_option maxHeartbeats 1600000 in
/-- The body's run at the first block of a head that is not the first: from every buffer at given contents it comes to its continuation with the
    inputs and the buffers it does not store into as they were, and each buffer it stores into with the listed pieces
    written. -/
noncomputable def runD (c : Dev nD) (i : grid0.Coords) (arg2 : Memref sig .tc .vmem S1x8x128 .bf16) (harg2 : arg2.IsWhole) (arg3 : Memref sig .tc .vmem S32x128 .bf16) (harg3 : arg3.IsWhole) (arg4 : Memref sig .tc .vmem S32x128 .bf16) (harg4 : arg4.IsWhole) (arg5 : Memref sig .tc .vmem S1x1x6528x64 .i8) (harg5 : arg5.IsWhole) (arg6 : Memref sig .tc .vmem S1x1x1020x128 .bf16) (harg6 : arg6.IsWhole) (arg7 : Memref sig .tc .vmem S1x1x1020x128 .bf16) (harg7 : arg7.IsWhole) (arg8 : Memref sig .tc .vmem S1x1x6528x64 .i8) (harg8 : arg8.IsWhole) (arg9 : Memref sig .tc .vmem S1x1x6528x4 .bf16) (harg9 : arg9.IsWhole) (arg10 : Memref sig .tc .vmem S1x1x6528x4 .bf16) (harg10 : arg10.IsWhole) (arg11 : Memref sig .tc .vmem S1x1x128x128 .bf16) (harg11 : arg11.IsWhole) (arg12 : Memref sig .tc .vmem S1x1x128x128 .bf16) (harg12 : arg12.IsWhole) (arg13 : Memref sig .tc .vmem S1x8x128 .bf16) (harg13 : arg13.IsWhole) (arg14 : Memref sig .tc .vmem S32x64 .i8) (harg14 : arg14.IsWhole) (arg15 : Memref sig .tc .vmem S32x4 .bf16) (harg15 : arg15.IsWhole) (arg16 : Memref sig .tc .vmem S32x4 .bf16) (harg16 : arg16.IsWhole) (arg17 : Memref sig .tc .vmem S32x64 .i8) (harg17 : arg17.IsWhole) (arg18 : Memref sig .tc .vmem S32x4 .bf16) (harg18 : arg18.IsWhole) (arg19 : Memref sig .tc .vmem S32x4 .bf16) (harg19 : arg19.IsWhole) (arg20 : Memref sig .tc .vmem S1024x128 .f32) (harg20 : arg20.IsWhole) (arg21 : Memref sig .tc .vmem S1024x128 .f32) (harg21 : arg21.IsWhole) (arg22 : Memref sig .tc .vmem S8x6528 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (arg26 : Memref sig .tc .vmem S32x128 .f32) (harg26 : arg26.IsWhole) (arg27 : Memref sig .tc .vmem S32x128 .f32) (harg27 : arg27.IsWhole) (hc0 : ¬cond0_0 i) (hc1 : cond0_1 i) (hc2 : ¬cond0_2 i)
    (x0 : Vec F S1x8x128 .bf16) (x1 : Vec F S32x128 .bf16) (x2 : Vec F S32x128 .bf16) (x3 : Vec F S1x1x6528x64 .i8) (x4 : Vec F S1x1x1020x128 .bf16) (x5 : Vec F S1x1x1020x128 .bf16) (x6 : Vec F S1x1x6528x64 .i8) (x7 : Vec F S1x1x6528x4 .bf16) (x8 : Vec F S1x1x6528x4 .bf16) (x9 : Vec F S1x1x128x128 .bf16) (x10 : Vec F S1x1x128x128 .bf16) (d11 : Vec F S1x8x128 .bf16) (d12 : Vec F S32x64 .i8) (d13 : Vec F S32x4 .bf16) (d14 : Vec F S32x4 .bf16) (d15 : Vec F S32x64 .i8) (d16 : Vec F S32x4 .bf16) (d17 : Vec F S32x4 .bf16) (xs0 : Vec F S1024x128 .f32) (xs1 : Vec F S1024x128 .f32) (xs6 : Vec F S32x128 .f32) (xs7 : Vec F S32x128 .f32) :
    Σ' (Larg20 : List (View.Piece (Elt F) S1024x128 .f32)), Σ' (Larg21 : List (View.Piece (Elt F) S1024x128 .f32)), Σ' (Larg23 : List (View.Piece (Elt F) S8x128 .f32)), Σ' (Larg24 : List (View.Piece (Elt F) S8x128 .f32)), { Larg25 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare d11 ∗ owns (c : Thread nD τ) arg14 fullShare d12 ∗ owns (c : Thread nD τ) arg15 fullShare d13 ∗ owns (c : Thread nD τ) arg16 fullShare d14 ∗ owns (c : Thread nD τ) arg17 fullShare d15 ∗ owns (c : Thread nD τ) arg18 fullShare d16 ∗ owns (c : Thread nD τ) arg19 fullShare d17 ∗ owns (c : Thread nD τ) arg20 fullShare xs0 ∗ owns (c : Thread nD τ) arg21 fullShare xs1 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ owns (c : Thread nD τ) arg26 fullShare xs6 ∗ owns (c : Thread nD τ) arg27 fullShare xs7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare d11 ∗ owns (c : Thread nD τ) arg14 fullShare d12 ∗ owns (c : Thread nD τ) arg15 fullShare d13 ∗ owns (c : Thread nD τ) arg16 fullShare d14 ∗ owns (c : Thread nD τ) arg17 fullShare d15 ∗ owns (c : Thread nD τ) arg18 fullShare d16 ∗ owns (c : Thread nD τ) arg19 fullShare d17 ∗ (arg20.view.loc (c : Thread nD τ) ↦[arg20.view.set]{fullShare} arg20.view.writes (Elt F) (harg20.unread xs0) Larg20) ∗ (arg21.view.loc (c : Thread nD τ) ↦[arg21.view.set]{fullShare} arg21.view.writes (Elt F) (harg21.unread xs1) Larg21) ∗ (∃ d, owns (c : Thread nD τ) arg22 fullShare d) ∗ (∃ f, arg23.view.loc (c : Thread nD τ) ↦[arg23.view.set]{fullShare} arg23.view.writes (Elt F) f Larg23) ∗ (∃ f, arg24.view.loc (c : Thread nD τ) ↦[arg24.view.set]{fullShare} arg24.view.writes (Elt F) f Larg24) ∗ (∃ f, arg25.view.loc (c : Thread nD τ) ↦[arg25.view.set]{fullShare} arg25.view.writes (Elt F) f Larg25) ∗ owns (c : Thread nD τ) arg26 fullShare xs6 ∗ owns (c : Thread nD τ) arg27 fullShare xs7) -∗ K ⟨⟩))
          ⊢ wp frame (wpE (defs₀ (F := F)) Variants.none c none) E (cc0_kivi_decode i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, fun E K => ?run⟩
  case run =>
    simp only [cc0_kivi_decode_eq_skeleton]; unfold cc0_kivi_decode_skel
    simp only [k0_part16_eq_skeleton, k0_part14_eq_skeleton, k0_part15_eq_skeleton]
    unfold owns
    iintro ⟨⟨%farg2, %hfarg2, Harg2⟩, ⟨%farg3, %hfarg3, Harg3⟩, ⟨%farg4, %hfarg4, Harg4⟩, ⟨%farg5, %hfarg5, Harg5⟩, ⟨%farg6, %hfarg6, Harg6⟩, ⟨%farg7, %hfarg7, Harg7⟩, ⟨%farg8, %hfarg8, Harg8⟩, ⟨%farg9, %hfarg9, Harg9⟩, ⟨%farg10, %hfarg10, Harg10⟩, ⟨%farg11, %hfarg11, Harg11⟩, ⟨%farg12, %hfarg12, Harg12⟩, ⟨%farg13, %hfarg13, Harg13⟩, ⟨%farg14, %hfarg14, Harg14⟩, ⟨%farg15, %hfarg15, Harg15⟩, ⟨%farg16, %hfarg16, Harg16⟩, ⟨%farg17, %hfarg17, Harg17⟩, ⟨%farg18, %hfarg18, Harg18⟩, ⟨%farg19, %hfarg19, Harg19⟩, ⟨%farg20, %hfarg20, Harg20⟩, ⟨%farg21, %hfarg21, Harg21⟩, ⟨%darg22, %farg22, -, Harg22⟩, ⟨%darg23, %farg23, -, Harg23⟩, ⟨%darg24, %farg24, -, Harg24⟩, ⟨%darg25, %farg25, -, Harg25⟩, ⟨%farg26, %hfarg26, Harg26⟩, ⟨%farg27, %hfarg27, Harg27⟩, Hk⟩
    obtain rfl := harg2.eq_unread hfarg2; obtain rfl := harg3.eq_unread hfarg3; obtain rfl := harg4.eq_unread hfarg4; obtain rfl := harg5.eq_unread hfarg5; obtain rfl := harg6.eq_unread hfarg6; obtain rfl := harg7.eq_unread hfarg7; obtain rfl := harg8.eq_unread hfarg8; obtain rfl := harg9.eq_unread hfarg9; obtain rfl := harg10.eq_unread hfarg10; obtain rfl := harg11.eq_unread hfarg11; obtain rfl := harg12.eq_unread hfarg12; obtain rfl := harg13.eq_unread hfarg13; obtain rfl := harg14.eq_unread hfarg14; obtain rfl := harg15.eq_unread hfarg15; obtain rfl := harg16.eq_unread hfarg16; obtain rfl := harg17.eq_unread hfarg17; obtain rfl := harg18.eq_unread hfarg18; obtain rfl := harg19.eq_unread hfarg19; obtain rfl := harg20.eq_unread hfarg20; obtain rfl := harg21.eq_unread hfarg21; obtain rfl := harg26.eq_unread hfarg26; obtain rfl := harg27.eq_unread hfarg27
    have hrd0 : ∀ (𝒱 : Variants) (c : Dev nD) (bd : Option 𝒱.V) (i : grid0.Coords) (arg2 : Memref sig .tc .vmem S1x8x128 .bf16) (harg2 : arg2.IsWhole) (arg3 : Memref sig .tc .vmem S32x128 .bf16) (harg3 : arg3.IsWhole) (arg4 : Memref sig .tc .vmem S32x128 .bf16) (harg4 : arg4.IsWhole) (arg5 : Memref sig .tc .vmem S1x1x6528x64 .i8) (harg5 : arg5.IsWhole) (arg6 : Memref sig .tc .vmem S1x1x1020x128 .bf16) (harg6 : arg6.IsWhole) (arg7 : Memref sig .tc .vmem S1x1x1020x128 .bf16) (harg7 : arg7.IsWhole) (arg8 : Memref sig .tc .vmem S1x1x6528x64 .i8) (harg8 : arg8.IsWhole) (arg9 : Memref sig .tc .vmem S1x1x6528x4 .bf16) (harg9 : arg9.IsWhole) (arg10 : Memref sig .tc .vmem S1x1x6528x4 .bf16) (harg10 : arg10.IsWhole) (arg11 : Memref sig .tc .vmem S1x1x128x128 .bf16) (harg11 : arg11.IsWhole) (arg12 : Memref sig .tc .vmem S1x1x128x128 .bf16) (harg12 : arg12.IsWhole) (arg13 : Memref sig .tc .vmem S1x8x128 .bf16) (harg13 : arg13.IsWhole) (arg14 : Memref sig .tc .vmem S32x64 .i8) (harg14 : arg14.IsWhole) (arg15 : Memref sig .tc .vmem S32x4 .bf16) (harg15 : arg15.IsWhole) (arg16 : Memref sig .tc .vmem S32x4 .bf16) (harg16 : arg16.IsWhole) (arg17 : Memref sig .tc .vmem S32x64 .i8) (harg17 : arg17.IsWhole) (arg18 : Memref sig .tc .vmem S32x4 .bf16) (harg18 : arg18.IsWhole) (arg19 : Memref sig .tc .vmem S32x4 .bf16) (harg19 : arg19.IsWhole) (arg20 : Memref sig .tc .vmem S1024x128 .f32) (harg20 : arg20.IsWhole) (arg21 : Memref sig .tc .vmem S1024x128 .f32) (harg21 : arg21.IsWhole) (arg22 : Memref sig .tc .vmem S8x6528 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (arg26 : Memref sig .tc .vmem S32x128 .f32) (harg26 : arg26.IsWhole) (arg27 : Memref sig .tc .vmem S32x128 .f32) (harg27 : arg27.IsWhole) (arg1 : BitVec 32) (v17 : Vec F S1x8x128 .bf16) (X_arg5 : BufTy.Contents (Elt F) arg5.view.ty) (X_arg20 : BufTy.Contents (Elt F) arg20.view.ty) (X_arg21 : BufTy.Contents (Elt F) arg21.view.ty) (hrdF : BufTy.Contents (Elt F) arg22.view.ty) (hrdB : LoadRect S8x6528), arg22.view.readAt (Elt F) hrdB (arg22.view.writes (Elt F) hrdF (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v17 X_arg5 X_arg20 X_arg21 (Scf.trips k0_t1_loop.lb k0_t1_loop.ub k0_t1_loop.st))) = arg22.view.readCov (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v17 X_arg5 X_arg20 X_arg21 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v17 X_arg5 X_arg20 X_arg21 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v17 X_arg5 X_arg20 X_arg21 (Scf.trips k0_t1_loop.lb k0_t1_loop.ub k0_t1_loop.st)) S8x384.size (by sl_kernel_rfl) (hrdB.idx hrdJ))
    sl_exec (disch := first | sl_exact hc0 | sl_exact hc1 | sl_exact hc2)
    sl_step
    iapply Hk
    isplitl [Harg2]
    · iexists _; isplitr; · ipureintro; exact harg2.read_unread _
      iexact Harg2
    isplitl [Harg3]
    · iexists _; isplitr; · ipureintro; exact harg3.read_unread _
      iexact Harg3
    isplitl [Harg4]
    · iexists _; isplitr; · ipureintro; exact harg4.read_unread _
      iexact Harg4
    isplitl [Harg5]
    · iexists _; isplitr; · ipureintro; exact harg5.read_unread _
      iexact Harg5
    isplitl [Harg6]
    · iexists _; isplitr; · ipureintro; exact harg6.read_unread _
      iexact Harg6
    isplitl [Harg7]
    · iexists _; isplitr; · ipureintro; exact harg7.read_unread _
      iexact Harg7
    isplitl [Harg8]
    · iexists _; isplitr; · ipureintro; exact harg8.read_unread _
      iexact Harg8
    isplitl [Harg9]
    · iexists _; isplitr; · ipureintro; exact harg9.read_unread _
      iexact Harg9
    isplitl [Harg10]
    · iexists _; isplitr; · ipureintro; exact harg10.read_unread _
      iexact Harg10
    isplitl [Harg11]
    · iexists _; isplitr; · ipureintro; exact harg11.read_unread _
      iexact Harg11
    isplitl [Harg12]
    · iexists _; isplitr; · ipureintro; exact harg12.read_unread _
      iexact Harg12
    isplitl [Harg13]
    · iexists _; isplitr; · ipureintro; exact harg13.read_unread _
      iexact Harg13
    isplitl [Harg14]
    · iexists _; isplitr; · ipureintro; exact harg14.read_unread _
      iexact Harg14
    isplitl [Harg15]
    · iexists _; isplitr; · ipureintro; exact harg15.read_unread _
      iexact Harg15
    isplitl [Harg16]
    · iexists _; isplitr; · ipureintro; exact harg16.read_unread _
      iexact Harg16
    isplitl [Harg17]
    · iexists _; isplitr; · ipureintro; exact harg17.read_unread _
      iexact Harg17
    isplitl [Harg18]
    · iexists _; isplitr; · ipureintro; exact harg18.read_unread _
      iexact Harg18
    isplitl [Harg19]
    · iexists _; isplitr; · ipureintro; exact harg19.read_unread _
      iexact Harg19
    isplitl [Harg20]
    · iexact Harg20
    isplitl [Harg21]
    · iexact Harg21
    isplitl [Harg22]
    · iexists _, _; isplitr; swap; · iexact Harg22
      ipureintro; rfl
    isplitl [Harg23]
    · iexists _; iexact Harg23
    isplitl [Harg24]
    · iexists _; iexact Harg24
    isplitl [Harg25]
    · iexists _; iexact Harg25
    isplitl [Harg26]
    · iexists _; isplitr; · ipureintro; exact harg26.read_unread _
      iexact Harg26
    iexists _; isplitr; · ipureintro; exact harg27.read_unread _
    iexact Harg27

end Cert.Kernel.Body

end
-- ==== Proof.KernelBody.lean ====
/-
  The body of `Kernel` at every grid point, for any account of what the scratch buffers and the results hold.

  An account (`Knows`) is a predicate on the contents of the scratch buffers before each point and one on each result's
  block; `Steps` says that each of the four kinds of point carries it on.  `launched` is what the whole kernel then
  leaves: every argument as it was and every result in the account.
-/
module

public import proofs.«01_k».proof.Proof.KernelRunA
public import proofs.«01_k».proof.Proof.KernelRunB
public import proofs.«01_k».proof.Proof.KernelRunC
public import proofs.«01_k».proof.Proof.KernelRunD
public import proofs.«01_k».proof.Proof.Gen.Kernel.Frame
public import Idealize.ShloMosaic.Lib.Pipeline.ArrRel

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! ## The buffers at a point -/

abbrev ms0_0 (t : Fin cfg0.N) : Memref sig .tc .vmem S1x8x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x6528x64 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1020x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1020x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x6528x64 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x6528x4 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x6528x4 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x128x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x128x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x8x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S32x64 .i8 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S32x4 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S32x4 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S32x64 .i8 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S32x4 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S32x4 .bf16 := win0_17.stage (cfg0.slots t 17)
abbrev hs0_17 (t : Fin cfg0.N) : (ms0_17 t).IsWhole := hstage0_17 ((cfg0.slots t 17).cast nbuf0_17)
abbrev scM0_0 : Memref sig .tc .vmem S1024x128 .f32 := Memref.whole cc0_scratch0
abbrev scM0_1 : Memref sig .tc .vmem S1024x128 .f32 := Memref.whole cc0_scratch1
abbrev scM0_2 : Memref sig .tc .vmem S8x6528 .f32 := Memref.whole cc0_scratch2
abbrev scM0_3 : Memref sig .tc .vmem S8x128 .f32 := Memref.whole cc0_scratch3
abbrev scM0_4 : Memref sig .tc .vmem S8x128 .f32 := Memref.whole cc0_scratch4
abbrev scM0_5 : Memref sig .tc .vmem S8x128 .f32 := Memref.whole cc0_scratch5
abbrev scM0_6 : Memref sig .tc .vmem S32x128 .f32 := Memref.whole cc0_scratch6
abbrev scM0_7 : Memref sig .tc .vmem S32x128 .f32 := Memref.whole cc0_scratch7

/-- The class invariant with the scratch buffers one by one. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

/-- The contents of the scratch buffers that live from point to point: split key scales and zeros, running maximum,
    running sum, running weighted values, the round trip of the new key and value. -/
structure St (F : FTy → Type) [FloatOps F] where
  k2 : Vec F S1024x128 .f32
  z2 : Vec F S1024x128 .f32
  mx : Vec F S8x128 .f32
  dn : Vec F S8x128 .f32
  ac : Vec F S8x128 .f32
  kd : Vec F S32x128 .f32
  vd : Vec F S32x128 .f32

/-- The contents of the result blocks at hand. -/
structure Outs (F : FTy → Type) [FloatOps F] where
  o11 : Vec F S1x8x128 .bf16
  o12 : Vec F S32x64 .i8
  o13 : Vec F S32x4 .bf16
  o14 : Vec F S32x4 .bf16
  o15 : Vec F S32x64 .i8
  o16 : Vec F S32x4 .bf16
  o17 : Vec F S32x4 .bf16

/-- The body's run at the first point, on the buffers the pipeline hands it there. -/
noncomputable abbrev atA (m : (ℓ : Loc nD τ sig) → Buf (Elt F) ℓ) (c : Dev nD) (t : Fin cfg0.N) (h0 : t.val % 160 = 0) (h1 : t.val % 5 = 0) (h2 : ¬t.val % 5 = 4) (s : St F) (d : Outs F) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) d.o11 s.k2 s.z2

/-- The body's run at a point that neither starts nor ends a head, on the buffers the pipeline hands it there. -/
noncomputable abbrev atB (m : (ℓ : Loc nD τ sig) → Buf (Elt F) ℓ) (c : Dev nD) (t : Fin cfg0.N) (h0 : ¬t.val % 160 = 0) (h1 : ¬t.val % 5 = 0) (h2 : ¬t.val % 5 = 4) (s : St F) (d : Outs F) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) d.o11 d.o12 d.o13 d.o14 d.o15 d.o16 d.o17 s.k2 s.z2 s.mx s.dn s.ac s.kd s.vd

/-- The body's run at the last point of a head, on the buffers the pipeline hands it there. -/
noncomputable abbrev atC (m : (ℓ : Loc nD τ sig) → Buf (Elt F) ℓ) (c : Dev nD) (t : Fin cfg0.N) (h0 : ¬t.val % 160 = 0) (h1 : ¬t.val % 5 = 0) (h2 : t.val % 5 = 4) (s : St F) (d : Outs F) :=
  runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) d.o12 d.o13 d.o14 d.o15 d.o16 d.o17 s.k2 s.z2 s.mx s.dn s.ac s.kd s.vd

/-- The body's run at the first point of a later head, on the buffers the pipeline hands it there. -/
noncomputable abbrev atD (m : (ℓ : Loc nD τ sig) → Buf (Elt F) ℓ) (c : Dev nD) (t : Fin cfg0.N) (h0 : ¬t.val % 160 = 0) (h1 : t.val % 5 = 0) (h2 : ¬t.val % 5 = 4) (s : St F) (d : Outs F) :=
  runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) d.o11 d.o12 d.o13 d.o14 d.o15 d.o16 d.o17 s.k2 s.z2 s.kd s.vd

/-- An account of the scratch before point `n` and of what each result's block is left at. -/
structure Knows (F : FTy → Type) [FloatOps F] where
  Inv : ℕ → St F → Prop
  Q11 : ℕ → Vec F S1x8x128 .bf16 → Prop
  Q12 : Vec F S32x64 .i8 → Prop
  Q13 : Vec F S32x4 .bf16 → Prop
  Q14 : Vec F S32x4 .bf16 → Prop
  Q15 : Vec F S32x64 .i8 → Prop
  Q16 : Vec F S32x4 .bf16 → Prop
  Q17 : Vec F S32x4 .bf16 → Prop

/-- The account holds of any scratch before the first point and every point carries it on. -/
structure Steps (m : (ℓ : Loc nD τ sig) → Buf (Elt F) ℓ) (c : Dev nD) (kn : Knows F) : Prop where
  zero : ∀ s, kn.Inv 0 s
  /-- What the first point makes of it. -/
  stepA : ∀ (t : Fin cfg0.N) (h0 : t.val % 160 = 0) (h1 : t.val % 5 = 0) (h2 : ¬t.val % 5 = 4) (s : St F) (d : Outs F), kn.Inv t.val s → ∀ (f12 : (ms0_12 t).view.ty.Contents (Elt F)) (f13 : (ms0_13 t).view.ty.Contents (Elt F)) (f14 : (ms0_14 t).view.ty.Contents (Elt F)) (f15 : (ms0_15 t).view.ty.Contents (Elt F)) (f16 : (ms0_16 t).view.ty.Contents (Elt F)) (f17 : (ms0_17 t).view.ty.Contents (Elt F)) (g3 : scM0_3.view.ty.Contents (Elt F)) (g4 : scM0_4.view.ty.Contents (Elt F)) (g5 : scM0_5.view.ty.Contents (Elt F)) (g6 : scM0_6.view.ty.Contents (Elt F)) (g7 : scM0_7.view.ty.Contents (Elt F)),
    kn.Inv (t.val + 1) ⟨(scM0_0.view.read (Elt F) (scM0_0.view.writes (Elt F) ((Memref.isWhole_whole _ : scM0_0.IsWhole).unread s.k2) (atA m c t h0 h1 h2 s d).2.2.2.2.2.2.1)), (scM0_1.view.read (Elt F) (scM0_1.view.writes (Elt F) ((Memref.isWhole_whole _ : scM0_1.IsWhole).unread s.z2) (atA m c t h0 h1 h2 s d).2.2.2.2.2.2.2.1)), (scM0_3.view.read (Elt F) (scM0_3.view.writes (Elt F) g3 (atA m c t h0 h1 h2 s d).2.2.2.2.2.2.2.2.1)), (scM0_4.view.read (Elt F) (scM0_4.view.writes (Elt F) g4 (atA m c t h0 h1 h2 s d).2.2.2.2.2.2.2.2.2.1)), (scM0_5.view.read (Elt F) (scM0_5.view.writes (Elt F) g5 (atA m c t h0 h1 h2 s d).2.2.2.2.2.2.2.2.2.2.1)), (scM0_6.view.read (Elt F) (scM0_6.view.writes (Elt F) g6 (atA m c t h0 h1 h2 s d).2.2.2.2.2.2.2.2.2.2.2.1)), (scM0_7.view.read (Elt F) (scM0_7.view.writes (Elt F) g7 (atA m c t h0 h1 h2 s d).2.2.2.2.2.2.2.2.2.2.2.2.1))⟩
      ∧ kn.Q12 ((ms0_12 t).view.read (Elt F) ((ms0_12 t).view.writes (Elt F) f12 (atA m c t h0 h1 h2 s d).1))
      ∧ kn.Q13 ((ms0_13 t).view.read (Elt F) ((ms0_13 t).view.writes (Elt F) f13 (atA m c t h0 h1 h2 s d).2.1))
      ∧ kn.Q14 ((ms0_14 t).view.read (Elt F) ((ms0_14 t).view.writes (Elt F) f14 (atA m c t h0 h1 h2 s d).2.2.1))
      ∧ kn.Q15 ((ms0_15 t).view.read (Elt F) ((ms0_15 t).view.writes (Elt F) f15 (atA m c t h0 h1 h2 s d).2.2.2.1))
      ∧ kn.Q16 ((ms0_16 t).view.read (Elt F) ((ms0_16 t).view.writes (Elt F) f16 (atA m c t h0 h1 h2 s d).2.2.2.2.1))
      ∧ kn.Q17 ((ms0_17 t).view.read (Elt F) ((ms0_17 t).view.writes (Elt F) f17 (atA m c t h0 h1 h2 s d).2.2.2.2.2.1))
  /-- What a point that neither starts nor ends a head makes of it. -/
  stepB : ∀ (t : Fin cfg0.N) (h0 : ¬t.val % 160 = 0) (h1 : ¬t.val % 5 = 0) (h2 : ¬t.val % 5 = 4) (s : St F) (d : Outs F), kn.Inv t.val s → ∀ (g3 : scM0_3.view.ty.Contents (Elt F)) (g4 : scM0_4.view.ty.Contents (Elt F)) (g5 : scM0_5.view.ty.Contents (Elt F)),
    kn.Inv (t.val + 1) ⟨s.k2, s.z2, (scM0_3.view.read (Elt F) (scM0_3.view.writes (Elt F) g3 (atB m c t h0 h1 h2 s d).1)), (scM0_4.view.read (Elt F) (scM0_4.view.writes (Elt F) g4 (atB m c t h0 h1 h2 s d).2.1)), (scM0_5.view.read (Elt F) (scM0_5.view.writes (Elt F) g5 (atB m c t h0 h1 h2 s d).2.2.1)), s.kd, s.vd⟩
  /-- What the last point of a head makes of it. -/
  stepC : ∀ (t : Fin cfg0.N) (h0 : ¬t.val % 160 = 0) (h1 : ¬t.val % 5 = 0) (h2 : t.val % 5 = 4) (s : St F) (d : Outs F), kn.Inv t.val s → ∀ (f11 : (ms0_11 t).view.ty.Contents (Elt F)) (g3 : scM0_3.view.ty.Contents (Elt F)) (g4 : scM0_4.view.ty.Contents (Elt F)) (g5 : scM0_5.view.ty.Contents (Elt F)),
    kn.Inv (t.val + 1) ⟨s.k2, s.z2, (scM0_3.view.read (Elt F) (scM0_3.view.writes (Elt F) g3 (atC m c t h0 h1 h2 s d).2.1)), (scM0_4.view.read (Elt F) (scM0_4.view.writes (Elt F) g4 (atC m c t h0 h1 h2 s d).2.2.1)), (scM0_5.view.read (Elt F) (scM0_5.view.writes (Elt F) g5 (atC m c t h0 h1 h2 s d).2.2.2.1)), s.kd, s.vd⟩
      ∧ kn.Q11 t.val ((ms0_11 t).view.read (Elt F) ((ms0_11 t).view.writes (Elt F) f11 (atC m c t h0 h1 h2 s d).1))
  /-- What the first point of a later head makes of it. -/
  stepD : ∀ (t : Fin cfg0.N) (h0 : ¬t.val % 160 = 0) (h1 : t.val % 5 = 0) (h2 : ¬t.val % 5 = 4) (s : St F) (d : Outs F), kn.Inv t.val s → ∀ (g3 : scM0_3.view.ty.Contents (Elt F)) (g4 : scM0_4.view.ty.Contents (Elt F)) (g5 : scM0_5.view.ty.Contents (Elt F)),
    kn.Inv (t.val + 1) ⟨(scM0_0.view.read (Elt F) (scM0_0.view.writes (Elt F) ((Memref.isWhole_whole _ : scM0_0.IsWhole).unread s.k2) (atD m c t h0 h1 h2 s d).1)), (scM0_1.view.read (Elt F) (scM0_1.view.writes (Elt F) ((Memref.isWhole_whole _ : scM0_1.IsWhole).unread s.z2) (atD m c t h0 h1 h2 s d).2.1)), (scM0_3.view.read (Elt F) (scM0_3.view.writes (Elt F) g3 (atD m c t h0 h1 h2 s d).2.2.1)), (scM0_4.view.read (Elt F) (scM0_4.view.writes (Elt F) g4 (atD m c t h0 h1 h2 s d).2.2.2.1)), (scM0_5.view.read (Elt F) (scM0_5.view.writes (Elt F) g5 (atD m c t h0 h1 h2 s d).2.2.2.2.1)), s.kd, s.vd⟩

/-! ## The pipeline's proof data -/

variable (m : (ℓ : Loc nD τ sig) → Buf (Elt F) ℓ) (kn : Knows F)

/-- What holds before point `n`: some scratch contents in the account. -/
def Phi (c : Dev nD) (n : ℕ) : sProp 𝕄 :=
  iprop((∃ s : St F, ⌜kn.Inv n s⌝ ∗ owns (c : Thread nD τ) scM0_0 fullShare s.k2 ∗ owns (c : Thread nD τ) scM0_1 fullShare s.z2 ∗ (∃ d, owns (c : Thread nD τ) scM0_2 fullShare d) ∗ owns (c : Thread nD τ) scM0_3 fullShare s.mx ∗ owns (c : Thread nD τ) scM0_4 fullShare s.dn ∗ owns (c : Thread nD τ) scM0_5 fullShare s.ac ∗ owns (c : Thread nD τ) scM0_6 fullShare s.kd ∗ owns (c : Thread nD τ) scM0_7 fullShare s.vd) ∗ (∃ r, prngReg c r))

/-- The proof data: inputs stay as found, the first result's block is in the account at the last point of its head, the
    others' always. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => X = Y
    | ⟨9, _⟩ => fun Y X => X = Y
    | ⟨10, _⟩ => fun Y X => X = Y
    | ⟨11, _⟩ => fun _ X => t.val % 5 = 4 → kn.Q11 t.val X
    | ⟨12, _⟩ => fun _ X => kn.Q12 X
    | ⟨13, _⟩ => fun _ X => kn.Q13 X
    | ⟨14, _⟩ => fun _ X => kn.Q14 X
    | ⟨15, _⟩ => fun _ X => kn.Q15 X
    | ⟨16, _⟩ => fun _ X => kn.Q16 X
    | ⟨17, _⟩ => fun _ X => kn.Q17 X
    | ⟨_ + 18, h⟩ => absurd h (Nat.not_lt.2 (Nat.le_add_left _ _))
  Φ t := Phi kn c t.val
  q _ := fullShare
  owed _ := 0

theorem rdat_A (c : Dev nD) (w : Fin cfg0.W) : (rdat m kn c).A w = V m c (Pipeline.arrRef spec0 w) := by
  dsimp only [rdat]

/-- Input 0 is found at its block. -/
theorem finds0_0 (c : Dev nD) (t : Fin cfg0.N) (Y) (h : (rdat m kn c).Finds 0 t Y) : Y = iblk m c 0 t := by
  obtain ⟨d, hd⟩ := (rdat m kn c).finds_in_eq_fetched 0 rfl (fun _ _ _ => rfl) (fun _ _ _ h => by dsimp only [rdat] at h; exact h) t Y h
  rw [hd]; unfold RDat.fetched RDat.blockOf iblk; rw [rdat_A]; try rfl

/-- Input 1 is found at its block. -/
theorem finds0_1 (c : Dev nD) (t : Fin cfg0.N) (Y) (h : (rdat m kn c).Finds 1 t Y) : Y = iblk m c 1 t := by
  obtain ⟨d, hd⟩ := (rdat m kn c).finds_in_eq_fetched 1 rfl (fun _ _ _ => rfl) (fun _ _ _ h => by dsimp only [rdat] at h; exact h) t Y h
  rw [hd]; unfold RDat.fetched RDat.blockOf iblk; rw [rdat_A]; try rfl

/-- Input 2 is found at its block. -/
theorem finds0_2 (c : Dev nD) (t : Fin cfg0.N) (Y) (h : (rdat m kn c).Finds 2 t Y) : Y = iblk m c 2 t := by
  obtain ⟨d, hd⟩ := (rdat m kn c).finds_in_eq_fetched 2 rfl (fun _ _ _ => rfl) (fun _ _ _ h => by dsimp only [rdat] at h; exact h) t Y h
  rw [hd]; unfold RDat.fetched RDat.blockOf iblk; rw [rdat_A]; try rfl

/-- Input 3 is found at its block. -/
theorem finds0_3 (c : Dev nD) (t : Fin cfg0.N) (Y) (h : (rdat m kn c).Finds 3 t Y) : Y = iblk m c 3 t := by
  obtain ⟨d, hd⟩ := (rdat m kn c).finds_in_eq_fetched 3 rfl (fun _ _ _ => rfl) (fun _ _ _ h => by dsimp only [rdat] at h; exact h) t Y h
  rw [hd]; unfold RDat.fetched RDat.blockOf iblk; rw [rdat_A]; try rfl

/-- Input 4 is found at its block. -/
theorem finds0_4 (c : Dev nD) (t : Fin cfg0.N) (Y) (h : (rdat m kn c).Finds 4 t Y) : Y = iblk m c 4 t := by
  obtain ⟨d, hd⟩ := (rdat m kn c).finds_in_eq_fetched 4 rfl (fun _ _ _ => rfl) (fun _ _ _ h => by dsimp only [rdat] at h; exact h) t Y h
  rw [hd]; unfold RDat.fetched RDat.blockOf iblk; rw [rdat_A]; try rfl

/-- Input 5 is found at its block. -/
theorem finds0_5 (c : Dev nD) (t : Fin cfg0.N) (Y) (h : (rdat m kn c).Finds 5 t Y) : Y = iblk m c 5 t := by
  obtain ⟨d, hd⟩ := (rdat m kn c).finds_in_eq_fetched 5 rfl (fun _ _ _ => rfl) (fun _ _ _ h => by dsimp only [rdat] at h; exact h) t Y h
  rw [hd]; unfold RDat.fetched RDat.blockOf iblk; rw [rdat_A]; try rfl

/-- Input 6 is found at its block. -/
theorem finds0_6 (c : Dev nD) (t : Fin cfg0.N) (Y) (h : (rdat m kn c).Finds 6 t Y) : Y = iblk m c 6 t := by
  obtain ⟨d, hd⟩ := (rdat m kn c).finds_in_eq_fetched 6 rfl (fun _ _ _ => rfl) (fun _ _ _ h => by dsimp only [rdat] at h; exact h) t Y h
  rw [hd]; unfold RDat.fetched RDat.blockOf iblk; rw [rdat_A]; try rfl

/-- Input 7 is found at its block. -/
theorem finds0_7 (c : Dev nD) (t : Fin cfg0.N) (Y) (h : (rdat m kn c).Finds 7 t Y) : Y = iblk m c 7 t := by
  obtain ⟨d, hd⟩ := (rdat m kn c).finds_in_eq_fetched 7 rfl (fun _ _ _ => rfl) (fun _ _ _ h => by dsimp only [rdat] at h; exact h) t Y h
  rw [hd]; unfold RDat.fetched RDat.blockOf iblk; rw [rdat_A]; try rfl

/-- Input 8 is found at its block. -/
theorem finds0_8 (c : Dev nD) (t : Fin cfg0.N) (Y) (h : (rdat m kn c).Finds 8 t Y) : Y = iblk m c 8 t := by
  obtain ⟨d, hd⟩ := (rdat m kn c).finds_in_eq_fetched 8 rfl (fun _ _ _ => rfl) (fun _ _ _ h => by dsimp only [rdat] at h; exact h) t Y h
  rw [hd]; unfold RDat.fetched RDat.blockOf iblk; rw [rdat_A]; try rfl

/-- Input 9 is found at its block. -/
theorem finds0_9 (c : Dev nD) (t : Fin cfg0.N) (Y) (h : (rdat m kn c).Finds 9 t Y) : Y = iblk m c 9 t := by
  obtain ⟨d, hd⟩ := (rdat m kn c).finds_in_eq_fetched 9 rfl (fun _ _ _ => rfl) (fun _ _ _ h => by dsimp only [rdat] at h; exact h) t Y h
  rw [hd]; unfold RDat.fetched RDat.blockOf iblk; rw [rdat_A]; try rfl

/-- Input 10 is found at its block. -/
theorem finds0_10 (c : Dev nD) (t : Fin cfg0.N) (Y) (h : (rdat m kn c).Finds 10 t Y) : Y = iblk m c 10 t := by
  obtain ⟨d, hd⟩ := (rdat m kn c).finds_in_eq_fetched 10 rfl (fun _ _ _ => rfl) (fun _ _ _ h => by dsimp only [rdat] at h; exact h) t Y h
  rw [hd]; unfold RDat.fetched RDat.blockOf iblk; rw [rdat_A]; try rfl

/-- Result block 12 is in the account at every point after the first. -/
theorem finds0_12 (c : Dev nD) (t : Fin cfg0.N) (ht : ¬t.val % 160 = 0) (Y) (h : (rdat m kn c).Finds 12 t Y) : kn.Q12 Y := by
  have hN : t.val < 160 := lt_of_lt_of_eq t.isLt (show cfg0.N = 160 from N_0)
  rcases ((rdat m kn c).finds_of_pos (w := 12) (t := t) rfl (by omega) Y).mp h with hf | ⟨Y', _, hL⟩
  · have := (flush0_12 _).mp hf; simp only at this; omega
  · dsimp only [rdat] at hL; exact hL

/-- Result block 13 is in the account at every point after the first. -/
theorem finds0_13 (c : Dev nD) (t : Fin cfg0.N) (ht : ¬t.val % 160 = 0) (Y) (h : (rdat m kn c).Finds 13 t Y) : kn.Q13 Y := by
  have hN : t.val < 160 := lt_of_lt_of_eq t.isLt (show cfg0.N = 160 from N_0)
  rcases ((rdat m kn c).finds_of_pos (w := 13) (t := t) rfl (by omega) Y).mp h with hf | ⟨Y', _, hL⟩
  · have := (flush0_13 _).mp hf; simp only at this; omega
  · dsimp only [rdat] at hL; exact hL

/-- Result block 14 is in the account at every point after the first. -/
theorem finds0_14 (c : Dev nD) (t : Fin cfg0.N) (ht : ¬t.val % 160 = 0) (Y) (h : (rdat m kn c).Finds 14 t Y) : kn.Q14 Y := by
  have hN : t.val < 160 := lt_of_lt_of_eq t.isLt (show cfg0.N = 160 from N_0)
  rcases ((rdat m kn c).finds_of_pos (w := 14) (t := t) rfl (by omega) Y).mp h with hf | ⟨Y', _, hL⟩
  · have := (flush0_14 _).mp hf; simp only at this; omega
  · dsimp only [rdat] at hL; exact hL

/-- Result block 15 is in the account at every point after the first. -/
theorem finds0_15 (c : Dev nD) (t : Fin cfg0.N) (ht : ¬t.val % 160 = 0) (Y) (h : (rdat m kn c).Finds 15 t Y) : kn.Q15 Y := by
  have hN : t.val < 160 := lt_of_lt_of_eq t.isLt (show cfg0.N = 160 from N_0)
  rcases ((rdat m kn c).finds_of_pos (w := 15) (t := t) rfl (by omega) Y).mp h with hf | ⟨Y', _, hL⟩
  · have := (flush0_15 _).mp hf; simp only at this; omega
  · dsimp only [rdat] at hL; exact hL

/-- Result block 16 is in the account at every point after the first. -/
theorem finds0_16 (c : Dev nD) (t : Fin cfg0.N) (ht : ¬t.val % 160 = 0) (Y) (h : (rdat m kn c).Finds 16 t Y) : kn.Q16 Y := by
  have hN : t.val < 160 := lt_of_lt_of_eq t.isLt (show cfg0.N = 160 from N_0)
  rcases ((rdat m kn c).finds_of_pos (w := 16) (t := t) rfl (by omega) Y).mp h with hf | ⟨Y', _, hL⟩
  · have := (flush0_16 _).mp hf; simp only at this; omega
  · dsimp only [rdat] at hL; exact hL

/-- Result block 17 is in the account at every point after the first. -/
theorem finds0_17 (c : Dev nD) (t : Fin cfg0.N) (ht : ¬t.val % 160 = 0) (Y) (h : (rdat m kn c).Finds 17 t Y) : kn.Q17 Y := by
  have hN : t.val < 160 := lt_of_lt_of_eq t.isLt (show cfg0.N = 160 from N_0)
  rcases ((rdat m kn c).finds_of_pos (w := 17) (t := t) rfl (by omega) Y).mp h with hf | ⟨Y', _, hL⟩
  · have := (flush0_17 _).mp hf; simp only at this; omega
  · dsimp only [rdat] at hL; exact hL

set_option maxHeartbeats 4000000 in
/-- The body's triple at any point, the result blocks at `d`. -/
theorem sound_body (c : Dev nD) (hs : Steps m c kn) (t : Fin cfg0.N) (d : Outs F) (q12 : ¬t.val % 160 = 0 → kn.Q12 d.o12) (q13 : ¬t.val % 160 = 0 → kn.Q13 d.o13) (q14 : ¬t.val % 160 = 0 → kn.Q14 d.o14) (q15 : ¬t.val % 160 = 0 → kn.Q15 d.o15) (q16 : ¬t.val % 160 = 0 → kn.Q16 d.o16) (q17 : ¬t.val % 160 = 0 → kn.Q17 d.o17) :
    iprop(Phi kn c t.val ∗ (rdat m kn c).owesAt () t.castSucc ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare d.o11 ∗ owns (c : Thread nD τ) (ms0_12 t) fullShare d.o12 ∗ owns (c : Thread nD τ) (ms0_13 t) fullShare d.o13 ∗ owns (c : Thread nD τ) (ms0_14 t) fullShare d.o14 ∗ owns (c : Thread nD τ) (ms0_15 t) fullShare d.o15 ∗ owns (c : Thread nD τ) (ms0_16 t) fullShare d.o16 ∗ owns (c : Thread nD τ) (ms0_17 t) fullShare d.o17)
      ⊢ wp frame (wpE (defs₀ (F := F)) Variants.none c none) Set.univ (bodyAt0 t) (fun _ =>
        iprop(Phi kn c (t.val + 1) ∗ (rdat m kn c).owesAt () t.castSucc ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ (∃ X, ⌜t.val % 5 = 4 → kn.Q11 t.val X⌝ ∗ owns (c : Thread nD τ) (ms0_11 t) fullShare X) ∗ (∃ X, ⌜kn.Q12 X⌝ ∗ owns (c : Thread nD τ) (ms0_12 t) fullShare X) ∗ (∃ X, ⌜kn.Q13 X⌝ ∗ owns (c : Thread nD τ) (ms0_13 t) fullShare X) ∗ (∃ X, ⌜kn.Q14 X⌝ ∗ owns (c : Thread nD τ) (ms0_14 t) fullShare X) ∗ (∃ X, ⌜kn.Q15 X⌝ ∗ owns (c : Thread nD τ) (ms0_15 t) fullShare X) ∗ (∃ X, ⌜kn.Q16 X⌝ ∗ owns (c : Thread nD τ) (ms0_16 t) fullShare X) ∗ (∃ X, ⌜kn.Q17 X⌝ ∗ owns (c : Thread nD τ) (ms0_17 t) fullShare X))) := by
  unfold bodyAt0 Phi
  have hN : t.val < 160 := lt_of_lt_of_eq t.isLt (show cfg0.N = 160 from N_0)

  by_cases h0 : t.val % 160 = 0
  · have h1 : t.val % 5 = 0 := by omega
    have h2 : ¬t.val % 5 = 4 := by omega
    iintro ⟨⟨⟨%s, %hI, HS0, HS1, HS2, HS3, HS4, HS5, HS6, HS7⟩, Hg⟩, Ho, H0, H1, H2, H3, H4, H5, H6, H7, H8, H9, H10, H11, H12, H13, H14, H15, H16, H17⟩
    iapply ((atA m c t h0 h1 h2 s d).2.2.2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [HS0]; · iexact HS0
    isplitl [HS1]; · iexact HS1
    isplitl [HS2]; · iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    iintro ⟨H0, H1, H2, H3, H4, H5, H6, H7, H8, H9, H10, H11, ⟨%f12, H12⟩, ⟨%f13, H13⟩, ⟨%f14, H14⟩, ⟨%f15, H15⟩, ⟨%f16, H16⟩, ⟨%f17, H17⟩, HS0, HS1, HS2, ⟨%g3, HS3⟩, ⟨%g4, HS4⟩, ⟨%g5, HS5⟩, ⟨%g6, HS6⟩, ⟨%g7, HS7⟩⟩
    have hst := hs.stepA t h0 h1 h2 s d hI f12 f13 f14 f15 f16 f17 g3 g4 g5 g6 g7
    isplitl [HS0 HS1 HS2 HS3 HS4 HS5 HS6 HS7 Hg]
    · isplitl [HS0 HS1 HS2 HS3 HS4 HS5 HS6 HS7]
      · iexists _
        isplitr
        · ipureintro; exact hst.1
        isplitl [HS0]; · unfold owns; iexists _; isplitr; swap; (iexact HS0); ipureintro; rfl
        isplitl [HS1]; · unfold owns; iexists _; isplitr; swap; (iexact HS1); ipureintro; rfl
        isplitl [HS2]; · iexact HS2
        isplitl [HS3]; · unfold owns; iexists _; isplitr; swap; (iexact HS3); ipureintro; rfl
        isplitl [HS4]; · unfold owns; iexists _; isplitr; swap; (iexact HS4); ipureintro; rfl
        isplitl [HS5]; · unfold owns; iexists _; isplitr; swap; (iexact HS5); ipureintro; rfl
        isplitl [HS6]; · unfold owns; iexists _; isplitr; swap; (iexact HS6); ipureintro; rfl
        unfold owns; iexists _; isplitr; swap; (iexact HS7); ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; isplitr; swap; (iexact H11); ipureintro; exact fun h => absurd h h2
    isplitl [H12]; · iexists _; isplitr; swap; (unfold owns; iexists _; isplitr; swap; (iexact H12); ipureintro; rfl); ipureintro; exact hst.2.1
    isplitl [H13]; · iexists _; isplitr; swap; (unfold owns; iexists _; isplitr; swap; (iexact H13); ipureintro; rfl); ipureintro; exact hst.2.2.1
    isplitl [H14]; · iexists _; isplitr; swap; (unfold owns; iexists _; isplitr; swap; (iexact H14); ipureintro; rfl); ipureintro; exact hst.2.2.2.1
    isplitl [H15]; · iexists _; isplitr; swap; (unfold owns; iexists _; isplitr; swap; (iexact H15); ipureintro; rfl); ipureintro; exact hst.2.2.2.2.1
    isplitl [H16]; · iexists _; isplitr; swap; (unfold owns; iexists _; isplitr; swap; (iexact H16); ipureintro; rfl); ipureintro; exact hst.2.2.2.2.2.1
    iexists _; isplitr; swap; (unfold owns; iexists _; isplitr; swap; (iexact H17); ipureintro; rfl); ipureintro; exact hst.2.2.2.2.2.2
  · by_cases h1 : t.val % 5 = 0
    · have h2 : ¬t.val % 5 = 4 := by omega
      iintro ⟨⟨⟨%s, %hI, HS0, HS1, HS2, HS3, HS4, HS5, HS6, HS7⟩, Hg⟩, Ho, H0, H1, H2, H3, H4, H5, H6, H7, H8, H9, H10, H11, H12, H13, H14, H15, H16, H17⟩
      iapply ((atD m c t h0 h1 h2 s d).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [HS0]; · iexact HS0
      isplitl [HS1]; · iexact HS1
      isplitl [HS2]; · iexact HS2
      isplitl [HS3]; · iexists _; iexact HS3
      isplitl [HS4]; · iexists _; iexact HS4
      isplitl [HS5]; · iexists _; iexact HS5
      isplitl [HS6]; · iexact HS6
      isplitl [HS7]; · iexact HS7
      iintro ⟨H0, H1, H2, H3, H4, H5, H6, H7, H8, H9, H10, H11, H12, H13, H14, H15, H16, H17, HS0, HS1, HS2, ⟨%g3, HS3⟩, ⟨%g4, HS4⟩, ⟨%g5, HS5⟩, HS6, HS7⟩
      have hst := hs.stepD t h0 h1 h2 s d hI g3 g4 g5
      isplitl [HS0 HS1 HS2 HS3 HS4 HS5 HS6 HS7 Hg]
      · isplitl [HS0 HS1 HS2 HS3 HS4 HS5 HS6 HS7]
        · iexists _
          isplitr
          · ipureintro; exact hst
          isplitl [HS0]; · unfold owns; iexists _; isplitr; swap; (iexact HS0); ipureintro; rfl
          isplitl [HS1]; · unfold owns; iexists _; isplitr; swap; (iexact HS1); ipureintro; rfl
          isplitl [HS2]; · iexact HS2
          isplitl [HS3]; · unfold owns; iexists _; isplitr; swap; (iexact HS3); ipureintro; rfl
          isplitl [HS4]; · unfold owns; iexists _; isplitr; swap; (iexact HS4); ipureintro; rfl
          isplitl [HS5]; · unfold owns; iexists _; isplitr; swap; (iexact HS5); ipureintro; rfl
          isplitl [HS6]; · iexact HS6
          iexact HS7
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; isplitr; swap; (iexact H11); ipureintro; exact fun h => absurd h h2
      isplitl [H12]; · iexists _; isplitr; swap; (iexact H12); ipureintro; exact q12 h0
      isplitl [H13]; · iexists _; isplitr; swap; (iexact H13); ipureintro; exact q13 h0
      isplitl [H14]; · iexists _; isplitr; swap; (iexact H14); ipureintro; exact q14 h0
      isplitl [H15]; · iexists _; isplitr; swap; (iexact H15); ipureintro; exact q15 h0
      isplitl [H16]; · iexists _; isplitr; swap; (iexact H16); ipureintro; exact q16 h0
      iexists _; isplitr; swap; (iexact H17); ipureintro; exact q17 h0
    · by_cases h2 : t.val % 5 = 4
      · iintro ⟨⟨⟨%s, %hI, HS0, HS1, HS2, HS3, HS4, HS5, HS6, HS7⟩, Hg⟩, Ho, H0, H1, H2, H3, H4, H5, H6, H7, H8, H9, H10, H11, H12, H13, H14, H15, H16, H17⟩
        iapply ((atC m c t h0 h1 h2 s d).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexact H12
        isplitl [H13]; · iexact H13
        isplitl [H14]; · iexact H14
        isplitl [H15]; · iexact H15
        isplitl [H16]; · iexact H16
        isplitl [H17]; · iexact H17
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iintro ⟨H0, H1, H2, H3, H4, H5, H6, H7, H8, H9, H10, ⟨%f11, H11⟩, H12, H13, H14, H15, H16, H17, HS0, HS1, HS2, ⟨%g3, HS3⟩, ⟨%g4, HS4⟩, ⟨%g5, HS5⟩, HS6, HS7⟩
        have hst := hs.stepC t h0 h1 h2 s d hI f11 g3 g4 g5
        isplitl [HS0 HS1 HS2 HS3 HS4 HS5 HS6 HS7 Hg]
        · isplitl [HS0 HS1 HS2 HS3 HS4 HS5 HS6 HS7]
          · iexists _
            isplitr
            · ipureintro; exact hst.1
            isplitl [HS0]; · iexact HS0
            isplitl [HS1]; · iexact HS1
            isplitl [HS2]; · iexact HS2
            isplitl [HS3]; · unfold owns; iexists _; isplitr; swap; (iexact HS3); ipureintro; rfl
            isplitl [HS4]; · unfold owns; iexists _; isplitr; swap; (iexact HS4); ipureintro; rfl
            isplitl [HS5]; · unfold owns; iexists _; isplitr; swap; (iexact HS5); ipureintro; rfl
            isplitl [HS6]; · iexact HS6
            iexact HS7
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; isplitr; swap; (unfold owns; iexists _; isplitr; swap; (iexact H11); ipureintro; rfl); ipureintro; exact fun _ => hst.2
        isplitl [H12]; · iexists _; isplitr; swap; (iexact H12); ipureintro; exact q12 h0
        isplitl [H13]; · iexists _; isplitr; swap; (iexact H13); ipureintro; exact q13 h0
        isplitl [H14]; · iexists _; isplitr; swap; (iexact H14); ipureintro; exact q14 h0
        isplitl [H15]; · iexists _; isplitr; swap; (iexact H15); ipureintro; exact q15 h0
        isplitl [H16]; · iexists _; isplitr; swap; (iexact H16); ipureintro; exact q16 h0
        iexists _; isplitr; swap; (iexact H17); ipureintro; exact q17 h0
      · iintro ⟨⟨⟨%s, %hI, HS0, HS1, HS2, HS3, HS4, HS5, HS6, HS7⟩, Hg⟩, Ho, H0, H1, H2, H3, H4, H5, H6, H7, H8, H9, H10, H11, H12, H13, H14, H15, H16, H17⟩
        iapply ((atB m c t h0 h1 h2 s d).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iintro ⟨H0, H1, H2, H3, H4, H5, H6, H7, H8, H9, H10, H11, H12, H13, H14, H15, H16, H17, HS0, HS1, HS2, ⟨%g3, HS3⟩, ⟨%g4, HS4⟩, ⟨%g5, HS5⟩, HS6, HS7⟩
        have hst := hs.stepB t h0 h1 h2 s d hI g3 g4 g5
        isplitl [HS0 HS1 HS2 HS3 HS4 HS5 HS6 HS7 Hg]
        · isplitl [HS0 HS1 HS2 HS3 HS4 HS5 HS6 HS7]
          · iexists _
            isplitr
            · ipureintro; exact hst
            isplitl [HS0]; · iexact HS0
            isplitl [HS1]; · iexact HS1
            isplitl [HS2]; · iexact HS2
            isplitl [HS3]; · unfold owns; iexists _; isplitr; swap; (iexact HS3); ipureintro; rfl
            isplitl [HS4]; · unfold owns; iexists _; isplitr; swap; (iexact HS4); ipureintro; rfl
            isplitl [HS5]; · unfold owns; iexists _; isplitr; swap; (iexact HS5); ipureintro; rfl
            isplitl [HS6]; · iexact HS6
            iexact HS7
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; isplitr; swap; (iexact H11); ipureintro; exact fun h => absurd h h2
        isplitl [H12]; · iexists _; isplitr; swap; (iexact H12); ipureintro; exact q12 h0
        isplitl [H13]; · iexists _; isplitr; swap; (iexact H13); ipureintro; exact q13 h0
        isplitl [H14]; · iexists _; isplitr; swap; (iexact H14); ipureintro; exact q14 h0
        isplitl [H15]; · iexists _; isplitr; swap; (iexact H15); ipureintro; exact q15 h0
        isplitl [H16]; · iexists _; isplitr; swap; (iexact H16); ipureintro; exact q16 h0
        iexists _; isplitr; swap; (iexact H17); ipureintro; exact q17 h0

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) (hs : Steps m c kn) : (rdat m kn c).BodyObligation (defs₀ (F := F)) Variants.none () Set.univ := fun t Y hY => by
  rw [bigSep_W0, bigSep_W0, defs₀_row]
  have e0 : Y 0 = iblk m c 0 t := finds0_0 m kn c t _ (hY 0)
  have e1 : Y 1 = iblk m c 1 t := finds0_1 m kn c t _ (hY 1)
  have e2 : Y 2 = iblk m c 2 t := finds0_2 m kn c t _ (hY 2)
  have e3 : Y 3 = iblk m c 3 t := finds0_3 m kn c t _ (hY 3)
  have e4 : Y 4 = iblk m c 4 t := finds0_4 m kn c t _ (hY 4)
  have e5 : Y 5 = iblk m c 5 t := finds0_5 m kn c t _ (hY 5)
  have e6 : Y 6 = iblk m c 6 t := finds0_6 m kn c t _ (hY 6)
  have e7 : Y 7 = iblk m c 7 t := finds0_7 m kn c t _ (hY 7)
  have e8 : Y 8 = iblk m c 8 t := finds0_8 m kn c t _ (hY 8)
  have e9 : Y 9 = iblk m c 9 t := finds0_9 m kn c t _ (hY 9)
  have e10 : Y 10 = iblk m c 10 t := finds0_10 m kn c t _ (hY 10)
  refine triple_restated (sound_body m kn c hs t ⟨Y 11, Y 12, Y 13, Y 14, Y 15, Y 16, Y 17⟩ (fun h => finds0_12 m kn c t h _ (hY 12)) (fun h => finds0_13 m kn c t h _ (hY 13)) (fun h => finds0_14 m kn c t h _ (hY 14)) (fun h => finds0_15 m kn c t h _ (hY 15)) (fun h => finds0_16 m kn c t h _ (hY 16)) (fun h => finds0_17 m kn c t h _ (hY 17))) rfl ?_ fun _ => ?_
  · rw [← e0, ← e1, ← e2, ← e3, ← e4, ← e5, ← e6, ← e7, ← e8, ← e9, ← e10]
    exact .rfl
  · rw [show (rdat m kn c).Φ t.succ = Phi kn c (t.val + 1) from rfl]
    iintro ⟨HP, Ho, H0, H1, H2, H3, H4, H5, H6, H7, H8, H9, H10, H11, H12, H13, H14, H15, H16, H17⟩
    isplitl [HP]; · iexact HP
    isplitl [Ho]; · iexact Ho
    isplitl [H0]; · iexists _; isplitr; swap; (iexact H0); ipureintro; exact e0.symm
    isplitl [H1]; · iexists _; isplitr; swap; (iexact H1); ipureintro; exact e1.symm
    isplitl [H2]; · iexists _; isplitr; swap; (iexact H2); ipureintro; exact e2.symm
    isplitl [H3]; · iexists _; isplitr; swap; (iexact H3); ipureintro; exact e3.symm
    isplitl [H4]; · iexists _; isplitr; swap; (iexact H4); ipureintro; exact e4.symm
    isplitl [H5]; · iexists _; isplitr; swap; (iexact H5); ipureintro; exact e5.symm
    isplitl [H6]; · iexists _; isplitr; swap; (iexact H6); ipureintro; exact e6.symm
    isplitl [H7]; · iexists _; isplitr; swap; (iexact H7); ipureintro; exact e7.symm
    isplitl [H8]; · iexists _; isplitr; swap; (iexact H8); ipureintro; exact e8.symm
    isplitl [H9]; · iexists _; isplitr; swap; (iexact H9); ipureintro; exact e9.symm
    isplitl [H10]; · iexists _; isplitr; swap; (iexact H10); ipureintro; exact e10.symm
    isplitl [H11]; · iexact H11
    isplitl [H12]; · iexact H12
    isplitl [H13]; · iexact H13
    isplitl [H14]; · iexact H14
    isplitl [H15]; · iexact H15
    isplitl [H16]; · iexact H16
    iexact H17

/-- What the launch hands the region gives the invariant before the first point. -/
theorem hin (c : Dev nD) (hs : Steps m c kn) : Pipeline.ΦA spec0 c ⊢ (rdat m kn c).Φ 0 := by
  rw [show (rdat m kn c).Φ 0 = Phi kn c 0 from rfl, PhiA0_eq]; unfold Phi
  iintro ⟨⟨⟨%a0, HS0⟩, ⟨%a1, HS1⟩, HS2, ⟨%a3, HS3⟩, ⟨%a4, HS4⟩, ⟨%a5, HS5⟩, ⟨%a6, HS6⟩, ⟨%a7, HS7⟩⟩, Hg⟩
  isplitl [HS0 HS1 HS2 HS3 HS4 HS5 HS6 HS7]
  · iexists (⟨a0, a1, a3, a4, a5, a6, a7⟩ : St F)
    isplitr
    · ipureintro; exact hs.zero _
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7
  iexact Hg

/-- After the last point the scratch is forgotten. -/
theorem hout (c : Dev nD) : (rdat m kn c).Φ (Fin.last cfg0.N) ⊢ Pipeline.ΦA spec0 c := by
  rw [show (rdat m kn c).Φ (Fin.last cfg0.N) = Phi kn c cfg0.N from rfl, PhiA0_eq]; unfold Phi
  iintro ⟨⟨%s, -, HS0, HS1, HS2, HS3, HS4, HS5, HS6, HS7⟩, Hg⟩
  isplitl [HS0 HS1 HS2 HS3 HS4 HS5 HS6 HS7]
  · isplitl [HS0]; · iexists _; iexact HS0
    isplitl [HS1]; · iexists _; iexact HS1
    isplitl [HS2]; · iexact HS2
    isplitl [HS3]; · iexists _; iexact HS3
    isplitl [HS4]; · iexists _; iexact HS4
    isplitl [HS5]; · iexists _; iexact HS5
    isplitl [HS6]; · iexists _; iexact HS6
    iexists _; iexact HS7
  iexact Hg

variable (ρ : Dev nD → PrngReg)

set_option backward.isDefEq.respectTransparency.types false in
set_option maxHeartbeats 800000 in
/-- The launch: every execution ends with the arrays as the proof data say and the counters at zero. -/
theorem launched (hs : ∀ c, Steps m c kn) : θ_run defs (onTc (τ := τ) (main (F := F))) (s₀ m ρ) (fun r =>
    RDat.FramePost (cfgs 0) (rdat m kn) (V m) r ∧ r.2.sem = fun _ => 0) :=
  RDat.θ_run_frame_track (Q' := _) cfgs (0 : Fin 1) launch0 defs₀ Variants.none (rdat m kn) m ρ main
    (hbody := fun c => body_obligation m kn c (hs c)) (hshare := fun c => (rdat m kn c).share_full fun _ => rfl)
    (howed := fun _ _ => rfl) (V := V m)
    (hmain := hmain m Variants.none) (hA := rdat_A m kn) (hin := fun c => hin m kn c (hs c)) (hout := hout m kn) (hQ' := fun _ h => h)

/-- The arguments end unchanged whatever the account. -/
theorem args_of {r : PUnit × MemSt nD τ sig (Elt F)} (h : RDat.FramePost (cfgs 0) (rdat m kn) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   (h.arr_in c 3 rfl).trans ((rdat_A m kn c 3).trans (V_main_arg3 m c)),
   (h.arr_in c 4 rfl).trans ((rdat_A m kn c 4).trans (V_main_arg4 m c)),
   (h.arr_in c 5 rfl).trans ((rdat_A m kn c 5).trans (V_main_arg5 m c)),
   (h.arr_in c 6 rfl).trans ((rdat_A m kn c 6).trans (V_main_arg6 m c)),
   (h.arr_in c 7 rfl).trans ((rdat_A m kn c 7).trans (V_main_arg7 m c)),
   (h.arr_in c 8 rfl).trans ((rdat_A m kn c 8).trans (V_main_arg8 m c)),
   (h.arr_in c 9 rfl).trans ((rdat_A m kn c 9).trans (V_main_arg9 m c)),
   (h.arr_in c 10 rfl).trans ((rdat_A m kn c 10).trans (V_main_arg10 m c))⟩

/-- The account that says nothing. -/
def Knows.nothing : Knows F := ⟨fun _ _ => True, fun _ _ => True, fun _ => True, fun _ => True, fun _ => True, fun _ => True, fun _ => True, fun _ => True⟩

/-- It is carried on by every point. -/
theorem steps_nothing (c : Dev nD) : Steps m c Knows.nothing where
  zero _ := trivial
  stepA := by intros; exact ⟨trivial, trivial, trivial, trivial, trivial, trivial, trivial⟩
  stepB := by intros; trivial
  stepC := by intros; exact ⟨trivial, trivial⟩
  stepD := by intros; trivial

/-- The frame: every execution ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨args_of m _ h.1, h.2⟩) (launched m Knows.nothing ρ (steps_nothing m))

end Cert.Kernel.Body

end
-- ==== Proof.KernelIdealCond.lean ====
/-
  The conditions of the three branches of the kernel body of `KernelIdeal`, by the grid point.
-/
module

public import proofs.«01_k».proof.Proof.Gen.KernelIdeal.Frame
public import proofs.«01_k».proof.Proof.Gen.KernelIdeal.Loops
public import proofs.«01_k».proof.Proof.Gen.KernelIdeal.Points
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI Idealize.SL.Sem

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 160 = 0 :=
  (fun t => by
    have ht : t.val < 160 := Nat.lt_of_lt_of_eq t.isLt N_0
    have e0 : (grid0.coords t 0).val = t.val / 5 % 32 := Pipeline.Grid.coords_val t 0 (by decide) rfl
    have e1 : (grid0.coords t 1).val = t.val / 1 % 5 := Pipeline.Grid.coords_val t 1 (by decide) rfl
    simp only [cond0_0, k0_cond1, e0, e1]
    word_cmp
   : ∀ t : Fin grid0.N, cond0_0 (grid0.coords t) ↔ t.val % 160 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 5) — by arithmetic of the point. -/
theorem hcond0_1 : ∀ t : Fin cfg0.N, cond0_1 (grid0.coords t) ↔ t.val % 5 = 0 :=
  (fun t => by
    have ht : t.val < 160 := Nat.lt_of_lt_of_eq t.isLt N_0
    have e0 : (grid0.coords t 0).val = t.val / 5 % 32 := Pipeline.Grid.coords_val t 0 (by decide) rfl
    have e1 : (grid0.coords t 1).val = t.val / 1 % 5 := Pipeline.Grid.coords_val t 1 (by decide) rfl
    simp only [cond0_1, e0, e1]
    word_cmp
   : ∀ t : Fin grid0.N, cond0_1 (grid0.coords t) ↔ t.val % 5 = 0)

/-- The condition of the body's `scf.if` 2 (`k0_h3`), from the grid coordinates (the skeleton's scalar
    chain substituted). -/
abbrev cond0_2 (i : grid0.Coords) : Prop := k0_cond3 i = 1#1
/-- It holds at the points ≡ 4 (mod 5) — by arithmetic of the point. -/
theorem hcond0_2 : ∀ t : Fin cfg0.N, cond0_2 (grid0.coords t) ↔ t.val % 5 = 4 :=
  (fun t => by
    have ht : t.val < 160 := Nat.lt_of_lt_of_eq t.isLt N_0
    have e0 : (grid0.coords t 0).val = t.val / 5 % 32 := Pipeline.Grid.coords_val t 0 (by decide) rfl
    have e1 : (grid0.coords t 1).val = t.val / 1 % 5 := Pipeline.Grid.coords_val t 1 (by decide) rfl
    simp only [cond0_2, k0_cond3, e0, e1]
    word_cmp
   : ∀ t : Fin grid0.N, cond0_2 (grid0.coords t) ↔ t.val % 5 = 4)

end Cert.KernelIdeal.Body

end
-- ==== Proof.KernelIdealRunA.lean ====
/-
  One run of the kernel body of `KernelIdeal` at the first point (every branch but the last taken): what the body's stores leave in each buffer, as
  pieces, with every buffer's contents before the point a parameter.
-/
module

public import proofs.«01_k».proof.Proof.KernelIdealCond

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.proofsInPublic true in
set_option maxHeartbeats 1600000 in
/-- The body's run at the first point (every branch but the last taken): from every buffer at given contents it comes to its continuation with the
    inputs and the buffers it does not store into as they were, and each buffer it stores into with the listed pieces
    written. -/
noncomputable def runA (c : Dev nD) (i : grid0.Coords) (arg2 : Memref sig .tc .vmem S1x8x128 .bf16) (harg2 : arg2.IsWhole) (arg3 : Memref sig .tc .vmem S32x128 .bf16) (harg3 : arg3.IsWhole) (arg4 : Memref sig .tc .vmem S32x128 .bf16) (harg4 : arg4.IsWhole) (arg5 : Memref sig .tc .vmem S1x1x6528x64 .i8) (harg5 : arg5.IsWhole) (arg6 : Memref sig .tc .vmem S1x1x1020x128 .bf16) (harg6 : arg6.IsWhole) (arg7 : Memref sig .tc .vmem S1x1x1020x128 .bf16) (harg7 : arg7.IsWhole) (arg8 : Memref sig .tc .vmem S1x1x6528x64 .i8) (harg8 : arg8.IsWhole) (arg9 : Memref sig .tc .vmem S1x1x6528x4 .bf16) (harg9 : arg9.IsWhole) (arg10 : Memref sig .tc .vmem S1x1x6528x4 .bf16) (harg10 : arg10.IsWhole) (arg11 : Memref sig .tc .vmem S1x1x128x128 .bf16) (harg11 : arg11.IsWhole) (arg12 : Memref sig .tc .vmem S1x1x128x128 .bf16) (harg12 : arg12.IsWhole) (arg13 : Memref sig .tc .vmem S1x8x128 .bf16) (harg13 : arg13.IsWhole) (arg14 : Memref sig .tc .vmem S32x64 .i8) (harg14 : arg14.IsWhole) (arg15 : Memref sig .tc .vmem S32x4 .bf16) (harg15 : arg15.IsWhole) (arg16 : Memref sig .tc .vmem S32x4 .bf16) (harg16 : arg16.IsWhole) (arg17 : Memref sig .tc .vmem S32x64 .i8) (harg17 : arg17.IsWhole) (arg18 : Memref sig .tc .vmem S32x4 .bf16) (harg18 : arg18.IsWhole) (arg19 : Memref sig .tc .vmem S32x4 .bf16) (harg19 : arg19.IsWhole) (arg20 : Memref sig .tc .vmem S1024x128 .f32) (harg20 : arg20.IsWhole) (arg21 : Memref sig .tc .vmem S1024x128 .f32) (harg21 : arg21.IsWhole) (arg22 : Memref sig .tc .vmem S8x6528 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (arg26 : Memref sig .tc .vmem S32x128 .f32) (harg26 : arg26.IsWhole) (arg27 : Memref sig .tc .vmem S32x128 .f32) (harg27 : arg27.IsWhole) (hc0 : cond0_0 i) (hc1 : cond0_1 i) (hc2 : ¬cond0_2 i)
    (x0 : Vec F S1x8x128 .bf16) (x1 : Vec F S32x128 .bf16) (x2 : Vec F S32x128 .bf16) (x3 : Vec F S1x1x6528x64 .i8) (x4 : Vec F S1x1x1020x128 .bf16) (x5 : Vec F S1x1x1020x128 .bf16) (x6 : Vec F S1x1x6528x64 .i8) (x7 : Vec F S1x1x6528x4 .bf16) (x8 : Vec F S1x1x6528x4 .bf16) (x9 : Vec F S1x1x128x128 .bf16) (x10 : Vec F S1x1x128x128 .bf16) (d11 : Vec F S1x8x128 .bf16) (xs0 : Vec F S1024x128 .f32) (xs1 : Vec F S1024x128 .f32) :
    Σ' (Larg14 : List (View.Piece (Elt F) S32x64 .i8)), Σ' (Larg15 : List (View.Piece (Elt F) S32x4 .bf16)), Σ' (Larg16 : List (View.Piece (Elt F) S32x4 .bf16)), Σ' (Larg17 : List (View.Piece (Elt F) S32x64 .i8)), Σ' (Larg18 : List (View.Piece (Elt F) S32x4 .bf16)), Σ' (Larg19 : List (View.Piece (Elt F) S32x4 .bf16)), Σ' (Larg20 : List (View.Piece (Elt F) S1024x128 .f32)), Σ' (Larg21 : List (View.Piece (Elt F) S1024x128 .f32)), Σ' (Larg23 : List (View.Piece (Elt F) S8x128 .f32)), Σ' (Larg24 : List (View.Piece (Elt F) S8x128 .f32)), Σ' (Larg25 : List (View.Piece (Elt F) S8x128 .f32)), Σ' (Larg26 : List (View.Piece (Elt F) S32x128 .f32)), { Larg27 : List (View.Piece (Elt F) S32x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare d11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs0 ∗ owns (c : Thread nD τ) arg21 fullShare xs1 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare d11 ∗ (∃ f, arg14.view.loc (c : Thread nD τ) ↦[arg14.view.set]{fullShare} arg14.view.writes (Elt F) f Larg14) ∗ (∃ f, arg15.view.loc (c : Thread nD τ) ↦[arg15.view.set]{fullShare} arg15.view.writes (Elt F) f Larg15) ∗ (∃ f, arg16.view.loc (c : Thread nD τ) ↦[arg16.view.set]{fullShare} arg16.view.writes (Elt F) f Larg16) ∗ (∃ f, arg17.view.loc (c : Thread nD τ) ↦[arg17.view.set]{fullShare} arg17.view.writes (Elt F) f Larg17) ∗ (∃ f, arg18.view.loc (c : Thread nD τ) ↦[arg18.view.set]{fullShare} arg18.view.writes (Elt F) f Larg18) ∗ (∃ f, arg19.view.loc (c : Thread nD τ) ↦[arg19.view.set]{fullShare} arg19.view.writes (Elt F) f Larg19) ∗ (arg20.view.loc (c : Thread nD τ) ↦[arg20.view.set]{fullShare} arg20.view.writes (Elt F) (harg20.unread xs0) Larg20) ∗ (arg21.view.loc (c : Thread nD τ) ↦[arg21.view.set]{fullShare} arg21.view.writes (Elt F) (harg21.unread xs1) Larg21) ∗ (∃ d, owns (c : Thread nD τ) arg22 fullShare d) ∗ (∃ f, arg23.view.loc (c : Thread nD τ) ↦[arg23.view.set]{fullShare} arg23.view.writes (Elt F) f Larg23) ∗ (∃ f, arg24.view.loc (c : Thread nD τ) ↦[arg24.view.set]{fullShare} arg24.view.writes (Elt F) f Larg24) ∗ (∃ f, arg25.view.loc (c : Thread nD τ) ↦[arg25.view.set]{fullShare} arg25.view.writes (Elt F) f Larg25) ∗ (∃ f, arg26.view.loc (c : Thread nD τ) ↦[arg26.view.set]{fullShare} arg26.view.writes (Elt F) f Larg26) ∗ (∃ f, arg27.view.loc (c : Thread nD τ) ↦[arg27.view.set]{fullShare} arg27.view.writes (Elt F) f Larg27)) -∗ K ⟨⟩))
          ⊢ wp frame (wpE (defs₀ (F := F)) Variants.none c none) E (cc0_kivi_decode i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, ?_, ?_, ?_, ?_, fun E K => ?run⟩
  case run =>
    simp only [cc0_kivi_decode_eq_skeleton]; unfold cc0_kivi_decode_skel
    simp only [k0_part16_eq_skeleton, k0_part14_eq_skeleton, k0_part1_eq_skeleton, k0_part2_eq_skeleton, k0_part3_eq_skeleton, k0_part4_eq_skeleton, k0_part5_eq_skeleton, k0_part6_eq_skeleton, k0_part7_eq_skeleton, k0_part15_eq_skeleton]
    unfold owns
    iintro ⟨⟨%farg2, %hfarg2, Harg2⟩, ⟨%farg3, %hfarg3, Harg3⟩, ⟨%farg4, %hfarg4, Harg4⟩, ⟨%farg5, %hfarg5, Harg5⟩, ⟨%farg6, %hfarg6, Harg6⟩, ⟨%farg7, %hfarg7, Harg7⟩, ⟨%farg8, %hfarg8, Harg8⟩, ⟨%farg9, %hfarg9, Harg9⟩, ⟨%farg10, %hfarg10, Harg10⟩, ⟨%farg11, %hfarg11, Harg11⟩, ⟨%farg12, %hfarg12, Harg12⟩, ⟨%farg13, %hfarg13, Harg13⟩, ⟨%darg14, %farg14, -, Harg14⟩, ⟨%darg15, %farg15, -, Harg15⟩, ⟨%darg16, %farg16, -, Harg16⟩, ⟨%darg17, %farg17, -, Harg17⟩, ⟨%darg18, %farg18, -, Harg18⟩, ⟨%darg19, %farg19, -, Harg19⟩, ⟨%farg20, %hfarg20, Harg20⟩, ⟨%farg21, %hfarg21, Harg21⟩, ⟨%darg22, %farg22, -, Harg22⟩, ⟨%darg23, %farg23, -, Harg23⟩, ⟨%darg24, %farg24, -, Harg24⟩, ⟨%darg25, %farg25, -, Harg25⟩, ⟨%darg26, %farg26, -, Harg26⟩, ⟨%darg27, %farg27, -, Harg27⟩, Hk⟩
    obtain rfl := harg2.eq_unread hfarg2; obtain rfl := harg3.eq_unread hfarg3; obtain rfl := harg4.eq_unread hfarg4; obtain rfl := harg5.eq_unread hfarg5; obtain rfl := harg6.eq_unread hfarg6; obtain rfl := harg7.eq_unread hfarg7; obtain rfl := harg8.eq_unread hfarg8; obtain rfl := harg9.eq_unread hfarg9; obtain rfl := harg10.eq_unread hfarg10; obtain rfl := harg11.eq_unread hfarg11; obtain rfl := harg12.eq_unread hfarg12; obtain rfl := harg13.eq_unread hfarg13; obtain rfl := harg20.eq_unread hfarg20; obtain rfl := harg21.eq_unread hfarg21
    have hrd0 : ∀ (𝒱 : Variants) (c : Dev nD) (bd : Option 𝒱.V) (i : grid0.Coords) (arg2 : Memref sig .tc .vmem S1x8x128 .bf16) (harg2 : arg2.IsWhole) (arg3 : Memref sig .tc .vmem S32x128 .bf16) (harg3 : arg3.IsWhole) (arg4 : Memref sig .tc .vmem S32x128 .bf16) (harg4 : arg4.IsWhole) (arg5 : Memref sig .tc .vmem S1x1x6528x64 .i8) (harg5 : arg5.IsWhole) (arg6 : Memref sig .tc .vmem S1x1x1020x128 .bf16) (harg6 : arg6.IsWhole) (arg7 : Memref sig .tc .vmem S1x1x1020x128 .bf16) (harg7 : arg7.IsWhole) (arg8 : Memref sig .tc .vmem S1x1x6528x64 .i8) (harg8 : arg8.IsWhole) (arg9 : Memref sig .tc .vmem S1x1x6528x4 .bf16) (harg9 : arg9.IsWhole) (arg10 : Memref sig .tc .vmem S1x1x6528x4 .bf16) (harg10 : arg10.IsWhole) (arg11 : Memref sig .tc .vmem S1x1x128x128 .bf16) (harg11 : arg11.IsWhole) (arg12 : Memref sig .tc .vmem S1x1x128x128 .bf16) (harg12 : arg12.IsWhole) (arg13 : Memref sig .tc .vmem S1x8x128 .bf16) (harg13 : arg13.IsWhole) (arg14 : Memref sig .tc .vmem S32x64 .i8) (harg14 : arg14.IsWhole) (arg15 : Memref sig .tc .vmem S32x4 .bf16) (harg15 : arg15.IsWhole) (arg16 : Memref sig .tc .vmem S32x4 .bf16) (harg16 : arg16.IsWhole) (arg17 : Memref sig .tc .vmem S32x64 .i8) (harg17 : arg17.IsWhole) (arg18 : Memref sig .tc .vmem S32x4 .bf16) (harg18 : arg18.IsWhole) (arg19 : Memref sig .tc .vmem S32x4 .bf16) (harg19 : arg19.IsWhole) (arg20 : Memref sig .tc .vmem S1024x128 .f32) (harg20 : arg20.IsWhole) (arg21 : Memref sig .tc .vmem S1024x128 .f32) (harg21 : arg21.IsWhole) (arg22 : Memref sig .tc .vmem S8x6528 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (arg26 : Memref sig .tc .vmem S32x128 .f32) (harg26 : arg26.IsWhole) (arg27 : Memref sig .tc .vmem S32x128 .f32) (harg27 : arg27.IsWhole) (arg1 : BitVec 32) (v17 : Vec F S1x8x128 .bf16) (X_arg5 : BufTy.Contents (Elt F) arg5.view.ty) (X_arg20 : BufTy.Contents (Elt F) arg20.view.ty) (X_arg21 : BufTy.Contents (Elt F) arg21.view.ty) (hrdF : BufTy.Contents (Elt F) arg22.view.ty) (hrdB : LoadRect S8x6528), arg22.view.readAt (Elt F) hrdB (arg22.view.writes (Elt F) hrdF (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v17 X_arg5 X_arg20 X_arg21 (Scf.trips k0_t1_loop.lb k0_t1_loop.ub k0_t1_loop.st))) = arg22.view.readCov (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v17 X_arg5 X_arg20 X_arg21 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v17 X_arg5 X_arg20 X_arg21 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v17 X_arg5 X_arg20 X_arg21 (Scf.trips k0_t1_loop.lb k0_t1_loop.ub k0_t1_loop.st)) S8x384.size (by sl_kernel_rfl) (hrdB.idx hrdJ))
    sl_exec (disch := first | sl_exact hc0 | sl_exact hc1 | sl_exact hc2)
    sl_step
    iapply Hk
    isplitl [Harg2]
    · iexists _; isplitr; · ipureintro; exact harg2.read_unread _
      iexact Harg2
    isplitl [Harg3]
    · iexists _; isplitr; · ipureintro; exact harg3.read_unread _
      iexact Harg3
    isplitl [Harg4]
    · iexists _; isplitr; · ipureintro; exact harg4.read_unread _
      iexact Harg4
    isplitl [Harg5]
    · iexists _; isplitr; · ipureintro; exact harg5.read_unread _
      iexact Harg5
    isplitl [Harg6]
    · iexists _; isplitr; · ipureintro; exact harg6.read_unread _
      iexact Harg6
    isplitl [Harg7]
    · iexists _; isplitr; · ipureintro; exact harg7.read_unread _
      iexact Harg7
    isplitl [Harg8]
    · iexists _; isplitr; · ipureintro; exact harg8.read_unread _
      iexact Harg8
    isplitl [Harg9]
    · iexists _; isplitr; · ipureintro; exact harg9.read_unread _
      iexact Harg9
    isplitl [Harg10]
    · iexists _; isplitr; · ipureintro; exact harg10.read_unread _
      iexact Harg10
    isplitl [Harg11]
    · iexists _; isplitr; · ipureintro; exact harg11.read_unread _
      iexact Harg11
    isplitl [Harg12]
    · iexists _; isplitr; · ipureintro; exact harg12.read_unread _
      iexact Harg12
    isplitl [Harg13]
    · iexists _; isplitr; · ipureintro; exact harg13.read_unread _
      iexact Harg13
    isplitl [Harg14]
    · iexists _; iexact Harg14
    isplitl [Harg15]
    · iexists _; iexact Harg15
    isplitl [Harg16]
    · iexists _; iexact Harg16
    isplitl [Harg17]
    · iexists _; iexact Harg17
    isplitl [Harg18]
    · iexists _; iexact Harg18
    isplitl [Harg19]
    · iexists _; iexact Harg19
    isplitl [Harg20]
    · iexact Harg20
    isplitl [Harg21]
    · iexact Harg21
    isplitl [Harg22]
    · iexists _, _; isplitr; swap; · iexact Harg22
      ipureintro; rfl
    isplitl [Harg23]
    · iexists _; iexact Harg23
    isplitl [Harg24]
    · iexists _; iexact Harg24
    isplitl [Harg25]
    · iexists _; iexact Harg25
    isplitl [Harg26]
    · iexists _; iexact Harg26
    iexists _; iexact Harg27

end Cert.KernelIdeal.Body

end
-- ==== Proof.KernelIdealRunB.lean ====
/-
  One run of the kernel body of `KernelIdeal` at a point that neither starts nor ends a head: what the body's stores leave in each buffer, as
  pieces, with every buffer's contents before the point a parameter.
-/
module

public import proofs.«01_k».proof.Proof.KernelIdealCond

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.proofsInPublic true in
set_option maxHeartbeats 1600000 in
/-- The body's run at a point that neither starts nor ends a head: from every buffer at given contents it comes to its continuation with the
    inputs and the buffers it does not store into as they were, and each buffer it stores into with the listed pieces
    written. -/
noncomputable def runB (c : Dev nD) (i : grid0.Coords) (arg2 : Memref sig .tc .vmem S1x8x128 .bf16) (harg2 : arg2.IsWhole) (arg3 : Memref sig .tc .vmem S32x128 .bf16) (harg3 : arg3.IsWhole) (arg4 : Memref sig .tc .vmem S32x128 .bf16) (harg4 : arg4.IsWhole) (arg5 : Memref sig .tc .vmem S1x1x6528x64 .i8) (harg5 : arg5.IsWhole) (arg6 : Memref sig .tc .vmem S1x1x1020x128 .bf16) (harg6 : arg6.IsWhole) (arg7 : Memref sig .tc .vmem S1x1x1020x128 .bf16) (harg7 : arg7.IsWhole) (arg8 : Memref sig .tc .vmem S1x1x6528x64 .i8) (harg8 : arg8.IsWhole) (arg9 : Memref sig .tc .vmem S1x1x6528x4 .bf16) (harg9 : arg9.IsWhole) (arg10 : Memref sig .tc .vmem S1x1x6528x4 .bf16) (harg10 : arg10.IsWhole) (arg11 : Memref sig .tc .vmem S1x1x128x128 .bf16) (harg11 : arg11.IsWhole) (arg12 : Memref sig .tc .vmem S1x1x128x128 .bf16) (harg12 : arg12.IsWhole) (arg13 : Memref sig .tc .vmem S1x8x128 .bf16) (harg13 : arg13.IsWhole) (arg14 : Memref sig .tc .vmem S32x64 .i8) (harg14 : arg14.IsWhole) (arg15 : Memref sig .tc .vmem S32x4 .bf16) (harg15 : arg15.IsWhole) (arg16 : Memref sig .tc .vmem S32x4 .bf16) (harg16 : arg16.IsWhole) (arg17 : Memref sig .tc .vmem S32x64 .i8) (harg17 : arg17.IsWhole) (arg18 : Memref sig .tc .vmem S32x4 .bf16) (harg18 : arg18.IsWhole) (arg19 : Memref sig .tc .vmem S32x4 .bf16) (harg19 : arg19.IsWhole) (arg20 : Memref sig .tc .vmem S1024x128 .f32) (harg20 : arg20.IsWhole) (arg21 : Memref sig .tc .vmem S1024x128 .f32) (harg21 : arg21.IsWhole) (arg22 : Memref sig .tc .vmem S8x6528 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (arg26 : Memref sig .tc .vmem S32x128 .f32) (harg26 : arg26.IsWhole) (arg27 : Memref sig .tc .vmem S32x128 .f32) (harg27 : arg27.IsWhole) (hc0 : ¬cond0_0 i) (hc1 : ¬cond0_1 i) (hc2 : ¬cond0_2 i)
    (x0 : Vec F S1x8x128 .bf16) (x1 : Vec F S32x128 .bf16) (x2 : Vec F S32x128 .bf16) (x3 : Vec F S1x1x6528x64 .i8) (x4 : Vec F S1x1x1020x128 .bf16) (x5 : Vec F S1x1x1020x128 .bf16) (x6 : Vec F S1x1x6528x64 .i8) (x7 : Vec F S1x1x6528x4 .bf16) (x8 : Vec F S1x1x6528x4 .bf16) (x9 : Vec F S1x1x128x128 .bf16) (x10 : Vec F S1x1x128x128 .bf16) (d11 : Vec F S1x8x128 .bf16) (d12 : Vec F S32x64 .i8) (d13 : Vec F S32x4 .bf16) (d14 : Vec F S32x4 .bf16) (d15 : Vec F S32x64 .i8) (d16 : Vec F S32x4 .bf16) (d17 : Vec F S32x4 .bf16) (xs0 : Vec F S1024x128 .f32) (xs1 : Vec F S1024x128 .f32) (xs3 : Vec F S8x128 .f32) (xs4 : Vec F S8x128 .f32) (xs5 : Vec F S8x128 .f32) (xs6 : Vec F S32x128 .f32) (xs7 : Vec F S32x128 .f32) :
    Σ' (Larg23 : List (View.Piece (Elt F) S8x128 .f32)), Σ' (Larg24 : List (View.Piece (Elt F) S8x128 .f32)), { Larg25 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare d11 ∗ owns (c : Thread nD τ) arg14 fullShare d12 ∗ owns (c : Thread nD τ) arg15 fullShare d13 ∗ owns (c : Thread nD τ) arg16 fullShare d14 ∗ owns (c : Thread nD τ) arg17 fullShare d15 ∗ owns (c : Thread nD τ) arg18 fullShare d16 ∗ owns (c : Thread nD τ) arg19 fullShare d17 ∗ owns (c : Thread nD τ) arg20 fullShare xs0 ∗ owns (c : Thread nD τ) arg21 fullShare xs1 ∗ (∃ d, owns (c : Thread nD τ) arg22 fullShare d) ∗ owns (c : Thread nD τ) arg23 fullShare xs3 ∗ owns (c : Thread nD τ) arg24 fullShare xs4 ∗ owns (c : Thread nD τ) arg25 fullShare xs5 ∗ owns (c : Thread nD τ) arg26 fullShare xs6 ∗ owns (c : Thread nD τ) arg27 fullShare xs7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare d11 ∗ owns (c : Thread nD τ) arg14 fullShare d12 ∗ owns (c : Thread nD τ) arg15 fullShare d13 ∗ owns (c : Thread nD τ) arg16 fullShare d14 ∗ owns (c : Thread nD τ) arg17 fullShare d15 ∗ owns (c : Thread nD τ) arg18 fullShare d16 ∗ owns (c : Thread nD τ) arg19 fullShare d17 ∗ owns (c : Thread nD τ) arg20 fullShare xs0 ∗ owns (c : Thread nD τ) arg21 fullShare xs1 ∗ (∃ d, owns (c : Thread nD τ) arg22 fullShare d) ∗ (∃ f, arg23.view.loc (c : Thread nD τ) ↦[arg23.view.set]{fullShare} arg23.view.writes (Elt F) f Larg23) ∗ (∃ f, arg24.view.loc (c : Thread nD τ) ↦[arg24.view.set]{fullShare} arg24.view.writes (Elt F) f Larg24) ∗ (∃ f, arg25.view.loc (c : Thread nD τ) ↦[arg25.view.set]{fullShare} arg25.view.writes (Elt F) f Larg25) ∗ owns (c : Thread nD τ) arg26 fullShare xs6 ∗ owns (c : Thread nD τ) arg27 fullShare xs7) -∗ K ⟨⟩))
          ⊢ wp frame (wpE (defs₀ (F := F)) Variants.none c none) E (cc0_kivi_decode i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, fun E K => ?run⟩
  case run =>
    simp only [cc0_kivi_decode_eq_skeleton]; unfold cc0_kivi_decode_skel
    simp only [k0_part16_eq_skeleton, k0_part14_eq_skeleton, k0_part15_eq_skeleton]
    unfold owns
    iintro ⟨⟨%farg2, %hfarg2, Harg2⟩, ⟨%farg3, %hfarg3, Harg3⟩, ⟨%farg4, %hfarg4, Harg4⟩, ⟨%farg5, %hfarg5, Harg5⟩, ⟨%farg6, %hfarg6, Harg6⟩, ⟨%farg7, %hfarg7, Harg7⟩, ⟨%farg8, %hfarg8, Harg8⟩, ⟨%farg9, %hfarg9, Harg9⟩, ⟨%farg10, %hfarg10, Harg10⟩, ⟨%farg11, %hfarg11, Harg11⟩, ⟨%farg12, %hfarg12, Harg12⟩, ⟨%farg13, %hfarg13, Harg13⟩, ⟨%farg14, %hfarg14, Harg14⟩, ⟨%farg15, %hfarg15, Harg15⟩, ⟨%farg16, %hfarg16, Harg16⟩, ⟨%farg17, %hfarg17, Harg17⟩, ⟨%farg18, %hfarg18, Harg18⟩, ⟨%farg19, %hfarg19, Harg19⟩, ⟨%farg20, %hfarg20, Harg20⟩, ⟨%farg21, %hfarg21, Harg21⟩, ⟨%darg22, %farg22, -, Harg22⟩, ⟨%farg23, %hfarg23, Harg23⟩, ⟨%farg24, %hfarg24, Harg24⟩, ⟨%farg25, %hfarg25, Harg25⟩, ⟨%farg26, %hfarg26, Harg26⟩, ⟨%farg27, %hfarg27, Harg27⟩, Hk⟩
    obtain rfl := harg2.eq_unread hfarg2; obtain rfl := harg3.eq_unread hfarg3; obtain rfl := harg4.eq_unread hfarg4; obtain rfl := harg5.eq_unread hfarg5; obtain rfl := harg6.eq_unread hfarg6; obtain rfl := harg7.eq_unread hfarg7; obtain rfl := harg8.eq_unread hfarg8; obtain rfl := harg9.eq_unread hfarg9; obtain rfl := harg10.eq_unread hfarg10; obtain rfl := harg11.eq_unread hfarg11; obtain rfl := harg12.eq_unread hfarg12; obtain rfl := harg13.eq_unread hfarg13; obtain rfl := harg14.eq_unread hfarg14; obtain rfl := harg15.eq_unread hfarg15; obtain rfl := harg16.eq_unread hfarg16; obtain rfl := harg17.eq_unread hfarg17; obtain rfl := harg18.eq_unread hfarg18; obtain rfl := harg19.eq_unread hfarg19; obtain rfl := harg20.eq_unread hfarg20; obtain rfl := harg21.eq_unread hfarg21; obtain rfl := harg23.eq_unread hfarg23; obtain rfl := harg24.eq_unread hfarg24; obtain rfl := harg25.eq_unread hfarg25; obtain rfl := harg26.eq_unread hfarg26; obtain rfl := harg27.eq_unread hfarg27
    have hrd0 : ∀ (𝒱 : Variants) (c : Dev nD) (bd : Option 𝒱.V) (i : grid0.Coords) (arg2 : Memref sig .tc .vmem S1x8x128 .bf16) (harg2 : arg2.IsWhole) (arg3 : Memref sig .tc .vmem S32x128 .bf16) (harg3 : arg3.IsWhole) (arg4 : Memref sig .tc .vmem S32x128 .bf16) (harg4 : arg4.IsWhole) (arg5 : Memref sig .tc .vmem S1x1x6528x64 .i8) (harg5 : arg5.IsWhole) (arg6 : Memref sig .tc .vmem S1x1x1020x128 .bf16) (harg6 : arg6.IsWhole) (arg7 : Memref sig .tc .vmem S1x1x1020x128 .bf16) (harg7 : arg7.IsWhole) (arg8 : Memref sig .tc .vmem S1x1x6528x64 .i8) (harg8 : arg8.IsWhole) (arg9 : Memref sig .tc .vmem S1x1x6528x4 .bf16) (harg9 : arg9.IsWhole) (arg10 : Memref sig .tc .vmem S1x1x6528x4 .bf16) (harg10 : arg10.IsWhole) (arg11 : Memref sig .tc .vmem S1x1x128x128 .bf16) (harg11 : arg11.IsWhole) (arg12 : Memref sig .tc .vmem S1x1x128x128 .bf16) (harg12 : arg12.IsWhole) (arg13 : Memref sig .tc .vmem S1x8x128 .bf16) (harg13 : arg13.IsWhole) (arg14 : Memref sig .tc .vmem S32x64 .i8) (harg14 : arg14.IsWhole) (arg15 : Memref sig .tc .vmem S32x4 .bf16) (harg15 : arg15.IsWhole) (arg16 : Memref sig .tc .vmem S32x4 .bf16) (harg16 : arg16.IsWhole) (arg17 : Memref sig .tc .vmem S32x64 .i8) (harg17 : arg17.IsWhole) (arg18 : Memref sig .tc .vmem S32x4 .bf16) (harg18 : arg18.IsWhole) (arg19 : Memref sig .tc .vmem S32x4 .bf16) (harg19 : arg19.IsWhole) (arg20 : Memref sig .tc .vmem S1024x128 .f32) (harg20 : arg20.IsWhole) (arg21 : Memref sig .tc .vmem S1024x128 .f32) (harg21 : arg21.IsWhole) (arg22 : Memref sig .tc .vmem S8x6528 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (arg26 : Memref sig .tc .vmem S32x128 .f32) (harg26 : arg26.IsWhole) (arg27 : Memref sig .tc .vmem S32x128 .f32) (harg27 : arg27.IsWhole) (arg1 : BitVec 32) (v17 : Vec F S1x8x128 .bf16) (X_arg5 : BufTy.Contents (Elt F) arg5.view.ty) (X_arg20 : BufTy.Contents (Elt F) arg20.view.ty) (X_arg21 : BufTy.Contents (Elt F) arg21.view.ty) (hrdF : BufTy.Contents (Elt F) arg22.view.ty) (hrdB : LoadRect S8x6528), arg22.view.readAt (Elt F) hrdB (arg22.view.writes (Elt F) hrdF (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v17 X_arg5 X_arg20 X_arg21 (Scf.trips k0_t1_loop.lb k0_t1_loop.ub k0_t1_loop.st))) = arg22.view.readCov (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v17 X_arg5 X_arg20 X_arg21 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v17 X_arg5 X_arg20 X_arg21 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v17 X_arg5 X_arg20 X_arg21 (Scf.trips k0_t1_loop.lb k0_t1_loop.ub k0_t1_loop.st)) S8x384.size (by sl_kernel_rfl) (hrdB.idx hrdJ))
    sl_exec (disch := first | sl_exact hc0 | sl_exact hc1 | sl_exact hc2)
    sl_step
    iapply Hk
    isplitl [Harg2]
    · iexists _; isplitr; · ipureintro; exact harg2.read_unread _
      iexact Harg2
    isplitl [Harg3]
    · iexists _; isplitr; · ipureintro; exact harg3.read_unread _
      iexact Harg3
    isplitl [Harg4]
    · iexists _; isplitr; · ipureintro; exact harg4.read_unread _
      iexact Harg4
    isplitl [Harg5]
    · iexists _; isplitr; · ipureintro; exact harg5.read_unread _
      iexact Harg5
    isplitl [Harg6]
    · iexists _; isplitr; · ipureintro; exact harg6.read_unread _
      iexact Harg6
    isplitl [Harg7]
    · iexists _; isplitr; · ipureintro; exact harg7.read_unread _
      iexact Harg7
    isplitl [Harg8]
    · iexists _; isplitr; · ipureintro; exact harg8.read_unread _
      iexact Harg8
    isplitl [Harg9]
    · iexists _; isplitr; · ipureintro; exact harg9.read_unread _
      iexact Harg9
    isplitl [Harg10]
    · iexists _; isplitr; · ipureintro; exact harg10.read_unread _
      iexact Harg10
    isplitl [Harg11]
    · iexists _; isplitr; · ipureintro; exact harg11.read_unread _
      iexact Harg11
    isplitl [Harg12]
    · iexists _; isplitr; · ipureintro; exact harg12.read_unread _
      iexact Harg12
    isplitl [Harg13]
    · iexists _; isplitr; · ipureintro; exact harg13.read_unread _
      iexact Harg13
    isplitl [Harg14]
    · iexists _; isplitr; · ipureintro; exact harg14.read_unread _
      iexact Harg14
    isplitl [Harg15]
    · iexists _; isplitr; · ipureintro; exact harg15.read_unread _
      iexact Harg15
    isplitl [Harg16]
    · iexists _; isplitr; · ipureintro; exact harg16.read_unread _
      iexact Harg16
    isplitl [Harg17]
    · iexists _; isplitr; · ipureintro; exact harg17.read_unread _
      iexact Harg17
    isplitl [Harg18]
    · iexists _; isplitr; · ipureintro; exact harg18.read_unread _
      iexact Harg18
    isplitl [Harg19]
    · iexists _; isplitr; · ipureintro; exact harg19.read_unread _
      iexact Harg19
    isplitl [Harg20]
    · iexists _; isplitr; · ipureintro; exact harg20.read_unread _
      iexact Harg20
    isplitl [Harg21]
    · iexists _; isplitr; · ipureintro; exact harg21.read_unread _
      iexact Harg21
    isplitl [Harg22]
    · iexists _, _; isplitr; swap; · iexact Harg22
      ipureintro; rfl
    isplitl [Harg23]
    · iexists _; iexact Harg23
    isplitl [Harg24]
    · iexists _; iexact Harg24
    isplitl [Harg25]
    · iexists _; iexact Harg25
    isplitl [Harg26]
    · iexists _; isplitr; · ipureintro; exact harg26.read_unread _
      iexact Harg26
    iexists _; isplitr; · ipureintro; exact harg27.read_unread _
    iexact Harg27

end Cert.KernelIdeal.Body

end
-- ==== Proof.KernelIdealRunC.lean ====
/-
  One run of the kernel body of `KernelIdeal` at the last block of a head: what the body's stores leave in each buffer, as
  pieces, with every buffer's contents before the point a parameter.
-/
module

public import proofs.«01_k».proof.Proof.KernelIdealCond

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.proofsInPublic true in
set_option maxHeartbeats 1600000 in
/-- The body's run at the last block of a head: from every buffer at given contents it comes to its continuation with the
    inputs and the buffers it does not store into as they were, and each buffer it stores into with the listed pieces
    written. -/
noncomputable def runC (c : Dev nD) (i : grid0.Coords) (arg2 : Memref sig .tc .vmem S1x8x128 .bf16) (harg2 : arg2.IsWhole) (arg3 : Memref sig .tc .vmem S32x128 .bf16) (harg3 : arg3.IsWhole) (arg4 : Memref sig .tc .vmem S32x128 .bf16) (harg4 : arg4.IsWhole) (arg5 : Memref sig .tc .vmem S1x1x6528x64 .i8) (harg5 : arg5.IsWhole) (arg6 : Memref sig .tc .vmem S1x1x1020x128 .bf16) (harg6 : arg6.IsWhole) (arg7 : Memref sig .tc .vmem S1x1x1020x128 .bf16) (harg7 : arg7.IsWhole) (arg8 : Memref sig .tc .vmem S1x1x6528x64 .i8) (harg8 : arg8.IsWhole) (arg9 : Memref sig .tc .vmem S1x1x6528x4 .bf16) (harg9 : arg9.IsWhole) (arg10 : Memref sig .tc .vmem S1x1x6528x4 .bf16) (harg10 : arg10.IsWhole) (arg11 : Memref sig .tc .vmem S1x1x128x128 .bf16) (harg11 : arg11.IsWhole) (arg12 : Memref sig .tc .vmem S1x1x128x128 .bf16) (harg12 : arg12.IsWhole) (arg13 : Memref sig .tc .vmem S1x8x128 .bf16) (harg13 : arg13.IsWhole) (arg14 : Memref sig .tc .vmem S32x64 .i8) (harg14 : arg14.IsWhole) (arg15 : Memref sig .tc .vmem S32x4 .bf16) (harg15 : arg15.IsWhole) (arg16 : Memref sig .tc .vmem S32x4 .bf16) (harg16 : arg16.IsWhole) (arg17 : Memref sig .tc .vmem S32x64 .i8) (harg17 : arg17.IsWhole) (arg18 : Memref sig .tc .vmem S32x4 .bf16) (harg18 : arg18.IsWhole) (arg19 : Memref sig .tc .vmem S32x4 .bf16) (harg19 : arg19.IsWhole) (arg20 : Memref sig .tc .vmem S1024x128 .f32) (harg20 : arg20.IsWhole) (arg21 : Memref sig .tc .vmem S1024x128 .f32) (harg21 : arg21.IsWhole) (arg22 : Memref sig .tc .vmem S8x6528 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (arg26 : Memref sig .tc .vmem S32x128 .f32) (harg26 : arg26.IsWhole) (arg27 : Memref sig .tc .vmem S32x128 .f32) (harg27 : arg27.IsWhole) (hc0 : ¬cond0_0 i) (hc1 : ¬cond0_1 i) (hc2 : cond0_2 i)
    (x0 : Vec F S1x8x128 .bf16) (x1 : Vec F S32x128 .bf16) (x2 : Vec F S32x128 .bf16) (x3 : Vec F S1x1x6528x64 .i8) (x4 : Vec F S1x1x1020x128 .bf16) (x5 : Vec F S1x1x1020x128 .bf16) (x6 : Vec F S1x1x6528x64 .i8) (x7 : Vec F S1x1x6528x4 .bf16) (x8 : Vec F S1x1x6528x4 .bf16) (x9 : Vec F S1x1x128x128 .bf16) (x10 : Vec F S1x1x128x128 .bf16) (d12 : Vec F S32x64 .i8) (d13 : Vec F S32x4 .bf16) (d14 : Vec F S32x4 .bf16) (d15 : Vec F S32x64 .i8) (d16 : Vec F S32x4 .bf16) (d17 : Vec F S32x4 .bf16) (xs0 : Vec F S1024x128 .f32) (xs1 : Vec F S1024x128 .f32) (xs3 : Vec F S8x128 .f32) (xs4 : Vec F S8x128 .f32) (xs5 : Vec F S8x128 .f32) (xs6 : Vec F S32x128 .f32) (xs7 : Vec F S32x128 .f32) :
    Σ' (Larg13 : List (View.Piece (Elt F) S1x8x128 .bf16)), Σ' (Larg23 : List (View.Piece (Elt F) S8x128 .f32)), Σ' (Larg24 : List (View.Piece (Elt F) S8x128 .f32)), { Larg25 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare d12 ∗ owns (c : Thread nD τ) arg15 fullShare d13 ∗ owns (c : Thread nD τ) arg16 fullShare d14 ∗ owns (c : Thread nD τ) arg17 fullShare d15 ∗ owns (c : Thread nD τ) arg18 fullShare d16 ∗ owns (c : Thread nD τ) arg19 fullShare d17 ∗ owns (c : Thread nD τ) arg20 fullShare xs0 ∗ owns (c : Thread nD τ) arg21 fullShare xs1 ∗ (∃ d, owns (c : Thread nD τ) arg22 fullShare d) ∗ owns (c : Thread nD τ) arg23 fullShare xs3 ∗ owns (c : Thread nD τ) arg24 fullShare xs4 ∗ owns (c : Thread nD τ) arg25 fullShare xs5 ∗ owns (c : Thread nD τ) arg26 fullShare xs6 ∗ owns (c : Thread nD τ) arg27 fullShare xs7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f Larg13) ∗ owns (c : Thread nD τ) arg14 fullShare d12 ∗ owns (c : Thread nD τ) arg15 fullShare d13 ∗ owns (c : Thread nD τ) arg16 fullShare d14 ∗ owns (c : Thread nD τ) arg17 fullShare d15 ∗ owns (c : Thread nD τ) arg18 fullShare d16 ∗ owns (c : Thread nD τ) arg19 fullShare d17 ∗ owns (c : Thread nD τ) arg20 fullShare xs0 ∗ owns (c : Thread nD τ) arg21 fullShare xs1 ∗ (∃ d, owns (c : Thread nD τ) arg22 fullShare d) ∗ (∃ f, arg23.view.loc (c : Thread nD τ) ↦[arg23.view.set]{fullShare} arg23.view.writes (Elt F) f Larg23) ∗ (∃ f, arg24.view.loc (c : Thread nD τ) ↦[arg24.view.set]{fullShare} arg24.view.writes (Elt F) f Larg24) ∗ (∃ f, arg25.view.loc (c : Thread nD τ) ↦[arg25.view.set]{fullShare} arg25.view.writes (Elt F) f Larg25) ∗ owns (c : Thread nD τ) arg26 fullShare xs6 ∗ owns (c : Thread nD τ) arg27 fullShare xs7) -∗ K ⟨⟩))
          ⊢ wp frame (wpE (defs₀ (F := F)) Variants.none c none) E (cc0_kivi_decode i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, fun E K => ?run⟩
  case run =>
    simp only [cc0_kivi_decode_eq_skeleton]; unfold cc0_kivi_decode_skel
    simp only [k0_part16_eq_skeleton, k0_part14_eq_skeleton, k0_part15_eq_skeleton, k0_part13_eq_skeleton]
    unfold owns
    iintro ⟨⟨%farg2, %hfarg2, Harg2⟩, ⟨%farg3, %hfarg3, Harg3⟩, ⟨%farg4, %hfarg4, Harg4⟩, ⟨%farg5, %hfarg5, Harg5⟩, ⟨%farg6, %hfarg6, Harg6⟩, ⟨%farg7, %hfarg7, Harg7⟩, ⟨%farg8, %hfarg8, Harg8⟩, ⟨%farg9, %hfarg9, Harg9⟩, ⟨%farg10, %hfarg10, Harg10⟩, ⟨%farg11, %hfarg11, Harg11⟩, ⟨%farg12, %hfarg12, Harg12⟩, ⟨%darg13, %farg13, -, Harg13⟩, ⟨%farg14, %hfarg14, Harg14⟩, ⟨%farg15, %hfarg15, Harg15⟩, ⟨%farg16, %hfarg16, Harg16⟩, ⟨%farg17, %hfarg17, Harg17⟩, ⟨%farg18, %hfarg18, Harg18⟩, ⟨%farg19, %hfarg19, Harg19⟩, ⟨%farg20, %hfarg20, Harg20⟩, ⟨%farg21, %hfarg21, Harg21⟩, ⟨%darg22, %farg22, -, Harg22⟩, ⟨%farg23, %hfarg23, Harg23⟩, ⟨%farg24, %hfarg24, Harg24⟩, ⟨%farg25, %hfarg25, Harg25⟩, ⟨%farg26, %hfarg26, Harg26⟩, ⟨%farg27, %hfarg27, Harg27⟩, Hk⟩
    obtain rfl := harg2.eq_unread hfarg2; obtain rfl := harg3.eq_unread hfarg3; obtain rfl := harg4.eq_unread hfarg4; obtain rfl := harg5.eq_unread hfarg5; obtain rfl := harg6.eq_unread hfarg6; obtain rfl := harg7.eq_unread hfarg7; obtain rfl := harg8.eq_unread hfarg8; obtain rfl := harg9.eq_unread hfarg9; obtain rfl := harg10.eq_unread hfarg10; obtain rfl := harg11.eq_unread hfarg11; obtain rfl := harg12.eq_unread hfarg12; obtain rfl := harg14.eq_unread hfarg14; obtain rfl := harg15.eq_unread hfarg15; obtain rfl := harg16.eq_unread hfarg16; obtain rfl := harg17.eq_unread hfarg17; obtain rfl := harg18.eq_unread hfarg18; obtain rfl := harg19.eq_unread hfarg19; obtain rfl := harg20.eq_unread hfarg20; obtain rfl := harg21.eq_unread hfarg21; obtain rfl := harg23.eq_unread hfarg23; obtain rfl := harg24.eq_unread hfarg24; obtain rfl := harg25.eq_unread hfarg25; obtain rfl := harg26.eq_unread hfarg26; obtain rfl := harg27.eq_unread hfarg27
    have hrd0 : ∀ (𝒱 : Variants) (c : Dev nD) (bd : Option 𝒱.V) (i : grid0.Coords) (arg2 : Memref sig .tc .vmem S1x8x128 .bf16) (harg2 : arg2.IsWhole) (arg3 : Memref sig .tc .vmem S32x128 .bf16) (harg3 : arg3.IsWhole) (arg4 : Memref sig .tc .vmem S32x128 .bf16) (harg4 : arg4.IsWhole) (arg5 : Memref sig .tc .vmem S1x1x6528x64 .i8) (harg5 : arg5.IsWhole) (arg6 : Memref sig .tc .vmem S1x1x1020x128 .bf16) (harg6 : arg6.IsWhole) (arg7 : Memref sig .tc .vmem S1x1x1020x128 .bf16) (harg7 : arg7.IsWhole) (arg8 : Memref sig .tc .vmem S1x1x6528x64 .i8) (harg8 : arg8.IsWhole) (arg9 : Memref sig .tc .vmem S1x1x6528x4 .bf16) (harg9 : arg9.IsWhole) (arg10 : Memref sig .tc .vmem S1x1x6528x4 .bf16) (harg10 : arg10.IsWhole) (arg11 : Memref sig .tc .vmem S1x1x128x128 .bf16) (harg11 : arg11.IsWhole) (arg12 : Memref sig .tc .vmem S1x1x128x128 .bf16) (harg12 : arg12.IsWhole) (arg13 : Memref sig .tc .vmem S1x8x128 .bf16) (harg13 : arg13.IsWhole) (arg14 : Memref sig .tc .vmem S32x64 .i8) (harg14 : arg14.IsWhole) (arg15 : Memref sig .tc .vmem S32x4 .bf16) (harg15 : arg15.IsWhole) (arg16 : Memref sig .tc .vmem S32x4 .bf16) (harg16 : arg16.IsWhole) (arg17 : Memref sig .tc .vmem S32x64 .i8) (harg17 : arg17.IsWhole) (arg18 : Memref sig .tc .vmem S32x4 .bf16) (harg18 : arg18.IsWhole) (arg19 : Memref sig .tc .vmem S32x4 .bf16) (harg19 : arg19.IsWhole) (arg20 : Memref sig .tc .vmem S1024x128 .f32) (harg20 : arg20.IsWhole) (arg21 : Memref sig .tc .vmem S1024x128 .f32) (harg21 : arg21.IsWhole) (arg22 : Memref sig .tc .vmem S8x6528 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (arg26 : Memref sig .tc .vmem S32x128 .f32) (harg26 : arg26.IsWhole) (arg27 : Memref sig .tc .vmem S32x128 .f32) (harg27 : arg27.IsWhole) (arg1 : BitVec 32) (v17 : Vec F S1x8x128 .bf16) (X_arg5 : BufTy.Contents (Elt F) arg5.view.ty) (X_arg20 : BufTy.Contents (Elt F) arg20.view.ty) (X_arg21 : BufTy.Contents (Elt F) arg21.view.ty) (hrdF : BufTy.Contents (Elt F) arg22.view.ty) (hrdB : LoadRect S8x6528), arg22.view.readAt (Elt F) hrdB (arg22.view.writes (Elt F) hrdF (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v17 X_arg5 X_arg20 X_arg21 (Scf.trips k0_t1_loop.lb k0_t1_loop.ub k0_t1_loop.st))) = arg22.view.readCov (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v17 X_arg5 X_arg20 X_arg21 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v17 X_arg5 X_arg20 X_arg21 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v17 X_arg5 X_arg20 X_arg21 (Scf.trips k0_t1_loop.lb k0_t1_loop.ub k0_t1_loop.st)) S8x384.size (by sl_kernel_rfl) (hrdB.idx hrdJ))
    sl_exec (disch := first | sl_exact hc0 | sl_exact hc1 | sl_exact hc2)
    sl_step
    iapply Hk
    isplitl [Harg2]
    · iexists _; isplitr; · ipureintro; exact harg2.read_unread _
      iexact Harg2
    isplitl [Harg3]
    · iexists _; isplitr; · ipureintro; exact harg3.read_unread _
      iexact Harg3
    isplitl [Harg4]
    · iexists _; isplitr; · ipureintro; exact harg4.read_unread _
      iexact Harg4
    isplitl [Harg5]
    · iexists _; isplitr; · ipureintro; exact harg5.read_unread _
      iexact Harg5
    isplitl [Harg6]
    · iexists _; isplitr; · ipureintro; exact harg6.read_unread _
      iexact Harg6
    isplitl [Harg7]
    · iexists _; isplitr; · ipureintro; exact harg7.read_unread _
      iexact Harg7
    isplitl [Harg8]
    · iexists _; isplitr; · ipureintro; exact harg8.read_unread _
      iexact Harg8
    isplitl [Harg9]
    · iexists _; isplitr; · ipureintro; exact harg9.read_unread _
      iexact Harg9
    isplitl [Harg10]
    · iexists _; isplitr; · ipureintro; exact harg10.read_unread _
      iexact Harg10
    isplitl [Harg11]
    · iexists _; isplitr; · ipureintro; exact harg11.read_unread _
      iexact Harg11
    isplitl [Harg12]
    · iexists _; isplitr; · ipureintro; exact harg12.read_unread _
      iexact Harg12
    isplitl [Harg13]
    · iexists _; iexact Harg13
    isplitl [Harg14]
    · iexists _; isplitr; · ipureintro; exact harg14.read_unread _
      iexact Harg14
    isplitl [Harg15]
    · iexists _; isplitr; · ipureintro; exact harg15.read_unread _
      iexact Harg15
    isplitl [Harg16]
    · iexists _; isplitr; · ipureintro; exact harg16.read_unread _
      iexact Harg16
    isplitl [Harg17]
    · iexists _; isplitr; · ipureintro; exact harg17.read_unread _
      iexact Harg17
    isplitl [Harg18]
    · iexists _; isplitr; · ipureintro; exact harg18.read_unread _
      iexact Harg18
    isplitl [Harg19]
    · iexists _; isplitr; · ipureintro; exact harg19.read_unread _
      iexact Harg19
    isplitl [Harg20]
    · iexists _; isplitr; · ipureintro; exact harg20.read_unread _
      iexact Harg20
    isplitl [Harg21]
    · iexists _; isplitr; · ipureintro; exact harg21.read_unread _
      iexact Harg21
    isplitl [Harg22]
    · iexists _, _; isplitr; swap; · iexact Harg22
      ipureintro; rfl
    isplitl [Harg23]
    · iexists _; iexact Harg23
    isplitl [Harg24]
    · iexists _; iexact Harg24
    isplitl [Harg25]
    · iexists _; iexact Harg25
    isplitl [Harg26]
    · iexists _; isplitr; · ipureintro; exact harg26.read_unread _
      iexact Harg26
    iexists _; isplitr; · ipureintro; exact harg27.read_unread _
    iexact Harg27

end Cert.KernelIdeal.Body

end
-- ==== Proof.KernelIdealRunD.lean ====
/-
  One run of the kernel body of `KernelIdeal` at the first block of a head that is not the first: what the body's stores leave in each buffer, as
  pieces, with every buffer's contents before the point a parameter.
-/
module

public import proofs.«01_k».proof.Proof.KernelIdealCond

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.proofsInPublic true in
set_option maxHeartbeats 1600000 in
/-- The body's run at the first block of a head that is not the first: from every buffer at given contents it comes to its continuation with the
    inputs and the buffers it does not store into as they were, and each buffer it stores into with the listed pieces
    written. -/
noncomputable def runD (c : Dev nD) (i : grid0.Coords) (arg2 : Memref sig .tc .vmem S1x8x128 .bf16) (harg2 : arg2.IsWhole) (arg3 : Memref sig .tc .vmem S32x128 .bf16) (harg3 : arg3.IsWhole) (arg4 : Memref sig .tc .vmem S32x128 .bf16) (harg4 : arg4.IsWhole) (arg5 : Memref sig .tc .vmem S1x1x6528x64 .i8) (harg5 : arg5.IsWhole) (arg6 : Memref sig .tc .vmem S1x1x1020x128 .bf16) (harg6 : arg6.IsWhole) (arg7 : Memref sig .tc .vmem S1x1x1020x128 .bf16) (harg7 : arg7.IsWhole) (arg8 : Memref sig .tc .vmem S1x1x6528x64 .i8) (harg8 : arg8.IsWhole) (arg9 : Memref sig .tc .vmem S1x1x6528x4 .bf16) (harg9 : arg9.IsWhole) (arg10 : Memref sig .tc .vmem S1x1x6528x4 .bf16) (harg10 : arg10.IsWhole) (arg11 : Memref sig .tc .vmem S1x1x128x128 .bf16) (harg11 : arg11.IsWhole) (arg12 : Memref sig .tc .vmem S1x1x128x128 .bf16) (harg12 : arg12.IsWhole) (arg13 : Memref sig .tc .vmem S1x8x128 .bf16) (harg13 : arg13.IsWhole) (arg14 : Memref sig .tc .vmem S32x64 .i8) (harg14 : arg14.IsWhole) (arg15 : Memref sig .tc .vmem S32x4 .bf16) (harg15 : arg15.IsWhole) (arg16 : Memref sig .tc .vmem S32x4 .bf16) (harg16 : arg16.IsWhole) (arg17 : Memref sig .tc .vmem S32x64 .i8) (harg17 : arg17.IsWhole) (arg18 : Memref sig .tc .vmem S32x4 .bf16) (harg18 : arg18.IsWhole) (arg19 : Memref sig .tc .vmem S32x4 .bf16) (harg19 : arg19.IsWhole) (arg20 : Memref sig .tc .vmem S1024x128 .f32) (harg20 : arg20.IsWhole) (arg21 : Memref sig .tc .vmem S1024x128 .f32) (harg21 : arg21.IsWhole) (arg22 : Memref sig .tc .vmem S8x6528 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (arg26 : Memref sig .tc .vmem S32x128 .f32) (harg26 : arg26.IsWhole) (arg27 : Memref sig .tc .vmem S32x128 .f32) (harg27 : arg27.IsWhole) (hc0 : ¬cond0_0 i) (hc1 : cond0_1 i) (hc2 : ¬cond0_2 i)
    (x0 : Vec F S1x8x128 .bf16) (x1 : Vec F S32x128 .bf16) (x2 : Vec F S32x128 .bf16) (x3 : Vec F S1x1x6528x64 .i8) (x4 : Vec F S1x1x1020x128 .bf16) (x5 : Vec F S1x1x1020x128 .bf16) (x6 : Vec F S1x1x6528x64 .i8) (x7 : Vec F S1x1x6528x4 .bf16) (x8 : Vec F S1x1x6528x4 .bf16) (x9 : Vec F S1x1x128x128 .bf16) (x10 : Vec F S1x1x128x128 .bf16) (d11 : Vec F S1x8x128 .bf16) (d12 : Vec F S32x64 .i8) (d13 : Vec F S32x4 .bf16) (d14 : Vec F S32x4 .bf16) (d15 : Vec F S32x64 .i8) (d16 : Vec F S32x4 .bf16) (d17 : Vec F S32x4 .bf16) (xs0 : Vec F S1024x128 .f32) (xs1 : Vec F S1024x128 .f32) (xs6 : Vec F S32x128 .f32) (xs7 : Vec F S32x128 .f32) :
    Σ' (Larg20 : List (View.Piece (Elt F) S1024x128 .f32)), Σ' (Larg21 : List (View.Piece (Elt F) S1024x128 .f32)), Σ' (Larg23 : List (View.Piece (Elt F) S8x128 .f32)), Σ' (Larg24 : List (View.Piece (Elt F) S8x128 .f32)), { Larg25 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare d11 ∗ owns (c : Thread nD τ) arg14 fullShare d12 ∗ owns (c : Thread nD τ) arg15 fullShare d13 ∗ owns (c : Thread nD τ) arg16 fullShare d14 ∗ owns (c : Thread nD τ) arg17 fullShare d15 ∗ owns (c : Thread nD τ) arg18 fullShare d16 ∗ owns (c : Thread nD τ) arg19 fullShare d17 ∗ owns (c : Thread nD τ) arg20 fullShare xs0 ∗ owns (c : Thread nD τ) arg21 fullShare xs1 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ owns (c : Thread nD τ) arg26 fullShare xs6 ∗ owns (c : Thread nD τ) arg27 fullShare xs7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare d11 ∗ owns (c : Thread nD τ) arg14 fullShare d12 ∗ owns (c : Thread nD τ) arg15 fullShare d13 ∗ owns (c : Thread nD τ) arg16 fullShare d14 ∗ owns (c : Thread nD τ) arg17 fullShare d15 ∗ owns (c : Thread nD τ) arg18 fullShare d16 ∗ owns (c : Thread nD τ) arg19 fullShare d17 ∗ (arg20.view.loc (c : Thread nD τ) ↦[arg20.view.set]{fullShare} arg20.view.writes (Elt F) (harg20.unread xs0) Larg20) ∗ (arg21.view.loc (c : Thread nD τ) ↦[arg21.view.set]{fullShare} arg21.view.writes (Elt F) (harg21.unread xs1) Larg21) ∗ (∃ d, owns (c : Thread nD τ) arg22 fullShare d) ∗ (∃ f, arg23.view.loc (c : Thread nD τ) ↦[arg23.view.set]{fullShare} arg23.view.writes (Elt F) f Larg23) ∗ (∃ f, arg24.view.loc (c : Thread nD τ) ↦[arg24.view.set]{fullShare} arg24.view.writes (Elt F) f Larg24) ∗ (∃ f, arg25.view.loc (c : Thread nD τ) ↦[arg25.view.set]{fullShare} arg25.view.writes (Elt F) f Larg25) ∗ owns (c : Thread nD τ) arg26 fullShare xs6 ∗ owns (c : Thread nD τ) arg27 fullShare xs7) -∗ K ⟨⟩))
          ⊢ wp frame (wpE (defs₀ (F := F)) Variants.none c none) E (cc0_kivi_decode i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, fun E K => ?run⟩
  case run =>
    simp only [cc0_kivi_decode_eq_skeleton]; unfold cc0_kivi_decode_skel
    simp only [k0_part16_eq_skeleton, k0_part14_eq_skeleton, k0_part15_eq_skeleton]
    unfold owns
    iintro ⟨⟨%farg2, %hfarg2, Harg2⟩, ⟨%farg3, %hfarg3, Harg3⟩, ⟨%farg4, %hfarg4, Harg4⟩, ⟨%farg5, %hfarg5, Harg5⟩, ⟨%farg6, %hfarg6, Harg6⟩, ⟨%farg7, %hfarg7, Harg7⟩, ⟨%farg8, %hfarg8, Harg8⟩, ⟨%farg9, %hfarg9, Harg9⟩, ⟨%farg10, %hfarg10, Harg10⟩, ⟨%farg11, %hfarg11, Harg11⟩, ⟨%farg12, %hfarg12, Harg12⟩, ⟨%farg13, %hfarg13, Harg13⟩, ⟨%farg14, %hfarg14, Harg14⟩, ⟨%farg15, %hfarg15, Harg15⟩, ⟨%farg16, %hfarg16, Harg16⟩, ⟨%farg17, %hfarg17, Harg17⟩, ⟨%farg18, %hfarg18, Harg18⟩, ⟨%farg19, %hfarg19, Harg19⟩, ⟨%farg20, %hfarg20, Harg20⟩, ⟨%farg21, %hfarg21, Harg21⟩, ⟨%darg22, %farg22, -, Harg22⟩, ⟨%darg23, %farg23, -, Harg23⟩, ⟨%darg24, %farg24, -, Harg24⟩, ⟨%darg25, %farg25, -, Harg25⟩, ⟨%farg26, %hfarg26, Harg26⟩, ⟨%farg27, %hfarg27, Harg27⟩, Hk⟩
    obtain rfl := harg2.eq_unread hfarg2; obtain rfl := harg3.eq_unread hfarg3; obtain rfl := harg4.eq_unread hfarg4; obtain rfl := harg5.eq_unread hfarg5; obtain rfl := harg6.eq_unread hfarg6; obtain rfl := harg7.eq_unread hfarg7; obtain rfl := harg8.eq_unread hfarg8; obtain rfl := harg9.eq_unread hfarg9; obtain rfl := harg10.eq_unread hfarg10; obtain rfl := harg11.eq_unread hfarg11; obtain rfl := harg12.eq_unread hfarg12; obtain rfl := harg13.eq_unread hfarg13; obtain rfl := harg14.eq_unread hfarg14; obtain rfl := harg15.eq_unread hfarg15; obtain rfl := harg16.eq_unread hfarg16; obtain rfl := harg17.eq_unread hfarg17; obtain rfl := harg18.eq_unread hfarg18; obtain rfl := harg19.eq_unread hfarg19; obtain rfl := harg20.eq_unread hfarg20; obtain rfl := harg21.eq_unread hfarg21; obtain rfl := harg26.eq_unread hfarg26; obtain rfl := harg27.eq_unread hfarg27
    have hrd0 : ∀ (𝒱 : Variants) (c : Dev nD) (bd : Option 𝒱.V) (i : grid0.Coords) (arg2 : Memref sig .tc .vmem S1x8x128 .bf16) (harg2 : arg2.IsWhole) (arg3 : Memref sig .tc .vmem S32x128 .bf16) (harg3 : arg3.IsWhole) (arg4 : Memref sig .tc .vmem S32x128 .bf16) (harg4 : arg4.IsWhole) (arg5 : Memref sig .tc .vmem S1x1x6528x64 .i8) (harg5 : arg5.IsWhole) (arg6 : Memref sig .tc .vmem S1x1x1020x128 .bf16) (harg6 : arg6.IsWhole) (arg7 : Memref sig .tc .vmem S1x1x1020x128 .bf16) (harg7 : arg7.IsWhole) (arg8 : Memref sig .tc .vmem S1x1x6528x64 .i8) (harg8 : arg8.IsWhole) (arg9 : Memref sig .tc .vmem S1x1x6528x4 .bf16) (harg9 : arg9.IsWhole) (arg10 : Memref sig .tc .vmem S1x1x6528x4 .bf16) (harg10 : arg10.IsWhole) (arg11 : Memref sig .tc .vmem S1x1x128x128 .bf16) (harg11 : arg11.IsWhole) (arg12 : Memref sig .tc .vmem S1x1x128x128 .bf16) (harg12 : arg12.IsWhole) (arg13 : Memref sig .tc .vmem S1x8x128 .bf16) (harg13 : arg13.IsWhole) (arg14 : Memref sig .tc .vmem S32x64 .i8) (harg14 : arg14.IsWhole) (arg15 : Memref sig .tc .vmem S32x4 .bf16) (harg15 : arg15.IsWhole) (arg16 : Memref sig .tc .vmem S32x4 .bf16) (harg16 : arg16.IsWhole) (arg17 : Memref sig .tc .vmem S32x64 .i8) (harg17 : arg17.IsWhole) (arg18 : Memref sig .tc .vmem S32x4 .bf16) (harg18 : arg18.IsWhole) (arg19 : Memref sig .tc .vmem S32x4 .bf16) (harg19 : arg19.IsWhole) (arg20 : Memref sig .tc .vmem S1024x128 .f32) (harg20 : arg20.IsWhole) (arg21 : Memref sig .tc .vmem S1024x128 .f32) (harg21 : arg21.IsWhole) (arg22 : Memref sig .tc .vmem S8x6528 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (arg26 : Memref sig .tc .vmem S32x128 .f32) (harg26 : arg26.IsWhole) (arg27 : Memref sig .tc .vmem S32x128 .f32) (harg27 : arg27.IsWhole) (arg1 : BitVec 32) (v17 : Vec F S1x8x128 .bf16) (X_arg5 : BufTy.Contents (Elt F) arg5.view.ty) (X_arg20 : BufTy.Contents (Elt F) arg20.view.ty) (X_arg21 : BufTy.Contents (Elt F) arg21.view.ty) (hrdF : BufTy.Contents (Elt F) arg22.view.ty) (hrdB : LoadRect S8x6528), arg22.view.readAt (Elt F) hrdB (arg22.view.writes (Elt F) hrdF (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v17 X_arg5 X_arg20 X_arg21 (Scf.trips k0_t1_loop.lb k0_t1_loop.ub k0_t1_loop.st))) = arg22.view.readCov (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v17 X_arg5 X_arg20 X_arg21 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v17 X_arg5 X_arg20 X_arg21 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v17 X_arg5 X_arg20 X_arg21 (Scf.trips k0_t1_loop.lb k0_t1_loop.ub k0_t1_loop.st)) S8x384.size (by sl_kernel_rfl) (hrdB.idx hrdJ))
    sl_exec (disch := first | sl_exact hc0 | sl_exact hc1 | sl_exact hc2)
    sl_step
    iapply Hk
    isplitl [Harg2]
    · iexists _; isplitr; · ipureintro; exact harg2.read_unread _
      iexact Harg2
    isplitl [Harg3]
    · iexists _; isplitr; · ipureintro; exact harg3.read_unread _
      iexact Harg3
    isplitl [Harg4]
    · iexists _; isplitr; · ipureintro; exact harg4.read_unread _
      iexact Harg4
    isplitl [Harg5]
    · iexists _; isplitr; · ipureintro; exact harg5.read_unread _
      iexact Harg5
    isplitl [Harg6]
    · iexists _; isplitr; · ipureintro; exact harg6.read_unread _
      iexact Harg6
    isplitl [Harg7]
    · iexists _; isplitr; · ipureintro; exact harg7.read_unread _
      iexact Harg7
    isplitl [Harg8]
    · iexists _; isplitr; · ipureintro; exact harg8.read_unread _
      iexact Harg8
    isplitl [Harg9]
    · iexists _; isplitr; · ipureintro; exact harg9.read_unread _
      iexact Harg9
    isplitl [Harg10]
    · iexists _; isplitr; · ipureintro; exact harg10.read_unread _
      iexact Harg10
    isplitl [Harg11]
    · iexists _; isplitr; · ipureintro; exact harg11.read_unread _
      iexact Harg11
    isplitl [Harg12]
    · iexists _; isplitr; · ipureintro; exact harg12.read_unread _
      iexact Harg12
    isplitl [Harg13]
    · iexists _; isplitr; · ipureintro; exact harg13.read_unread _
      iexact Harg13
    isplitl [Harg14]
    · iexists _; isplitr; · ipureintro; exact harg14.read_unread _
      iexact Harg14
    isplitl [Harg15]
    · iexists _; isplitr; · ipureintro; exact harg15.read_unread _
      iexact Harg15
    isplitl [Harg16]
    · iexists _; isplitr; · ipureintro; exact harg16.read_unread _
      iexact Harg16
    isplitl [Harg17]
    · iexists _; isplitr; · ipureintro; exact harg17.read_unread _
      iexact Harg17
    isplitl [Harg18]
    · iexists _; isplitr; · ipureintro; exact harg18.read_unread _
      iexact Harg18
    isplitl [Harg19]
    · iexists _; isplitr; · ipureintro; exact harg19.read_unread _
      iexact Harg19
    isplitl [Harg20]
    · iexact Harg20
    isplitl [Harg21]
    · iexact Harg21
    isplitl [Harg22]
    · iexists _, _; isplitr; swap; · iexact Harg22
      ipureintro; rfl
    isplitl [Harg23]
    · iexists _; iexact Harg23
    isplitl [Harg24]
    · iexists _; iexact Harg24
    isplitl [Harg25]
    · iexists _; iexact Harg25
    isplitl [Harg26]
    · iexists _; isplitr; · ipureintro; exact harg26.read_unread _
      iexact Harg26
    iexists _; isplitr; · ipureintro; exact harg27.read_unread _
    iexact Harg27

end Cert.KernelIdeal.Body

end
-- ==== Proof.KernelIdealBody.lean ====
/-
  The body of `KernelIdeal` at every grid point, for any account of what the scratch buffers and the results hold.

  An account (`Knows`) is a predicate on the contents of the scratch buffers before each point and one on each result's
  block; `Steps` says that each of the four kinds of point carries it on.  `launched` is what the whole kernel then
  leaves: every argument as it was and every result in the account.
-/
module

public import proofs.«01_k».proof.Proof.KernelIdealRunA
public import proofs.«01_k».proof.Proof.KernelIdealRunB
public import proofs.«01_k».proof.Proof.KernelIdealRunC
public import proofs.«01_k».proof.Proof.KernelIdealRunD
public import proofs.«01_k».proof.Proof.Gen.KernelIdeal.Frame
public import Idealize.ShloMosaic.Lib.Pipeline.ArrRel

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! ## The buffers at a point -/

abbrev ms0_0 (t : Fin cfg0.N) : Memref sig .tc .vmem S1x8x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x6528x64 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1020x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1020x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x6528x64 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x6528x4 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x6528x4 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x128x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x128x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x8x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S32x64 .i8 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S32x4 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S32x4 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S32x64 .i8 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S32x4 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S32x4 .bf16 := win0_17.stage (cfg0.slots t 17)
abbrev hs0_17 (t : Fin cfg0.N) : (ms0_17 t).IsWhole := hstage0_17 ((cfg0.slots t 17).cast nbuf0_17)
abbrev scM0_0 : Memref sig .tc .vmem S1024x128 .f32 := Memref.whole cc0_scratch0
abbrev scM0_1 : Memref sig .tc .vmem S1024x128 .f32 := Memref.whole cc0_scratch1
abbrev scM0_2 : Memref sig .tc .vmem S8x6528 .f32 := Memref.whole cc0_scratch2
abbrev scM0_3 : Memref sig .tc .vmem S8x128 .f32 := Memref.whole cc0_scratch3
abbrev scM0_4 : Memref sig .tc .vmem S8x128 .f32 := Memref.whole cc0_scratch4
abbrev scM0_5 : Memref sig .tc .vmem S8x128 .f32 := Memref.whole cc0_scratch5
abbrev scM0_6 : Memref sig .tc .vmem S32x128 .f32 := Memref.whole cc0_scratch6
abbrev scM0_7 : Memref sig .tc .vmem S32x128 .f32 := Memref.whole cc0_scratch7

/-- The class invariant with the scratch buffers one by one. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

/-- The contents of the scratch buffers that live from point to point: split key scales and zeros, running maximum,
    running sum, running weighted values, the round trip of the new key and value. -/
structure St (F : FTy → Type) [FloatOps F] where
  k2 : Vec F S1024x128 .f32
  z2 : Vec F S1024x128 .f32
  mx : Vec F S8x128 .f32
  dn : Vec F S8x128 .f32
  ac : Vec F S8x128 .f32
  kd : Vec F S32x128 .f32
  vd : Vec F S32x128 .f32

/-- The contents of the result blocks at hand. -/
structure Outs (F : FTy → Type) [FloatOps F] where
  o11 : Vec F S1x8x128 .bf16
  o12 : Vec F S32x64 .i8
  o13 : Vec F S32x4 .bf16
  o14 : Vec F S32x4 .bf16
  o15 : Vec F S32x64 .i8
  o16 : Vec F S32x4 .bf16
  o17 : Vec F S32x4 .bf16

/-- The body's run at the first point, on the buffers the pipeline hands it there. -/
noncomputable abbrev atA (m : (ℓ : Loc nD τ sig) → Buf (Elt F) ℓ) (c : Dev nD) (t : Fin cfg0.N) (h0 : t.val % 160 = 0) (h1 : t.val % 5 = 0) (h2 : ¬t.val % 5 = 4) (s : St F) (d : Outs F) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) d.o11 s.k2 s.z2

/-- The body's run at a point that neither starts nor ends a head, on the buffers the pipeline hands it there. -/
noncomputable abbrev atB (m : (ℓ : Loc nD τ sig) → Buf (Elt F) ℓ) (c : Dev nD) (t : Fin cfg0.N) (h0 : ¬t.val % 160 = 0) (h1 : ¬t.val % 5 = 0) (h2 : ¬t.val % 5 = 4) (s : St F) (d : Outs F) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) d.o11 d.o12 d.o13 d.o14 d.o15 d.o16 d.o17 s.k2 s.z2 s.mx s.dn s.ac s.kd s.vd

/-- The body's run at the last point of a head, on the buffers the pipeline hands it there. -/
noncomputable abbrev atC (m : (ℓ : Loc nD τ sig) → Buf (Elt F) ℓ) (c : Dev nD) (t : Fin cfg0.N) (h0 : ¬t.val % 160 = 0) (h1 : ¬t.val % 5 = 0) (h2 : t.val % 5 = 4) (s : St F) (d : Outs F) :=
  runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) d.o12 d.o13 d.o14 d.o15 d.o16 d.o17 s.k2 s.z2 s.mx s.dn s.ac s.kd s.vd

/-- The body's run at the first point of a later head, on the buffers the pipeline hands it there. -/
noncomputable abbrev atD (m : (ℓ : Loc nD τ sig) → Buf (Elt F) ℓ) (c : Dev nD) (t : Fin cfg0.N) (h0 : ¬t.val % 160 = 0) (h1 : t.val % 5 = 0) (h2 : ¬t.val % 5 = 4) (s : St F) (d : Outs F) :=
  runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) d.o11 d.o12 d.o13 d.o14 d.o15 d.o16 d.o17 s.k2 s.z2 s.kd s.vd

/-- An account of the scratch before point `n` and of what each result's block is left at. -/
structure Knows (F : FTy → Type) [FloatOps F] where
  Inv : ℕ → St F → Prop
  Q11 : ℕ → Vec F S1x8x128 .bf16 → Prop
  Q12 : Vec F S32x64 .i8 → Prop
  Q13 : Vec F S32x4 .bf16 → Prop
  Q14 : Vec F S32x4 .bf16 → Prop
  Q15 : Vec F S32x64 .i8 → Prop
  Q16 : Vec F S32x4 .bf16 → Prop
  Q17 : Vec F S32x4 .bf16 → Prop

/-- The account holds of any scratch before the first point and every point carries it on. -/
structure Steps (m : (ℓ : Loc nD τ sig) → Buf (Elt F) ℓ) (c : Dev nD) (kn : Knows F) : Prop where
  zero : ∀ s, kn.Inv 0 s
  /-- What the first point makes of it. -/
  stepA : ∀ (t : Fin cfg0.N) (h0 : t.val % 160 = 0) (h1 : t.val % 5 = 0) (h2 : ¬t.val % 5 = 4) (s : St F) (d : Outs F), kn.Inv t.val s → ∀ (f12 : (ms0_12 t).view.ty.Contents (Elt F)) (f13 : (ms0_13 t).view.ty.Contents (Elt F)) (f14 : (ms0_14 t).view.ty.Contents (Elt F)) (f15 : (ms0_15 t).view.ty.Contents (Elt F)) (f16 : (ms0_16 t).view.ty.Contents (Elt F)) (f17 : (ms0_17 t).view.ty.Contents (Elt F)) (g3 : scM0_3.view.ty.Contents (Elt F)) (g4 : scM0_4.view.ty.Contents (Elt F)) (g5 : scM0_5.view.ty.Contents (Elt F)) (g6 : scM0_6.view.ty.Contents (Elt F)) (g7 : scM0_7.view.ty.Contents (Elt F)),
    kn.Inv (t.val + 1) ⟨(scM0_0.view.read (Elt F) (scM0_0.view.writes (Elt F) ((Memref.isWhole_whole _ : scM0_0.IsWhole).unread s.k2) (atA m c t h0 h1 h2 s d).2.2.2.2.2.2.1)), (scM0_1.view.read (Elt F) (scM0_1.view.writes (Elt F) ((Memref.isWhole_whole _ : scM0_1.IsWhole).unread s.z2) (atA m c t h0 h1 h2 s d).2.2.2.2.2.2.2.1)), (scM0_3.view.read (Elt F) (scM0_3.view.writes (Elt F) g3 (atA m c t h0 h1 h2 s d).2.2.2.2.2.2.2.2.1)), (scM0_4.view.read (Elt F) (scM0_4.view.writes (Elt F) g4 (atA m c t h0 h1 h2 s d).2.2.2.2.2.2.2.2.2.1)), (scM0_5.view.read (Elt F) (scM0_5.view.writes (Elt F) g5 (atA m c t h0 h1 h2 s d).2.2.2.2.2.2.2.2.2.2.1)), (scM0_6.view.read (Elt F) (scM0_6.view.writes (Elt F) g6 (atA m c t h0 h1 h2 s d).2.2.2.2.2.2.2.2.2.2.2.1)), (scM0_7.view.read (Elt F) (scM0_7.view.writes (Elt F) g7 (atA m c t h0 h1 h2 s d).2.2.2.2.2.2.2.2.2.2.2.2.1))⟩
      ∧ kn.Q12 ((ms0_12 t).view.read (Elt F) ((ms0_12 t).view.writes (Elt F) f12 (atA m c t h0 h1 h2 s d).1))
      ∧ kn.Q13 ((ms0_13 t).view.read (Elt F) ((ms0_13 t).view.writes (Elt F) f13 (atA m c t h0 h1 h2 s d).2.1))
      ∧ kn.Q14 ((ms0_14 t).view.read (Elt F) ((ms0_14 t).view.writes (Elt F) f14 (atA m c t h0 h1 h2 s d).2.2.1))
      ∧ kn.Q15 ((ms0_15 t).view.read (Elt F) ((ms0_15 t).view.writes (Elt F) f15 (atA m c t h0 h1 h2 s d).2.2.2.1))
      ∧ kn.Q16 ((ms0_16 t).view.read (Elt F) ((ms0_16 t).view.writes (Elt F) f16 (atA m c t h0 h1 h2 s d).2.2.2.2.1))
      ∧ kn.Q17 ((ms0_17 t).view.read (Elt F) ((ms0_17 t).view.writes (Elt F) f17 (atA m c t h0 h1 h2 s d).2.2.2.2.2.1))
  /-- What a point that neither starts nor ends a head makes of it. -/
  stepB : ∀ (t : Fin cfg0.N) (h0 : ¬t.val % 160 = 0) (h1 : ¬t.val % 5 = 0) (h2 : ¬t.val % 5 = 4) (s : St F) (d : Outs F), kn.Inv t.val s → ∀ (g3 : scM0_3.view.ty.Contents (Elt F)) (g4 : scM0_4.view.ty.Contents (Elt F)) (g5 : scM0_5.view.ty.Contents (Elt F)),
    kn.Inv (t.val + 1) ⟨s.k2, s.z2, (scM0_3.view.read (Elt F) (scM0_3.view.writes (Elt F) g3 (atB m c t h0 h1 h2 s d).1)), (scM0_4.view.read (Elt F) (scM0_4.view.writes (Elt F) g4 (atB m c t h0 h1 h2 s d).2.1)), (scM0_5.view.read (Elt F) (scM0_5.view.writes (Elt F) g5 (atB m c t h0 h1 h2 s d).2.2.1)), s.kd, s.vd⟩
  /-- What the last point of a head makes of it. -/
  stepC : ∀ (t : Fin cfg0.N) (h0 : ¬t.val % 160 = 0) (h1 : ¬t.val % 5 = 0) (h2 : t.val % 5 = 4) (s : St F) (d : Outs F), kn.Inv t.val s → ∀ (f11 : (ms0_11 t).view.ty.Contents (Elt F)) (g3 : scM0_3.view.ty.Contents (Elt F)) (g4 : scM0_4.view.ty.Contents (Elt F)) (g5 : scM0_5.view.ty.Contents (Elt F)),
    kn.Inv (t.val + 1) ⟨s.k2, s.z2, (scM0_3.view.read (Elt F) (scM0_3.view.writes (Elt F) g3 (atC m c t h0 h1 h2 s d).2.1)), (scM0_4.view.read (Elt F) (scM0_4.view.writes (Elt F) g4 (atC m c t h0 h1 h2 s d).2.2.1)), (scM0_5.view.read (Elt F) (scM0_5.view.writes (Elt F) g5 (atC m c t h0 h1 h2 s d).2.2.2.1)), s.kd, s.vd⟩
      ∧ kn.Q11 t.val ((ms0_11 t).view.read (Elt F) ((ms0_11 t).view.writes (Elt F) f11 (atC m c t h0 h1 h2 s d).1))
  /-- What the first point of a later head makes of it. -/
  stepD : ∀ (t : Fin cfg0.N) (h0 : ¬t.val % 160 = 0) (h1 : t.val % 5 = 0) (h2 : ¬t.val % 5 = 4) (s : St F) (d : Outs F), kn.Inv t.val s → ∀ (g3 : scM0_3.view.ty.Contents (Elt F)) (g4 : scM0_4.view.ty.Contents (Elt F)) (g5 : scM0_5.view.ty.Contents (Elt F)),
    kn.Inv (t.val + 1) ⟨(scM0_0.view.read (Elt F) (scM0_0.view.writes (Elt F) ((Memref.isWhole_whole _ : scM0_0.IsWhole).unread s.k2) (atD m c t h0 h1 h2 s d).1)), (scM0_1.view.read (Elt F) (scM0_1.view.writes (Elt F) ((Memref.isWhole_whole _ : scM0_1.IsWhole).unread s.z2) (atD m c t h0 h1 h2 s d).2.1)), (scM0_3.view.read (Elt F) (scM0_3.view.writes (Elt F) g3 (atD m c t h0 h1 h2 s d).2.2.1)), (scM0_4.view.read (Elt F) (scM0_4.view.writes (Elt F) g4 (atD m c t h0 h1 h2 s d).2.2.2.1)), (scM0_5.view.read (Elt F) (scM0_5.view.writes (Elt F) g5 (atD m c t h0 h1 h2 s d).2.2.2.2.1)), s.kd, s.vd⟩

/-! ## The pipeline's proof data -/

variable (m : (ℓ : Loc nD τ sig) → Buf (Elt F) ℓ) (kn : Knows F)

/-- What holds before point `n`: some scratch contents in the account. -/
def Phi (c : Dev nD) (n : ℕ) : sProp 𝕄 :=
  iprop((∃ s : St F, ⌜kn.Inv n s⌝ ∗ owns (c : Thread nD τ) scM0_0 fullShare s.k2 ∗ owns (c : Thread nD τ) scM0_1 fullShare s.z2 ∗ (∃ d, owns (c : Thread nD τ) scM0_2 fullShare d) ∗ owns (c : Thread nD τ) scM0_3 fullShare s.mx ∗ owns (c : Thread nD τ) scM0_4 fullShare s.dn ∗ owns (c : Thread nD τ) scM0_5 fullShare s.ac ∗ owns (c : Thread nD τ) scM0_6 fullShare s.kd ∗ owns (c : Thread nD τ) scM0_7 fullShare s.vd) ∗ (∃ r, prngReg c r))

/-- The proof data: inputs stay as found, the first result's block is in the account at the last point of its head, the
    others' always. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => X = Y
    | ⟨9, _⟩ => fun Y X => X = Y
    | ⟨10, _⟩ => fun Y X => X = Y
    | ⟨11, _⟩ => fun _ X => t.val % 5 = 4 → kn.Q11 t.val X
    | ⟨12, _⟩ => fun _ X => kn.Q12 X
    | ⟨13, _⟩ => fun _ X => kn.Q13 X
    | ⟨14, _⟩ => fun _ X => kn.Q14 X
    | ⟨15, _⟩ => fun _ X => kn.Q15 X
    | ⟨16, _⟩ => fun _ X => kn.Q16 X
    | ⟨17, _⟩ => fun _ X => kn.Q17 X
    | ⟨_ + 18, h⟩ => absurd h (Nat.not_lt.2 (Nat.le_add_left _ _))
  Φ t := Phi kn c t.val
  q _ := fullShare
  owed _ := 0

theorem rdat_A (c : Dev nD) (w : Fin cfg0.W) : (rdat m kn c).A w = V m c (Pipeline.arrRef spec0 w) := by
  dsimp only [rdat]

/-- Input 0 is found at its block. -/
theorem finds0_0 (c : Dev nD) (t : Fin cfg0.N) (Y) (h : (rdat m kn c).Finds 0 t Y) : Y = iblk m c 0 t := by
  obtain ⟨d, hd⟩ := (rdat m kn c).finds_in_eq_fetched 0 rfl (fun _ _ _ => rfl) (fun _ _ _ h => by dsimp only [rdat] at h; exact h) t Y h
  rw [hd]; unfold RDat.fetched RDat.blockOf iblk; rw [rdat_A]; try rfl

/-- Input 1 is found at its block. -/
theorem finds0_1 (c : Dev nD) (t : Fin cfg0.N) (Y) (h : (rdat m kn c).Finds 1 t Y) : Y = iblk m c 1 t := by
  obtain ⟨d, hd⟩ := (rdat m kn c).finds_in_eq_fetched 1 rfl (fun _ _ _ => rfl) (fun _ _ _ h => by dsimp only [rdat] at h; exact h) t Y h
  rw [hd]; unfold RDat.fetched RDat.blockOf iblk; rw [rdat_A]; try rfl

/-- Input 2 is found at its block. -/
theorem finds0_2 (c : Dev nD) (t : Fin cfg0.N) (Y) (h : (rdat m kn c).Finds 2 t Y) : Y = iblk m c 2 t := by
  obtain ⟨d, hd⟩ := (rdat m kn c).finds_in_eq_fetched 2 rfl (fun _ _ _ => rfl) (fun _ _ _ h => by dsimp only [rdat] at h; exact h) t Y h
  rw [hd]; unfold RDat.fetched RDat.blockOf iblk; rw [rdat_A]; try rfl

/-- Input 3 is found at its block. -/
theorem finds0_3 (c : Dev nD) (t : Fin cfg0.N) (Y) (h : (rdat m kn c).Finds 3 t Y) : Y = iblk m c 3 t := by
  obtain ⟨d, hd⟩ := (rdat m kn c).finds_in_eq_fetched 3 rfl (fun _ _ _ => rfl) (fun _ _ _ h => by dsimp only [rdat] at h; exact h) t Y h
  rw [hd]; unfold RDat.fetched RDat.blockOf iblk; rw [rdat_A]; try rfl

/-- Input 4 is found at its block. -/
theorem finds0_4 (c : Dev nD) (t : Fin cfg0.N) (Y) (h : (rdat m kn c).Finds 4 t Y) : Y = iblk m c 4 t := by
  obtain ⟨d, hd⟩ := (rdat m kn c).finds_in_eq_fetched 4 rfl (fun _ _ _ => rfl) (fun _ _ _ h => by dsimp only [rdat] at h; exact h) t Y h
  rw [hd]; unfold RDat.fetched RDat.blockOf iblk; rw [rdat_A]; try rfl

/-- Input 5 is found at its block. -/
theorem finds0_5 (c : Dev nD) (t : Fin cfg0.N) (Y) (h : (rdat m kn c).Finds 5 t Y) : Y = iblk m c 5 t := by
  obtain ⟨d, hd⟩ := (rdat m kn c).finds_in_eq_fetched 5 rfl (fun _ _ _ => rfl) (fun _ _ _ h => by dsimp only [rdat] at h; exact h) t Y h
  rw [hd]; unfold RDat.fetched RDat.blockOf iblk; rw [rdat_A]; try rfl

/-- Input 6 is found at its block. -/
theorem finds0_6 (c : Dev nD) (t : Fin cfg0.N) (Y) (h : (rdat m kn c).Finds 6 t Y) : Y = iblk m c 6 t := by
  obtain ⟨d, hd⟩ := (rdat m kn c).finds_in_eq_fetched 6 rfl (fun _ _ _ => rfl) (fun _ _ _ h => by dsimp only [rdat] at h; exact h) t Y h
  rw [hd]; unfold RDat.fetched RDat.blockOf iblk; rw [rdat_A]; try rfl

/-- Input 7 is found at its block. -/
theorem finds0_7 (c : Dev nD) (t : Fin cfg0.N) (Y) (h : (rdat m kn c).Finds 7 t Y) : Y = iblk m c 7 t := by
  obtain ⟨d, hd⟩ := (rdat m kn c).finds_in_eq_fetched 7 rfl (fun _ _ _ => rfl) (fun _ _ _ h => by dsimp only [rdat] at h; exact h) t Y h
  rw [hd]; unfold RDat.fetched RDat.blockOf iblk; rw [rdat_A]; try rfl

/-- Input 8 is found at its block. -/
theorem finds0_8 (c : Dev nD) (t : Fin cfg0.N) (Y) (h : (rdat m kn c).Finds 8 t Y) : Y = iblk m c 8 t := by
  obtain ⟨d, hd⟩ := (rdat m kn c).finds_in_eq_fetched 8 rfl (fun _ _ _ => rfl) (fun _ _ _ h => by dsimp only [rdat] at h; exact h) t Y h
  rw [hd]; unfold RDat.fetched RDat.blockOf iblk; rw [rdat_A]; try rfl

/-- Input 9 is found at its block. -/
theorem finds0_9 (c : Dev nD) (t : Fin cfg0.N) (Y) (h : (rdat m kn c).Finds 9 t Y) : Y = iblk m c 9 t := by
  obtain ⟨d, hd⟩ := (rdat m kn c).finds_in_eq_fetched 9 rfl (fun _ _ _ => rfl) (fun _ _ _ h => by dsimp only [rdat] at h; exact h) t Y h
  rw [hd]; unfold RDat.fetched RDat.blockOf iblk; rw [rdat_A]; try rfl

/-- Input 10 is found at its block. -/
theorem finds0_10 (c : Dev nD) (t : Fin cfg0.N) (Y) (h : (rdat m kn c).Finds 10 t Y) : Y = iblk m c 10 t := by
  obtain ⟨d, hd⟩ := (rdat m kn c).finds_in_eq_fetched 10 rfl (fun _ _ _ => rfl) (fun _ _ _ h => by dsimp only [rdat] at h; exact h) t Y h
  rw [hd]; unfold RDat.fetched RDat.blockOf iblk; rw [rdat_A]; try rfl

/-- Result block 12 is in the account at every point after the first. -/
theorem finds0_12 (c : Dev nD) (t : Fin cfg0.N) (ht : ¬t.val % 160 = 0) (Y) (h : (rdat m kn c).Finds 12 t Y) : kn.Q12 Y := by
  have hN : t.val < 160 := lt_of_lt_of_eq t.isLt (show cfg0.N = 160 from N_0)
  rcases ((rdat m kn c).finds_of_pos (w := 12) (t := t) rfl (by omega) Y).mp h with hf | ⟨Y', _, hL⟩
  · have := (flush0_12 _).mp hf; simp only at this; omega
  · dsimp only [rdat] at hL; exact hL

/-- Result block 13 is in the account at every point after the first. -/
theorem finds0_13 (c : Dev nD) (t : Fin cfg0.N) (ht : ¬t.val % 160 = 0) (Y) (h : (rdat m kn c).Finds 13 t Y) : kn.Q13 Y := by
  have hN : t.val < 160 := lt_of_lt_of_eq t.isLt (show cfg0.N = 160 from N_0)
  rcases ((rdat m kn c).finds_of_pos (w := 13) (t := t) rfl (by omega) Y).mp h with hf | ⟨Y', _, hL⟩
  · have := (flush0_13 _).mp hf; simp only at this; omega
  · dsimp only [rdat] at hL; exact hL

/-- Result block 14 is in the account at every point after the first. -/
theorem finds0_14 (c : Dev nD) (t : Fin cfg0.N) (ht : ¬t.val % 160 = 0) (Y) (h : (rdat m kn c).Finds 14 t Y) : kn.Q14 Y := by
  have hN : t.val < 160 := lt_of_lt_of_eq t.isLt (show cfg0.N = 160 from N_0)
  rcases ((rdat m kn c).finds_of_pos (w := 14) (t := t) rfl (by omega) Y).mp h with hf | ⟨Y', _, hL⟩
  · have := (flush0_14 _).mp hf; simp only at this; omega
  · dsimp only [rdat] at hL; exact hL

/-- Result block 15 is in the account at every point after the first. -/
theorem finds0_15 (c : Dev nD) (t : Fin cfg0.N) (ht : ¬t.val % 160 = 0) (Y) (h : (rdat m kn c).Finds 15 t Y) : kn.Q15 Y := by
  have hN : t.val < 160 := lt_of_lt_of_eq t.isLt (show cfg0.N = 160 from N_0)
  rcases ((rdat m kn c).finds_of_pos (w := 15) (t := t) rfl (by omega) Y).mp h with hf | ⟨Y', _, hL⟩
  · have := (flush0_15 _).mp hf; simp only at this; omega
  · dsimp only [rdat] at hL; exact hL

/-- Result block 16 is in the account at every point after the first. -/
theorem finds0_16 (c : Dev nD) (t : Fin cfg0.N) (ht : ¬t.val % 160 = 0) (Y) (h : (rdat m kn c).Finds 16 t Y) : kn.Q16 Y := by
  have hN : t.val < 160 := lt_of_lt_of_eq t.isLt (show cfg0.N = 160 from N_0)
  rcases ((rdat m kn c).finds_of_pos (w := 16) (t := t) rfl (by omega) Y).mp h with hf | ⟨Y', _, hL⟩
  · have := (flush0_16 _).mp hf; simp only at this; omega
  · dsimp only [rdat] at hL; exact hL

/-- Result block 17 is in the account at every point after the first. -/
theorem finds0_17 (c : Dev nD) (t : Fin cfg0.N) (ht : ¬t.val % 160 = 0) (Y) (h : (rdat m kn c).Finds 17 t Y) : kn.Q17 Y := by
  have hN : t.val < 160 := lt_of_lt_of_eq t.isLt (show cfg0.N = 160 from N_0)
  rcases ((rdat m kn c).finds_of_pos (w := 17) (t := t) rfl (by omega) Y).mp h with hf | ⟨Y', _, hL⟩
  · have := (flush0_17 _).mp hf; simp only at this; omega
  · dsimp only [rdat] at hL; exact hL

set_option maxHeartbeats 4000000 in
/-- The body's triple at any point, the result blocks at `d`. -/
theorem sound_body (c : Dev nD) (hs : Steps m c kn) (t : Fin cfg0.N) (d : Outs F) (q12 : ¬t.val % 160 = 0 → kn.Q12 d.o12) (q13 : ¬t.val % 160 = 0 → kn.Q13 d.o13) (q14 : ¬t.val % 160 = 0 → kn.Q14 d.o14) (q15 : ¬t.val % 160 = 0 → kn.Q15 d.o15) (q16 : ¬t.val % 160 = 0 → kn.Q16 d.o16) (q17 : ¬t.val % 160 = 0 → kn.Q17 d.o17) :
    iprop(Phi kn c t.val ∗ (rdat m kn c).owesAt () t.castSucc ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare d.o11 ∗ owns (c : Thread nD τ) (ms0_12 t) fullShare d.o12 ∗ owns (c : Thread nD τ) (ms0_13 t) fullShare d.o13 ∗ owns (c : Thread nD τ) (ms0_14 t) fullShare d.o14 ∗ owns (c : Thread nD τ) (ms0_15 t) fullShare d.o15 ∗ owns (c : Thread nD τ) (ms0_16 t) fullShare d.o16 ∗ owns (c : Thread nD τ) (ms0_17 t) fullShare d.o17)
      ⊢ wp frame (wpE (defs₀ (F := F)) Variants.none c none) Set.univ (bodyAt0 t) (fun _ =>
        iprop(Phi kn c (t.val + 1) ∗ (rdat m kn c).owesAt () t.castSucc ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ (∃ X, ⌜t.val % 5 = 4 → kn.Q11 t.val X⌝ ∗ owns (c : Thread nD τ) (ms0_11 t) fullShare X) ∗ (∃ X, ⌜kn.Q12 X⌝ ∗ owns (c : Thread nD τ) (ms0_12 t) fullShare X) ∗ (∃ X, ⌜kn.Q13 X⌝ ∗ owns (c : Thread nD τ) (ms0_13 t) fullShare X) ∗ (∃ X, ⌜kn.Q14 X⌝ ∗ owns (c : Thread nD τ) (ms0_14 t) fullShare X) ∗ (∃ X, ⌜kn.Q15 X⌝ ∗ owns (c : Thread nD τ) (ms0_15 t) fullShare X) ∗ (∃ X, ⌜kn.Q16 X⌝ ∗ owns (c : Thread nD τ) (ms0_16 t) fullShare X) ∗ (∃ X, ⌜kn.Q17 X⌝ ∗ owns (c : Thread nD τ) (ms0_17 t) fullShare X))) := by
  unfold bodyAt0 Phi
  have hN : t.val < 160 := lt_of_lt_of_eq t.isLt (show cfg0.N = 160 from N_0)

  by_cases h0 : t.val % 160 = 0
  · have h1 : t.val % 5 = 0 := by omega
    have h2 : ¬t.val % 5 = 4 := by omega
    iintro ⟨⟨⟨%s, %hI, HS0, HS1, HS2, HS3, HS4, HS5, HS6, HS7⟩, Hg⟩, Ho, H0, H1, H2, H3, H4, H5, H6, H7, H8, H9, H10, H11, H12, H13, H14, H15, H16, H17⟩
    iapply ((atA m c t h0 h1 h2 s d).2.2.2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [HS0]; · iexact HS0
    isplitl [HS1]; · iexact HS1
    isplitl [HS2]; · iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    iintro ⟨H0, H1, H2, H3, H4, H5, H6, H7, H8, H9, H10, H11, ⟨%f12, H12⟩, ⟨%f13, H13⟩, ⟨%f14, H14⟩, ⟨%f15, H15⟩, ⟨%f16, H16⟩, ⟨%f17, H17⟩, HS0, HS1, HS2, ⟨%g3, HS3⟩, ⟨%g4, HS4⟩, ⟨%g5, HS5⟩, ⟨%g6, HS6⟩, ⟨%g7, HS7⟩⟩
    have hst := hs.stepA t h0 h1 h2 s d hI f12 f13 f14 f15 f16 f17 g3 g4 g5 g6 g7
    isplitl [HS0 HS1 HS2 HS3 HS4 HS5 HS6 HS7 Hg]
    · isplitl [HS0 HS1 HS2 HS3 HS4 HS5 HS6 HS7]
      · iexists _
        isplitr
        · ipureintro; exact hst.1
        isplitl [HS0]; · unfold owns; iexists _; isplitr; swap; (iexact HS0); ipureintro; rfl
        isplitl [HS1]; · unfold owns; iexists _; isplitr; swap; (iexact HS1); ipureintro; rfl
        isplitl [HS2]; · iexact HS2
        isplitl [HS3]; · unfold owns; iexists _; isplitr; swap; (iexact HS3); ipureintro; rfl
        isplitl [HS4]; · unfold owns; iexists _; isplitr; swap; (iexact HS4); ipureintro; rfl
        isplitl [HS5]; · unfold owns; iexists _; isplitr; swap; (iexact HS5); ipureintro; rfl
        isplitl [HS6]; · unfold owns; iexists _; isplitr; swap; (iexact HS6); ipureintro; rfl
        unfold owns; iexists _; isplitr; swap; (iexact HS7); ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; isplitr; swap; (iexact H11); ipureintro; exact fun h => absurd h h2
    isplitl [H12]; · iexists _; isplitr; swap; (unfold owns; iexists _; isplitr; swap; (iexact H12); ipureintro; rfl); ipureintro; exact hst.2.1
    isplitl [H13]; · iexists _; isplitr; swap; (unfold owns; iexists _; isplitr; swap; (iexact H13); ipureintro; rfl); ipureintro; exact hst.2.2.1
    isplitl [H14]; · iexists _; isplitr; swap; (unfold owns; iexists _; isplitr; swap; (iexact H14); ipureintro; rfl); ipureintro; exact hst.2.2.2.1
    isplitl [H15]; · iexists _; isplitr; swap; (unfold owns; iexists _; isplitr; swap; (iexact H15); ipureintro; rfl); ipureintro; exact hst.2.2.2.2.1
    isplitl [H16]; · iexists _; isplitr; swap; (unfold owns; iexists _; isplitr; swap; (iexact H16); ipureintro; rfl); ipureintro; exact hst.2.2.2.2.2.1
    iexists _; isplitr; swap; (unfold owns; iexists _; isplitr; swap; (iexact H17); ipureintro; rfl); ipureintro; exact hst.2.2.2.2.2.2
  · by_cases h1 : t.val % 5 = 0
    · have h2 : ¬t.val % 5 = 4 := by omega
      iintro ⟨⟨⟨%s, %hI, HS0, HS1, HS2, HS3, HS4, HS5, HS6, HS7⟩, Hg⟩, Ho, H0, H1, H2, H3, H4, H5, H6, H7, H8, H9, H10, H11, H12, H13, H14, H15, H16, H17⟩
      iapply ((atD m c t h0 h1 h2 s d).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [HS0]; · iexact HS0
      isplitl [HS1]; · iexact HS1
      isplitl [HS2]; · iexact HS2
      isplitl [HS3]; · iexists _; iexact HS3
      isplitl [HS4]; · iexists _; iexact HS4
      isplitl [HS5]; · iexists _; iexact HS5
      isplitl [HS6]; · iexact HS6
      isplitl [HS7]; · iexact HS7
      iintro ⟨H0, H1, H2, H3, H4, H5, H6, H7, H8, H9, H10, H11, H12, H13, H14, H15, H16, H17, HS0, HS1, HS2, ⟨%g3, HS3⟩, ⟨%g4, HS4⟩, ⟨%g5, HS5⟩, HS6, HS7⟩
      have hst := hs.stepD t h0 h1 h2 s d hI g3 g4 g5
      isplitl [HS0 HS1 HS2 HS3 HS4 HS5 HS6 HS7 Hg]
      · isplitl [HS0 HS1 HS2 HS3 HS4 HS5 HS6 HS7]
        · iexists _
          isplitr
          · ipureintro; exact hst
          isplitl [HS0]; · unfold owns; iexists _; isplitr; swap; (iexact HS0); ipureintro; rfl
          isplitl [HS1]; · unfold owns; iexists _; isplitr; swap; (iexact HS1); ipureintro; rfl
          isplitl [HS2]; · iexact HS2
          isplitl [HS3]; · unfold owns; iexists _; isplitr; swap; (iexact HS3); ipureintro; rfl
          isplitl [HS4]; · unfold owns; iexists _; isplitr; swap; (iexact HS4); ipureintro; rfl
          isplitl [HS5]; · unfold owns; iexists _; isplitr; swap; (iexact HS5); ipureintro; rfl
          isplitl [HS6]; · iexact HS6
          iexact HS7
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; isplitr; swap; (iexact H11); ipureintro; exact fun h => absurd h h2
      isplitl [H12]; · iexists _; isplitr; swap; (iexact H12); ipureintro; exact q12 h0
      isplitl [H13]; · iexists _; isplitr; swap; (iexact H13); ipureintro; exact q13 h0
      isplitl [H14]; · iexists _; isplitr; swap; (iexact H14); ipureintro; exact q14 h0
      isplitl [H15]; · iexists _; isplitr; swap; (iexact H15); ipureintro; exact q15 h0
      isplitl [H16]; · iexists _; isplitr; swap; (iexact H16); ipureintro; exact q16 h0
      iexists _; isplitr; swap; (iexact H17); ipureintro; exact q17 h0
    · by_cases h2 : t.val % 5 = 4
      · iintro ⟨⟨⟨%s, %hI, HS0, HS1, HS2, HS3, HS4, HS5, HS6, HS7⟩, Hg⟩, Ho, H0, H1, H2, H3, H4, H5, H6, H7, H8, H9, H10, H11, H12, H13, H14, H15, H16, H17⟩
        iapply ((atC m c t h0 h1 h2 s d).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexact H12
        isplitl [H13]; · iexact H13
        isplitl [H14]; · iexact H14
        isplitl [H15]; · iexact H15
        isplitl [H16]; · iexact H16
        isplitl [H17]; · iexact H17
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iintro ⟨H0, H1, H2, H3, H4, H5, H6, H7, H8, H9, H10, ⟨%f11, H11⟩, H12, H13, H14, H15, H16, H17, HS0, HS1, HS2, ⟨%g3, HS3⟩, ⟨%g4, HS4⟩, ⟨%g5, HS5⟩, HS6, HS7⟩
        have hst := hs.stepC t h0 h1 h2 s d hI f11 g3 g4 g5
        isplitl [HS0 HS1 HS2 HS3 HS4 HS5 HS6 HS7 Hg]
        · isplitl [HS0 HS1 HS2 HS3 HS4 HS5 HS6 HS7]
          · iexists _
            isplitr
            · ipureintro; exact hst.1
            isplitl [HS0]; · iexact HS0
            isplitl [HS1]; · iexact HS1
            isplitl [HS2]; · iexact HS2
            isplitl [HS3]; · unfold owns; iexists _; isplitr; swap; (iexact HS3); ipureintro; rfl
            isplitl [HS4]; · unfold owns; iexists _; isplitr; swap; (iexact HS4); ipureintro; rfl
            isplitl [HS5]; · unfold owns; iexists _; isplitr; swap; (iexact HS5); ipureintro; rfl
            isplitl [HS6]; · iexact HS6
            iexact HS7
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; isplitr; swap; (unfold owns; iexists _; isplitr; swap; (iexact H11); ipureintro; rfl); ipureintro; exact fun _ => hst.2
        isplitl [H12]; · iexists _; isplitr; swap; (iexact H12); ipureintro; exact q12 h0
        isplitl [H13]; · iexists _; isplitr; swap; (iexact H13); ipureintro; exact q13 h0
        isplitl [H14]; · iexists _; isplitr; swap; (iexact H14); ipureintro; exact q14 h0
        isplitl [H15]; · iexists _; isplitr; swap; (iexact H15); ipureintro; exact q15 h0
        isplitl [H16]; · iexists _; isplitr; swap; (iexact H16); ipureintro; exact q16 h0
        iexists _; isplitr; swap; (iexact H17); ipureintro; exact q17 h0
      · iintro ⟨⟨⟨%s, %hI, HS0, HS1, HS2, HS3, HS4, HS5, HS6, HS7⟩, Hg⟩, Ho, H0, H1, H2, H3, H4, H5, H6, H7, H8, H9, H10, H11, H12, H13, H14, H15, H16, H17⟩
        iapply ((atB m c t h0 h1 h2 s d).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iintro ⟨H0, H1, H2, H3, H4, H5, H6, H7, H8, H9, H10, H11, H12, H13, H14, H15, H16, H17, HS0, HS1, HS2, ⟨%g3, HS3⟩, ⟨%g4, HS4⟩, ⟨%g5, HS5⟩, HS6, HS7⟩
        have hst := hs.stepB t h0 h1 h2 s d hI g3 g4 g5
        isplitl [HS0 HS1 HS2 HS3 HS4 HS5 HS6 HS7 Hg]
        · isplitl [HS0 HS1 HS2 HS3 HS4 HS5 HS6 HS7]
          · iexists _
            isplitr
            · ipureintro; exact hst
            isplitl [HS0]; · iexact HS0
            isplitl [HS1]; · iexact HS1
            isplitl [HS2]; · iexact HS2
            isplitl [HS3]; · unfold owns; iexists _; isplitr; swap; (iexact HS3); ipureintro; rfl
            isplitl [HS4]; · unfold owns; iexists _; isplitr; swap; (iexact HS4); ipureintro; rfl
            isplitl [HS5]; · unfold owns; iexists _; isplitr; swap; (iexact HS5); ipureintro; rfl
            isplitl [HS6]; · iexact HS6
            iexact HS7
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; isplitr; swap; (iexact H11); ipureintro; exact fun h => absurd h h2
        isplitl [H12]; · iexists _; isplitr; swap; (iexact H12); ipureintro; exact q12 h0
        isplitl [H13]; · iexists _; isplitr; swap; (iexact H13); ipureintro; exact q13 h0
        isplitl [H14]; · iexists _; isplitr; swap; (iexact H14); ipureintro; exact q14 h0
        isplitl [H15]; · iexists _; isplitr; swap; (iexact H15); ipureintro; exact q15 h0
        isplitl [H16]; · iexists _; isplitr; swap; (iexact H16); ipureintro; exact q16 h0
        iexists _; isplitr; swap; (iexact H17); ipureintro; exact q17 h0

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) (hs : Steps m c kn) : (rdat m kn c).BodyObligation (defs₀ (F := F)) Variants.none () Set.univ := fun t Y hY => by
  rw [bigSep_W0, bigSep_W0, defs₀_row]
  have e0 : Y 0 = iblk m c 0 t := finds0_0 m kn c t _ (hY 0)
  have e1 : Y 1 = iblk m c 1 t := finds0_1 m kn c t _ (hY 1)
  have e2 : Y 2 = iblk m c 2 t := finds0_2 m kn c t _ (hY 2)
  have e3 : Y 3 = iblk m c 3 t := finds0_3 m kn c t _ (hY 3)
  have e4 : Y 4 = iblk m c 4 t := finds0_4 m kn c t _ (hY 4)
  have e5 : Y 5 = iblk m c 5 t := finds0_5 m kn c t _ (hY 5)
  have e6 : Y 6 = iblk m c 6 t := finds0_6 m kn c t _ (hY 6)
  have e7 : Y 7 = iblk m c 7 t := finds0_7 m kn c t _ (hY 7)
  have e8 : Y 8 = iblk m c 8 t := finds0_8 m kn c t _ (hY 8)
  have e9 : Y 9 = iblk m c 9 t := finds0_9 m kn c t _ (hY 9)
  have e10 : Y 10 = iblk m c 10 t := finds0_10 m kn c t _ (hY 10)
  refine triple_restated (sound_body m kn c hs t ⟨Y 11, Y 12, Y 13, Y 14, Y 15, Y 16, Y 17⟩ (fun h => finds0_12 m kn c t h _ (hY 12)) (fun h => finds0_13 m kn c t h _ (hY 13)) (fun h => finds0_14 m kn c t h _ (hY 14)) (fun h => finds0_15 m kn c t h _ (hY 15)) (fun h => finds0_16 m kn c t h _ (hY 16)) (fun h => finds0_17 m kn c t h _ (hY 17))) rfl ?_ fun _ => ?_
  · rw [← e0, ← e1, ← e2, ← e3, ← e4, ← e5, ← e6, ← e7, ← e8, ← e9, ← e10]
    exact .rfl
  · rw [show (rdat m kn c).Φ t.succ = Phi kn c (t.val + 1) from rfl]
    iintro ⟨HP, Ho, H0, H1, H2, H3, H4, H5, H6, H7, H8, H9, H10, H11, H12, H13, H14, H15, H16, H17⟩
    isplitl [HP]; · iexact HP
    isplitl [Ho]; · iexact Ho
    isplitl [H0]; · iexists _; isplitr; swap; (iexact H0); ipureintro; exact e0.symm
    isplitl [H1]; · iexists _; isplitr; swap; (iexact H1); ipureintro; exact e1.symm
    isplitl [H2]; · iexists _; isplitr; swap; (iexact H2); ipureintro; exact e2.symm
    isplitl [H3]; · iexists _; isplitr; swap; (iexact H3); ipureintro; exact e3.symm
    isplitl [H4]; · iexists _; isplitr; swap; (iexact H4); ipureintro; exact e4.symm
    isplitl [H5]; · iexists _; isplitr; swap; (iexact H5); ipureintro; exact e5.symm
    isplitl [H6]; · iexists _; isplitr; swap; (iexact H6); ipureintro; exact e6.symm
    isplitl [H7]; · iexists _; isplitr; swap; (iexact H7); ipureintro; exact e7.symm
    isplitl [H8]; · iexists _; isplitr; swap; (iexact H8); ipureintro; exact e8.symm
    isplitl [H9]; · iexists _; isplitr; swap; (iexact H9); ipureintro; exact e9.symm
    isplitl [H10]; · iexists _; isplitr; swap; (iexact H10); ipureintro; exact e10.symm
    isplitl [H11]; · iexact H11
    isplitl [H12]; · iexact H12
    isplitl [H13]; · iexact H13
    isplitl [H14]; · iexact H14
    isplitl [H15]; · iexact H15
    isplitl [H16]; · iexact H16
    iexact H17

/-- What the launch hands the region gives the invariant before the first point. -/
theorem hin (c : Dev nD) (hs : Steps m c kn) : Pipeline.ΦA spec0 c ⊢ (rdat m kn c).Φ 0 := by
  rw [show (rdat m kn c).Φ 0 = Phi kn c 0 from rfl, PhiA0_eq]; unfold Phi
  iintro ⟨⟨⟨%a0, HS0⟩, ⟨%a1, HS1⟩, HS2, ⟨%a3, HS3⟩, ⟨%a4, HS4⟩, ⟨%a5, HS5⟩, ⟨%a6, HS6⟩, ⟨%a7, HS7⟩⟩, Hg⟩
  isplitl [HS0 HS1 HS2 HS3 HS4 HS5 HS6 HS7]
  · iexists (⟨a0, a1, a3, a4, a5, a6, a7⟩ : St F)
    isplitr
    · ipureintro; exact hs.zero _
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7
  iexact Hg

/-- After the last point the scratch is forgotten. -/
theorem hout (c : Dev nD) : (rdat m kn c).Φ (Fin.last cfg0.N) ⊢ Pipeline.ΦA spec0 c := by
  rw [show (rdat m kn c).Φ (Fin.last cfg0.N) = Phi kn c cfg0.N from rfl, PhiA0_eq]; unfold Phi
  iintro ⟨⟨%s, -, HS0, HS1, HS2, HS3, HS4, HS5, HS6, HS7⟩, Hg⟩
  isplitl [HS0 HS1 HS2 HS3 HS4 HS5 HS6 HS7]
  · isplitl [HS0]; · iexists _; iexact HS0
    isplitl [HS1]; · iexists _; iexact HS1
    isplitl [HS2]; · iexact HS2
    isplitl [HS3]; · iexists _; iexact HS3
    isplitl [HS4]; · iexists _; iexact HS4
    isplitl [HS5]; · iexists _; iexact HS5
    isplitl [HS6]; · iexists _; iexact HS6
    iexists _; iexact HS7
  iexact Hg

variable (ρ : Dev nD → PrngReg)

set_option backward.isDefEq.respectTransparency.types false in
set_option maxHeartbeats 800000 in
/-- The launch: every execution ends with the arrays as the proof data say and the counters at zero. -/
theorem launched (hs : ∀ c, Steps m c kn) : θ_run defs (onTc (τ := τ) (main (F := F))) (s₀ m ρ) (fun r =>
    RDat.FramePost (cfgs 0) (rdat m kn) (V m) r ∧ r.2.sem = fun _ => 0) :=
  RDat.θ_run_frame_track (Q' := _) cfgs (0 : Fin 1) launch0 defs₀ Variants.none (rdat m kn) m ρ main
    (hbody := fun c => body_obligation m kn c (hs c)) (hshare := fun c => (rdat m kn c).share_full fun _ => rfl)
    (howed := fun _ _ => rfl) (V := V m)
    (hmain := hmain m Variants.none) (hA := rdat_A m kn) (hin := fun c => hin m kn c (hs c)) (hout := hout m kn) (hQ' := fun _ h => h)

/-- The arguments end unchanged whatever the account. -/
theorem args_of {r : PUnit × MemSt nD τ sig (Elt F)} (h : RDat.FramePost (cfgs 0) (rdat m kn) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   (h.arr_in c 3 rfl).trans ((rdat_A m kn c 3).trans (V_main_arg3 m c)),
   (h.arr_in c 4 rfl).trans ((rdat_A m kn c 4).trans (V_main_arg4 m c)),
   (h.arr_in c 5 rfl).trans ((rdat_A m kn c 5).trans (V_main_arg5 m c)),
   (h.arr_in c 6 rfl).trans ((rdat_A m kn c 6).trans (V_main_arg6 m c)),
   (h.arr_in c 7 rfl).trans ((rdat_A m kn c 7).trans (V_main_arg7 m c)),
   (h.arr_in c 8 rfl).trans ((rdat_A m kn c 8).trans (V_main_arg8 m c)),
   (h.arr_in c 9 rfl).trans ((rdat_A m kn c 9).trans (V_main_arg9 m c)),
   (h.arr_in c 10 rfl).trans ((rdat_A m kn c 10).trans (V_main_arg10 m c))⟩

/-- The account that says nothing. -/
def Knows.nothing : Knows F := ⟨fun _ _ => True, fun _ _ => True, fun _ => True, fun _ => True, fun _ => True, fun _ => True, fun _ => True, fun _ => True⟩

/-- It is carried on by every point. -/
theorem steps_nothing (c : Dev nD) : Steps m c Knows.nothing where
  zero _ := trivial
  stepA := by intros; exact ⟨trivial, trivial, trivial, trivial, trivial, trivial, trivial⟩
  stepB := by intros; trivial
  stepC := by intros; exact ⟨trivial, trivial⟩
  stepD := by intros; trivial

/-- The frame: every execution ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨args_of m _ h.1, h.2⟩) (launched m Knows.nothing ρ (steps_nothing m))

end Cert.KernelIdeal.Body

end
-- ==== Proof.Online.lean ====
/-
  The online softmax over the extended reals: the running maximum, the running denominator and the running weighted
  sum of a growing prefix of tokens are, after every block, those of the whole prefix.
-/
module

public import Idealize.ShloMosaic.PureOps.Ideal
public import Mathlib.Algebra.BigOperators.Fin
public import Mathlib.Data.EReal.Operations
public import Mathlib.Data.EReal.Inv

@[expose] public section

noncomputable section

namespace Cert.Online

open Idealize.ShloMosaic

/-- The exponential of a difference is never negative. -/
theorem exp_nonneg (x : EReal) : 0 ≤ Ideal.exp x := by
  induction x using EReal.rec with
  | bot => simp
  | top => simp
  | coe r => simpa using (Real.exp_pos r).le

/-- The factor by which a prefix is rescaled is finite. -/
theorem exp_sub_ne_top {a b : EReal} (h : a ≤ b) : Ideal.exp (a - b) ≠ ⊤ := by
  induction b using EReal.rec with
  | bot => obtain rfl := le_bot_iff.mp h; simp
  | top => simp
  | coe r =>
    induction a using EReal.rec with
    | bot => simp
    | top => simp at h
    | coe q => rw [← EReal.coe_sub, Ideal.exp_coe]; exact EReal.coe_ne_top _

/-- Rescaling an exponential taken against an old maximum is taking it against the new one. -/
theorem exp_mul_exp {s a b : EReal} (hs : s ≤ a) (hab : a ≤ b) :
    Ideal.exp (a - b) * Ideal.exp (s - a) = Ideal.exp (s - b) := by
  induction b using EReal.rec with
  | bot => obtain rfl := le_bot_iff.mp hab; obtain rfl := le_bot_iff.mp hs; simp
  | top => simp
  | coe r =>
    induction a using EReal.rec with
    | bot => obtain rfl := le_bot_iff.mp hs; simp
    | top => simp at hab
    | coe q =>
      induction s using EReal.rec with
      | bot => simp
      | top => simp at hs
      | coe p =>
        rw [← EReal.coe_sub, ← EReal.coe_sub, ← EReal.coe_sub, Ideal.exp_coe, Ideal.exp_coe, Ideal.exp_coe,
          ← EReal.coe_mul, ← Real.exp_add]
        congr 2
        ring

/-- A finite factor that is not negative goes into a finite sum. -/
theorem mul_sum_of_nonneg {ι : Type*} {x : EReal} (h0 : 0 ≤ x) (ht : x ≠ ⊤) (S : Finset ι) (f : ι → EReal) :
    x * ∑ i ∈ S, f i = ∑ i ∈ S, x * f i := by
  classical
  induction S using Finset.induction_on with
  | empty => simp
  | insert a S ha ih => rw [Finset.sum_insert ha, Finset.sum_insert ha, EReal.left_distrib_of_nonneg_of_ne_top h0 ht, ih]

/-- The maximum of the first `n` scores. -/
def M (s : ℕ → EReal) (n : ℕ) : EReal := (Finset.range n).sup s

/-- The sum of the first `n` values, each by the exponential of its score against the maximum. -/
def W (s f : ℕ → EReal) (n : ℕ) : EReal := ∑ t ∈ Finset.range n, Ideal.exp (s t - M s n) * f t

/-- No score of the prefix is above its maximum. -/
theorem le_M (s : ℕ → EReal) {n t : ℕ} (h : t < n) : s t ≤ M s n := Finset.le_sup (f := s) (Finset.mem_range.mpr h)

/-- The maximum of nothing. -/
theorem M_zero (s : ℕ → EReal) : M s 0 = ⊥ := rfl

/-- The weighted sum of nothing. -/
theorem W_zero (s f : ℕ → EReal) : W s f 0 = 0 := rfl

/-- The maximum of a longer prefix is the larger of the prefix's and the block's. -/
theorem M_add (s : ℕ → EReal) (n k : ℕ) : M s (n + k) = max (M s n) (Finset.univ.sup fun j : Fin k => s (n + j)) := by
  apply le_antisymm
  · refine Finset.sup_le fun t ht => ?_
    rw [Finset.mem_range] at ht
    by_cases h : t < n
    · exact le_max_of_le_left (le_M s h)
    · refine le_max_of_le_right ?_
      have := Finset.le_sup (f := fun j : Fin k => s (n + j)) (Finset.mem_univ (⟨t - n, by omega⟩ : Fin k))
      simpa [show n + (t - n) = t by omega] using this
  · refine max_le (Finset.sup_le fun t ht => le_M s (by rw [Finset.mem_range] at ht; omega))
      (Finset.sup_le fun j _ => le_M s (by omega))

/-- A longer prefix's maximum is at least the shorter one's. -/
theorem M_le_add (s : ℕ → EReal) (n k : ℕ) : M s n ≤ M s (n + k) := by rw [M_add]; exact le_max_left _ _

/-- THE STEP: the rescaled sum of the prefix and the block's sum are the longer prefix's. -/
theorem W_add (s f : ℕ → EReal) (n k : ℕ) :
    W s f (n + k) = Ideal.exp (M s n - M s (n + k)) * W s f n
      + ∑ j : Fin k, Ideal.exp (s (n + j) - M s (n + k)) * f (n + j) := by
  rw [W, Finset.sum_range_add, Finset.sum_range (n := k), W,
    mul_sum_of_nonneg (exp_nonneg _) (exp_sub_ne_top (M_le_add s n k))]
  congr 1
  refine Finset.sum_congr rfl fun t ht => ?_
  rw [← mul_assoc, exp_mul_exp (le_M s (Finset.mem_range.mp ht)) (M_le_add s n k)]

/-- Tokens of score `-∞` past the end change no maximum. -/
theorem M_masked (s : ℕ → EReal) (n k : ℕ) (h : ∀ j : Fin k, s (n + j) = ⊥) : M s (n + k) = M s n := by
  rw [M_add]
  exact max_eq_left (Finset.sup_le fun j _ => by rw [h j]; exact bot_le)

/-- Tokens of score `-∞` past the end change no weighted sum. -/
theorem W_masked (s f : ℕ → EReal) (n k : ℕ) (h : ∀ j : Fin k, s (n + j) = ⊥) : W s f (n + k) = W s f n := by
  rw [W_add, M_masked s n k h, Finset.sum_eq_zero, add_zero]
  · rw [W, mul_sum_of_nonneg (exp_nonneg _) (exp_sub_ne_top le_rfl)]
    refine Finset.sum_congr rfl fun t ht => ?_
    rw [← mul_assoc, exp_mul_exp (le_M s (Finset.mem_range.mp ht)) le_rfl]
  · intro j _
    rw [h j]
    simp

/-- A fold of the larger-of-two from `-∞` is the supremum. -/
theorem fold_max_eq_sup {ι : Type*} (S : Finset ι) (f : ι → EReal) : S.fold max ⊥ f = S.sup f := rfl

/-! ## The order of the channels -/

/-- The channel that column `c` of the split order holds: the even channels in the first half, the odd ones in the
    second. -/
def src (c : Fin 128) : Fin 128 := if h : c.val < 64 then ⟨2 * c.val, by omega⟩ else ⟨2 * (c.val - 64) + 1, by omega⟩

/-- The column that holds channel `d`. -/
def col (d : Fin 128) : Fin 128 := if d.val % 2 = 0 then ⟨d.val / 2, by omega⟩ else ⟨d.val / 2 + 64, by omega⟩

/-- The split order is an order of the channels. -/
def srcEquiv : Fin 128 ≃ Fin 128 where
  toFun := src
  invFun := col
  left_inv c := by
    apply Fin.ext
    unfold src col
    split <;> rename_i h <;> simp only <;> split <;> rename_i h' <;> simp only at h' ⊢ <;> omega
  right_inv d := by
    apply Fin.ext
    unfold src col
    split <;> rename_i h <;> simp only <;> split <;> rename_i h' <;> simp only at h' ⊢ <;> omega

/-- A sum over the columns is a sum over the channels. -/
theorem sum_src (f : Fin 128 → EReal) : ∑ c, f (src c) = ∑ d, f d := srcEquiv.sum_comp f

/-- The channel of the column of a channel. -/
theorem src_col (d : Fin 128) : src (col d) = d := srcEquiv.right_inv d

/-- A sum against the matrix that picks the split order. -/
theorem sum_pick (f : Fin 128 → EReal) (c : Fin 128) (m : Fin 128 → EReal)
    (hm : ∀ r, m r = if r = src c then 1 else 0) : ∑ r, f r * m r = f (src c) := by
  rw [Finset.sum_eq_single (src c)]
  · rw [hm, if_pos rfl, mul_one]
  · intro r _ hr
    rw [hm, if_neg hr, mul_zero]
  · simp

/-- The same matrix read the other way puts the channels back in their order. -/
theorem sum_unpick (f : Fin 128 → EReal) (d : Fin 128) (m : Fin 128 → EReal)
    (hm : ∀ c, m c = if d = src c then 1 else 0) : ∑ c, f c * m c = f (col d) := by
  rw [Finset.sum_eq_single (col d)]
  · rw [hm, if_pos (src_col d).symm, mul_one]
  · intro c _ hc
    rw [hm, if_neg, mul_zero]
    intro h
    exact hc (by rw [h]; exact (srcEquiv.left_inv c).symm)
  · simp

end Cert.Online

end
-- ==== Proof.Codes.lean ====
/-
  The two codes of a packed byte: what the kernel's unpacking of a chunk of bytes holds at each column of the split
  channel order.
-/
module

public import proofs.«01_k».proof.Proof.Gen.KernelIdeal.Skeleton
public import proofs.«01_k».proof.Proof.Online
public import Idealize.ShloMosaic.Lib.Pointwise
public import Idealize.ShloMosaic.Lib.BitcastFour

@[expose] public section

set_option maxRecDepth 16384

noncomputable section

namespace Cert.Online

open Idealize.ShloMosaic

/-- One code of a packed byte: the low half or the high half. -/
def nib (b : BitVec 8) (hi : Bool) : ℕ := if hi then b.toNat / 16 else b.toNat % 16

/-- A code as an extended real. -/
def code (b : BitVec 8) (hi : Bool) : EReal := (((nib b hi : ℕ) : ℝ) : EReal)

/-- The bits of a low or high half, as a word. -/
theorem toInt_of_bits (w b : BitVec 8) (hi : Bool)
    (h : ∀ q < 8, w.getLsbD q = (decide (q < 4) && b.getLsbD (if hi then q + 4 else q))) : w.toInt = (nib b hi : ℤ) := by
  have hw : w = if hi then b >>> 4 else b &&& 15#8 := by
    apply BitVec.eq_of_getLsbD_eq
    intro q hq
    rw [h q hq]
    cases hi
    · rw [if_neg (by simp), if_neg (by simp), BitVec.getLsbD_and, Bool.and_comm]
      congr 1
      have : q < 8 := hq
      interval_cases q <;> rfl
    · rw [if_pos rfl, if_pos rfl, BitVec.getLsbD_ushiftRight, Nat.add_comm 4 q]
      by_cases h4 : q < 4
      · simp [h4]
      · rw [BitVec.getLsbD_of_ge b (q + 4) (by omega)]; simp
  rw [hw]
  unfold nib
  cases hi
  · simp only [Bool.false_eq_true, if_false]
    rw [BitVec.toInt_eq_toNat_of_lt]
    · rw [BitVec.toNat_and]; norm_cast
      exact Nat.and_two_pow_sub_one_eq_mod b.toNat 4
    · rw [BitVec.toNat_and]
      have : b.toNat &&& (15#8).toNat = b.toNat % 16 := Nat.and_two_pow_sub_one_eq_mod b.toNat 4
      omega
  · simp only [if_true]
    have hb := b.isLt
    rw [BitVec.toInt_eq_toNat_of_lt]
    · rw [BitVec.toNat_ushiftRight, Nat.shiftRight_eq_div_pow]
    · rw [BitVec.toNat_ushiftRight, Nat.shiftRight_eq_div_pow]; omega

/-- Thirty-two-bit words read at eight bits, at rank 2: bit `q` of row `a` is bit `8 * (a % 4) + q` of source row
    `a / 4`. -/
theorem bitcast_32_8_getLsbD_ix2 {R r n : Nat} (x : (⟨2, ![R, n]⟩ : Shape).Idx → BitVec 32)
    (h : (⟨2, ![R, n]⟩ : Shape).Bitcasts 32 ⟨2, ![r, n]⟩ 8) (a : Fin r) (l : Fin n) (q : Nat) (hq : q < 8) (p : Fin R)
    (hp : p.val = a.val / 4) :
    (bitcast ⟨2, ![r, n]⟩ 8 x h (ValueIdx.ix2 a l)).getLsbD q = (x (ValueIdx.ix2 p l)).getLsbD (8 * (a.val % 4) + q) := by
  rw [bitcast_getLsbD x h _ q hq (by decide)]
  have hrow : (⟨2, ![r, n]⟩ : Shape).row (ValueIdx.ix2 a l) = a.val := rfl
  have e : ((⟨2, ![r, n]⟩ : Shape).row (ValueIdx.ix2 a l) * 8 + q) % 32 = 8 * (a.val % 4) + q := by rw [hrow]; omega
  rw [e]
  congr 2
  funext c
  match c with
  | ⟨0, _⟩ => exact Fin.ext ((h.srcIdx_row _ _ _ ⟨0, Nat.zero_lt_two⟩ rfl).trans (by rw [hrow, hp]; omega))
  | ⟨1, _⟩ => exact Fin.ext (h.srcIdx_other _ _ _ ⟨1, Nat.one_lt_two⟩ (by show ¬ 1 + 2 = 2; omega))

/-- The mask's bits. -/
theorem mask_bit (a : Fin 4) (q : ℕ) (hq : q < 8) : (252645135#32 : BitVec 32).getLsbD (8 * a.val + q) = decide (q < 4) := by
  interval_cases q <;> fin_cases a <;> rfl

end Cert.Online

namespace Cert.KernelIdeal.Body

open Cert.KernelIdeal Cert.KernelIdeal.Gen Cert.Online
open Idealize.ShloMosaic

/-- THE UNPACKING of a chunk: column `c` of row `j` is a code of byte `c % 64` of the row, the low half in the first
    sixty-four columns and the high half in the others. -/
theorem unpack_apply (v : Vec Ideal S1x1x384x64 .i8) (j : Fin 384) (c : Fin 128) (b : Fin 64) (hb : b.val = c.val % 64) :
    k0_pay43 (F := Ideal) v (ix2 j c) = code (v (ix4 0 0 j b)) (decide (64 ≤ c.val)) := by
  unfold k0_pay43 code
  pointwise []
  refine (congrArg (fun z : ℤ => (((z : ℝ)) : EReal)) (toInt_of_bits _ (v (ix4 0 0 j b)) (decide (64 ≤ c.val)) ?_)).trans
    (by simp)
  intro q hq
  rw [ix2_eq_valueIdx]
  rw [bitcast_32_8_getLsbD_ix2 _ _ _ _ q hq ⟨j.val / 4, by omega⟩ rfl]
  rw [← ix2_eq_valueIdx]
  pointwise []
  by_cases hc : c.val < 64
  · have hhi : decide (64 ≤ c.val) = false := decide_eq_false (by omega)
    simp only [dif_pos hc, hhi, Bool.false_eq_true, if_false]
    rw [Bool.and_comm]
    refine (BitVec.getLsbD_and).trans (congrArg₂ _ ?_ (mask_bit ⟨j.val % 4, by omega⟩ q hq))
    rw [ix2_eq_valueIdx, bitcast_8_32_getLsbD_ix2 _ _ _ _ _ (by omega) j (by simp only []; omega), ← ix2_eq_valueIdx]
    pointwise []
    rw [show (8 * (j.val % 4) + q) % 8 = q by omega, show b = ⟨c.val, hc⟩ from Fin.ext (by simp only []; omega)]
  · have hhi : decide (64 ≤ c.val) = true := decide_eq_true (by omega)
    simp only [dif_neg hc, hhi, if_true]
    rw [Bool.and_comm]
    by_cases h4 : q < 4
    swap
    · refine (BitVec.getLsbD_and).trans ?_
      rw [show (252645135#32 : BitVec 32).getLsbD (8 * (j.val % 4) + q) = decide (q < 4) from
        mask_bit ⟨j.val % 4, by omega⟩ q hq]
      simp [h4]
    refine (BitVec.getLsbD_and).trans (congrArg₂ _ ?_ (mask_bit ⟨j.val % 4, by omega⟩ q hq))
    have hs : ∀ x : BitVec 32, IntOp.shrsi ArithUnit.vector x 4#32 = x.sshiftRight 4 := fun x => rfl
    rw [hs, BitVec.getLsbD_sshiftRight, if_pos (by omega), ix2_eq_valueIdx,
      bitcast_8_32_getLsbD_ix2 _ _ _ _ _ (by omega) j (by simp only []; omega), ← ix2_eq_valueIdx]
    pointwise []
    rw [show (4 + (8 * (j.val % 4) + q)) % 8 = q + 4 by omega, show b = ⟨c.val - 64, by omega⟩ from Fin.ext (by simp only []; omega)]
    simp
    omega

end Cert.KernelIdeal.Body

end
-- ==== Proof.Scores.lean ====
/-
  The scores of one chunk of 384 tokens, and the scores of a whole block of seventeen chunks, element by element.
-/
module

public import proofs.«01_k».proof.Proof.Codes
public import proofs.«01_k».proof.Proof.KernelIdealCond
public import Idealize.ShloMosaic.Lib.Pipeline.ValueKit

@[expose] public section

set_option maxRecDepth 16384

noncomputable section

namespace Cert.KernelIdeal.Body

open Cert.KernelIdeal Cert.KernelIdeal.Gen Cert.Online
open Idealize.ShloMosaic Idealize.ShloMosaic.TcCoe Idealize.ShloMosaic.Tactic
open Idealize.SL Idealize.SL.RA Idealize.SL.BI Idealize.SL.Sem

section
variable (c : Dev nD) (i : grid0.Coords)
  (arg2 : Memref sig .tc .vmem S1x8x128 .bf16) (harg2 : arg2.IsWhole)
  (arg3 : Memref sig .tc .vmem S32x128 .bf16) (harg3 : arg3.IsWhole)
  (arg4 : Memref sig .tc .vmem S32x128 .bf16) (harg4 : arg4.IsWhole)
  (arg5 : Memref sig .tc .vmem S1x1x6528x64 .i8) (harg5 : arg5.IsWhole)
  (arg6 : Memref sig .tc .vmem S1x1x1020x128 .bf16) (harg6 : arg6.IsWhole)
  (arg7 : Memref sig .tc .vmem S1x1x1020x128 .bf16) (harg7 : arg7.IsWhole)
  (arg8 : Memref sig .tc .vmem S1x1x6528x64 .i8) (harg8 : arg8.IsWhole)
  (arg9 : Memref sig .tc .vmem S1x1x6528x4 .bf16) (harg9 : arg9.IsWhole)
  (arg10 : Memref sig .tc .vmem S1x1x6528x4 .bf16) (harg10 : arg10.IsWhole)
  (arg11 : Memref sig .tc .vmem S1x1x128x128 .bf16) (harg11 : arg11.IsWhole)
  (arg12 : Memref sig .tc .vmem S1x1x128x128 .bf16) (harg12 : arg12.IsWhole)
  (arg13 : Memref sig .tc .vmem S1x8x128 .bf16) (harg13 : arg13.IsWhole)
  (arg14 : Memref sig .tc .vmem S32x64 .i8) (harg14 : arg14.IsWhole)
  (arg15 : Memref sig .tc .vmem S32x4 .bf16) (harg15 : arg15.IsWhole)
  (arg16 : Memref sig .tc .vmem S32x4 .bf16) (harg16 : arg16.IsWhole)
  (arg17 : Memref sig .tc .vmem S32x64 .i8) (harg17 : arg17.IsWhole)
  (arg18 : Memref sig .tc .vmem S32x4 .bf16) (harg18 : arg18.IsWhole)
  (arg19 : Memref sig .tc .vmem S32x4 .bf16) (harg19 : arg19.IsWhole)
  (arg20 : Memref sig .tc .vmem S1024x128 .f32) (harg20 : arg20.IsWhole)
  (arg21 : Memref sig .tc .vmem S1024x128 .f32) (harg21 : arg21.IsWhole)
  (arg22 : Memref sig .tc .vmem S8x6528 .f32) (harg22 : arg22.IsWhole)
  (arg23 : Memref sig .tc .vmem S8x128 .f32) (harg23 : arg23.IsWhole)
  (arg24 : Memref sig .tc .vmem S8x128 .f32) (harg24 : arg24.IsWhole)
  (arg25 : Memref sig .tc .vmem S8x128 .f32) (harg25 : arg25.IsWhole)
  (arg26 : Memref sig .tc .vmem S32x128 .f32) (harg26 : arg26.IsWhole)
  (arg27 : Memref sig .tc .vmem S32x128 .f32) (harg27 : arg27.IsWhole)
/-- The score scale. -/
def SM : EReal := Scalar.ofBits (F := Ideal) .f32 0x3DB504F3#32

/-- The row of split scales or zeros a chunk's group reads. -/
def grow (arg20 : Memref sig .tc .vmem S1024x128 .f32) (i : grid0.Coords) (f20 : BufTy.Contents (Elt Ideal) arg20.view.ty)
    (k : Fin k0_t1_loop.trips) (g : Fin 12) : Vec Ideal S1x128 .f32 :=
  View.readAt (Elt Ideal) arg20.view (Rect.unit (s := S1024x128) (k0_off2 i k (BitVec.ofNat 32 g.val)) S1x128.size
    (k0_off2_inb i k g)).toLoadRect f20

/-- Twenty-four pieces of sixteen rows, one under the other. -/
theorem concat24 (f : Fin 24 → Vec Ideal S16x128 .bf16) (hh) (n : Fin 24) (r : Fin 16) (c : Fin 128) :
    concatenate S384x128 0 (List.ofFn fun n : Fin 24 => (⟨S16x128, f n⟩ : (s : Shape) × (s.Idx → EReal))) hh
      (ix2 ⟨16 * n.val + r.val, by omega⟩ c) = f n (ix2 r c) := by
  refine concatenate_ofFn_apply (0 : Fin S384x128.rank) f hh rfl 16 rfl _ n ?_ _ ?_ ?_
  · show (16 * n.val + r.val) / 16 = n.val
    omega
  · show r.val = (16 * n.val + r.val) % 16
    omega
  · intro b hb
    match b with
    | ⟨0, _⟩ => exact absurd rfl hb
    | ⟨1, _⟩ => rfl

/-- The scores of one chunk: the query row against the dequantised keys of the chunk, scaled. -/
theorem chunk_pay (q : Vec Ideal S1x8x128 .bf16) (f5 : BufTy.Contents (Elt Ideal) arg5.view.ty) (f20 : BufTy.Contents (Elt Ideal) arg20.view.ty) (f21 : BufTy.Contents (Elt Ideal) arg21.view.ty)
    (k : Fin k0_t1_loop.trips) (h : Fin 8) (n : Fin 24) (r : Fin 16) :
    trip_k0_t1.sl.r_25 (F := Ideal) i arg5 arg20 arg21 q f5 f20 f21 k (ix2 h ⟨16 * n.val + r.val, by omega⟩)
      = (∑ c : Fin 128, k0_pay93 (F := Ideal) q (ix2 h c)
          * (k0_pay43 (F := Ideal) (View.readAt (Elt Ideal) arg5.view (Rect.unit (s := S1x1x6528x64) (k0_off1 k)
              S1x1x384x64.size (k0_off1_inb k)).toLoadRect f5) (ix2 ⟨16 * n.val + r.val, by omega⟩ c)
            * grow arg20 i f20 k ⟨n.val / 2, by omega⟩ (ix2 0 c) + grow arg21 i f21 k ⟨n.val / 2, by omega⟩ (ix2 0 c))) * SM := by
  unfold trip_k0_t1.sl.r_25 k0_pay84
  dsimp only
  generalize hCC : concatenate (α := Ideal .bf16) S384x128 0 _ _ = C
  pointwise []
  refine congrArg (· * SM) (Finset.sum_congr rfl fun c _ => congrArg (k0_pay93 (F := Ideal) q (ix2 h c) * ·) ?_)
  rw [← hCC]
  clear hCC
  frame_open
  delta k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay63 k0_pay64 k0_pay65 k0_pay66 k0_pay67 k0_pay68 k0_pay69 k0_pay70 k0_pay71 k0_pay72 k0_pay73 k0_pay74 k0_pay75 k0_pay76 k0_pay77 k0_pay78 k0_pay79 k0_pay80 k0_pay81 k0_pay82 k0_pay83
  dsimp only
  generalize k0_pay43 (F := Ideal) (View.readAt (Elt Ideal) arg5.view (Rect.unit (s := S1x1x6528x64) (k0_off1 k)
    S1x1x384x64.size (k0_off1_inb k)).toLoadRect f5) = B
  refine (concat24 (![_, _, _, _, _, _, _, _, _, _, _, _, _, _, _, _, _, _, _, _, _, _, _, _]) _ n r c).trans ?_
  pointwise []
  fin_cases n
  · refine congrArg (fun z => B (ix2 z c) * grow arg20 i f20 k 0 (ix2 0 c) + grow arg21 i f21 k 0 (ix2 0 c)) (Fin.ext ?_)
    show r.val = 16 * 0 + r.val
    omega
  all_goals rfl
end

end Cert.KernelIdeal.Body

end
-- ==== Proof.Block.lean ====
/-
  The scores of a whole block of 6528 tokens, as the seventeen chunks of the loop leave them.
-/
module

public import proofs.«01_k».proof.Proof.Scores

@[expose] public section

set_option maxRecDepth 16384

noncomputable section

namespace Cert.KernelIdeal.Body

open Cert.KernelIdeal Cert.KernelIdeal.Gen Cert.Online
open Idealize.ShloMosaic Idealize.ShloMosaic.TcCoe Idealize.ShloMosaic.Tactic
open Idealize.SL Idealize.SL.RA Idealize.SL.BI Idealize.SL.Sem

section
variable (c : Dev nD) (i : grid0.Coords)
  (arg2 : Memref sig .tc .vmem S1x8x128 .bf16) (harg2 : arg2.IsWhole)
  (arg3 : Memref sig .tc .vmem S32x128 .bf16) (harg3 : arg3.IsWhole)
  (arg4 : Memref sig .tc .vmem S32x128 .bf16) (harg4 : arg4.IsWhole)
  (arg5 : Memref sig .tc .vmem S1x1x6528x64 .i8) (harg5 : arg5.IsWhole)
  (arg6 : Memref sig .tc .vmem S1x1x1020x128 .bf16) (harg6 : arg6.IsWhole)
  (arg7 : Memref sig .tc .vmem S1x1x1020x128 .bf16) (harg7 : arg7.IsWhole)
  (arg8 : Memref sig .tc .vmem S1x1x6528x64 .i8) (harg8 : arg8.IsWhole)
  (arg9 : Memref sig .tc .vmem S1x1x6528x4 .bf16) (harg9 : arg9.IsWhole)
  (arg10 : Memref sig .tc .vmem S1x1x6528x4 .bf16) (harg10 : arg10.IsWhole)
  (arg11 : Memref sig .tc .vmem S1x1x128x128 .bf16) (harg11 : arg11.IsWhole)
  (arg12 : Memref sig .tc .vmem S1x1x128x128 .bf16) (harg12 : arg12.IsWhole)
  (arg13 : Memref sig .tc .vmem S1x8x128 .bf16) (harg13 : arg13.IsWhole)
  (arg14 : Memref sig .tc .vmem S32x64 .i8) (harg14 : arg14.IsWhole)
  (arg15 : Memref sig .tc .vmem S32x4 .bf16) (harg15 : arg15.IsWhole)
  (arg16 : Memref sig .tc .vmem S32x4 .bf16) (harg16 : arg16.IsWhole)
  (arg17 : Memref sig .tc .vmem S32x64 .i8) (harg17 : arg17.IsWhole)
  (arg18 : Memref sig .tc .vmem S32x4 .bf16) (harg18 : arg18.IsWhole)
  (arg19 : Memref sig .tc .vmem S32x4 .bf16) (harg19 : arg19.IsWhole)
  (arg20 : Memref sig .tc .vmem S1024x128 .f32) (harg20 : arg20.IsWhole)
  (arg21 : Memref sig .tc .vmem S1024x128 .f32) (harg21 : arg21.IsWhole)
  (arg22 : Memref sig .tc .vmem S8x6528 .f32) (harg22 : arg22.IsWhole)
  (arg23 : Memref sig .tc .vmem S8x128 .f32) (harg23 : arg23.IsWhole)
  (arg24 : Memref sig .tc .vmem S8x128 .f32) (harg24 : arg24.IsWhole)
  (arg25 : Memref sig .tc .vmem S8x128 .f32) (harg25 : arg25.IsWhole)
  (arg26 : Memref sig .tc .vmem S32x128 .f32) (harg26 : arg26.IsWhole)
  (arg27 : Memref sig .tc .vmem S32x128 .f32) (harg27 : arg27.IsWhole)
/-- An index of a block of scores from its row and its token. -/
theorem grow_eq (f20 : BufTy.Contents (Elt Ideal) arg20.view.ty) (k : Fin k0_t1_loop.trips) (g : Fin 12) (c : Fin 128)
    (hr : 204 * (i 1).val + 12 * k.val + g.val < 1024) :
    grow arg20 i f20 k g (ix2 0 c) = arg20.view.read (Elt Ideal) f20 (ix2 ⟨204 * (i 1).val + 12 * k.val + g.val, hr⟩ c) := by
  unfold grow
  rw [View.readAt_eq_ld]
  refine congrArg (arg20.view.read (Elt Ideal) f20) (funext fun a => Fin.ext ?_)
  have e := k0_off2_eq i k g
  match a with
  | ⟨0, _⟩ =>
    rw [Rect.idx_unit_val, show k0_off2 i k (BitVec.ofNat 32 g.val) ⟨0, _⟩ = 204 * (i 1).val + 12 * k.val + g.val from congrFun e 0]
    show _ + 0 = _
    rfl
  | ⟨1, _⟩ =>
    rw [Rect.idx_unit_val, show k0_off2 i k (BitVec.ofNat 32 g.val) ⟨1, _⟩ = 0 from congrFun e 1]
    show 0 + c.val = c.val
    omega

/-- The scores' loop makes at most 17 trips. -/
theorem trips1_le : k0_t1_loop.trips ≤ 17 := k0_t1_abs.2.1

/-- There are five blocks. -/
theorem blk_lt (i : grid0.Coords) : (i 1).val < 5 := (i 1).isLt

/-- The score of query row `h` against token `j` of a block, from what the buffers hold. -/
def blkScore (i : grid0.Coords) (q : Vec Ideal S1x8x128 .bf16) (X5 : Vec Ideal S1x1x6528x64 .i8) (X20 X21 : Vec Ideal S1024x128 .f32)
    (h : Fin 8) (j : Fin 6528) : EReal :=
  (∑ c : Fin 128, k0_pay93 (F := Ideal) q (ix2 h c)
    * (code (X5 (ix4 0 0 j ⟨c.val % 64, Nat.mod_lt _ (by decide)⟩)) (decide (64 ≤ c.val))
        * X20 (ix2 ⟨204 * (i 1).val + j.val / 32, by have := blk_lt i; omega⟩ c)
      + X21 (ix2 ⟨204 * (i 1).val + j.val / 32, by have := blk_lt i; omega⟩ c))) * SM

/-- One chunk's payload is the block's scores there. -/
theorem chunk_score (q : Vec Ideal S1x8x128 .bf16) (f5 : BufTy.Contents (Elt Ideal) arg5.view.ty) (f20 : BufTy.Contents (Elt Ideal) arg20.view.ty) (f21 : BufTy.Contents (Elt Ideal) arg21.view.ty)
    (k : Fin k0_t1_loop.trips) (h : Fin 8) (j : Fin 384) :
    trip_k0_t1.sl.r_25 (F := Ideal) i arg5 arg20 arg21 q f5 f20 f21 k (ix2 h j)
      = blkScore i q (arg5.view.read (Elt Ideal) f5) (arg20.view.read (Elt Ideal) f20) (arg21.view.read (Elt Ideal) f21) h
          ⟨384 * k.val + j.val, by have := trips1_le; omega⟩ := by
  have hk := trips1_le
  have hb := blk_lt i
  have e := chunk_pay i arg5 arg20 arg21 q f5 f20 f21 k h ⟨j.val / 16, by omega⟩ ⟨j.val % 16, by omega⟩
  rw [show (⟨16 * (⟨j.val / 16, by omega⟩ : Fin 24).val + (⟨j.val % 16, by omega⟩ : Fin 16).val, by omega⟩ : Fin 384) = j from
    Fin.ext (by show 16 * (j.val / 16) + j.val % 16 = j.val; omega)] at e
  rw [e]
  unfold blkScore
  refine congrArg (· * SM) (Finset.sum_congr rfl fun c _ => congrArg (k0_pay93 (F := Ideal) q (ix2 h c) * ·) ?_)
  rw [unpack_apply _ j c ⟨c.val % 64, Nat.mod_lt _ (by decide)⟩ rfl,
    grow_eq i arg20 f20 k ⟨(j.val / 16) / 2, by omega⟩ c (by show 204 * (i 1).val + 12 * k.val + j.val / 16 / 2 < 1024; omega),
    grow_eq i arg21 f21 k ⟨(j.val / 16) / 2, by omega⟩ c (by show 204 * (i 1).val + 12 * k.val + j.val / 16 / 2 < 1024; omega)]
  have er : (⟨204 * (i 1).val + 12 * k.val + j.val / 16 / 2, by omega⟩ : Fin 1024)
      = ⟨204 * (i 1).val + (384 * k.val + j.val) / 32, by omega⟩ := Fin.ext (by show _ = _; simp only []; omega)
  have e5 : View.readAt (Elt Ideal) arg5.view (Rect.unit (s := S1x1x6528x64) (k0_off1 k) S1x1x384x64.size (k0_off1_inb k)).toLoadRect f5
        (ix4 0 0 j ⟨c.val % 64, Nat.mod_lt _ (by decide)⟩)
      = arg5.view.read (Elt Ideal) f5 (ix4 0 0 ⟨384 * k.val + j.val, by omega⟩ ⟨c.val % 64, Nat.mod_lt _ (by decide)⟩) := by
    rw [View.readAt_eq_ld]
    refine congrArg (arg5.view.read (Elt Ideal) f5) (funext fun a => Fin.ext ?_)
    have e1 := k0_off1_eq k
    match a with
    | ⟨0, _⟩ => rw [Rect.idx_unit_val, show k0_off1 k ⟨0, _⟩ = 0 from congrFun e1 0]; rfl
    | ⟨1, _⟩ => rw [Rect.idx_unit_val, show k0_off1 k ⟨1, _⟩ = 0 from congrFun e1 1]; rfl
    | ⟨2, _⟩ => rw [Rect.idx_unit_val, show k0_off1 k ⟨2, _⟩ = 384 * k.val from congrFun e1 2]; rfl
    | ⟨3, _⟩ => rw [Rect.idx_unit_val, show k0_off1 k ⟨3, _⟩ = 0 from congrFun e1 3]; show 0 + c.val % 64 = c.val % 64; omega
  rw [e5]
  show _ * arg20.view.read (Elt Ideal) f20 (ix2 (⟨204 * (i 1).val + 12 * k.val + j.val / 16 / 2, _⟩ : Fin 1024) c)
    + arg21.view.read (Elt Ideal) f21 (ix2 (⟨204 * (i 1).val + 12 * k.val + j.val / 16 / 2, _⟩ : Fin 1024) c) = _
  rw [er]

/-- One trip of the scores' loop stores its chunk's scores, of which the block's are made. -/
theorem trip1_piece (v1 : BitVec 32) (q : Vec Ideal S1x8x128 .bf16) (f5 : BufTy.Contents (Elt Ideal) arg5.view.ty) (f20 : BufTy.Contents (Elt Ideal) arg20.view.ty) (f21 : BufTy.Contents (Elt Ideal) arg21.view.ty)
    (k : Fin k0_t1_loop.trips) :
    tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 q f5 f20 f21 k
      = [⟨Rect.unit (s := S8x6528) (k0_off3 k) S8x384.size (k0_off3_inb k), k0_pay100 (F := Ideal) (trip_k0_t1.sl.r_25 (F := Ideal) i arg5 arg20 arg21 q f5 f20 f21 k)⟩] := by
  unfold tripL_k0_t1 trip_k0_t1
  frame_open
  rfl

/-- The pieces of the scores' loop before trip `n` hold the block's scores and cover the tokens before `384 * n`. -/
theorem pb1_pieces (v1 : BitVec 32) (q : Vec Ideal S1x8x128 .bf16) (f5 : BufTy.Contents (Elt Ideal) arg5.view.ty) (f20 : BufTy.Contents (Elt Ideal) arg20.view.ty) (f21 : BufTy.Contents (Elt Ideal) arg21.view.ty)
    (n : ℕ) (hn : n ≤ k0_t1_loop.trips) :
    (∀ p ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 q f5 f20 f21 n), ∀ x : p.1.shape.Idx, p.2 x = (fun y : S8x6528.Idx => blkScore i q (arg5.view.read (Elt Ideal) f5) (arg20.view.read (Elt Ideal) f20) (arg21.view.read (Elt Ideal) f21) (y 0) (y 1)) (p.1.emb x))
      ∧ ∀ (h : Fin 8) (j : Fin 6528), j.val < 384 * n → ∃ p ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 q f5 f20 f21 n), ix2 h j ∈ p.1.set := by
  induction n with
  | zero => exact ⟨fun p hp => absurd hp List.not_mem_nil, fun h j hj => absurd hj (by omega)⟩
  | succ n ih =>
    obtain ⟨ih1, ih2⟩ := ih (by omega)
    rw [pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 q f5 f20 f21 ⟨n, by omega⟩,
      trip1_piece c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 q f5 f20 f21 ⟨n, by omega⟩]
    have e3 := k0_off3_eq ⟨n, by omega⟩
    constructor
    · intro p hp
      rcases List.mem_append.mp hp with hp | hp
      · obtain rfl := List.mem_singleton.mp hp
        intro x
        obtain ⟨h, j, rfl⟩ : ∃ (h : Fin 8) (j : Fin 384), x = ix2 h j := ⟨x 0, x 1, funext fun a => by match a with | ⟨0, _⟩ => rfl | ⟨1, _⟩ => rfl⟩
        show k0_pay100 (F := Ideal) (trip_k0_t1.sl.r_25 (F := Ideal) i arg5 arg20 arg21 q f5 f20 f21 ⟨n, by omega⟩) (ix2 h j) = _
        have e := chunk_score i arg5 arg20 arg21 q f5 f20 f21 ⟨n, by omega⟩ h j
        rw [show k0_pay100 (F := Ideal) (trip_k0_t1.sl.r_25 (F := Ideal) i arg5 arg20 arg21 q f5 f20 f21 ⟨n, by omega⟩) (ix2 h j)
          = trip_k0_t1.sl.r_25 (F := Ideal) i arg5 arg20 arg21 q f5 f20 f21 ⟨n, by omega⟩ (ix2 h j) from by
            unfold k0_pay100; pointwise []]
        rw [e]
        have e0 : ((Rect.unit (s := S8x6528) (k0_off3 ⟨n, by omega⟩) S8x384.size (k0_off3_inb ⟨n, by omega⟩)).emb (ix2 h j)) 0 = h := by
          apply Fin.ext
          show ((Rect.unit (s := S8x6528) (k0_off3 ⟨n, by omega⟩) S8x384.size (k0_off3_inb ⟨n, by omega⟩)).idx (ix2 h j) 0 : ℕ) = _
          rw [Rect.idx_unit_val, show k0_off3 ⟨n, by omega⟩ 0 = 0 from congrFun e3 0]
          show 0 + h.val = h.val
          omega
        have e1 : ((Rect.unit (s := S8x6528) (k0_off3 ⟨n, by omega⟩) S8x384.size (k0_off3_inb ⟨n, by omega⟩)).emb (ix2 h j)) 1
            = (⟨384 * n + j.val, by have := trips1_le; omega⟩ : Fin 6528) := by
          apply Fin.ext
          show ((Rect.unit (s := S8x6528) (k0_off3 ⟨n, by omega⟩) S8x384.size (k0_off3_inb ⟨n, by omega⟩)).idx (ix2 h j) 1 : ℕ) = _
          rw [Rect.idx_unit_val, show k0_off3 ⟨n, by omega⟩ 1 = 384 * n from congrFun e3 1]
          rfl
        simp only [e0, e1]
      · exact ih1 p hp
    · intro h j hj
      by_cases hjn : j.val < 384 * n
      · obtain ⟨p, hp, hy⟩ := ih2 h j hjn
        exact ⟨p, List.mem_append_right _ hp, hy⟩
      · refine ⟨_, List.mem_append_left _ (List.mem_singleton.mpr rfl), ?_⟩
        rw [Rect.mem_set_unit]
        intro a
        match a with
        | ⟨0, _⟩ => rw [show k0_off3 ⟨n, by omega⟩ ⟨0, _⟩ = 0 from congrFun e3 0]; show 0 ≤ h.val ∧ h.val < 0 + 8; omega
        | ⟨1, _⟩ => rw [show k0_off3 ⟨n, by omega⟩ ⟨1, _⟩ = 384 * n from congrFun e3 1]; show 384 * n ≤ j.val ∧ j.val < 384 * n + 384; omega

/-- The scores' loop makes 17 trips. -/
theorem trips1_eq : Scf.trips k0_t1_loop.lb k0_t1_loop.ub k0_t1_loop.st = 17 := by decide +kernel

/-- After the scores' loop, a load of the whole buffer reads the block's scores. -/
theorem scores_read (v1 : BitVec 32) (q : Vec Ideal S1x8x128 .bf16) (f5 : BufTy.Contents (Elt Ideal) arg5.view.ty) (f20 : BufTy.Contents (Elt Ideal) arg20.view.ty) (f21 : BufTy.Contents (Elt Ideal) arg21.view.ty)
    {off : Fin S8x6528.rank → ℕ} (inb : ∀ a, off a + S8x6528.size a ≤ S8x6528.size a) (h : Fin 8) (j : Fin 6528) :
    arg22.view.readCov (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 q f5 f20 f21 (Scf.trips k0_t1_loop.lb k0_t1_loop.ub k0_t1_loop.st))
      (Rect.unit (s := S8x6528) off S8x6528.size inb).toLoadRect (ix2 h j)
      = blkScore i q (arg5.view.read (Elt Ideal) f5) (arg20.view.read (Elt Ideal) f20) (arg21.view.read (Elt Ideal) f21) h j := by
  have ht : Scf.trips k0_t1_loop.lb k0_t1_loop.ub k0_t1_loop.st = k0_t1_loop.trips := rfl
  obtain ⟨h1, h2⟩ := pb1_pieces c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1 q f5 f20 f21 _ ht.le
  rw [View.readCov_eq_canon']
  have hi : (Rect.unit (s := S8x6528) off S8x6528.size inb).toLoadRect.idx (ix2 h j) = ix2 h j := by
    refine funext fun a => Fin.ext ?_
    show ((Rect.unit (s := S8x6528) off S8x6528.size inb).idx (ix2 h j) a : ℕ) = _
    rw [Rect.idx_unit_val, show off a = 0 from by have := inb a; omega]
    omega
  show View.canon _ ((Rect.unit (s := S8x6528) off S8x6528.size inb).toLoadRect.idx (ix2 h j)) = _
  rw [hi]
  exact View.canon_apply_of_pieces (fun y : S8x6528.Idx => blkScore i q (arg5.view.read (Elt Ideal) f5) (arg20.view.read (Elt Ideal) f20) (arg21.view.read (Elt Ideal) f21) (y 0) (y 1)) _ h1 _ (h2 h j (by rw [trips1_eq]; omega))
end

end Cert.KernelIdeal.Body

end
-- ==== Proof.Vals.lean ====
/-
  The values of one chunk of 384 tokens added to the running weighted sum, and the loop over the seventeen chunks.
-/
module

public import proofs.«01_k».proof.Proof.Block

@[expose] public section

set_option maxRecDepth 16384

noncomputable section

namespace Cert.KernelIdeal.Body

open Cert.KernelIdeal Cert.KernelIdeal.Gen Cert.Online
open Idealize.ShloMosaic Idealize.ShloMosaic.TcCoe Idealize.ShloMosaic.Tactic
open Idealize.SL Idealize.SL.RA Idealize.SL.BI Idealize.SL.Sem

/-- One chunk's weighted values, added to what was there. -/
theorem valpay (V8 : Vec Ideal S1x1x384x64 .i8) (V9 V10 : Vec Ideal S1x1x384x4 .bf16) (P : Vec Ideal S8x384 .f32) (A : Vec Ideal S8x128 .f32)
    (h : Fin 8) (c : Fin 128) :
    k0_pay110 (F := Ideal) (iota .tc S4x128 32 [0] iota_S4x128_d0_w32) 64#32 k0_pay108 k0_pay109 0#32 V8 V9 V10 P A (ix2 h c)
      = A (ix2 h c) + ∑ j : Fin 384, P (ix2 h j) * (code (V8 (ix4 0 0 j ⟨c.val % 64, Nat.mod_lt _ (by decide)⟩)) (decide (64 ≤ c.val))
          * V9 (ix4 0 0 j ⟨c.val % 64 / 16, by omega⟩) + V10 (ix4 0 0 j ⟨c.val % 64 / 16, by omega⟩)) := by
  have hu : ∀ j, k0_pay43 (F := Ideal) V8 (ix2 j c) = _ := fun j => unpack_apply V8 j c ⟨c.val % 64, Nat.mod_lt _ (by decide)⟩ rfl
  unfold k0_pay43 at hu
  unfold k0_pay110
  dsimp only
  generalize hB : (sitofp (F := Ideal) .bf16 _ : FVec Ideal S384x128 .bf16) = B at hu ⊢
  generalize hV : (truncf (F := Ideal) .bf16 _ _ : FVec Ideal S4x128 .bf16) = V
  have hVe : ∀ (g : Fin 4) (c : Fin 128), V (ix2 g c) = if g = (⟨c.val % 64 / 16, by omega⟩ : Fin 4) then 1 else 0 := by
    intro g c
    rw [← hV]
    unfold k0_pay109 k0_pay108
    pointwise []
    refine (congrArg (fun w : BitVec 32 => ((w.toInt : ℝ) : EReal)) (?_ : _ = if g.val = c.val % 64 / 16 then 1#32 else 0#32)).trans ?_
    · clear hV hu
      revert g c
      decide +kernel
    · by_cases hg : g.val = c.val % 64 / 16
      · rw [if_pos hg, if_pos (Fin.ext hg)]
        simp
      · rw [if_neg hg, if_neg (fun e => hg (congrArg Fin.val e))]
        simp
  clear hV
  pointwise []
  have hs : ∀ (X : Vec Ideal S1x1x384x4 .bf16) (j : Fin 384), (∑ g : Fin 4, X (ix4 0 0 j g) * V (ix2 g c)) = X (ix4 0 0 j ⟨c.val % 64 / 16, by omega⟩) := by
    intro X j
    rw [Finset.sum_eq_single (⟨c.val % 64 / 16, by omega⟩ : Fin 4)]
    · rw [hVe, if_pos rfl, mul_one]
    · intro g _ hg
      rw [hVe, if_neg hg, mul_zero]
    · intro hg
      exact absurd (Finset.mem_univ _) hg
  refine congrArg (A (ix2 h c) + ·) (Finset.sum_congr rfl fun j _ => ?_)
  rw [hs, hs, hu]

section
variable (c : Dev nD) (i : grid0.Coords)
  (arg2 : Memref sig .tc .vmem S1x8x128 .bf16) (harg2 : arg2.IsWhole)
  (arg3 : Memref sig .tc .vmem S32x128 .bf16) (harg3 : arg3.IsWhole)
  (arg4 : Memref sig .tc .vmem S32x128 .bf16) (harg4 : arg4.IsWhole)
  (arg5 : Memref sig .tc .vmem S1x1x6528x64 .i8) (harg5 : arg5.IsWhole)
  (arg6 : Memref sig .tc .vmem S1x1x1020x128 .bf16) (harg6 : arg6.IsWhole)
  (arg7 : Memref sig .tc .vmem S1x1x1020x128 .bf16) (harg7 : arg7.IsWhole)
  (arg8 : Memref sig .tc .vmem S1x1x6528x64 .i8) (harg8 : arg8.IsWhole)
  (arg9 : Memref sig .tc .vmem S1x1x6528x4 .bf16) (harg9 : arg9.IsWhole)
  (arg10 : Memref sig .tc .vmem S1x1x6528x4 .bf16) (harg10 : arg10.IsWhole)
  (arg11 : Memref sig .tc .vmem S1x1x128x128 .bf16) (harg11 : arg11.IsWhole)
  (arg12 : Memref sig .tc .vmem S1x1x128x128 .bf16) (harg12 : arg12.IsWhole)
  (arg13 : Memref sig .tc .vmem S1x8x128 .bf16) (harg13 : arg13.IsWhole)
  (arg14 : Memref sig .tc .vmem S32x64 .i8) (harg14 : arg14.IsWhole)
  (arg15 : Memref sig .tc .vmem S32x4 .bf16) (harg15 : arg15.IsWhole)
  (arg16 : Memref sig .tc .vmem S32x4 .bf16) (harg16 : arg16.IsWhole)
  (arg17 : Memref sig .tc .vmem S32x64 .i8) (harg17 : arg17.IsWhole)
  (arg18 : Memref sig .tc .vmem S32x4 .bf16) (harg18 : arg18.IsWhole)
  (arg19 : Memref sig .tc .vmem S32x4 .bf16) (harg19 : arg19.IsWhole)
  (arg20 : Memref sig .tc .vmem S1024x128 .f32) (harg20 : arg20.IsWhole)
  (arg21 : Memref sig .tc .vmem S1024x128 .f32) (harg21 : arg21.IsWhole)
  (arg22 : Memref sig .tc .vmem S8x6528 .f32) (harg22 : arg22.IsWhole)
  (arg23 : Memref sig .tc .vmem S8x128 .f32) (harg23 : arg23.IsWhole)
  (arg24 : Memref sig .tc .vmem S8x128 .f32) (harg24 : arg24.IsWhole)
  (arg25 : Memref sig .tc .vmem S8x128 .f32) (harg25 : arg25.IsWhole)
  (arg26 : Memref sig .tc .vmem S32x128 .f32) (harg26 : arg26.IsWhole)
  (arg27 : Memref sig .tc .vmem S32x128 .f32) (harg27 : arg27.IsWhole)
/-- A buffer whose last store is of the whole of it reads as what was stored. -/
theorem read_whole_write {S : Shape} {e : EltTy} {sp : Space} {off : Fin S.rank → ℕ} (v : View sig .tc sp S e) (f : BufTy.Contents (Elt Ideal) v.ty)
    (inb : ∀ a, off a + S.size a ≤ S.size a) (w : S.Idx → Elt Ideal e) (L : List (View.Piece (Elt Ideal) S e)) :
    v.read (Elt Ideal) (v.writes (Elt Ideal) f ((⟨Rect.unit (s := S) off S.size inb, w⟩ : View.Piece (Elt Ideal) S e) :: L)) = w := by
  have h0 : ∀ a, off a = 0 := fun a => by have := inb a; omega
  rw [View.read_writes_eq_canon v f _ (fun y => ⟨_, List.mem_cons_self, ?_⟩), View.canon_cons_unit_lit' inb w L h0]
  rw [Rect.mem_set_unit]
  intro a
  have := h0 a
  have := (y a).isLt
  omega

/-- A load of a whole buffer reads it. -/
theorem readAt_whole {S : Shape} {e : EltTy} {sp : Space} {off : Fin S.rank → ℕ} (v : View sig .tc sp S e) (f : BufTy.Contents (Elt Ideal) v.ty)
    (inb : ∀ a, off a + S.size a ≤ S.size a) :
    View.readAt (Elt Ideal) v (Rect.unit (s := S) off S.size inb).toLoadRect f = v.read (Elt Ideal) f := by
  rw [View.readAt_eq_ld, View.ld_unit_lit' inb _ (fun a => by have := inb a; omega)]

/-- The values' loop makes at most 17 trips. -/
theorem trips2_le : k0_t2_loop.trips ≤ 17 := k0_t2_abs.2.1

/-- One trip of the values' loop stores the running weighted sum with its chunk's values added. -/
theorem trip2_piece (v62 : IVec S4x128 32) (v65 : BitVec 32) (v67 : IVec S4x128 32) (v69 : IVec S4x128 1) (w : BitVec 32) (X8 : BufTy.Contents (Elt Ideal) arg8.view.ty) (X9 : BufTy.Contents (Elt Ideal) arg9.view.ty) (X10 : BufTy.Contents (Elt Ideal) arg10.view.ty) (X22 : BufTy.Contents (Elt Ideal) arg22.view.ty)
    (k : Fin k0_t2_loop.trips) (G : BufTy.Contents (Elt Ideal) arg25.view.ty) :
    tripL_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v62 v65 v67 v69 w X8 X9 X10 X22 k G
      = [⟨Rect.unit (s := S8x128) ![0, 0] S8x128.size inb_S8x128_S8x128_0_0, k0_pay110 (F := Ideal) v62 v65 v67 v69 w
          (View.readAt (Elt Ideal) arg8.view (Rect.unit (s := S1x1x6528x64) (k0_off4 k) S1x1x384x64.size (k0_off4_inb k)).toLoadRect X8)
          (View.readAt (Elt Ideal) arg9.view (Rect.unit (s := S1x1x6528x4) (k0_off5 k) S1x1x384x4.size (k0_off5_inb k)).toLoadRect X9)
          (View.readAt (Elt Ideal) arg10.view (Rect.unit (s := S1x1x6528x4) (k0_off5 k) S1x1x384x4.size (k0_off5_inb k)).toLoadRect X10)
          (View.readAt (Elt Ideal) arg22.view (Rect.unit (s := S8x6528) (k0_off6 k) S8x384.size (k0_off6_inb k)).toLoadRect X22)
          (View.readAt (Elt Ideal) arg25.view (Rect.unit (s := S8x128) ![0, 0] S8x128.size inb_S8x128_S8x128_0_0).toLoadRect G)⟩] := by
  unfold tripL_k0_t2 trip_k0_t2
  frame_open
  rfl

/-- The value of column `c` of token `j` of a block, from what the buffers hold. -/
def blkValue (Y8 : Vec Ideal S1x1x6528x64 .i8) (Y9 Y10 : Vec Ideal S1x1x6528x4 .bf16) (j : Fin 6528) (c : Fin 128) : EReal :=
  code (Y8 (ix4 0 0 j ⟨c.val % 64, Nat.mod_lt _ (by decide)⟩)) (decide (64 ≤ c.val))
    * Y9 (ix4 0 0 j ⟨c.val % 64 / 16, by omega⟩) + Y10 (ix4 0 0 j ⟨c.val % 64 / 16, by omega⟩)

/-- The term token `j` adds to the weighted sum. -/
def blkTerm (Y8 : Vec Ideal S1x1x6528x64 .i8) (Y9 Y10 : Vec Ideal S1x1x6528x4 .bf16) (P : Vec Ideal S8x6528 .f32) (h : Fin 8) (c : Fin 128) (j : ℕ) : EReal :=
  if hj : j < 6528 then P (ix2 h ⟨j, hj⟩) * blkValue Y8 Y9 Y10 ⟨j, hj⟩ c else 0

/-- A load of some tokens' rows reads the buffer at those rows. -/
theorem row4 {n m : ℕ} {e : EltTy} {sp : Space} (v : View sig .tc sp ⟨4, ![1, 1, n, m]⟩ e) (f : BufTy.Contents (Elt Ideal) v.ty) {k r : ℕ} {off : Fin 4 → ℕ}
    (inb : ∀ a, off a + (⟨4, ![1, 1, r, m]⟩ : Shape).size a ≤ (⟨4, ![1, 1, n, m]⟩ : Shape).size a) (e1 : off = ![0, 0, k, 0])
    (j : Fin r) (b : Fin m) (hj : k + j.val < n) :
    View.readAt (Elt Ideal) v (Rect.unit (s := ⟨4, ![1, 1, n, m]⟩) off (⟨4, ![1, 1, r, m]⟩ : Shape).size inb).toLoadRect f (ix4 0 0 j b)
      = v.read (Elt Ideal) f (ix4 0 0 ⟨k + j.val, hj⟩ b) := by
  rw [View.readAt_eq_ld]
  refine congrArg (v.read (Elt Ideal) f) (funext fun a => Fin.ext ?_)
  match a with
  | ⟨0, _⟩ => rw [Rect.idx_unit_val, show off ⟨0, _⟩ = 0 from congrFun e1 0]; rfl
  | ⟨1, _⟩ => rw [Rect.idx_unit_val, show off ⟨1, _⟩ = 0 from congrFun e1 1]; rfl
  | ⟨2, _⟩ => rw [Rect.idx_unit_val, show off ⟨2, _⟩ = k from congrFun e1 2]; rfl
  | ⟨3, _⟩ => rw [Rect.idx_unit_val, show off ⟨3, _⟩ = 0 from congrFun e1 3]; show 0 + b.val = b.val; omega

/-- A load of some tokens' columns reads the buffer at those columns. -/
theorem col2 {n m : ℕ} {e : EltTy} {sp : Space} (v : View sig .tc sp ⟨2, ![m, n]⟩ e) (f : BufTy.Contents (Elt Ideal) v.ty) {k r : ℕ} {off : Fin 2 → ℕ}
    (inb : ∀ a, off a + (⟨2, ![m, r]⟩ : Shape).size a ≤ (⟨2, ![m, n]⟩ : Shape).size a) (e1 : off = ![0, k])
    (b : Fin m) (j : Fin r) (hj : k + j.val < n) :
    View.readAt (Elt Ideal) v (Rect.unit (s := ⟨2, ![m, n]⟩) off (⟨2, ![m, r]⟩ : Shape).size inb).toLoadRect f (ix2 b j)
      = v.read (Elt Ideal) f (ix2 b ⟨k + j.val, hj⟩) := by
  rw [View.readAt_eq_ld]
  refine congrArg (v.read (Elt Ideal) f) (funext fun a => Fin.ext ?_)
  match a with
  | ⟨0, _⟩ => rw [Rect.idx_unit_val, show off ⟨0, _⟩ = 0 from congrFun e1 0]; show 0 + b.val = b.val; omega
  | ⟨1, _⟩ => rw [Rect.idx_unit_val, show off ⟨1, _⟩ = k from congrFun e1 1]; rfl

/-- After `n + 1` trips the running weighted sum is the one at entry and the terms of the tokens before `384 * (n + 1)`. -/
theorem pb2_val (X8 : BufTy.Contents (Elt Ideal) arg8.view.ty) (X9 : BufTy.Contents (Elt Ideal) arg9.view.ty) (X10 : BufTy.Contents (Elt Ideal) arg10.view.ty) (X22 : BufTy.Contents (Elt Ideal) arg22.view.ty) (G : BufTy.Contents (Elt Ideal) arg25.view.ty) (L' : List (View.Piece (Elt Ideal) S8x128 .f32))
    (n : ℕ) (hn : n + 1 ≤ k0_t2_loop.trips) (h : Fin 8) (d : Fin 128) :
    View.canon ((pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (iota .tc S4x128 32 [0] iota_S4x128_d0_w32) 64#32 k0_pay108 k0_pay109 0#32 X8 X9 X10 X22 G (n + 1)) ++ L') (ix2 h d)
      = arg25.view.read (Elt Ideal) G (ix2 h d) + ∑ j ∈ Finset.range (384 * (n + 1)), blkTerm (arg8.view.read (Elt Ideal) X8)
          (arg9.view.read (Elt Ideal) X9) (arg10.view.read (Elt Ideal) X10) (arg22.view.read (Elt Ideal) X22) h d j := by
  have hk := trips2_le
  induction n using Nat.strong_induction_on generalizing L' with
  | _ n IH =>
  have ih : ∀ m, n = m + 1 → ∀ L' (_ : m + 1 ≤ k0_t2_loop.trips), _ := fun m hm L' h => IH m (by omega) L' h
  rw [pb_k0_t2_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (iota .tc S4x128 32 [0] iota_S4x128_d0_w32) 64#32 k0_pay108 k0_pay109 0#32 X8 X9 X10 X22 G ⟨n, by omega⟩,
    trip2_piece c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (iota .tc S4x128 32 [0] iota_S4x128_d0_w32) 64#32 k0_pay108 k0_pay109 0#32 X8 X9 X10 X22 ⟨n, by omega⟩,
    List.singleton_append, List.cons_append, View.canon_cons_unit_lit' inb_S8x128_S8x128_0_0 _ _ (by decide), valpay, readAt_whole]
  have hA : arg25.view.read (Elt Ideal) (arg25.view.writes (Elt Ideal) G ((pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (iota .tc S4x128 32 [0] iota_S4x128_d0_w32) 64#32 k0_pay108 k0_pay109 0#32 X8 X9 X10 X22 G n))) (ix2 h d)
      = arg25.view.read (Elt Ideal) G (ix2 h d) + ∑ j ∈ Finset.range (384 * n), blkTerm (arg8.view.read (Elt Ideal) X8)
          (arg9.view.read (Elt Ideal) X9) (arg10.view.read (Elt Ideal) X10) (arg22.view.read (Elt Ideal) X22) h d j := by
    rcases n with _ | n
    · rw [Nat.mul_zero, Finset.range_zero, Finset.sum_empty, add_zero]; rfl
    · rw [← ih n rfl [] (by omega), List.append_nil]
      refine View.read_writes_apply_eq_canon _ _ _ _ ?_
      rw [pb_k0_t2_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (iota .tc S4x128 32 [0] iota_S4x128_d0_w32) 64#32 k0_pay108 k0_pay109 0#32 X8 X9 X10 X22 G ⟨n, by omega⟩,
        trip2_piece c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (iota .tc S4x128 32 [0] iota_S4x128_d0_w32) 64#32 k0_pay108 k0_pay109 0#32 X8 X9 X10 X22 ⟨n, by omega⟩,
        List.singleton_append]
      refine ⟨_, List.mem_cons_self, ?_⟩
      rw [Rect.mem_set_unit]
      intro a
      match a with
      | ⟨0, _⟩ => show 0 ≤ h.val ∧ h.val < 0 + 8; omega
      | ⟨1, _⟩ => show 0 ≤ d.val ∧ d.val < 0 + 128; omega
  rw [hA, Nat.mul_add, Nat.mul_one, Finset.sum_range_add, ← add_assoc]
  refine congrArg (arg25.view.read (Elt Ideal) G (ix2 h d) + _ + ·) ?_
  rw [Finset.sum_range]
  refine Finset.sum_congr rfl fun j _ => ?_
  have hj : 384 * n + j.val < 6528 := by omega
  unfold blkTerm blkValue
  rw [dif_pos hj]
  refine congrArg₂ (· * ·) ?_ (congrArg₂ (· + ·) (congrArg₂ (· * ·) (congrArg (code · _) ?_) ?_) ?_)
  · exact col2 arg22.view X22 _ (k0_off6_eq ⟨n, by omega⟩) h j hj
  · exact row4 arg8.view X8 _ (k0_off4_eq ⟨n, by omega⟩) j _ hj
  · exact row4 arg9.view X9 _ (k0_off5_eq ⟨n, by omega⟩) j _ hj
  · exact row4 arg10.view X10 _ (k0_off5_eq ⟨n, by omega⟩) j _ hj
end

end Cert.KernelIdeal.Body

end
-- ==== Proof.Step.lean ====
/-
  One block of the online softmax, and the last step over the tail and the new token, element by element.
-/
module

public import proofs.«01_k».proof.Proof.Vals

@[expose] public section

set_option maxRecDepth 16384

noncomputable section

namespace Cert.KernelIdeal.Body

open Cert.KernelIdeal Cert.KernelIdeal.Gen Cert.Online
open Idealize.ShloMosaic Idealize.ShloMosaic.TcCoe Idealize.ShloMosaic.Tactic
open Idealize.SL Idealize.SL.RA Idealize.SL.BI Idealize.SL.Sem

/-! ## The split order of the channels, as the matrix makes it -/

/-- The matrix that picks the split order: row `r` and column `c` hold one where column `c` is of channel `r`. -/
theorem pick_apply (r c : Fin 128) : k0_pay91 (F := Ideal) (ix2 r c) = if r = src c then 1 else 0 := by
  unfold k0_pay91
  pointwise []
  refine (congrArg (fun w : BitVec 32 => ((w.toInt : ℝ) : EReal)) (?_ : _ = if r.val = (if c.val < 64 then 2 * c.val else 2 * (c.val - 64) + 1) then 1#32 else 0#32)).trans ?_
  · revert r c
    decide +kernel
  · have e : (src c).val = if c.val < 64 then 2 * c.val else 2 * (c.val - 64) + 1 := by
      unfold src; split <;> rfl
    by_cases hg : r = src c
    · rw [if_pos hg, if_pos (by rw [← e, hg])]
      simp
    · rw [if_neg hg, if_neg (fun h => hg (Fin.ext (by rw [e, h])))]
      simp

/-- The split query. -/
theorem qsplit_apply (q : Vec Ideal S1x8x128 .bf16) (h : Fin 8) (c : Fin 128) :
    k0_pay93 (F := Ideal) q (ix2 h c) = q (ix3 0 h (src c)) := by
  have hp := pick_apply
  unfold k0_pay93 k0_pay92
  generalize k0_pay91 (F := Ideal) = V at hp
  pointwise []
  exact sum_pick (fun r => q (ix3 0 h r)) c (fun r => V (ix2 r c)) (fun r => hp r c)

/-- The split scales. -/
theorem ssplit_apply (x : Vec Ideal S1x1x1020x128 .bf16) (r : Fin 1020) (c : Fin 128) :
    k0_pay95 (F := Ideal) x (ix2 r c) = x (ix4 0 0 r (src c)) := by
  have hp := pick_apply
  unfold k0_pay95
  generalize k0_pay91 (F := Ideal) = V at hp
  pointwise []
  exact sum_pick (fun d => x (ix4 0 0 r d)) c (fun d => V (ix2 d c)) (fun d => hp d c)

/-- The split zeros. -/
theorem zsplit_apply (x : Vec Ideal S1x1x1020x128 .bf16) (r : Fin 1020) (c : Fin 128) :
    k0_pay96 (F := Ideal) x (ix2 r c) = x (ix4 0 0 r (src c)) := ssplit_apply x r c

/-! ## One block of the online softmax -/

/-- The word that starts the running maximum is minus infinity. -/
theorem negInf_eq : (Scalar.ofBits (F := Ideal) .f32 0xFF800000#32 : EReal) = ⊥ := by
  show Ideal.ofBits .f32 0xFF800000#32 = ⊥
  simp [Ideal.ofBits, Ideal.ieee]

/-- The new maximum is the greater of the old one and the block's. -/
theorem newmax_apply (x : Vec Ideal S8x6528 .f32) (m : Vec Ideal S8x128 .f32) (h : Fin 8) (c : Fin 128) :
    k0_pay101 (F := Ideal) x m (ix2 h c) = max (m (ix2 h c)) (Finset.univ.sup fun j : Fin 6528 => x (ix2 h j)) := by
  unfold k0_pay101
  pointwise []
  rfl

section
variable {s : ℕ → EReal} {n : ℕ} {x : Vec Ideal S8x6528 .f32} {m : Vec Ideal S8x128 .f32} {h : Fin 8}
  (hx : ∀ j : Fin 6528, x (ix2 h j) = s (n + j.val)) (hm : ∀ c, m (ix2 h c) = M s n)
include hx hm

/-- After a block, the running maximum over its tokens too. -/
theorem step_max (c : Fin 128) : k0_pay101 (F := Ideal) x m (ix2 h c) = M s (n + 6528) := by
  rw [newmax_apply, hm, M_add]
  simp only [hx]

/-- The maximum that is stored is the running maximum. -/
theorem step_max' (c : Fin 128) : k0_pay104 (F := Ideal) x m (ix2 h c) = M s (n + 6528) := by
  have e := step_max hx hm c
  unfold k0_pay104
  generalize k0_pay101 (F := Ideal) x m = y at e
  pointwise []
  exact e

/-- The factor that carries the old sums to the new maximum. -/
theorem step_alpha (c : Fin 128) : k0_pay102 (F := Ideal) x m (ix2 h c) = Ideal.exp (M s n - M s (n + 6528)) := by
  have e := step_max hx hm c
  unfold k0_pay102
  generalize k0_pay101 (F := Ideal) x m = y at e
  pointwise []
  rw [e, hm]

/-- The weights of a block's tokens, against the new maximum. -/
theorem step_p (j : Fin 6528) : k0_pay103 (F := Ideal) x m (ix2 h j) = Ideal.exp (s (n + j.val) - M s (n + 6528)) := by
  have e := step_max hx hm 0
  unfold k0_pay103
  generalize k0_pay101 (F := Ideal) x m = y at e
  pointwise []
  rw [hx]
  exact congrArg (fun z => Ideal.exp (s (n + j.val) - z)) e

/-- The weights that are stored are the block's weights. -/
theorem step_p' (j : Fin 6528) : k0_pay107 (F := Ideal) x m (ix2 h j) = Ideal.exp (s (n + j.val) - M s (n + 6528)) := by
  have e := step_p hx hm j
  unfold k0_pay107
  generalize k0_pay103 (F := Ideal) x m = y at e
  pointwise []
  exact e

/-- After a block, the running sum over its tokens too. -/
theorem step_sum {l : Vec Ideal S8x128 .f32} (hl : ∀ c, l (ix2 h c) = W s (fun _ => 1) n) (c : Fin 128) :
    k0_pay105 (F := Ideal) x m l (ix2 h c) = W s (fun _ => 1) (n + 6528) := by
  have e := step_p hx hm
  have ea := step_alpha hx hm c
  unfold k0_pay105
  generalize k0_pay103 (F := Ideal) x m = y at e
  generalize k0_pay102 (F := Ideal) x m = z at ea
  pointwise []
  rw [W_add, ea, hl]
  simp only [mul_one]
  exact congrArg (_ + ·) (Finset.sum_congr rfl fun j _ => e j)

/-- The running weighted sum, carried to the new maximum. -/
theorem step_acc (a : Vec Ideal S8x128 .f32) (c : Fin 128) :
    k0_pay106 (F := Ideal) x m a (ix2 h c) = Ideal.exp (M s n - M s (n + 6528)) * a (ix2 h c) := by
  have ea := step_alpha hx hm c
  unfold k0_pay106
  generalize k0_pay102 (F := Ideal) x m = z at ea
  pointwise []
  rw [ea]
end

/-! ## The tail and the new token -/

/-- A hundred and twenty-eight rows of the tail and sixteen copies of the new token's. -/
theorem tail_apply (v : Vec Ideal S1x128 .f32) (t : Vec Ideal S1x1x128x128 .bf16) (r : Fin 144) (c : Fin 128) :
    k0_pay85 (F := Ideal) v t (ix2 r c) = if hr : r.val < 128 then t (ix4 0 0 ⟨r.val, hr⟩ c) else v (ix2 0 c) := by
  unfold k0_pay85
  pointwise []

/-- The score of row `h` against row `r` of the tail and the new token. -/
theorem tailscore_apply (q : Vec Ideal S1x8x128 .bf16) (v : Vec Ideal S1x128 .f32) (t : Vec Ideal S1x1x128x128 .bf16) (h : Fin 8) (r : Fin 144) :
    k0_pay86 (F := Ideal) (k0_pay92 (F := Ideal) q) v t (ix2 h r)
      = if r.val ≤ 128 then (∑ d : Fin 128, q (ix3 0 h d) * (if hr : r.val < 128 then t (ix4 0 0 ⟨r.val, hr⟩ d) else v (ix2 0 d))) * SM else ⊥ := by
  unfold k0_pay86 k0_pay92
  pointwise []
  have hb : IntOp.cmpi CmpIPredicate.sle (BitVec.ofNat 32 r.val) 128#32 = if r.val ≤ 128 then 1#1 else 0#1 := by
    revert r
    decide +kernel
  rw [hb]
  by_cases hr : r.val ≤ 128
  · rw [if_pos hr, if_pos hr]
    rfl
  · rw [if_neg hr, if_neg hr]
    exact negInf_eq

section
variable {s : ℕ → EReal} {n : ℕ} {q : FVec Ideal S8x128 .bf16} {v : Vec Ideal S1x128 .f32} {t : Vec Ideal S1x1x128x128 .bf16} {m : Vec Ideal S8x128 .f32} {h : Fin 8}
  (hx : ∀ j : Fin 144, k0_pay86 (F := Ideal) q v t (ix2 h j) = s (n + j.val)) (hm : ∀ c, m (ix2 h c) = M s n)
include hx hm

/-- After the tail, the maximum over all the tokens. -/
theorem last_max (c : Fin 128) : k0_pay87 (F := Ideal) q v t m (ix2 h c) = M s (n + 144) := by
  unfold k0_pay87
  generalize k0_pay86 (F := Ideal) q v t = y at hx
  pointwise []
  rw [M_add, ← hm c]
  simp only [← hx]
  rfl

/-- The factor that carries the sums to the last maximum. -/
theorem last_alpha (c : Fin 128) : k0_pay88 (F := Ideal) q v t m (ix2 h c) = Ideal.exp (M s n - M s (n + 144)) := by
  have e := last_max hx hm c
  unfold k0_pay88
  generalize k0_pay87 (F := Ideal) q v t m = y at e
  pointwise []
  rw [e, hm]

/-- The weights of the tail's tokens, against the last maximum. -/
theorem last_p (j : Fin 144) : k0_pay89 (F := Ideal) q v t m (ix2 h j) = Ideal.exp (s (n + j.val) - M s (n + 144)) := by
  have e := last_max hx hm 0
  unfold k0_pay89
  generalize k0_pay87 (F := Ideal) q v t m = y at e
  generalize k0_pay86 (F := Ideal) q v t = z at hx
  pointwise []
  rw [hx]
  exact congrArg (fun z => Ideal.exp (s (n + j.val) - z)) e

/-- After the tail, the sum over all the tokens. -/
theorem last_sum {l : Vec Ideal S8x128 .f32} (hl : ∀ c, l (ix2 h c) = W s (fun _ => 1) n) (c : Fin 128) :
    k0_pay111 (F := Ideal) (k0_pay88 (F := Ideal) q v t m) (k0_pay89 (F := Ideal) q v t m) l (ix2 h c) = W s (fun _ => 1) (n + 144) := by
  have e := last_p hx hm
  have ea := last_alpha hx hm c
  unfold k0_pay111
  generalize k0_pay89 (F := Ideal) q v t m = y at e
  generalize k0_pay88 (F := Ideal) q v t m = z at ea
  pointwise []
  rw [W_add, ea, hl]
  simp only [mul_one]
  exact congrArg (_ + ·) (Finset.sum_congr rfl fun j _ => e j)

/-- The running weighted sum, carried to the last maximum. -/
theorem last_acc (a : Vec Ideal S8x128 .f32) (c : Fin 128) :
    k0_pay112 (F := Ideal) (k0_pay88 (F := Ideal) q v t m) a (ix2 h c) = Ideal.exp (M s n - M s (n + 144)) * a (ix2 h c) := by
  have ea := last_alpha hx hm c
  unfold k0_pay112
  generalize k0_pay88 (F := Ideal) q v t m = z at ea
  pointwise []
  rw [ea]

/-- The result's row: the whole weighted sum over the whole denominator, with the channels back in their order. -/
theorem out_apply {f : Fin 128 → ℕ → EReal} {w : FVec Ideal S144x128 .bf16} {a l : Vec Ideal S8x128 .f32}
    (ha : ∀ c, a (ix2 h c) = Ideal.exp (M s n - M s (n + 144)) * W s (f (src c)) n)
    (hw : ∀ (j : Fin 144) d, w (ix2 j d) = f d (n + j.val))
    (hl : ∀ c, l (ix2 h c) = W s (fun _ => 1) (n + 144)) (d : Fin 128) :
    k0_pay113 (F := Ideal) (k0_pay91 (F := Ideal)) w (k0_pay89 (F := Ideal) q v t m) a l (ix3 0 h d)
      = Ideal.div (W s (f d) (n + 144)) (W s (fun _ => 1) (n + 144)) := by
  have e := last_p hx hm
  have hp := pick_apply
  unfold k0_pay113
  generalize k0_pay89 (F := Ideal) q v t m = y at e
  generalize k0_pay91 (F := Ideal) = V at hp
  pointwise []
  have hsp : ∀ (j : Fin 144) (c : Fin 128), (∑ r, w (ix2 j r) * V (ix2 r c)) = f (src c) (n + j.val) := fun j c =>
    (sum_pick (fun r => w (ix2 j r)) c (fun r => V (ix2 r c)) (fun r => hp r c)).trans (hw j (src c))
  have hc : ∀ c, Ideal.div (a (ix2 h c) + ∑ j, y (ix2 h j) * ∑ r, w (ix2 j r) * V (ix2 r c)) (l (ix2 h c))
      = Ideal.div (W s (f (src c)) (n + 144)) (W s (fun _ => 1) (n + 144)) := by
    intro c
    rw [ha, hl, W_add s (f (src c))]
    refine congrArg₂ Ideal.div (congrArg₂ (· + ·) rfl (Finset.sum_congr rfl fun j _ => ?_)) rfl
    rw [hsp, e]
  refine (Finset.sum_congr rfl fun c _ => congrArg (· * V (ix2 d c)) (hc c)).trans ?_
  refine (sum_unpick (fun c => Ideal.div (W s (f (src c)) (n + 144)) (W s (fun _ => 1) (n + 144))) d (fun c => V (ix2 d c)) (fun c => hp d c)).trans ?_
  rw [src_col]
end

end Cert.KernelIdeal.Body

end
-- ==== Proof.CaseKit.lean ====
/-
  What loads and stores of whole buffers read back, and the two loops of a block over what is known before it.
-/
module

public import proofs.«01_k».proof.Proof.Step

@[expose] public section

set_option maxRecDepth 16384

noncomputable section

namespace Cert.KernelIdeal.Body

open Cert.KernelIdeal Cert.KernelIdeal.Gen Cert.Online
open Idealize.ShloMosaic Idealize.ShloMosaic.TcCoe Idealize.ShloMosaic.Tactic
open Idealize.SL Idealize.SL.RA Idealize.SL.BI Idealize.SL.Sem

/-! ## Loads and stores of a whole buffer -/

/-- A load of a whole buffer reads what the stores so far left in it. -/
theorem readCov_at {S : Shape} {e : EltTy} {sp : Space} {off : Fin S.rank → ℕ} (v : View sig .tc sp S e) (L : List (View.Piece (Elt Ideal) S e))
    (inb : ∀ a, off a + S.size a ≤ S.size a) (y : S.Idx) :
    v.readCov L (Rect.unit (s := S) off S.size inb).toLoadRect y = View.canon L y := by
  have h0 : ∀ a, off a = 0 := fun a => by have := inb a; omega
  rw [View.readCov_eq_canon']
  refine congrArg (View.canon L) (funext fun a => Fin.ext ?_)
  show ((Rect.unit (s := S) off S.size inb).idx y a : ℕ) = _
  rw [Rect.idx_unit_val, h0 a, Nat.zero_add]

/-- A load of a whole buffer after a store of the whole of it reads what was stored. -/
theorem readCov_full {S : Shape} {e : EltTy} {sp : Space} {off off' : Fin S.rank → ℕ} (v : View sig .tc sp S e)
    (inb : ∀ a, off a + S.size a ≤ S.size a) (inb' : ∀ a, off' a + S.size a ≤ S.size a) (w : S.Idx → Elt Ideal e) (L : List (View.Piece (Elt Ideal) S e)) :
    v.readCov ((⟨Rect.unit (s := S) off S.size inb, w⟩ : View.Piece (Elt Ideal) S e) :: L) (Rect.unit (s := S) off' S.size inb').toLoadRect = w :=
  View.readCov_cons_unit_lit' v inb inb' w L (fun a => by have := inb a; omega) (fun a => by have := inb' a; omega)

/-- The row of a new token that a head loads. -/
theorem off7_eq (i : grid0.Coords) : k0_off7 i = ![(i 0).val, 0] := by
  have h : (i 0).val < 32 := (i 0).isLt
  have e : (BitVec.ofNat 32 (i 0).val).toNat = (i 0).val := by
    rw [BitVec.toNat_ofNat]; omega
  unfold k0_off7
  funext a
  match a with
  | ⟨0, _⟩ => exact e
  | ⟨1, _⟩ => rfl

/-- The load of one head's row of the new tokens reads that row. -/
theorem row_read {sp : Space} (v : View sig .tc sp S32x128 .f32) (f : BufTy.Contents (Elt Ideal) v.ty) (i : grid0.Coords)
    (inb : ∀ a, k0_off7 i a + S1x128.size a ≤ S32x128.size a) (d : Fin 128) :
    View.readAt (Elt Ideal) v (Rect.unit (s := S32x128) (k0_off7 i) S1x128.size inb).toLoadRect f (ix2 0 d)
      = v.read (Elt Ideal) f (ix2 ⟨(i 0).val, (i 0).isLt⟩ d) := by
  rw [View.readAt_eq_ld]
  refine congrArg (v.read (Elt Ideal) f) (funext fun a => Fin.ext ?_)
  match a with
  | ⟨0, _⟩ => rw [Rect.idx_unit_val, show k0_off7 i ⟨0, _⟩ = (i 0).val from congrFun (off7_eq i) 0]; rfl
  | ⟨1, _⟩ => rw [Rect.idx_unit_val, show k0_off7 i ⟨1, _⟩ = 0 from congrFun (off7_eq i) 1]; show 0 + d.val = d.val; omega

/-- The first 1020 rows of a split buffer after the store of a head's scales or zeros. -/
theorem split_read {sp : Space} (v : View sig .tc sp S1024x128 .f32) (f : BufTy.Contents (Elt Ideal) v.ty) (w : S1020x128.Idx → Elt Ideal .f32)
    (inb : ∀ a, (![0, 0] : Fin 2 → ℕ) a + S1020x128.size a ≤ S1024x128.size a) (r : Fin 1020) (e : Fin 128) :
    v.read (Elt Ideal) (v.writes (Elt Ideal) f [(⟨Rect.unit (s := S1024x128) ![0, 0] S1020x128.size inb, w⟩ : View.Piece (Elt Ideal) S1024x128 .f32)])
      (ix2 ⟨r.val, by omega⟩ e) = w (ix2 r e) := by
  have he : (ix2 (⟨r.val, by omega⟩ : Fin 1024) e : S1024x128.Idx) = (Rect.unit (s := S1024x128) ![0, 0] S1020x128.size inb).emb (ix2 r e) := by
    refine funext fun a => Fin.ext ?_
    show _ = ((Rect.unit (s := S1024x128) ![0, 0] S1020x128.size inb).idx (ix2 r e) a : ℕ)
    rw [Rect.idx_unit_val]
    match a with
    | ⟨0, _⟩ => show r.val = 0 + r.val; omega
    | ⟨1, _⟩ => show e.val = 0 + e.val; omega
  rw [he, View.read_writes_cons_emb]

/-- A scratch of `-∞`. -/
theorem start_max (y : S8x128.Idx) : k0_pay97 (F := Ideal) y = ⊥ := negInf_eq

/-- A scratch of zeros. -/
theorem zero_bits : (Scalar.ofBits (F := Ideal) .f32 0x00000000#32 : EReal) = 0 := by
  show Ideal.ofBits .f32 0x00000000#32 = 0
  simp [Ideal.ofBits, Ideal.ieee]

/-- A head's running sum starts at zero. -/
theorem start_sum (y : S8x128.Idx) : k0_pay98 (F := Ideal) y = 0 := zero_bits
/-- A head's running weighted sum starts at zero. -/
theorem start_acc (y : S8x128.Idx) : k0_pay99 (F := Ideal) y = 0 := zero_bits

variable (c : Dev nD) (i : grid0.Coords)
  (arg2 : Memref sig .tc .vmem S1x8x128 .bf16) (harg2 : arg2.IsWhole)
  (arg3 : Memref sig .tc .vmem S32x128 .bf16) (harg3 : arg3.IsWhole)
  (arg4 : Memref sig .tc .vmem S32x128 .bf16) (harg4 : arg4.IsWhole)
  (arg5 : Memref sig .tc .vmem S1x1x6528x64 .i8) (harg5 : arg5.IsWhole)
  (arg6 : Memref sig .tc .vmem S1x1x1020x128 .bf16) (harg6 : arg6.IsWhole)
  (arg7 : Memref sig .tc .vmem S1x1x1020x128 .bf16) (harg7 : arg7.IsWhole)
  (arg8 : Memref sig .tc .vmem S1x1x6528x64 .i8) (harg8 : arg8.IsWhole)
  (arg9 : Memref sig .tc .vmem S1x1x6528x4 .bf16) (harg9 : arg9.IsWhole)
  (arg10 : Memref sig .tc .vmem S1x1x6528x4 .bf16) (harg10 : arg10.IsWhole)
  (arg11 : Memref sig .tc .vmem S1x1x128x128 .bf16) (harg11 : arg11.IsWhole)
  (arg12 : Memref sig .tc .vmem S1x1x128x128 .bf16) (harg12 : arg12.IsWhole)
  (arg13 : Memref sig .tc .vmem S1x8x128 .bf16) (harg13 : arg13.IsWhole)
  (arg14 : Memref sig .tc .vmem S32x64 .i8) (harg14 : arg14.IsWhole)
  (arg15 : Memref sig .tc .vmem S32x4 .bf16) (harg15 : arg15.IsWhole)
  (arg16 : Memref sig .tc .vmem S32x4 .bf16) (harg16 : arg16.IsWhole)
  (arg17 : Memref sig .tc .vmem S32x64 .i8) (harg17 : arg17.IsWhole)
  (arg18 : Memref sig .tc .vmem S32x4 .bf16) (harg18 : arg18.IsWhole)
  (arg19 : Memref sig .tc .vmem S32x4 .bf16) (harg19 : arg19.IsWhole)
  (arg20 : Memref sig .tc .vmem S1024x128 .f32) (harg20 : arg20.IsWhole)
  (arg21 : Memref sig .tc .vmem S1024x128 .f32) (harg21 : arg21.IsWhole)
  (arg22 : Memref sig .tc .vmem S8x6528 .f32) (harg22 : arg22.IsWhole)
  (arg23 : Memref sig .tc .vmem S8x128 .f32) (harg23 : arg23.IsWhole)
  (arg24 : Memref sig .tc .vmem S8x128 .f32) (harg24 : arg24.IsWhole)
  (arg25 : Memref sig .tc .vmem S8x128 .f32) (harg25 : arg25.IsWhole)
  (arg26 : Memref sig .tc .vmem S32x128 .f32) (harg26 : arg26.IsWhole)
  (arg27 : Memref sig .tc .vmem S32x128 .f32) (harg27 : arg27.IsWhole)

/-- What a point loads of a block's scores. -/
theorem scoreX {s : ℕ → EReal} {n : ℕ} {h : Fin 8} (x0 : Vec Ideal S1x8x128 .bf16) (x3 : Vec Ideal S1x1x6528x64 .i8)
    (f20 : BufTy.Contents (Elt Ideal) arg20.view.ty) (f21 : BufTy.Contents (Elt Ideal) arg21.view.ty) (v1 : BitVec 32)
    {off0 : Fin S1x8x128.rank → ℕ} (inb0 : ∀ a, off0 a + S1x8x128.size a ≤ S1x8x128.size a)
    {off : Fin S8x6528.rank → ℕ} (inb : ∀ a, off a + S8x6528.size a ≤ S8x6528.size a)
    (hs : ∀ j, blkScore i x0 x3 (arg20.view.read (Elt Ideal) f20) (arg21.view.read (Elt Ideal) f21) h j = s (n + j.val)) (j : Fin 6528) :
    arg22.view.readCov (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v1
        (View.readAt (Elt Ideal) arg2.view (Rect.unit (s := S1x8x128) off0 S1x8x128.size inb0).toLoadRect (harg2.unread x0)) (harg5.unread x3) f20 f21
        (Scf.trips k0_t1_loop.lb k0_t1_loop.ub k0_t1_loop.st))
      (Rect.unit (s := S8x6528) off S8x6528.size inb).toLoadRect (ix2 h j) = s (n + j.val) := by
  rw [scores_read, readAt_whole, harg2.read_unread, harg5.read_unread]
  exact hs j

/-- What the values' loop leaves of the running weighted sum: the same sum over the tokens of the block too. -/
theorem accX {s f : ℕ → EReal} {n : ℕ} {h : Fin 8} {e : Fin 128} {x : Vec Ideal S8x6528 .f32} {mm a : Vec Ideal S8x128 .f32}
    {x6 : Vec Ideal S1x1x6528x64 .i8} {x7 x8 : Vec Ideal S1x1x6528x4 .bf16}
    (hx : ∀ j : Fin 6528, x (ix2 h j) = s (n + j.val)) (hm : ∀ c, mm (ix2 h c) = M s n) (ha : a (ix2 h e) = W s f n)
    (hv : ∀ j, blkValue x6 x7 x8 j e = f (n + j.val))
    {off : Fin S8x6528.rank → ℕ} (inb : ∀ a, off a + S8x6528.size a ≤ S8x6528.size a) (f22 : BufTy.Contents (Elt Ideal) arg22.view.ty) (L22)
    {off5 : Fin S8x128.rank → ℕ} (inb5 : ∀ a, off5 a + S8x128.size a ≤ S8x128.size a) (f25 : BufTy.Contents (Elt Ideal) arg25.view.ty) (L25) (L') :
    View.canon (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (iota .tc S4x128 32 [0] iota_S4x128_d0_w32) 64#32 k0_pay108 k0_pay109 0#32
        (harg8.unread x6) (harg9.unread x7) (harg10.unread x8)
        (arg22.view.writes (Elt Ideal) f22 ((⟨Rect.unit (s := S8x6528) off S8x6528.size inb, k0_pay107 (F := Ideal) x mm⟩ : View.Piece (Elt Ideal) S8x6528 .f32) :: L22))
        (arg25.view.writes (Elt Ideal) f25 ((⟨Rect.unit (s := S8x128) off5 S8x128.size inb5, k0_pay106 (F := Ideal) x mm a⟩ : View.Piece (Elt Ideal) S8x128 .f32) :: L25))
        (Scf.trips k0_t2_loop.lb k0_t2_loop.ub k0_t2_loop.st) ++ L') (ix2 h e) = W s f (n + 6528) := by
  have ht : Scf.trips k0_t2_loop.lb k0_t2_loop.ub k0_t2_loop.st = 16 + 1 := by decide +kernel
  rw [ht, pb2_val c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 _ _ _ _ _ _ 16 ht.symm.le, harg8.read_unread, harg9.read_unread, harg10.read_unread, read_whole_write, read_whole_write,
    step_acc hx hm, ha, W_add, Finset.sum_range]
  refine congrArg₂ (fun a b : EReal => a + b) rfl (Finset.sum_congr rfl fun j _ => ?_)
  rw [blkTerm, dif_pos j.isLt, hv, step_p' hx hm]

/-- Reading back what ends in a store of the whole buffer. -/
theorem read_append_full {S : Shape} {e : EltTy} {sp : Space} {off : Fin S.rank → ℕ} (v : View sig .tc sp S e) (f : BufTy.Contents (Elt Ideal) v.ty)
    (inb : ∀ a, off a + S.size a ≤ S.size a) (w : S.Idx → Elt Ideal e) (L L' : List (View.Piece (Elt Ideal) S e)) (y : S.Idx) :
    v.read (Elt Ideal) (v.writes (Elt Ideal) f (L ++ (⟨Rect.unit (s := S) off S.size inb, w⟩ : View.Piece (Elt Ideal) S e) :: L')) y
      = View.canon (L ++ (⟨Rect.unit (s := S) off S.size inb, w⟩ : View.Piece (Elt Ideal) S e) :: L') y := by
  have h0 : ∀ a, off a = 0 := fun a => by have := inb a; omega
  refine View.read_writes_apply_eq_canon v f y _ ⟨_, List.mem_append_right _ List.mem_cons_self, ?_⟩
  rw [Rect.mem_set_unit]
  intro a
  have := h0 a
  have := (y a).isLt
  omega

end Cert.KernelIdeal.Body

end
-- ==== Proof.Spec.lean ====
/-
  What the kernel computes, in plain terms: the 4-bit quantiser of a row, and attention over the dequantised cache.
-/
module

public import proofs.«01_k».proof.Proof.Online

@[expose] public section

noncomputable section

namespace Cert.Online

open Idealize.ShloMosaic

/-! ## The quantiser of one row of 128 channels, in four groups of 32 -/

variable (x : Fin 128 → EReal)

/-- The least channel of group `g`. -/
def gmin (g : ℕ) : EReal := Finset.univ.inf fun c : Fin 128 => if c.val / 32 = g then x c else ⊤

/-- The greatest channel of group `g`. -/
def gmax (g : ℕ) : EReal := Finset.univ.sup fun c : Fin 128 => if c.val / 32 = g then x c else ⊥

/-- The scale of group `g`: a fifteenth of its range, one where the range is nothing. -/
def gscale (g : ℕ) : EReal := if gmax x g - gmin x g = 0 then 1 else Ideal.div (gmax x g - gmin x g) 15

/-- The code of channel `d`, as a number: rounded to even and clipped to `0 .. 15`. -/
def gq (d : Fin 128) : EReal :=
  min 15 (max 0 (Ideal.liftRound Ideal.roundHalfEven (Ideal.div (x d - gmin x (d.val / 32)) (gscale x (d.val / 32)))))

/-- Channel `d` after the round trip through its code. -/
def gdq (d : Fin 128) : EReal := gq x d * gscale x (d.val / 32) + gmin x (d.val / 32)

/-- Clipping leaves one of the sixteen codes. -/
theorem gq_nat (d : Fin 128) : ∃ k : ℕ, k ≤ 15 ∧ gq x d = ((k : ℝ) : EReal) := by
  unfold gq
  generalize Ideal.div (x d - gmin x (d.val / 32)) (gscale x (d.val / 32)) = y
  induction y using EReal.rec with
  | bot => exact ⟨0, by omega, by rw [Ideal.liftRound_bot]; simp⟩
  | top => exact ⟨15, by omega, by rw [Ideal.liftRound_top]; simp; rfl⟩
  | coe r =>
    rw [Ideal.liftRound_coe]
    generalize Ideal.roundHalfEven r = z
    refine ⟨(min 15 (max 0 z)).toNat, by omega, ?_⟩
    have h : (((min 15 (max 0 z)).toNat : ℕ) : ℝ) = min 15 (max 0 (z : ℝ)) := by
      have h1 : (((min 15 (max 0 z)).toNat : ℕ) : ℤ) = min 15 (max 0 z) := Int.toNat_of_nonneg (by omega)
      have h2 : (((min 15 (max 0 z)).toNat : ℕ) : ℝ) = ((min 15 (max 0 z) : ℤ) : ℝ) := by exact_mod_cast congrArg (Int.cast (R := ℝ)) h1
      rw [h2]; push_cast; rfl
    rw [h]
    push_cast
    rfl

/-- The code of channel `d`, as a count. -/
def gnat (d : Fin 128) : ℕ := (gq_nat x d).choose

/-- A code is at most 15. -/
theorem gnat_le (d : Fin 128) : gnat x d ≤ 15 := (gq_nat x d).choose_spec.1

/-- A code is a natural number. -/
theorem gq_eq (d : Fin 128) : gq x d = ((gnat x d : ℝ) : EReal) := (gq_nat x d).choose_spec.2

/-- The byte of channels `2 j` and `2 j + 1`. -/
def gbyte (j : Fin 64) : BitVec 8 :=
  BitVec.ofNat 8 (gnat x ⟨2 * j.val, by omega⟩ + 16 * gnat x ⟨2 * j.val + 1, by omega⟩)

/-- A group's least channel, over the group alone. -/
theorem gmin_group (g : Fin 4) : gmin x g.val = Finset.univ.inf fun j : Fin 32 => x ⟨g.val * 32 + j.val, by omega⟩ := by
  apply le_antisymm
  · refine Finset.le_inf fun j _ => (Finset.inf_le (Finset.mem_univ (⟨g.val * 32 + j.val, by omega⟩ : Fin 128))).trans ?_
    rw [if_pos (by simp only; omega)]
  · refine Finset.le_inf fun c _ => ?_
    split
    · rename_i h
      refine (Finset.inf_le (Finset.mem_univ (⟨c.val % 32, by omega⟩ : Fin 32))).trans (le_of_eq (congrArg x (Fin.ext ?_)))
      simp only; omega
    · exact le_top

/-- A group's greatest channel, over the group alone. -/
theorem gmax_group (g : Fin 4) : gmax x g.val = Finset.univ.sup fun j : Fin 32 => x ⟨g.val * 32 + j.val, by omega⟩ := by
  apply le_antisymm
  · refine Finset.sup_le fun c _ => ?_
    split
    · rename_i h
      refine (le_of_eq (congrArg x (Fin.ext ?_))).trans (Finset.le_sup (f := fun j : Fin 32 => x ⟨g.val * 32 + j.val, by omega⟩) (Finset.mem_univ (⟨c.val % 32, by omega⟩ : Fin 32)))
      simp only; omega
    · exact bot_le
  · refine Finset.sup_le fun j _ => le_trans ?_ (Finset.le_sup (f := fun c : Fin 128 => if c.val / 32 = g.val then x c else ⊥) (Finset.mem_univ (⟨g.val * 32 + j.val, by omega⟩ : Fin 128)))
    simp only
    rw [if_pos (by omega)]

/-- A small count as a word. -/
theorem fptosi_nat (k : ℕ) (hk : k < 256) : Ideal.fptosi 32 ((k : ℝ) : EReal) = BitVec.ofNat 32 k := by
  have e : Ideal.toIntClamped (-(2 ^ (32 - 1) : Nat)) ((2 ^ (32 - 1) : Nat) - 1) ((k : ℝ) : EReal) = (k : ℤ) := by
    show max _ (min _ (if (0 : ℝ) ≤ (k : ℝ) then ⌊(k : ℝ)⌋ else ⌈(k : ℝ)⌉)) = (k : ℤ)
    rw [if_pos (by positivity), Int.floor_natCast]
    omega
  rw [Ideal.fptosi, e]
  exact BitVec.ofInt_natCast 32 k

end Cert.Online

end
-- ==== Proof.Quant.lean ====
/-
  The kernel's quantiser, element by element, is the quantiser of `Spec`.
-/
module

public import proofs.«01_k».proof.Proof.Step
public import proofs.«01_k».proof.Proof.Spec

@[expose] public section

set_option maxRecDepth 16384

noncomputable section

namespace Cert.KernelIdeal.Body

open Cert.KernelIdeal Cert.KernelIdeal.Gen Cert.Online
open Idealize.ShloMosaic Idealize.ShloMosaic.TcCoe Idealize.ShloMosaic.Tactic

/-- The group of a channel, as a word. -/
theorem grp_apply (r : Fin 32) (c : Fin 128) : k0_pay2 (ix2 r c) = BitVec.ofNat 32 (c.val / 32) := by
  unfold k0_pay2
  pointwise []
  revert c
  decide +kernel

/-- The positive infinity a masked minimum is filled with. -/
theorem posInf_eq : (Scalar.ofBits (F := Ideal) .f32 0x7F800000#32 : EReal) = ⊤ := by
  show Ideal.ofBits .f32 0x7F800000#32 = ⊤
  simp [Ideal.ofBits, Ideal.ieee]

variable (x : Vec Ideal S32x128 .bf16)

/-- Row `r` of the new keys or values. -/
abbrev row (r : Fin 32) : Fin 128 → EReal := fun c => x (ix2 r c)

/-- Choosing by a channel's group. -/
theorem sel_grp {α : Type} (c : Fin 128) (k : ℕ) (hk : k < 4) (a b : α) :
    Scalar.select (IntOp.cmpi .eq (BitVec.ofNat 32 (c.val / 32)) (BitVec.ofNat 32 k)) a b = if c.val / 32 = k then a else b := by
  have h : IntOp.cmpi .eq (BitVec.ofNat 32 (c.val / 32)) (BitVec.ofNat 32 k) = if c.val / 32 = k then 1#1 else 0#1 := by
    have := (by decide +kernel : ∀ (c : Fin 128) (k : Fin 4), IntOp.cmpi .eq (BitVec.ofNat 32 (c.val / 32)) (BitVec.ofNat 32 k.val) = if c.val / 32 = k.val then 1#1 else 0#1) c ⟨k, hk⟩
    exact this
  rw [h]
  by_cases e : c.val / 32 = k
  · rw [if_pos e, if_pos e]; rfl
  · rw [if_neg e, if_neg e]; rfl

/-- A masked minimum over all channels is the group's. -/
theorem fold_min_grp (r : Fin 32) (k : ℕ) (hk : k < 4) :
    Finset.fold min (Ideal.ofBits FTy.f32 0x7F800000#32)
      (fun c : Fin 128 => Scalar.select (IntOp.cmpi .eq (BitVec.ofNat 32 (c.val / 32)) (BitVec.ofNat 32 k)) (x (ix2 r c))
        (Ideal.ofBits FTy.f32 0x7F800000#32)) Finset.univ = gmin (row x r) k := by
  rw [show Ideal.ofBits FTy.f32 0x7F800000#32 = ⊤ from posInf_eq]
  simp only [sel_grp _ k hk]
  rfl

/-- A masked maximum over all channels is the group's. -/
theorem fold_max_grp (r : Fin 32) (k : ℕ) (hk : k < 4) :
    Finset.fold max (Ideal.ofBits FTy.f32 0xFF800000#32)
      (fun c : Fin 128 => Scalar.select (IntOp.cmpi .eq (BitVec.ofNat 32 (c.val / 32)) (BitVec.ofNat 32 k)) (x (ix2 r c))
        (Ideal.ofBits FTy.f32 0xFF800000#32)) Finset.univ = gmax (row x r) k := by
  rw [show Ideal.ofBits FTy.f32 0xFF800000#32 = ⊥ from negInf_eq]
  simp only [sel_grp _ k hk]
  rfl

/-- The least channel of each channel's group, as the kernel spreads it. -/
abbrev kmin : FVec Ideal S32x128 .f32 := k0_pay11 (k0_pay1 x) k0_pay2 (k0_pay5 x)
/-- The greatest, for all groups but the last. -/
abbrev kmax : FVec Ideal S32x128 .f32 := k0_pay9 (k0_pay1 x) k0_pay2 k0_pay3 k0_pay4 (k0_pay6 x)
/-- The scales. -/
abbrev kscale : FVec Ideal S32x128 .bf16 := k0_pay13 (kmax x) (k0_pay10 k0_pay2) (kmin x) (k0_pay12 (k0_pay1 x) k0_pay2)
/-- The codes, as numbers. -/
abbrev kcode : FVec Ideal S32x128 .bf16 :=
  k0_pay15 (k0_pay1 x) (kmax x) (k0_pay10 k0_pay2) (kmin x) (k0_pay12 (k0_pay1 x) k0_pay2)

/-- A channel's group is one of four. -/
theorem grp_cases (c : Fin 128) : c.val / 32 = 0 ∨ c.val / 32 = 1 ∨ c.val / 32 = 2 ∨ c.val / 32 = 3 := by omega

/-- At each channel, the least of its group. -/
theorem kmin_apply (r : Fin 32) (c : Fin 128) : kmin x (ix2 r c) = gmin (row x r) (c.val / 32) := by
  have hg := grp_apply
  unfold kmin k0_pay11 k0_pay5 k0_pay4 k0_pay1 k0_pay7 k0_pay8 k0_pay10
  generalize k0_pay2 = G at hg
  pointwise []
  simp only [hg]
  rw [fold_min_grp x r 0 (by decide), fold_min_grp x r 1 (by decide), fold_min_grp x r 2 (by decide), fold_min_grp x r 3 (by decide),
    sel_grp c 0 (by decide), sel_grp c 1 (by decide), sel_grp c 2 (by decide), sel_grp c 3 (by decide)]
  rcases grp_cases c with h | h | h | h <;> simp [h]

/-- At each channel outside the last group, the greatest of its group. -/
theorem kmax_apply (r : Fin 32) (c : Fin 128) (hc : c.val / 32 ≠ 3) : kmax x (ix2 r c) = gmax (row x r) (c.val / 32) := by
  have hg := grp_apply
  unfold kmax k0_pay9 k0_pay6 k0_pay4 k0_pay1 k0_pay7 k0_pay8 k0_pay3
  generalize k0_pay2 = G at hg
  pointwise []
  simp only [hg]
  rw [fold_max_grp x r 0 (by decide), fold_max_grp x r 1 (by decide), fold_max_grp x r 2 (by decide),
    sel_grp c 0 (by decide), sel_grp c 1 (by decide), sel_grp c 2 (by decide)]
  rcases grp_cases c with h | h | h | h <;> simp [h] at hc ⊢

/-- Fifteen, as its bits. -/
theorem fifteen_eq : (Ideal.ofBits FTy.f32 0x41700000#32 : EReal) = 15 := by
  simp [Ideal.ofBits, Ideal.ieee]
  rw [← EReal.coe_mul, show (15728640 * (2 ^ 20)⁻¹ : ℝ) = 15 by norm_num]
  rfl

/-- Sixteen, as its bits. -/
theorem sixteen_eq : (Ideal.ofBits FTy.f32 0x41800000#32 : EReal) = 16 := by
  simp [Ideal.ofBits, Ideal.ieee]
  rw [← EReal.coe_mul, show (8388608 * (2 ^ 19)⁻¹ : ℝ) = 16 by norm_num]
  rfl

/-- The scale, of any spread minima and maxima. -/
theorem pay13_apply (r : Fin 32) (c : Fin 128) (mx mn : FVec Ideal S32x128 .f32) (hmin : mn (ix2 r c) = gmin (row x r) (c.val / 32))
    (hmax : c.val / 32 ≠ 3 → mx (ix2 r c) = gmax (row x r) (c.val / 32)) :
    k0_pay13 (F := Ideal) mx (k0_pay10 k0_pay2) mn (k0_pay12 (k0_pay1 x) k0_pay2) (ix2 r c) = gscale (row x r) (c.val / 32) := by
  have hg := grp_apply
  unfold k0_pay13 k0_pay12 k0_pay10 k0_pay1
  generalize k0_pay2 = G at hg
  pointwise [k0_pay10]
  simp only [hg]
  rw [fold_max_grp x r 3 (by decide), sel_grp c 3 (by decide)]
  have e : (if c.val / 32 = 3 then gmax (row x r) 3 else mx (ix2 r c)) = gmax (row x r) (c.val / 32) := by
    split_ifs with h
    · rw [h]
    · exact hmax h
  rw [e, hmin, fifteen_eq]
  rfl

/-- The scale of each channel's group. -/
theorem kscale_apply (r : Fin 32) (c : Fin 128) : kscale x (ix2 r c) = gscale (row x r) (c.val / 32) :=
  pay13_apply x r c _ _ (kmin_apply x r c) (kmax_apply x r c)

/-- The code, of any spread minima and scales. -/
theorem pay15_apply (r : Fin 32) (c : Fin 128) (v189 : FVec Ideal S32x128 .f32) (v191 : IVec S32x128 1) (v198 v200 : FVec Ideal S32x128 .f32)
    (hmin : v198 (ix2 r c) = gmin (row x r) (c.val / 32))
    (hs : k0_pay13 (F := Ideal) v189 v191 v198 v200 (ix2 r c) = gscale (row x r) (c.val / 32)) :
    k0_pay15 (F := Ideal) (k0_pay1 x) v189 v191 v198 v200 (ix2 r c) = gq (row x r) c := by
  unfold k0_pay15
  generalize k0_pay13 (F := Ideal) v189 v191 v198 v200 = sc at hs
  unfold k0_pay14 k0_pay1
  pointwise []
  rw [hmin, hs, fifteen_eq]
  rfl

/-- The code of each channel. -/
theorem kcode_apply (r : Fin 32) (c : Fin 128) : kcode x (ix2 r c) = gq (row x r) c :=
  pay15_apply x r c _ _ _ _ (kmin_apply x r c) (kscale_apply x r c)

/-- Two codes packed by a product with weights one and sixteen. -/
theorem byte_apply (q : FVec Ideal S32x128 .bf16) (r : Fin 32) (j : Fin 64) (k : Fin 128 → ℕ) (hk : ∀ c, k c ≤ 15)
    (hq : ∀ c, q (ix2 r c) = ((k c : ℝ) : EReal)) :
    k0_pay20 (F := Ideal) q k0_pay16 (ix2 r j)
      = BitVec.ofNat 8 (k ⟨2 * j.val, by omega⟩ + 16 * k ⟨2 * j.val + 1, by omega⟩) := by
  unfold k0_pay20 k0_pay16
  pointwise []
  have h : ∀ c : Fin 128, (Scalar.select (IntOp.cmpi .eq (BitVec.ofNat 32 c.val) (IntOp.muli (2#32) (BitVec.ofNat 32 j.val))) (1 : EReal)
              (Scalar.select
                (IntOp.cmpi .eq (BitVec.ofNat 32 c.val)
                  (IntOp.addi (IntOp.muli (2#32) (BitVec.ofNat 32 j.val)) 1#32))
                (Ideal.ofBits FTy.f32 0x41800000#32) 0)) = if c.val = 2 * j.val then 1 else if c.val = 2 * j.val + 1 then 16 else 0 := by
    intro c
    have h1 := (by decide +kernel : ∀ (c : Fin 128) (j : Fin 64), IntOp.cmpi .eq (BitVec.ofNat 32 c.val) (IntOp.muli (2#32) (BitVec.ofNat 32 j.val)) = if c.val = 2 * j.val then 1#1 else 0#1) c j
    have h2 := (by decide +kernel : ∀ (c : Fin 128) (j : Fin 64), IntOp.cmpi .eq (BitVec.ofNat 32 c.val) (IntOp.addi (IntOp.muli (2#32) (BitVec.ofNat 32 j.val)) 1#32) = if c.val = 2 * j.val + 1 then 1#1 else 0#1) c j
    rw [h1, h2, sixteen_eq]
    split
    · rfl
    · split <;> rfl
  simp only [h, hq]
  have e : (∑ c : Fin 128, ((k c : ℝ) : EReal) * (if c.val = 2 * j.val then (1 : EReal) else if c.val = 2 * j.val + 1 then 16 else 0))
      = (((k ⟨2 * j.val, by omega⟩ + 16 * k ⟨2 * j.val + 1, by omega⟩ : ℕ) : ℝ) : EReal) := by
    rw [Fintype.sum_eq_add (⟨2 * j.val, by omega⟩ : Fin 128) ⟨2 * j.val + 1, by omega⟩ (by simp)]
    · simp only [if_true]
      rw [if_neg (by omega), mul_one, show (16 : EReal) = ((16 : ℝ) : EReal) from rfl, ← EReal.coe_mul, ← EReal.coe_add]
      congr 1
      push_cast
      ring
    · intro c hc
      rw [if_neg (fun h => hc.1 (Fin.ext h)), if_neg (fun h => hc.2 (Fin.ext h)), mul_zero]
  rw [e]
  have b1 := hk ⟨2 * j.val, by omega⟩
  have b2 := hk ⟨2 * j.val + 1, by omega⟩
  refine (congrArg (BitVec.setWidth 8) (fptosi_nat _ (by omega))).trans ?_
  apply BitVec.eq_of_toNat_eq
  simp only [BitVec.toNat_setWidth, BitVec.toNat_ofNat]
  omega

/-- The matrix that picks the first channel of each group. -/
theorem first_apply (c : Fin 128) (g : Fin 4) : k0_pay17 (F := Ideal) (ix2 c g) = if c.val = 32 * g.val then 1 else 0 := by
  unfold k0_pay17
  pointwise []
  refine (congrArg (fun w : BitVec 32 => ((w.toInt : ℝ) : EReal)) (?_ : _ = if c.val = 32 * g.val then 1#32 else 0#32)).trans ?_
  · revert c g
    decide +kernel
  · by_cases h : c.val = 32 * g.val
    · rw [if_pos h, if_pos h]; simp
    · rw [if_neg h, if_neg h]; simp

/-- One value a group: that of its first channel. -/
theorem first_sum (v : FVec Ideal S32x128 .bf16) (r : Fin 32) (g : Fin 4) :
    k0_pay18 (F := Ideal) v k0_pay17 (ix2 r g) = v (ix2 r ⟨32 * g.val, by omega⟩) := by
  have hf := first_apply
  unfold k0_pay18
  generalize k0_pay17 (F := Ideal) = V at hf
  pointwise []
  simp only [hf]
  rw [Finset.sum_eq_single (⟨32 * g.val, by omega⟩ : Fin 128)]
  · rw [if_pos rfl, mul_one]
  · intro c _ hc
    rw [if_neg (fun h => hc (Fin.ext h)), mul_zero]
  · simp

/-! ## What the first point stores of the new keys and values -/

/-- The codes, two a byte. -/
theorem codes_apply (r : Fin 32) (j : Fin 64) : k0_pay20 (F := Ideal) (kcode x) k0_pay16 (ix2 r j) = gbyte (row x r) j :=
  byte_apply _ r j (gnat (row x r)) (gnat_le _) fun c => (kcode_apply x r c).trans (gq_eq _ c)

/-- The scales. -/
theorem scales_apply (r : Fin 32) (g : Fin 4) : k0_pay18 (F := Ideal) (kscale x) k0_pay17 (ix2 r g) = gscale (row x r) g.val := by
  rw [first_sum, kscale_apply]
  simp only [Nat.mul_div_cancel_left _ (show 0 < 32 by omega)]

/-- The zeros. -/
theorem zeros_apply (r : Fin 32) (g : Fin 4) : k0_pay19 (F := Ideal) (k0_pay14 (kmin x)) k0_pay17 (ix2 r g) = gmin (row x r) g.val := by
  have e : k0_pay14 (F := Ideal) (kmin x) (ix2 r ⟨32 * g.val, by omega⟩) = gmin (row x r) g.val := by
    have h := kmin_apply x r ⟨32 * g.val, by omega⟩
    simp only [Nat.mul_div_cancel_left _ (show 0 < 32 by omega)] at h
    generalize kmin x = y at h
    unfold k0_pay14
    pointwise []
    exact h
  exact (first_sum _ r g).trans e

/-- The round trip. -/
theorem deq_apply (r : Fin 32) (c : Fin 128) :
    k0_pay21 (F := Ideal) (kscale x) (k0_pay14 (kmin x)) (kcode x) (ix2 r c) = gdq (row x r) c := by
  have h1 := kmin_apply x r c
  have h2 := kscale_apply x r c
  have h3 := kcode_apply x r c
  generalize kcode x = q at h3
  generalize kscale x = sc at h2
  generalize kmin x = mn at h1
  unfold k0_pay21 k0_pay14
  pointwise []
  rw [h1, h2, h3]
  rfl

/-! ## The values' are the same expressions -/

/-- The arguments the values' quantiser passes on. -/
abbrev vgrp : IVec S32x128 32 := k0_pay26 k0_pay23 k0_pay24 k0_pay25
/-- One part of the new values' quantiser. -/
abbrev v29 : FVec Ideal S32x128 .f32 := k0_pay29 (k0_pay22 x) k0_pay23 k0_pay24 k0_pay25
/-- One part of the new values' quantiser. -/
abbrev v30 : FVec Ideal S32x128 .f32 := k0_pay30 (k0_pay22 x) k0_pay23 k0_pay24 k0_pay25
/-- One part of the new values' quantiser. -/
abbrev v31 : IVec S32x128 1 := k0_pay31 k0_pay23 k0_pay24 k0_pay25
/-- One part of the new values' quantiser. -/
abbrev v32 : FVec Ideal S32x128 .f32 := k0_pay32 (k0_pay22 x) k0_pay23 k0_pay24 k0_pay25

/-- The new values' scales are made as the new keys' are. -/
theorem vscale_eq : k0_pay35 (k0_pay22 x) vgrp (v29 x) (v30 x) v31 (v32 x) = kscale x := rfl
/-- The new values' zeros are made as the new keys' are. -/
theorem vzero_eq : k0_pay36 (k0_pay22 x) vgrp (v29 x) v31 (v32 x) = k0_pay14 (kmin x) := rfl
/-- The new values' codes are made as the new keys' are. -/
theorem vcode_eq : k0_pay37 (k0_pay22 x) vgrp (v29 x) (v30 x) v31 (v32 x) = kcode x := rfl
/-- The new values' packed codes, by byte. -/
theorem vcodes_apply (r : Fin 32) (j : Fin 64) :
    k0_pay41 (F := Ideal) (k0_pay37 (k0_pay22 x) vgrp (v29 x) (v30 x) v31 (v32 x)) (ix2 r j) = gbyte (row x r) j := by
  rw [vcode_eq]; exact codes_apply x r j
/-- The new values' scales, by group. -/
theorem vscales_apply (r : Fin 32) (g : Fin 4) :
    k0_pay39 (F := Ideal) (k0_pay35 (k0_pay22 x) vgrp (v29 x) (v30 x) v31 (v32 x)) (ix2 r g) = gscale (row x r) g.val := by
  rw [vscale_eq]; exact scales_apply x r g
/-- The new values' zeros, by group. -/
theorem vzeros_apply (r : Fin 32) (g : Fin 4) :
    k0_pay40 (F := Ideal) (k0_pay36 (k0_pay22 x) vgrp (v29 x) v31 (v32 x)) (ix2 r g) = gmin (row x r) g.val := by
  rw [vzero_eq]; exact zeros_apply x r g
/-- The new values' round trip, by channel. -/
theorem vdeq_apply (r : Fin 32) (c : Fin 128) :
    k0_pay94 (F := Ideal) (k0_pay42 (k0_pay35 (k0_pay22 x) vgrp (v29 x) (v30 x) v31 (v32 x))
      (k0_pay36 (k0_pay22 x) vgrp (v29 x) v31 (v32 x)) (k0_pay37 (k0_pay22 x) vgrp (v29 x) (v30 x) v31 (v32 x))) (ix2 r c) = gdq (row x r) c := by
  rw [vscale_eq, vzero_eq, vcode_eq]; exact deq_apply x r c

end Cert.KernelIdeal.Body

end
-- ==== Proof.CaseA.lean ====
/-
  What the body leaves in each buffer at the first point of all, element by element.
-/
module

public import proofs.«01_k».proof.Proof.CaseKit
public import proofs.«01_k».proof.Proof.KernelIdealRunA
public import proofs.«01_k».proof.Proof.Quant

@[expose] public section

set_option maxRecDepth 16384

noncomputable section

namespace Cert.KernelIdeal.Body

open Cert.KernelIdeal Cert.KernelIdeal.Gen Cert.Online
open Idealize.ShloMosaic Idealize.ShloMosaic.TcCoe Idealize.ShloMosaic.Tactic
open Idealize.SL Idealize.SL.RA Idealize.SL.BI Idealize.SL.Sem

variable (c : Dev nD) (i : grid0.Coords)
  (arg2 : Memref sig .tc .vmem S1x8x128 .bf16) (harg2 : arg2.IsWhole)
  (arg3 : Memref sig .tc .vmem S32x128 .bf16) (harg3 : arg3.IsWhole)
  (arg4 : Memref sig .tc .vmem S32x128 .bf16) (harg4 : arg4.IsWhole)
  (arg5 : Memref sig .tc .vmem S1x1x6528x64 .i8) (harg5 : arg5.IsWhole)
  (arg6 : Memref sig .tc .vmem S1x1x1020x128 .bf16) (harg6 : arg6.IsWhole)
  (arg7 : Memref sig .tc .vmem S1x1x1020x128 .bf16) (harg7 : arg7.IsWhole)
  (arg8 : Memref sig .tc .vmem S1x1x6528x64 .i8) (harg8 : arg8.IsWhole)
  (arg9 : Memref sig .tc .vmem S1x1x6528x4 .bf16) (harg9 : arg9.IsWhole)
  (arg10 : Memref sig .tc .vmem S1x1x6528x4 .bf16) (harg10 : arg10.IsWhole)
  (arg11 : Memref sig .tc .vmem S1x1x128x128 .bf16) (harg11 : arg11.IsWhole)
  (arg12 : Memref sig .tc .vmem S1x1x128x128 .bf16) (harg12 : arg12.IsWhole)
  (arg13 : Memref sig .tc .vmem S1x8x128 .bf16) (harg13 : arg13.IsWhole)
  (arg14 : Memref sig .tc .vmem S32x64 .i8) (harg14 : arg14.IsWhole)
  (arg15 : Memref sig .tc .vmem S32x4 .bf16) (harg15 : arg15.IsWhole)
  (arg16 : Memref sig .tc .vmem S32x4 .bf16) (harg16 : arg16.IsWhole)
  (arg17 : Memref sig .tc .vmem S32x64 .i8) (harg17 : arg17.IsWhole)
  (arg18 : Memref sig .tc .vmem S32x4 .bf16) (harg18 : arg18.IsWhole)
  (arg19 : Memref sig .tc .vmem S32x4 .bf16) (harg19 : arg19.IsWhole)
  (arg20 : Memref sig .tc .vmem S1024x128 .f32) (harg20 : arg20.IsWhole)
  (arg21 : Memref sig .tc .vmem S1024x128 .f32) (harg21 : arg21.IsWhole)
  (arg22 : Memref sig .tc .vmem S8x6528 .f32) (harg22 : arg22.IsWhole)
  (arg23 : Memref sig .tc .vmem S8x128 .f32) (harg23 : arg23.IsWhole)
  (arg24 : Memref sig .tc .vmem S8x128 .f32) (harg24 : arg24.IsWhole)
  (arg25 : Memref sig .tc .vmem S8x128 .f32) (harg25 : arg25.IsWhole)
  (arg26 : Memref sig .tc .vmem S32x128 .f32) (harg26 : arg26.IsWhole)
  (arg27 : Memref sig .tc .vmem S32x128 .f32) (harg27 : arg27.IsWhole)

/-- The split scales after the first block of a head. -/
theorem A_scales (hc0 : cond0_0 i) (hc1 : cond0_1 i) (hc2 : ¬cond0_2 i)     (x0 : Vec Ideal S1x8x128 .bf16) (x1 : Vec Ideal S32x128 .bf16) (x2 : Vec Ideal S32x128 .bf16) (x3 : Vec Ideal S1x1x6528x64 .i8) (x4 : Vec Ideal S1x1x1020x128 .bf16) (x5 : Vec Ideal S1x1x1020x128 .bf16) (x6 : Vec Ideal S1x1x6528x64 .i8) (x7 : Vec Ideal S1x1x6528x4 .bf16) (x8 : Vec Ideal S1x1x6528x4 .bf16) (x9 : Vec Ideal S1x1x128x128 .bf16) (x10 : Vec Ideal S1x1x128x128 .bf16) (d11 : Vec Ideal S1x8x128 .bf16) (xs0 : Vec Ideal S1024x128 .f32) (xs1 : Vec Ideal S1024x128 .f32)
    (r : Fin 1020) (e : Fin 128) :
    arg20.view.read (Elt Ideal) (arg20.view.writes (Elt Ideal) (harg20.unread xs0) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 d11 xs0 xs1).2.2.2.2.2.2.1) (ix2 ⟨r.val, by omega⟩ e) = x4 (ix4 0 0 r (src e)) := by
  unfold runA
  frame_open
  rw [split_read, ssplit_apply, readAt_whole, harg6.read_unread]
/-- The split zeros after the first block of a head. -/
theorem A_zeros (hc0 : cond0_0 i) (hc1 : cond0_1 i) (hc2 : ¬cond0_2 i)     (x0 : Vec Ideal S1x8x128 .bf16) (x1 : Vec Ideal S32x128 .bf16) (x2 : Vec Ideal S32x128 .bf16) (x3 : Vec Ideal S1x1x6528x64 .i8) (x4 : Vec Ideal S1x1x1020x128 .bf16) (x5 : Vec Ideal S1x1x1020x128 .bf16) (x6 : Vec Ideal S1x1x6528x64 .i8) (x7 : Vec Ideal S1x1x6528x4 .bf16) (x8 : Vec Ideal S1x1x6528x4 .bf16) (x9 : Vec Ideal S1x1x128x128 .bf16) (x10 : Vec Ideal S1x1x128x128 .bf16) (d11 : Vec Ideal S1x8x128 .bf16) (xs0 : Vec Ideal S1024x128 .f32) (xs1 : Vec Ideal S1024x128 .f32)
    (r : Fin 1020) (e : Fin 128) :
    arg21.view.read (Elt Ideal) (arg21.view.writes (Elt Ideal) (harg21.unread xs1) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 d11 xs0 xs1).2.2.2.2.2.2.2.1) (ix2 ⟨r.val, by omega⟩ e) = x5 (ix4 0 0 r (src e)) := by
  unfold runA
  frame_open
  rw [split_read, zsplit_apply, readAt_whole, harg7.read_unread]
/-- The running maximum after the first block of a head. -/
theorem A_max (hc0 : cond0_0 i) (hc1 : cond0_1 i) (hc2 : ¬cond0_2 i)     (x0 : Vec Ideal S1x8x128 .bf16) (x1 : Vec Ideal S32x128 .bf16) (x2 : Vec Ideal S32x128 .bf16) (x3 : Vec Ideal S1x1x6528x64 .i8) (x4 : Vec Ideal S1x1x1020x128 .bf16) (x5 : Vec Ideal S1x1x1020x128 .bf16) (x6 : Vec Ideal S1x1x6528x64 .i8) (x7 : Vec Ideal S1x1x6528x4 .bf16) (x8 : Vec Ideal S1x1x6528x4 .bf16) (x9 : Vec Ideal S1x1x128x128 .bf16) (x10 : Vec Ideal S1x1x128x128 .bf16) (d11 : Vec Ideal S1x8x128 .bf16) (xs0 : Vec Ideal S1024x128 .f32) (xs1 : Vec Ideal S1024x128 .f32)
    {s f : ℕ → EReal} {h : Fin 8} {e : Fin 128}
    (hs : ∀ K Z : Vec Ideal S1024x128 .f32, (∀ (r : Fin 1020) d, K (ix2 ⟨r.val, by omega⟩ d) = x4 (ix4 0 0 r (src d))) →
      (∀ (r : Fin 1020) d, Z (ix2 ⟨r.val, by omega⟩ d) = x5 (ix4 0 0 r (src d))) → ∀ j, blkScore i x0 x3 K Z h j = s (0 + j.val)) (g : BufTy.Contents (Elt Ideal) arg23.view.ty) :
    arg23.view.read (Elt Ideal) (arg23.view.writes (Elt Ideal) g (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 d11 xs0 xs1).2.2.2.2.2.2.2.2.1) (ix2 h e) = M s (0 + 6528) := by
  unfold runA
  frame_open
  have hX := scoreX c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (s := s) (n := 0) (h := h) x0 x3
    (arg20.view.writes (Elt Ideal) (harg20.unread xs0) [(⟨Rect.unit (s := S1024x128) ![0, 0] S1020x128.size inb_S1024x128_S1020x128_0_0,
      k0_pay95 (F := Ideal) (View.readAt (Elt Ideal) arg6.view (Rect.unit (s := S1x1x1020x128) ![0, 0, 0, 0] S1x1x1020x128.size inb_S1x1x1020x128_S1x1x1020x128_0_0_0_0).toLoadRect (harg6.unread x4))⟩ : View.Piece (Elt Ideal) S1024x128 .f32)])
    (arg21.view.writes (Elt Ideal) (harg21.unread xs1) [(⟨Rect.unit (s := S1024x128) ![0, 0] S1020x128.size inb_S1024x128_S1020x128_0_0,
      k0_pay96 (F := Ideal) (View.readAt (Elt Ideal) arg7.view (Rect.unit (s := S1x1x1020x128) ![0, 0, 0, 0] S1x1x1020x128.size inb_S1x1x1020x128_S1x1x1020x128_0_0_0_0).toLoadRect (harg7.unread x5))⟩ : View.Piece (Elt Ideal) S1024x128 .f32)])
    (BitVec.ofNat 32 (i 1).val) inb_S1x8x128_S1x8x128_0_0_0 inb_S8x6528_S8x6528_0_0
    (hs _ _ (fun r d => by rw [split_read, ssplit_apply, readAt_whole, harg6.read_unread]) (fun r d => by rw [split_read, zsplit_apply, readAt_whole, harg7.read_unread]))
  have hm : ∀ c, k0_pay97 (F := Ideal) (ix2 h c) = M s 0 := fun c => start_max _
  rw [read_whole_write, readCov_full]
  exact step_max' hX hm e
/-- The running sum after the first block of a head. -/
theorem A_sum (hc0 : cond0_0 i) (hc1 : cond0_1 i) (hc2 : ¬cond0_2 i)     (x0 : Vec Ideal S1x8x128 .bf16) (x1 : Vec Ideal S32x128 .bf16) (x2 : Vec Ideal S32x128 .bf16) (x3 : Vec Ideal S1x1x6528x64 .i8) (x4 : Vec Ideal S1x1x1020x128 .bf16) (x5 : Vec Ideal S1x1x1020x128 .bf16) (x6 : Vec Ideal S1x1x6528x64 .i8) (x7 : Vec Ideal S1x1x6528x4 .bf16) (x8 : Vec Ideal S1x1x6528x4 .bf16) (x9 : Vec Ideal S1x1x128x128 .bf16) (x10 : Vec Ideal S1x1x128x128 .bf16) (d11 : Vec Ideal S1x8x128 .bf16) (xs0 : Vec Ideal S1024x128 .f32) (xs1 : Vec Ideal S1024x128 .f32)
    {s f : ℕ → EReal} {h : Fin 8} {e : Fin 128}
    (hs : ∀ K Z : Vec Ideal S1024x128 .f32, (∀ (r : Fin 1020) d, K (ix2 ⟨r.val, by omega⟩ d) = x4 (ix4 0 0 r (src d))) →
      (∀ (r : Fin 1020) d, Z (ix2 ⟨r.val, by omega⟩ d) = x5 (ix4 0 0 r (src d))) → ∀ j, blkScore i x0 x3 K Z h j = s (0 + j.val)) (g : BufTy.Contents (Elt Ideal) arg24.view.ty) :
    arg24.view.read (Elt Ideal) (arg24.view.writes (Elt Ideal) g (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 d11 xs0 xs1).2.2.2.2.2.2.2.2.2.1) (ix2 h e) = W s (fun _ => 1) (0 + 6528) := by
  unfold runA
  frame_open
  have hX := scoreX c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (s := s) (n := 0) (h := h) x0 x3
    (arg20.view.writes (Elt Ideal) (harg20.unread xs0) [(⟨Rect.unit (s := S1024x128) ![0, 0] S1020x128.size inb_S1024x128_S1020x128_0_0,
      k0_pay95 (F := Ideal) (View.readAt (Elt Ideal) arg6.view (Rect.unit (s := S1x1x1020x128) ![0, 0, 0, 0] S1x1x1020x128.size inb_S1x1x1020x128_S1x1x1020x128_0_0_0_0).toLoadRect (harg6.unread x4))⟩ : View.Piece (Elt Ideal) S1024x128 .f32)])
    (arg21.view.writes (Elt Ideal) (harg21.unread xs1) [(⟨Rect.unit (s := S1024x128) ![0, 0] S1020x128.size inb_S1024x128_S1020x128_0_0,
      k0_pay96 (F := Ideal) (View.readAt (Elt Ideal) arg7.view (Rect.unit (s := S1x1x1020x128) ![0, 0, 0, 0] S1x1x1020x128.size inb_S1x1x1020x128_S1x1x1020x128_0_0_0_0).toLoadRect (harg7.unread x5))⟩ : View.Piece (Elt Ideal) S1024x128 .f32)])
    (BitVec.ofNat 32 (i 1).val) inb_S1x8x128_S1x8x128_0_0_0 inb_S8x6528_S8x6528_0_0
    (hs _ _ (fun r d => by rw [split_read, ssplit_apply, readAt_whole, harg6.read_unread]) (fun r d => by rw [split_read, zsplit_apply, readAt_whole, harg7.read_unread]))
  have hm : ∀ c, k0_pay97 (F := Ideal) (ix2 h c) = M s 0 := fun c => start_max _
  rw [read_whole_write, readCov_full, readCov_full]
  exact step_sum hX hm (fun c => start_sum _) e
/-- The running weighted sum after the first block of a head. -/
theorem A_acc (hc0 : cond0_0 i) (hc1 : cond0_1 i) (hc2 : ¬cond0_2 i)     (x0 : Vec Ideal S1x8x128 .bf16) (x1 : Vec Ideal S32x128 .bf16) (x2 : Vec Ideal S32x128 .bf16) (x3 : Vec Ideal S1x1x6528x64 .i8) (x4 : Vec Ideal S1x1x1020x128 .bf16) (x5 : Vec Ideal S1x1x1020x128 .bf16) (x6 : Vec Ideal S1x1x6528x64 .i8) (x7 : Vec Ideal S1x1x6528x4 .bf16) (x8 : Vec Ideal S1x1x6528x4 .bf16) (x9 : Vec Ideal S1x1x128x128 .bf16) (x10 : Vec Ideal S1x1x128x128 .bf16) (d11 : Vec Ideal S1x8x128 .bf16) (xs0 : Vec Ideal S1024x128 .f32) (xs1 : Vec Ideal S1024x128 .f32)
    {s f : ℕ → EReal} {h : Fin 8} {e : Fin 128}
    (hs : ∀ K Z : Vec Ideal S1024x128 .f32, (∀ (r : Fin 1020) d, K (ix2 ⟨r.val, by omega⟩ d) = x4 (ix4 0 0 r (src d))) →
      (∀ (r : Fin 1020) d, Z (ix2 ⟨r.val, by omega⟩ d) = x5 (ix4 0 0 r (src d))) → ∀ j, blkScore i x0 x3 K Z h j = s (0 + j.val)) (hv : ∀ j, blkValue x6 x7 x8 j e = f (0 + j.val)) (g : BufTy.Contents (Elt Ideal) arg25.view.ty) :
    arg25.view.read (Elt Ideal) (arg25.view.writes (Elt Ideal) g (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 d11 xs0 xs1).2.2.2.2.2.2.2.2.2.2.1) (ix2 h e) = W s f (0 + 6528) := by
  unfold runA
  frame_open
  have hX := scoreX c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (s := s) (n := 0) (h := h) x0 x3
    (arg20.view.writes (Elt Ideal) (harg20.unread xs0) [(⟨Rect.unit (s := S1024x128) ![0, 0] S1020x128.size inb_S1024x128_S1020x128_0_0,
      k0_pay95 (F := Ideal) (View.readAt (Elt Ideal) arg6.view (Rect.unit (s := S1x1x1020x128) ![0, 0, 0, 0] S1x1x1020x128.size inb_S1x1x1020x128_S1x1x1020x128_0_0_0_0).toLoadRect (harg6.unread x4))⟩ : View.Piece (Elt Ideal) S1024x128 .f32)])
    (arg21.view.writes (Elt Ideal) (harg21.unread xs1) [(⟨Rect.unit (s := S1024x128) ![0, 0] S1020x128.size inb_S1024x128_S1020x128_0_0,
      k0_pay96 (F := Ideal) (View.readAt (Elt Ideal) arg7.view (Rect.unit (s := S1x1x1020x128) ![0, 0, 0, 0] S1x1x1020x128.size inb_S1x1x1020x128_S1x1x1020x128_0_0_0_0).toLoadRect (harg7.unread x5))⟩ : View.Piece (Elt Ideal) S1024x128 .f32)])
    (BitVec.ofNat 32 (i 1).val) inb_S1x8x128_S1x8x128_0_0_0 inb_S8x6528_S8x6528_0_0
    (hs _ _ (fun r d => by rw [split_read, ssplit_apply, readAt_whole, harg6.read_unread]) (fun r d => by rw [split_read, zsplit_apply, readAt_whole, harg7.read_unread]))
  have hm : ∀ c, k0_pay97 (F := Ideal) (ix2 h c) = M s 0 := fun c => start_max _
  repeat rw [readCov_full]
  refine (read_append_full arg25.view g _ _ _ _ _).trans ?_
  exact accX c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hX hm (start_acc _) hv _ _ _ _ _ _ _
/-- The new keys' codes. -/
theorem A_kcodes (hc0 : cond0_0 i) (hc1 : cond0_1 i) (hc2 : ¬cond0_2 i)     (x0 : Vec Ideal S1x8x128 .bf16) (x1 : Vec Ideal S32x128 .bf16) (x2 : Vec Ideal S32x128 .bf16) (x3 : Vec Ideal S1x1x6528x64 .i8) (x4 : Vec Ideal S1x1x1020x128 .bf16) (x5 : Vec Ideal S1x1x1020x128 .bf16) (x6 : Vec Ideal S1x1x6528x64 .i8) (x7 : Vec Ideal S1x1x6528x4 .bf16) (x8 : Vec Ideal S1x1x6528x4 .bf16) (x9 : Vec Ideal S1x1x128x128 .bf16) (x10 : Vec Ideal S1x1x128x128 .bf16) (d11 : Vec Ideal S1x8x128 .bf16) (xs0 : Vec Ideal S1024x128 .f32) (xs1 : Vec Ideal S1024x128 .f32)
    (r : Fin 32) (j : Fin 64) (g : BufTy.Contents (Elt Ideal) arg14.view.ty) :
    arg14.view.read (Elt Ideal) (arg14.view.writes (Elt Ideal) g (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 d11 xs0 xs1).1) (ix2 r j) = gbyte (row x1 r) j := by
  unfold runA
  frame_open
  rw [read_whole_write, readAt_whole, harg3.read_unread]
  exact codes_apply x1 r _
/-- The new keys' scales. -/
theorem A_kscale (hc0 : cond0_0 i) (hc1 : cond0_1 i) (hc2 : ¬cond0_2 i)     (x0 : Vec Ideal S1x8x128 .bf16) (x1 : Vec Ideal S32x128 .bf16) (x2 : Vec Ideal S32x128 .bf16) (x3 : Vec Ideal S1x1x6528x64 .i8) (x4 : Vec Ideal S1x1x1020x128 .bf16) (x5 : Vec Ideal S1x1x1020x128 .bf16) (x6 : Vec Ideal S1x1x6528x64 .i8) (x7 : Vec Ideal S1x1x6528x4 .bf16) (x8 : Vec Ideal S1x1x6528x4 .bf16) (x9 : Vec Ideal S1x1x128x128 .bf16) (x10 : Vec Ideal S1x1x128x128 .bf16) (d11 : Vec Ideal S1x8x128 .bf16) (xs0 : Vec Ideal S1024x128 .f32) (xs1 : Vec Ideal S1024x128 .f32)
    (r : Fin 32) (j : Fin 4) (g : BufTy.Contents (Elt Ideal) arg15.view.ty) :
    arg15.view.read (Elt Ideal) (arg15.view.writes (Elt Ideal) g (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 d11 xs0 xs1).2.1) (ix2 r j) = gscale (row x1 r) j.val := by
  unfold runA
  frame_open
  rw [read_whole_write, readAt_whole, harg3.read_unread]
  exact scales_apply x1 r _
/-- The new keys' zeros. -/
theorem A_kzero (hc0 : cond0_0 i) (hc1 : cond0_1 i) (hc2 : ¬cond0_2 i)     (x0 : Vec Ideal S1x8x128 .bf16) (x1 : Vec Ideal S32x128 .bf16) (x2 : Vec Ideal S32x128 .bf16) (x3 : Vec Ideal S1x1x6528x64 .i8) (x4 : Vec Ideal S1x1x1020x128 .bf16) (x5 : Vec Ideal S1x1x1020x128 .bf16) (x6 : Vec Ideal S1x1x6528x64 .i8) (x7 : Vec Ideal S1x1x6528x4 .bf16) (x8 : Vec Ideal S1x1x6528x4 .bf16) (x9 : Vec Ideal S1x1x128x128 .bf16) (x10 : Vec Ideal S1x1x128x128 .bf16) (d11 : Vec Ideal S1x8x128 .bf16) (xs0 : Vec Ideal S1024x128 .f32) (xs1 : Vec Ideal S1024x128 .f32)
    (r : Fin 32) (j : Fin 4) (g : BufTy.Contents (Elt Ideal) arg16.view.ty) :
    arg16.view.read (Elt Ideal) (arg16.view.writes (Elt Ideal) g (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 d11 xs0 xs1).2.2.1) (ix2 r j) = gmin (row x1 r) j.val := by
  unfold runA
  frame_open
  rw [read_whole_write, readAt_whole, harg3.read_unread]
  exact zeros_apply x1 r _
/-- The new values' codes. -/
theorem A_vcodes (hc0 : cond0_0 i) (hc1 : cond0_1 i) (hc2 : ¬cond0_2 i)     (x0 : Vec Ideal S1x8x128 .bf16) (x1 : Vec Ideal S32x128 .bf16) (x2 : Vec Ideal S32x128 .bf16) (x3 : Vec Ideal S1x1x6528x64 .i8) (x4 : Vec Ideal S1x1x1020x128 .bf16) (x5 : Vec Ideal S1x1x1020x128 .bf16) (x6 : Vec Ideal S1x1x6528x64 .i8) (x7 : Vec Ideal S1x1x6528x4 .bf16) (x8 : Vec Ideal S1x1x6528x4 .bf16) (x9 : Vec Ideal S1x1x128x128 .bf16) (x10 : Vec Ideal S1x1x128x128 .bf16) (d11 : Vec Ideal S1x8x128 .bf16) (xs0 : Vec Ideal S1024x128 .f32) (xs1 : Vec Ideal S1024x128 .f32)
    (r : Fin 32) (j : Fin 64) (g : BufTy.Contents (Elt Ideal) arg17.view.ty) :
    arg17.view.read (Elt Ideal) (arg17.view.writes (Elt Ideal) g (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 d11 xs0 xs1).2.2.2.1) (ix2 r j) = gbyte (row x2 r) j := by
  unfold runA
  frame_open
  rw [read_whole_write, readAt_whole, harg4.read_unread]
  exact vcodes_apply x2 r _
/-- The new values' scales. -/
theorem A_vscale (hc0 : cond0_0 i) (hc1 : cond0_1 i) (hc2 : ¬cond0_2 i)     (x0 : Vec Ideal S1x8x128 .bf16) (x1 : Vec Ideal S32x128 .bf16) (x2 : Vec Ideal S32x128 .bf16) (x3 : Vec Ideal S1x1x6528x64 .i8) (x4 : Vec Ideal S1x1x1020x128 .bf16) (x5 : Vec Ideal S1x1x1020x128 .bf16) (x6 : Vec Ideal S1x1x6528x64 .i8) (x7 : Vec Ideal S1x1x6528x4 .bf16) (x8 : Vec Ideal S1x1x6528x4 .bf16) (x9 : Vec Ideal S1x1x128x128 .bf16) (x10 : Vec Ideal S1x1x128x128 .bf16) (d11 : Vec Ideal S1x8x128 .bf16) (xs0 : Vec Ideal S1024x128 .f32) (xs1 : Vec Ideal S1024x128 .f32)
    (r : Fin 32) (j : Fin 4) (g : BufTy.Contents (Elt Ideal) arg18.view.ty) :
    arg18.view.read (Elt Ideal) (arg18.view.writes (Elt Ideal) g (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 d11 xs0 xs1).2.2.2.2.1) (ix2 r j) = gscale (row x2 r) j.val := by
  unfold runA
  frame_open
  rw [read_whole_write, readAt_whole, harg4.read_unread]
  exact vscales_apply x2 r _
/-- The new values' zeros. -/
theorem A_vzero (hc0 : cond0_0 i) (hc1 : cond0_1 i) (hc2 : ¬cond0_2 i)     (x0 : Vec Ideal S1x8x128 .bf16) (x1 : Vec Ideal S32x128 .bf16) (x2 : Vec Ideal S32x128 .bf16) (x3 : Vec Ideal S1x1x6528x64 .i8) (x4 : Vec Ideal S1x1x1020x128 .bf16) (x5 : Vec Ideal S1x1x1020x128 .bf16) (x6 : Vec Ideal S1x1x6528x64 .i8) (x7 : Vec Ideal S1x1x6528x4 .bf16) (x8 : Vec Ideal S1x1x6528x4 .bf16) (x9 : Vec Ideal S1x1x128x128 .bf16) (x10 : Vec Ideal S1x1x128x128 .bf16) (d11 : Vec Ideal S1x8x128 .bf16) (xs0 : Vec Ideal S1024x128 .f32) (xs1 : Vec Ideal S1024x128 .f32)
    (r : Fin 32) (j : Fin 4) (g : BufTy.Contents (Elt Ideal) arg19.view.ty) :
    arg19.view.read (Elt Ideal) (arg19.view.writes (Elt Ideal) g (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 d11 xs0 xs1).2.2.2.2.2.1) (ix2 r j) = gmin (row x2 r) j.val := by
  unfold runA
  frame_open
  rw [read_whole_write, readAt_whole, harg4.read_unread]
  exact vzeros_apply x2 r _
/-- The new keys' round trip. -/
theorem A_kdeq (hc0 : cond0_0 i) (hc1 : cond0_1 i) (hc2 : ¬cond0_2 i)     (x0 : Vec Ideal S1x8x128 .bf16) (x1 : Vec Ideal S32x128 .bf16) (x2 : Vec Ideal S32x128 .bf16) (x3 : Vec Ideal S1x1x6528x64 .i8) (x4 : Vec Ideal S1x1x1020x128 .bf16) (x5 : Vec Ideal S1x1x1020x128 .bf16) (x6 : Vec Ideal S1x1x6528x64 .i8) (x7 : Vec Ideal S1x1x6528x4 .bf16) (x8 : Vec Ideal S1x1x6528x4 .bf16) (x9 : Vec Ideal S1x1x128x128 .bf16) (x10 : Vec Ideal S1x1x128x128 .bf16) (d11 : Vec Ideal S1x8x128 .bf16) (xs0 : Vec Ideal S1024x128 .f32) (xs1 : Vec Ideal S1024x128 .f32)
    (r : Fin 32) (j : Fin 128) (g : BufTy.Contents (Elt Ideal) arg26.view.ty) :
    arg26.view.read (Elt Ideal) (arg26.view.writes (Elt Ideal) g (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 d11 xs0 xs1).2.2.2.2.2.2.2.2.2.2.2.1) (ix2 r j) = gdq (row x1 r) j := by
  unfold runA
  frame_open
  rw [read_whole_write, readAt_whole, harg3.read_unread]
  exact deq_apply x1 r _
/-- The new values' round trip. -/
theorem A_vdeq (hc0 : cond0_0 i) (hc1 : cond0_1 i) (hc2 : ¬cond0_2 i)     (x0 : Vec Ideal S1x8x128 .bf16) (x1 : Vec Ideal S32x128 .bf16) (x2 : Vec Ideal S32x128 .bf16) (x3 : Vec Ideal S1x1x6528x64 .i8) (x4 : Vec Ideal S1x1x1020x128 .bf16) (x5 : Vec Ideal S1x1x1020x128 .bf16) (x6 : Vec Ideal S1x1x6528x64 .i8) (x7 : Vec Ideal S1x1x6528x4 .bf16) (x8 : Vec Ideal S1x1x6528x4 .bf16) (x9 : Vec Ideal S1x1x128x128 .bf16) (x10 : Vec Ideal S1x1x128x128 .bf16) (d11 : Vec Ideal S1x8x128 .bf16) (xs0 : Vec Ideal S1024x128 .f32) (xs1 : Vec Ideal S1024x128 .f32)
    (r : Fin 32) (j : Fin 128) (g : BufTy.Contents (Elt Ideal) arg27.view.ty) :
    arg27.view.read (Elt Ideal) (arg27.view.writes (Elt Ideal) g (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 d11 xs0 xs1).2.2.2.2.2.2.2.2.2.2.2.2.val) (ix2 r j) = gdq (row x2 r) j := by
  unfold runA
  frame_open
  rw [read_whole_write, readAt_whole, harg4.read_unread]
  exact vdeq_apply x2 r _

end Cert.KernelIdeal.Body

end
-- ==== Proof.Blocks.lean ====
/-
  What each input block of the kernel holds, read at a place: the host array it was cut from, at the block's place.
-/
module

public import proofs.«01_k».proof.Proof.KernelIdealBody
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD) (t : Fin cfg0.N)

/-- Point `t` is one of the 160. -/
theorem t_lt : t.val < 160 := t.isLt

/-- The head (batch row and key head in one) point `t` works on. -/
abbrev bat : Fin 8 := ⟨t.val / 20, by have := t_lt t; omega⟩
/-- The key-value head of a grid point, inside its batch entry. -/
abbrev hd : Fin 4 := ⟨t.val / 5 % 4, by omega⟩

/-- The block window 0 stages at each point. -/
theorem idx0 : ∀ t, win0_0.index t = ![t.val / 5, 0, 0] := by decide +kernel

/-- The block window 1 stages at each point. -/
theorem idx1 : ∀ t, win0_1.index t = ![0, 0] := by decide +kernel

/-- The block window 2 stages at each point. -/
theorem idx2 : ∀ t, win0_2.index t = ![0, 0] := by decide +kernel

/-- The block window 3 stages at each point. -/
theorem idx3 : ∀ t, win0_3.index t = ![t.val / 20, t.val / 5 % 4, t.val % 5, 0] := by decide +kernel

/-- The block window 4 stages at each point. -/
theorem idx4 : ∀ t, win0_4.index t = ![t.val / 20, t.val / 5 % 4, 0, 0] := by decide +kernel

/-- The block window 5 stages at each point. -/
theorem idx5 : ∀ t, win0_5.index t = ![t.val / 20, t.val / 5 % 4, 0, 0] := by decide +kernel

/-- The block window 6 stages at each point. -/
theorem idx6 : ∀ t, win0_6.index t = ![t.val / 20, t.val / 5 % 4, t.val % 5, 0] := by decide +kernel

/-- The block window 7 stages at each point. -/
theorem idx7 : ∀ t, win0_7.index t = ![t.val / 20, t.val / 5 % 4, t.val % 5, 0] := by decide +kernel

/-- The block window 8 stages at each point. -/
theorem idx8 : ∀ t, win0_8.index t = ![t.val / 20, t.val / 5 % 4, t.val % 5, 0] := by decide +kernel

/-- The block window 9 stages at each point. -/
theorem idx9 : ∀ t, win0_9.index t = ![t.val / 20, t.val / 5 % 4, 0, 0] := by decide +kernel

/-- The block window 10 stages at each point. -/
theorem idx10 : ∀ t, win0_10.index t = ![t.val / 20, t.val / 5 % 4, 0, 0] := by decide +kernel

/-- A block of key codes is the rows of the cache at its place. -/
theorem iblk3 (j : Fin 6528) (d : Fin 64) :
    iblk m c 3 t (ix4 0 0 j d) = m ((c : Thread nD τ).loc main_arg3) (ix4 (bat t) (hd t) ⟨t.val % 5 * 6528 + j.val, by omega⟩ d) := by
  have e := idx3 t
  blk_ext [iblk, e]

/-- A block of value codes is the rows of the cache at its place. -/
theorem iblk6 (j : Fin 6528) (d : Fin 64) :
    iblk m c 6 t (ix4 0 0 j d) = m ((c : Thread nD τ).loc main_arg6) (ix4 (bat t) (hd t) ⟨t.val % 5 * 6528 + j.val, by omega⟩ d) := by
  have e := idx6 t
  blk_ext [iblk, e]

/-- A block of value scales is the rows of the cache at its place. -/
theorem iblk7 (j : Fin 6528) (d : Fin 4) :
    iblk m c 7 t (ix4 0 0 j d) = m ((c : Thread nD τ).loc main_arg7) (ix4 (bat t) (hd t) ⟨t.val % 5 * 6528 + j.val, by omega⟩ d) := by
  have e := idx7 t
  blk_ext [iblk, e]

/-- A block of value zeros is the rows of the cache at its place. -/
theorem iblk8 (j : Fin 6528) (d : Fin 4) :
    iblk m c 8 t (ix4 0 0 j d) = m ((c : Thread nD τ).loc main_arg8) (ix4 (bat t) (hd t) ⟨t.val % 5 * 6528 + j.val, by omega⟩ d) := by
  have e := idx8 t
  blk_ext [iblk, e]

/-- The key scales of the point's head, whole. -/
theorem iblk4 (r : Fin 1020) (d : Fin 128) :
    iblk m c 4 t (ix4 0 0 r d) = m ((c : Thread nD τ).loc main_arg4) (ix4 (bat t) (hd t) r d) := by
  have e := idx4 t
  blk_ext [iblk, e]

/-- The key zeros of the point's head, whole. -/
theorem iblk5 (r : Fin 1020) (d : Fin 128) :
    iblk m c 5 t (ix4 0 0 r d) = m ((c : Thread nD τ).loc main_arg5) (ix4 (bat t) (hd t) r d) := by
  have e := idx5 t
  blk_ext [iblk, e]

/-- The key tail of the point's head, whole. -/
theorem iblk9 (r : Fin 128) (d : Fin 128) :
    iblk m c 9 t (ix4 0 0 r d) = m ((c : Thread nD τ).loc main_arg9) (ix4 (bat t) (hd t) r d) := by
  have e := idx9 t
  blk_ext [iblk, e]

/-- The value tail of the point's head, whole. -/
theorem iblk10 (r : Fin 128) (d : Fin 128) :
    iblk m c 10 t (ix4 0 0 r d) = m ((c : Thread nD τ).loc main_arg10) (ix4 (bat t) (hd t) r d) := by
  have e := idx10 t
  blk_ext [iblk, e]

/-- The queries of the point's head, one row for each query head. -/
theorem iblk0 (h : Fin 8) (d : Fin 128) :
    iblk m c 0 t (ix3 0 h d) = m ((c : Thread nD τ).loc main_arg0)
      (ix3 (bat t) 0 ⟨t.val / 5 % 4 * 1024 + h.val * 128 + d.val, by omega⟩) := by
  have e := idx0 t
  blk_simp [iblk, e]
  entry_read
  pointwise []
  blk_ext [e]

/-- The new keys of all heads. -/
theorem iblk1 (b : Fin 32) (d : Fin 128) :
    iblk m c 1 t (ix2 b d) = m ((c : Thread nD τ).loc main_arg1)
      (ix4 ⟨b.val / 4, by omega⟩ 0 ⟨b.val % 4, by omega⟩ d) := by
  have e := idx1 t
  blk_simp [iblk, e]
  entry_read
  pointwise []
  blk_ext [e]

/-- The new values of all heads. -/
theorem iblk2 (b : Fin 32) (d : Fin 128) :
    iblk m c 2 t (ix2 b d) = m ((c : Thread nD τ).loc main_arg2)
      (ix4 ⟨b.val / 4, by omega⟩ 0 ⟨b.val % 4, by omega⟩ d) := by
  have e := idx2 t
  blk_simp [iblk, e]
  entry_read
  pointwise []
  blk_ext [e]

end Cert.KernelIdeal.Body

end
-- ==== Proof.Attend.lean ====
/-
  One decode step of attention over a quantised cache, over the extended reals: what both programs compute.
-/
module

public import proofs.«01_k».proof.Proof.Scores
public import proofs.«01_k».proof.Proof.Spec

@[expose] public section

noncomputable section

namespace Cert.Online

open Idealize.ShloMosaic

/-- The arguments, by head (batch row and key head in one). -/
structure Cache where
  q : Fin 32 → Fin 8 → Fin 128 → EReal
  kn : Fin 32 → Fin 128 → EReal
  vn : Fin 32 → Fin 128 → EReal
  kc : Fin 32 → Fin 32640 → Fin 64 → BitVec 8
  ks : Fin 32 → Fin 1020 → Fin 128 → EReal
  kz : Fin 32 → Fin 1020 → Fin 128 → EReal
  vc : Fin 32 → Fin 32640 → Fin 64 → BitVec 8
  vs : Fin 32 → Fin 32640 → Fin 4 → EReal
  vz : Fin 32 → Fin 32640 → Fin 4 → EReal
  kt : Fin 32 → Fin 128 → Fin 128 → EReal
  vt : Fin 32 → Fin 128 → Fin 128 → EReal

variable (A : Cache)

/-- Channel `d` of the key of token `t`: the cache, then the tail, then the new token. -/
def Cache.key (n : Fin 32) (d : Fin 128) (t : ℕ) : EReal :=
  if h : t < 32640 then
    code (A.kc n ⟨t, h⟩ ⟨d.val / 2, by omega⟩) (decide (d.val % 2 = 1)) * A.ks n ⟨t / 32, by omega⟩ d + A.kz n ⟨t / 32, by omega⟩ d
  else if h' : t < 32768 then A.kt n ⟨t - 32640, by omega⟩ d
  else gdq (A.kn n) d

/-- Channel `d` of the value of token `t`. -/
def Cache.val (n : Fin 32) (d : Fin 128) (t : ℕ) : EReal :=
  if h : t < 32640 then
    code (A.vc n ⟨t, h⟩ ⟨d.val / 2, by omega⟩) (decide (d.val % 2 = 1)) * A.vs n ⟨t, h⟩ ⟨d.val / 32, by omega⟩ + A.vz n ⟨t, h⟩ ⟨d.val / 32, by omega⟩
  else if h' : t < 32768 then A.vt n ⟨t - 32640, by omega⟩ d
  else gdq (A.vn n) d

/-- The score of query row `h` against token `t`; no token past the new one has any weight. -/
def Cache.score (n : Fin 32) (h : Fin 8) (t : ℕ) : EReal :=
  if t ≤ 32768 then (∑ d : Fin 128, A.q n h d * A.key n d t) * Cert.KernelIdeal.Body.SM else ⊥

/-- The attention's result. -/
def Cache.out (n : Fin 32) (h : Fin 8) (d : Fin 128) : EReal :=
  Ideal.div (W (A.score n h) (A.val n d) 32769) (W (A.score n h) (fun _ => 1) 32769)

/-- Fifteen masked tokens past the end change nothing. -/
theorem Cache.out_masked (n : Fin 32) (h : Fin 8) (d : Fin 128) :
    Ideal.div (W (A.score n h) (A.val n d) (32769 + 15)) (W (A.score n h) (fun _ => 1) (32769 + 15)) = A.out n h d := by
  have hb : ∀ j : Fin 15, A.score n h (32769 + j.val) = ⊥ := fun j => by
    unfold Cache.score
    rw [if_neg (by omega)]
  rw [W_masked _ _ _ _ hb, W_masked _ _ _ _ hb]
  rfl

/-- The byte and the half of it that hold a column's channel. -/
theorem src_half (e : Fin 128) : (src e).val / 2 = e.val % 64 := by
  unfold src; split <;> simp only <;> omega
/-- In the split order the odd channels are the last 64. -/
theorem src_odd (e : Fin 128) : decide ((src e).val % 2 = 1) = decide (64 ≤ e.val) := by
  unfold src; split <;> simp only <;> congr 1 <;> simp only [eq_iff_iff] <;> omega
/-- The group of the channel that the split order puts at place `e`. -/
theorem src_group (e : Fin 128) : (src e).val / 32 = e.val % 64 / 16 := by
  unfold src; split <;> simp only <;> omega

end Cert.Online

end
-- ==== Proof.Account.lean ====
/-
  What the kernel holds before each grid point, as an account: the running softmax of its head, and the new tokens quantised. A block of scores or values, and the tail and the new token, are the attention over the cache.
-/
module

public import proofs.«01_k».proof.Proof.Step
public import proofs.«01_k».proof.Proof.Quant
public import proofs.«01_k».proof.Proof.Blocks
public import proofs.«01_k».proof.Proof.Attend

@[expose] public section

set_option maxRecDepth 16384

noncomputable section

namespace Cert.KernelIdeal.Body

open Cert.KernelIdeal Cert.KernelIdeal.Gen Cert.Online
open Idealize.ShloMosaic Idealize.ShloMosaic.TcCoe Idealize.ShloMosaic.Tactic
open Idealize.SL Idealize.SL.RA Idealize.SL.BI Idealize.SL.Sem

variable (m : (ℓ : Loc nD τ sig) → Buf (Elt Ideal) ℓ) (c : Dev nD)

/-- The kernel's arguments, by head. -/
def cacheK : Cache where
  q n h d := m ((c : Thread nD τ).loc main_arg0) (ix3 (⟨n.val / 4, by omega⟩ : Fin 8) (0 : Fin 1) (⟨n.val % 4 * 1024 + h.val * 128 + d.val, by omega⟩ : Fin 4096))
  kn n d := m ((c : Thread nD τ).loc main_arg1) (ix4 (⟨n.val / 4, by omega⟩ : Fin 8) (0 : Fin 1) (⟨n.val % 4, by omega⟩ : Fin 4) d)
  vn n d := m ((c : Thread nD τ).loc main_arg2) (ix4 (⟨n.val / 4, by omega⟩ : Fin 8) (0 : Fin 1) (⟨n.val % 4, by omega⟩ : Fin 4) d)
  kc n t d := m ((c : Thread nD τ).loc main_arg3) (ix4 (⟨n.val / 4, by omega⟩ : Fin 8) (⟨n.val % 4, by omega⟩ : Fin 4) t d)
  ks n t d := m ((c : Thread nD τ).loc main_arg4) (ix4 (⟨n.val / 4, by omega⟩ : Fin 8) (⟨n.val % 4, by omega⟩ : Fin 4) t d)
  kz n t d := m ((c : Thread nD τ).loc main_arg5) (ix4 (⟨n.val / 4, by omega⟩ : Fin 8) (⟨n.val % 4, by omega⟩ : Fin 4) t d)
  vc n t d := m ((c : Thread nD τ).loc main_arg6) (ix4 (⟨n.val / 4, by omega⟩ : Fin 8) (⟨n.val % 4, by omega⟩ : Fin 4) t d)
  vs n t d := m ((c : Thread nD τ).loc main_arg7) (ix4 (⟨n.val / 4, by omega⟩ : Fin 8) (⟨n.val % 4, by omega⟩ : Fin 4) t d)
  vz n t d := m ((c : Thread nD τ).loc main_arg8) (ix4 (⟨n.val / 4, by omega⟩ : Fin 8) (⟨n.val % 4, by omega⟩ : Fin 4) t d)
  kt n t d := m ((c : Thread nD τ).loc main_arg9) (ix4 (⟨n.val / 4, by omega⟩ : Fin 8) (⟨n.val % 4, by omega⟩ : Fin 4) t d)
  vt n t d := m ((c : Thread nD τ).loc main_arg10) (ix4 (⟨n.val / 4, by omega⟩ : Fin 8) (⟨n.val % 4, by omega⟩ : Fin 4) t d)

variable (t : Fin cfg0.N)

/-- The head of a point. -/
abbrev head : Fin 32 := ⟨t.val / 5, by have := t_lt t; omega⟩

/-- The place of a point in the grid. -/
theorem coords0 : ∀ t : Fin cfg0.N, (grid0.coords t 0).val = t.val / 5 := by decide +kernel
/-- The block of a grid point is its number modulo 5. -/
theorem coords1 : ∀ t : Fin cfg0.N, (grid0.coords t 1).val = t.val % 5 := by decide +kernel

/-- The batch entry of a grid point is its head divided by 4. -/
theorem bat_eq : bat t = (⟨(head t).val / 4, by omega⟩ : Fin 8) := Fin.ext (by show t.val / 20 = t.val / 5 / 4; omega)

/-! ## The blocks, by head -/

/-- A grid point's queries are the head's. -/
theorem blk_q (h : Fin 8) (d : Fin 128) : iblk m c 0 t (ix3 0 h d) = (cacheK m c).q (head t) h d :=
  (iblk0 m c t h d).trans (by rw [bat_eq]; rfl)
/-- A grid point's new keys are all heads'. -/
theorem blk_kn (b : Fin 32) (d : Fin 128) : iblk m c 1 t (ix2 b d) = (cacheK m c).kn b d := iblk1 m c t b d
/-- A grid point's new values are all heads'. -/
theorem blk_vn (b : Fin 32) (d : Fin 128) : iblk m c 2 t (ix2 b d) = (cacheK m c).vn b d := iblk2 m c t b d
/-- A grid point's key codes are the head's, of the block's tokens. -/
theorem blk_kc (j : Fin 6528) (d : Fin 64) : iblk m c 3 t (ix4 0 0 j d) = (cacheK m c).kc (head t) ⟨t.val % 5 * 6528 + j.val, by omega⟩ d :=
  (iblk3 m c t j d).trans (by rw [bat_eq]; rfl)
/-- A grid point's key scales are the head's. -/
theorem blk_ks (r : Fin 1020) (d : Fin 128) : iblk m c 4 t (ix4 0 0 r d) = (cacheK m c).ks (head t) r d :=
  (iblk4 m c t r d).trans (by rw [bat_eq]; rfl)
/-- A grid point's key zeros are the head's. -/
theorem blk_kz (r : Fin 1020) (d : Fin 128) : iblk m c 5 t (ix4 0 0 r d) = (cacheK m c).kz (head t) r d :=
  (iblk5 m c t r d).trans (by rw [bat_eq]; rfl)
/-- A grid point's value codes are the head's, of the block's tokens. -/
theorem blk_vc (j : Fin 6528) (d : Fin 64) : iblk m c 6 t (ix4 0 0 j d) = (cacheK m c).vc (head t) ⟨t.val % 5 * 6528 + j.val, by omega⟩ d :=
  (iblk6 m c t j d).trans (by rw [bat_eq]; rfl)
/-- A grid point's value scales are the head's, of the block's tokens. -/
theorem blk_vs (j : Fin 6528) (d : Fin 4) : iblk m c 7 t (ix4 0 0 j d) = (cacheK m c).vs (head t) ⟨t.val % 5 * 6528 + j.val, by omega⟩ d :=
  (iblk7 m c t j d).trans (by rw [bat_eq]; rfl)
/-- A grid point's value zeros are the head's, of the block's tokens. -/
theorem blk_vz (j : Fin 6528) (d : Fin 4) : iblk m c 8 t (ix4 0 0 j d) = (cacheK m c).vz (head t) ⟨t.val % 5 * 6528 + j.val, by omega⟩ d :=
  (iblk8 m c t j d).trans (by rw [bat_eq]; rfl)
/-- A grid point's tail keys are the head's. -/
theorem blk_kt (r : Fin 128) (d : Fin 128) : iblk m c 9 t (ix4 0 0 r d) = (cacheK m c).kt (head t) r d :=
  (iblk9 m c t r d).trans (by rw [bat_eq]; rfl)
/-- A grid point's tail values are the head's. -/
theorem blk_vt (r : Fin 128) (d : Fin 128) : iblk m c 10 t (ix4 0 0 r d) = (cacheK m c).vt (head t) r d :=
  (iblk10 m c t r d).trans (by rw [bat_eq]; rfl)

/-! ## A block's scores and values are the attention's -/

/-- A block's score is the head's score of the same token, when the split scales and zeros are the head's. -/
theorem score_eq (K Z : Vec Ideal S1024x128 .f32) (hK : ∀ (r : Fin 1020) d, K (ix2 ⟨r.val, by omega⟩ d) = (cacheK m c).ks (head t) r (src d))
    (hZ : ∀ (r : Fin 1020) d, Z (ix2 ⟨r.val, by omega⟩ d) = (cacheK m c).kz (head t) r (src d)) (h : Fin 8) (j : Fin 6528) :
    blkScore (grid0.coords t) (iblk m c 0 t) (iblk m c 3 t) K Z h j = (cacheK m c).score (head t) h (6528 * (t.val % 5) + j.val) := by
  have hb := coords1 t
  unfold blkScore Cache.score
  rw [if_pos (by omega), ← sum_src (fun d => (cacheK m c).q (head t) h d * (cacheK m c).key (head t) d (6528 * (t.val % 5) + j.val))]
  refine congrArg (fun z : EReal => z * SM) (Finset.sum_congr rfl fun e _ => ?_)
  have hr : (⟨204 * (grid0.coords t 1).val + j.val / 32, by omega⟩ : Fin 1020) = ⟨(6528 * (t.val % 5) + j.val) / 32, by omega⟩ :=
    Fin.ext (by show 204 * (grid0.coords t 1).val + j.val / 32 = (6528 * (t.val % 5) + j.val) / 32; omega)
  have h1 := (hK ⟨204 * (grid0.coords t 1).val + j.val / 32, by omega⟩ e).trans (congrArg (fun z => (cacheK m c).ks (head t) z (src e)) hr)
  have h2 := (hZ ⟨204 * (grid0.coords t 1).val + j.val / 32, by omega⟩ e).trans (congrArg (fun z => (cacheK m c).kz (head t) z (src e)) hr)
  rw [qsplit_apply, blk_q, blk_kc]
  refine congrArg₂ (fun a b : EReal => a * b) rfl ?_
  unfold Cache.key
  rw [dif_pos (show 6528 * (t.val % 5) + j.val < 32640 by omega)]
  refine congrArg₂ (fun a b : EReal => a + b) (congrArg₂ (fun a b : EReal => a * b) ?_ h1) h2
  rw [src_odd]
  refine congrArg (fun z : BitVec 8 => code z (decide (64 ≤ e.val))) ?_
  exact congrArg₂ ((cacheK m c).kc (head t)) (Fin.ext (by show t.val % 5 * 6528 + j.val = 6528 * (t.val % 5) + j.val; omega)) (Fin.ext (src_half e).symm)

/-- A block's value is the head's value of the same token, at the channel the split order puts there. -/
theorem value_eq (j : Fin 6528) (e : Fin 128) :
    blkValue (iblk m c 6 t) (iblk m c 7 t) (iblk m c 8 t) j e = (cacheK m c).val (head t) (src e) (6528 * (t.val % 5) + j.val) := by
  unfold blkValue Cache.val
  have hj : (⟨t.val % 5 * 6528 + j.val, by omega⟩ : Fin 32640) = ⟨6528 * (t.val % 5) + j.val, by omega⟩ :=
    Fin.ext (by show t.val % 5 * 6528 + j.val = 6528 * (t.val % 5) + j.val; omega)
  rw [blk_vc, blk_vs, blk_vz, hj, dif_pos (show 6528 * (t.val % 5) + j.val < 32640 by omega), src_odd]
  have hg : (⟨e.val % 64 / 16, by omega⟩ : Fin 4) = ⟨(src e).val / 32, by omega⟩ := Fin.ext (src_group e).symm
  have hh : (⟨e.val % 64, by omega⟩ : Fin 64) = ⟨(src e).val / 2, by omega⟩ := Fin.ext (src_half e).symm
  rw [hg, hh]

/-- The scores of the tail and the new token. -/
theorem tail_score_eq (h5 : t.val % 5 = 4) (kd : Vec Ideal S32x128 .f32) (hk : ∀ r d, kd (ix2 r d) = gdq ((cacheK m c).kn r) d) (h : Fin 8) (r : Fin 144) :
    (if r.val ≤ 128 then (∑ d : Fin 128, HMul.hMul (α := EReal) (β := EReal) (γ := EReal) (iblk m c 0 t (ix3 0 h d)) ((if hr : r.val < 128 then iblk m c 9 t (ix4 0 0 ⟨r.val, hr⟩ d)
        else kd (ix2 ⟨(grid0.coords t 0).val, (grid0.coords t 0).isLt⟩ d)) : EReal)) * SM else ⊥)
      = (cacheK m c).score (head t) h (6528 * (t.val % 5) + 6528 + r.val) := by
  unfold Cache.score
  by_cases hr : r.val ≤ 128
  · rw [if_pos hr, if_pos (by omega)]
    refine congrArg (fun z : EReal => z * SM) (Finset.sum_congr rfl fun d _ => ?_)
    rw [blk_q]
    refine congrArg₂ (fun a b : EReal => a * b) rfl ?_
    unfold Cache.key
    rw [dif_neg (show ¬ 6528 * (t.val % 5) + 6528 + r.val < 32640 by omega)]
    by_cases hr' : r.val < 128
    · rw [dif_pos hr', dif_pos (by omega), blk_kt]
      exact congrArg (fun z => (cacheK m c).kt (head t) z d) (Fin.ext (by show r.val = 6528 * (t.val % 5) + 6528 + r.val - 32640; omega))
    · rw [dif_neg hr', dif_neg (by omega), hk]
      exact congrArg (fun z => gdq ((cacheK m c).kn z) d) (Fin.ext (coords0 t))
  · rw [if_neg hr, if_neg (by omega)]

/-- The values of the tail and the new token. -/
theorem tail_value_eq (h5 : t.val % 5 = 4) (vd : Vec Ideal S32x128 .f32) (hk : ∀ r d, vd (ix2 r d) = gdq ((cacheK m c).vn r) d) (r : Fin 144) (d : Fin 128) :
    (if hr : r.val < 128 then iblk m c 10 t (ix4 0 0 ⟨r.val, hr⟩ d) else vd (ix2 ⟨(grid0.coords t 0).val, (grid0.coords t 0).isLt⟩ d))
      = (cacheK m c).val (head t) d (6528 * (t.val % 5) + 6528 + r.val) := by
  unfold Cache.val
  rw [dif_neg (show ¬ 6528 * (t.val % 5) + 6528 + r.val < 32640 by omega)]
  by_cases hr' : r.val < 128
  · rw [dif_pos hr', dif_pos (by omega), blk_vt]
    exact congrArg (fun z => (cacheK m c).vt (head t) z d) (Fin.ext (by show r.val = 6528 * (t.val % 5) + 6528 + r.val - 32640; omega))
  · rw [dif_neg hr', dif_neg (by omega), hk]
    exact congrArg (fun z => gdq ((cacheK m c).vn z) d) (Fin.ext (coords0 t))

/-! ## The account -/

/-- What the scratch holds of head `n` after `N` of its tokens. -/
structure Mid (A : Cache) (n : Fin 32) (N : ℕ) (s : St Ideal) : Prop where
  k2 : ∀ (r : Fin 1020) d, s.k2 (ix2 ⟨r.val, by omega⟩ d) = A.ks n r (src d)
  z2 : ∀ (r : Fin 1020) d, s.z2 (ix2 ⟨r.val, by omega⟩ d) = A.kz n r (src d)
  mx : ∀ h e, s.mx (ix2 h e) = M (A.score n h) N
  dn : ∀ h e, s.dn (ix2 h e) = W (A.score n h) (fun _ => 1) N
  ac : ∀ h e, s.ac (ix2 h e) = W (A.score n h) (A.val n (src e)) N

/-- What the scratch holds before point `t`: the new tokens' round trip after the first point, and the running softmax
    inside a head. -/
structure Known (A : Cache) (t : ℕ) (s : St Ideal) : Prop where
  kd : 1 ≤ t → ∀ r d, s.kd (ix2 r d) = gdq (A.kn r) d
  vd : 1 ≤ t → ∀ r d, s.vd (ix2 r d) = gdq (A.vn r) d
  mid : ∀ n : Fin 32, t / 5 = n.val → t % 5 ≠ 0 → Mid A n (6528 * (t % 5)) s

/-- `Mid` of a scratch given by its parts. -/
theorem Mid.of {A : Cache} {n : Fin 32} {N : ℕ} {k2 z2 : Vec Ideal S1024x128 .f32} {mx dn ac : Vec Ideal S8x128 .f32} {kd vd : Vec Ideal S32x128 .f32}
    (h1 : ∀ (r : Fin 1020) d, k2 (ix2 ⟨r.val, by omega⟩ d) = A.ks n r (src d)) (h2 : ∀ (r : Fin 1020) d, z2 (ix2 ⟨r.val, by omega⟩ d) = A.kz n r (src d))
    (h3 : ∀ h e, mx (ix2 h e) = M (A.score n h) N) (h4 : ∀ h e, dn (ix2 h e) = W (A.score n h) (fun _ => 1) N)
    (h5 : ∀ h e, ac (ix2 h e) = W (A.score n h) (A.val n (src e)) N) : Mid A n N ⟨k2, z2, mx, dn, ac, kd, vd⟩ := ⟨h1, h2, h3, h4, h5⟩

/-- `Known` of a scratch given by its parts. -/
theorem Known.of {A : Cache} {t : ℕ} {k2 z2 : Vec Ideal S1024x128 .f32} {mx dn ac : Vec Ideal S8x128 .f32} {kd vd : Vec Ideal S32x128 .f32}
    (h1 : 1 ≤ t → ∀ r d, kd (ix2 r d) = gdq (A.kn r) d) (h2 : 1 ≤ t → ∀ r d, vd (ix2 r d) = gdq (A.vn r) d)
    (h3 : ∀ n : Fin 32, t / 5 = n.val → t % 5 ≠ 0 → Mid A n (6528 * (t % 5)) ⟨k2, z2, mx, dn, ac, kd, vd⟩) :
    Known A t ⟨k2, z2, mx, dn, ac, kd, vd⟩ := ⟨h1, h2, h3⟩

/-- The account of the kernel: the scratch as above, each result the attention's or the quantiser's. -/
def account (A : Cache) : Knows Ideal where
  Inv := Known A
  Q11 t X := ∀ n : Fin 32, t / 5 = n.val → ∀ h d, X (ix3 0 h d) = A.out n h d
  Q12 X := ∀ r j, X (ix2 r j) = gbyte (A.kn r) j
  Q13 X := ∀ r g, X (ix2 r g) = gscale (A.kn r) g.val
  Q14 X := ∀ r g, X (ix2 r g) = gmin (A.kn r) g.val
  Q15 X := ∀ r j, X (ix2 r j) = gbyte (A.vn r) j
  Q16 X := ∀ r g, X (ix2 r g) = gscale (A.vn r) g.val
  Q17 X := ∀ r g, X (ix2 r g) = gmin (A.vn r) g.val

/-- A row of the new keys' window is that head's new key. -/
theorem row_kn (r : Fin 32) : row (iblk m c 1 t) r = (cacheK m c).kn r := funext fun d => blk_kn m c t r d
/-- A row of the new values' window is that head's new value. -/
theorem row_vn (r : Fin 32) : row (iblk m c 2 t) r = (cacheK m c).vn r := funext fun d => blk_vn m c t r d

end Cert.KernelIdeal.Body

end
-- ==== Proof.StepA.lean ====
/-
  The first point of all carries the account on.
-/
module

public import proofs.«01_k».proof.Proof.CaseA
public import proofs.«01_k».proof.Proof.Account

@[expose] public section

set_option maxRecDepth 16384

noncomputable section

namespace Cert.KernelIdeal.Body

open Cert.KernelIdeal Cert.KernelIdeal.Gen Cert.Online
open Idealize.ShloMosaic Idealize.ShloMosaic.TcCoe Idealize.ShloMosaic.Tactic
open Idealize.SL Idealize.SL.RA Idealize.SL.BI Idealize.SL.Sem

variable (m : (ℓ : Loc nD τ sig) → Buf (Elt Ideal) ℓ) (c : Dev nD)

/-- `Mid` of a scratch given by its parts, the head and the number of tokens under other names. -/
theorem Mid.of_eq {A : Cache} {n n' : Fin 32} {N N' : ℕ} {k2 z2 : Vec Ideal S1024x128 .f32} {mx dn ac : Vec Ideal S8x128 .f32} {kd vd : Vec Ideal S32x128 .f32}
    (hn : n' = n) (hN : N' = N)
    (h1 : ∀ (r : Fin 1020) d, k2 (ix2 ⟨r.val, by omega⟩ d) = A.ks n r (src d)) (h2 : ∀ (r : Fin 1020) d, z2 (ix2 ⟨r.val, by omega⟩ d) = A.kz n r (src d))
    (h3 : ∀ h e, mx (ix2 h e) = M (A.score n h) N) (h4 : ∀ h e, dn (ix2 h e) = W (A.score n h) (fun _ => 1) N)
    (h5 : ∀ h e, ac (ix2 h e) = W (A.score n h) (A.val n (src e)) N) : Mid A n' N' ⟨k2, z2, mx, dn, ac, kd, vd⟩ := by
  subst hn hN
  exact Mid.of h1 h2 h3 h4 h5

set_option maxHeartbeats 8000000 in
/-- The first point of all carries the account on. -/
theorem stepA : ∀ (t : Fin cfg0.N) (h0 : t.val % 160 = 0) (h1 : t.val % 5 = 0) (h2 : ¬t.val % 5 = 4) (s : St Ideal) (d : Outs Ideal), (account (cacheK m c)).Inv t.val s → ∀ (f12 : (ms0_12 t).view.ty.Contents (Elt Ideal)) (f13 : (ms0_13 t).view.ty.Contents (Elt Ideal)) (f14 : (ms0_14 t).view.ty.Contents (Elt Ideal)) (f15 : (ms0_15 t).view.ty.Contents (Elt Ideal)) (f16 : (ms0_16 t).view.ty.Contents (Elt Ideal)) (f17 : (ms0_17 t).view.ty.Contents (Elt Ideal)) (g3 : scM0_3.view.ty.Contents (Elt Ideal)) (g4 : scM0_4.view.ty.Contents (Elt Ideal)) (g5 : scM0_5.view.ty.Contents (Elt Ideal)) (g6 : scM0_6.view.ty.Contents (Elt Ideal)) (g7 : scM0_7.view.ty.Contents (Elt Ideal)),
    (account (cacheK m c)).Inv (t.val + 1) ⟨(scM0_0.view.read (Elt Ideal) (scM0_0.view.writes (Elt Ideal) ((Memref.isWhole_whole _ : scM0_0.IsWhole).unread s.k2) (atA m c t h0 h1 h2 s d).2.2.2.2.2.2.1)), (scM0_1.view.read (Elt Ideal) (scM0_1.view.writes (Elt Ideal) ((Memref.isWhole_whole _ : scM0_1.IsWhole).unread s.z2) (atA m c t h0 h1 h2 s d).2.2.2.2.2.2.2.1)), (scM0_3.view.read (Elt Ideal) (scM0_3.view.writes (Elt Ideal) g3 (atA m c t h0 h1 h2 s d).2.2.2.2.2.2.2.2.1)), (scM0_4.view.read (Elt Ideal) (scM0_4.view.writes (Elt Ideal) g4 (atA m c t h0 h1 h2 s d).2.2.2.2.2.2.2.2.2.1)), (scM0_5.view.read (Elt Ideal) (scM0_5.view.writes (Elt Ideal) g5 (atA m c t h0 h1 h2 s d).2.2.2.2.2.2.2.2.2.2.1)), (scM0_6.view.read (Elt Ideal) (scM0_6.view.writes (Elt Ideal) g6 (atA m c t h0 h1 h2 s d).2.2.2.2.2.2.2.2.2.2.2.1)), (scM0_7.view.read (Elt Ideal) (scM0_7.view.writes (Elt Ideal) g7 (atA m c t h0 h1 h2 s d).2.2.2.2.2.2.2.2.2.2.2.2.1))⟩
      ∧ (account (cacheK m c)).Q12 ((ms0_12 t).view.read (Elt Ideal) ((ms0_12 t).view.writes (Elt Ideal) f12 (atA m c t h0 h1 h2 s d).1))
      ∧ (account (cacheK m c)).Q13 ((ms0_13 t).view.read (Elt Ideal) ((ms0_13 t).view.writes (Elt Ideal) f13 (atA m c t h0 h1 h2 s d).2.1))
      ∧ (account (cacheK m c)).Q14 ((ms0_14 t).view.read (Elt Ideal) ((ms0_14 t).view.writes (Elt Ideal) f14 (atA m c t h0 h1 h2 s d).2.2.1))
      ∧ (account (cacheK m c)).Q15 ((ms0_15 t).view.read (Elt Ideal) ((ms0_15 t).view.writes (Elt Ideal) f15 (atA m c t h0 h1 h2 s d).2.2.2.1))
      ∧ (account (cacheK m c)).Q16 ((ms0_16 t).view.read (Elt Ideal) ((ms0_16 t).view.writes (Elt Ideal) f16 (atA m c t h0 h1 h2 s d).2.2.2.2.1))
      ∧ (account (cacheK m c)).Q17 ((ms0_17 t).view.read (Elt Ideal) ((ms0_17 t).view.writes (Elt Ideal) f17 (atA m c t h0 h1 h2 s d).2.2.2.2.2.1)) := by
  intro t h0 h1 h2 s dd hi f12 f13 f14 f15 f16 f17 g3 g4 g5 g6 g7
  have hs : ∀ h, ∀ K Z : Vec Ideal S1024x128 .f32, (∀ (r : Fin 1020) d, K (ix2 ⟨r.val, by omega⟩ d) = iblk m c 4 t (ix4 0 0 r (src d))) →
      (∀ (r : Fin 1020) d, Z (ix2 ⟨r.val, by omega⟩ d) = iblk m c 5 t (ix4 0 0 r (src d))) →
      ∀ j, blkScore (grid0.coords t) (iblk m c 0 t) (iblk m c 3 t) K Z h j = (cacheK m c).score (head t) h (0 + j.val) := by
    intro h K Z hK hZ j
    have e := score_eq m c t K Z (fun r d => (hK r d).trans (blk_ks m c t r _)) (fun r d => (hZ r d).trans (blk_kz m c t r _)) h j
    rw [h1] at e
    exact e
  have hv : ∀ e, ∀ j, blkValue (iblk m c 6 t) (iblk m c 7 t) (iblk m c 8 t) j e = (cacheK m c).val (head t) (src e) (0 + j.val) := by
    intro e j
    have e' := value_eq m c t j e
    rw [h1] at e'
    exact e'
  refine ⟨Known.of (fun _ r d => ?kd) (fun _ r d => ?vd) fun n hn hk => ?mid, fun r j => ?q2, fun r j => ?q3, fun r j => ?q4, fun r j => ?q5, fun r j => ?q6, fun r j => ?q7⟩
  case kd => exact (A_kdeq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) dd.o11 s.k2 s.z2 r d _).trans (by rw [row_kn])
  case vd => exact (A_vdeq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) dd.o11 s.k2 s.z2 r d _).trans (by rw [row_vn])
  case q2 => exact (A_kcodes c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) dd.o11 s.k2 s.z2 r j _).trans (by rw [row_kn])
  case q3 => exact (A_kscale c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) dd.o11 s.k2 s.z2 r j _).trans (by rw [row_kn])
  case q4 => exact (A_kzero c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) dd.o11 s.k2 s.z2 r j _).trans (by rw [row_kn])
  case q5 => exact (A_vcodes c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) dd.o11 s.k2 s.z2 r j _).trans (by rw [row_vn])
  case q6 => exact (A_vscale c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) dd.o11 s.k2 s.z2 r j _).trans (by rw [row_vn])
  case q7 => exact (A_vzero c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) dd.o11 s.k2 s.z2 r j _).trans (by rw [row_vn])
  case mid =>
    have en : n = head t := Fin.ext (by show n.val = t.val / 5; omega)
    have eN : 6528 * ((t.val + 1) % 5) = 0 + 6528 := by omega
    clear hn hk hi
    exact Mid.of_eq en eN (fun r d => (A_scales c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) dd.o11 s.k2 s.z2 r d).trans (blk_ks m c t r _)) (fun r d => (A_zeros c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) dd.o11 s.k2 s.z2 r d).trans (blk_kz m c t r _)) (fun h e => A_max c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) dd.o11 s.k2 s.z2 (f := fun _ => 0) (hs h) _) (fun h e => A_sum c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) dd.o11 s.k2 s.z2 (f := fun _ => 0) (hs h) _) (fun h e => A_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) dd.o11 s.k2 s.z2 (hs h) (hv e) _)

end Cert.KernelIdeal.Body

end
-- ==== Proof.CaseB.lean ====
/-
  What the body leaves in each buffer at a middle block of a head, element by element.
-/
module

public import proofs.«01_k».proof.Proof.CaseKit
public import proofs.«01_k».proof.Proof.KernelIdealRunB

@[expose] public section

set_option maxRecDepth 16384

noncomputable section

namespace Cert.KernelIdeal.Body

open Cert.KernelIdeal Cert.KernelIdeal.Gen Cert.Online
open Idealize.ShloMosaic Idealize.ShloMosaic.TcCoe Idealize.ShloMosaic.Tactic
open Idealize.SL Idealize.SL.RA Idealize.SL.BI Idealize.SL.Sem

variable (c : Dev nD) (i : grid0.Coords)
  (arg2 : Memref sig .tc .vmem S1x8x128 .bf16) (harg2 : arg2.IsWhole)
  (arg3 : Memref sig .tc .vmem S32x128 .bf16) (harg3 : arg3.IsWhole)
  (arg4 : Memref sig .tc .vmem S32x128 .bf16) (harg4 : arg4.IsWhole)
  (arg5 : Memref sig .tc .vmem S1x1x6528x64 .i8) (harg5 : arg5.IsWhole)
  (arg6 : Memref sig .tc .vmem S1x1x1020x128 .bf16) (harg6 : arg6.IsWhole)
  (arg7 : Memref sig .tc .vmem S1x1x1020x128 .bf16) (harg7 : arg7.IsWhole)
  (arg8 : Memref sig .tc .vmem S1x1x6528x64 .i8) (harg8 : arg8.IsWhole)
  (arg9 : Memref sig .tc .vmem S1x1x6528x4 .bf16) (harg9 : arg9.IsWhole)
  (arg10 : Memref sig .tc .vmem S1x1x6528x4 .bf16) (harg10 : arg10.IsWhole)
  (arg11 : Memref sig .tc .vmem S1x1x128x128 .bf16) (harg11 : arg11.IsWhole)
  (arg12 : Memref sig .tc .vmem S1x1x128x128 .bf16) (harg12 : arg12.IsWhole)
  (arg13 : Memref sig .tc .vmem S1x8x128 .bf16) (harg13 : arg13.IsWhole)
  (arg14 : Memref sig .tc .vmem S32x64 .i8) (harg14 : arg14.IsWhole)
  (arg15 : Memref sig .tc .vmem S32x4 .bf16) (harg15 : arg15.IsWhole)
  (arg16 : Memref sig .tc .vmem S32x4 .bf16) (harg16 : arg16.IsWhole)
  (arg17 : Memref sig .tc .vmem S32x64 .i8) (harg17 : arg17.IsWhole)
  (arg18 : Memref sig .tc .vmem S32x4 .bf16) (harg18 : arg18.IsWhole)
  (arg19 : Memref sig .tc .vmem S32x4 .bf16) (harg19 : arg19.IsWhole)
  (arg20 : Memref sig .tc .vmem S1024x128 .f32) (harg20 : arg20.IsWhole)
  (arg21 : Memref sig .tc .vmem S1024x128 .f32) (harg21 : arg21.IsWhole)
  (arg22 : Memref sig .tc .vmem S8x6528 .f32) (harg22 : arg22.IsWhole)
  (arg23 : Memref sig .tc .vmem S8x128 .f32) (harg23 : arg23.IsWhole)
  (arg24 : Memref sig .tc .vmem S8x128 .f32) (harg24 : arg24.IsWhole)
  (arg25 : Memref sig .tc .vmem S8x128 .f32) (harg25 : arg25.IsWhole)
  (arg26 : Memref sig .tc .vmem S32x128 .f32) (harg26 : arg26.IsWhole)
  (arg27 : Memref sig .tc .vmem S32x128 .f32) (harg27 : arg27.IsWhole)

/-- The running maximum after a block. -/
theorem B_max (hc0 : ¬cond0_0 i) (hc1 : ¬cond0_1 i) (hc2 : ¬cond0_2 i)     (x0 : Vec Ideal S1x8x128 .bf16) (x1 : Vec Ideal S32x128 .bf16) (x2 : Vec Ideal S32x128 .bf16) (x3 : Vec Ideal S1x1x6528x64 .i8) (x4 : Vec Ideal S1x1x1020x128 .bf16) (x5 : Vec Ideal S1x1x1020x128 .bf16) (x6 : Vec Ideal S1x1x6528x64 .i8) (x7 : Vec Ideal S1x1x6528x4 .bf16) (x8 : Vec Ideal S1x1x6528x4 .bf16) (x9 : Vec Ideal S1x1x128x128 .bf16) (x10 : Vec Ideal S1x1x128x128 .bf16) (d11 : Vec Ideal S1x8x128 .bf16) (d12 : Vec Ideal S32x64 .i8) (d13 : Vec Ideal S32x4 .bf16) (d14 : Vec Ideal S32x4 .bf16) (d15 : Vec Ideal S32x64 .i8) (d16 : Vec Ideal S32x4 .bf16) (d17 : Vec Ideal S32x4 .bf16) (xs0 : Vec Ideal S1024x128 .f32) (xs1 : Vec Ideal S1024x128 .f32) (xs3 : Vec Ideal S8x128 .f32) (xs4 : Vec Ideal S8x128 .f32) (xs5 : Vec Ideal S8x128 .f32) (xs6 : Vec Ideal S32x128 .f32) (xs7 : Vec Ideal S32x128 .f32)
    {s f : ℕ → EReal} {n : ℕ} {h : Fin 8} {e : Fin 128} (hs : ∀ j, blkScore i x0 x3 xs0 xs1 h j = s (n + j.val)) (hm : ∀ c, xs3 (ix2 h c) = M s n) (g : BufTy.Contents (Elt Ideal) arg23.view.ty) :
    arg23.view.read (Elt Ideal) (arg23.view.writes (Elt Ideal) g (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 d11 d12 d13 d14 d15 d16 d17 xs0 xs1 xs3 xs4 xs5 xs6 xs7).1) (ix2 h e) = M s (n + 6528) := by
  unfold runB
  frame_open
  have hs' : ∀ j, blkScore i x0 x3 (arg20.view.read (Elt Ideal) (harg20.unread xs0)) (arg21.view.read (Elt Ideal) (harg21.unread xs1)) h j = s (n + j.val) := by
    rw [harg20.read_unread, harg21.read_unread]; exact hs
  have hX := scoreX c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (s := s) (n := n) (h := h) x0 x3 _ _ (BitVec.ofNat 32 (i 1).val) inb_S1x8x128_S1x8x128_0_0_0 inb_S8x6528_S8x6528_0_0 hs'
  rw [read_whole_write, readAt_whole arg23.view, harg23.read_unread]
  exact step_max' hX hm e
/-- The running sum after a block. -/
theorem B_sum (hc0 : ¬cond0_0 i) (hc1 : ¬cond0_1 i) (hc2 : ¬cond0_2 i)     (x0 : Vec Ideal S1x8x128 .bf16) (x1 : Vec Ideal S32x128 .bf16) (x2 : Vec Ideal S32x128 .bf16) (x3 : Vec Ideal S1x1x6528x64 .i8) (x4 : Vec Ideal S1x1x1020x128 .bf16) (x5 : Vec Ideal S1x1x1020x128 .bf16) (x6 : Vec Ideal S1x1x6528x64 .i8) (x7 : Vec Ideal S1x1x6528x4 .bf16) (x8 : Vec Ideal S1x1x6528x4 .bf16) (x9 : Vec Ideal S1x1x128x128 .bf16) (x10 : Vec Ideal S1x1x128x128 .bf16) (d11 : Vec Ideal S1x8x128 .bf16) (d12 : Vec Ideal S32x64 .i8) (d13 : Vec Ideal S32x4 .bf16) (d14 : Vec Ideal S32x4 .bf16) (d15 : Vec Ideal S32x64 .i8) (d16 : Vec Ideal S32x4 .bf16) (d17 : Vec Ideal S32x4 .bf16) (xs0 : Vec Ideal S1024x128 .f32) (xs1 : Vec Ideal S1024x128 .f32) (xs3 : Vec Ideal S8x128 .f32) (xs4 : Vec Ideal S8x128 .f32) (xs5 : Vec Ideal S8x128 .f32) (xs6 : Vec Ideal S32x128 .f32) (xs7 : Vec Ideal S32x128 .f32)
    {s f : ℕ → EReal} {n : ℕ} {h : Fin 8} {e : Fin 128} (hs : ∀ j, blkScore i x0 x3 xs0 xs1 h j = s (n + j.val)) (hm : ∀ c, xs3 (ix2 h c) = M s n) (hl : ∀ c, xs4 (ix2 h c) = W s (fun _ => 1) n) (g : BufTy.Contents (Elt Ideal) arg24.view.ty) :
    arg24.view.read (Elt Ideal) (arg24.view.writes (Elt Ideal) g (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 d11 d12 d13 d14 d15 d16 d17 xs0 xs1 xs3 xs4 xs5 xs6 xs7).2.1) (ix2 h e) = W s (fun _ => 1) (n + 6528) := by
  unfold runB
  frame_open
  have hs' : ∀ j, blkScore i x0 x3 (arg20.view.read (Elt Ideal) (harg20.unread xs0)) (arg21.view.read (Elt Ideal) (harg21.unread xs1)) h j = s (n + j.val) := by
    rw [harg20.read_unread, harg21.read_unread]; exact hs
  have hX := scoreX c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (s := s) (n := n) (h := h) x0 x3 _ _ (BitVec.ofNat 32 (i 1).val) inb_S1x8x128_S1x8x128_0_0_0 inb_S8x6528_S8x6528_0_0 hs'
  rw [read_whole_write, readAt_whole arg23.view, harg23.read_unread, readAt_whole arg24.view, harg24.read_unread]
  exact step_sum hX hm hl e
/-- The running weighted sum after a block. -/
theorem B_acc (hc0 : ¬cond0_0 i) (hc1 : ¬cond0_1 i) (hc2 : ¬cond0_2 i)     (x0 : Vec Ideal S1x8x128 .bf16) (x1 : Vec Ideal S32x128 .bf16) (x2 : Vec Ideal S32x128 .bf16) (x3 : Vec Ideal S1x1x6528x64 .i8) (x4 : Vec Ideal S1x1x1020x128 .bf16) (x5 : Vec Ideal S1x1x1020x128 .bf16) (x6 : Vec Ideal S1x1x6528x64 .i8) (x7 : Vec Ideal S1x1x6528x4 .bf16) (x8 : Vec Ideal S1x1x6528x4 .bf16) (x9 : Vec Ideal S1x1x128x128 .bf16) (x10 : Vec Ideal S1x1x128x128 .bf16) (d11 : Vec Ideal S1x8x128 .bf16) (d12 : Vec Ideal S32x64 .i8) (d13 : Vec Ideal S32x4 .bf16) (d14 : Vec Ideal S32x4 .bf16) (d15 : Vec Ideal S32x64 .i8) (d16 : Vec Ideal S32x4 .bf16) (d17 : Vec Ideal S32x4 .bf16) (xs0 : Vec Ideal S1024x128 .f32) (xs1 : Vec Ideal S1024x128 .f32) (xs3 : Vec Ideal S8x128 .f32) (xs4 : Vec Ideal S8x128 .f32) (xs5 : Vec Ideal S8x128 .f32) (xs6 : Vec Ideal S32x128 .f32) (xs7 : Vec Ideal S32x128 .f32)
    {s f : ℕ → EReal} {n : ℕ} {h : Fin 8} {e : Fin 128} (hs : ∀ j, blkScore i x0 x3 xs0 xs1 h j = s (n + j.val)) (hm : ∀ c, xs3 (ix2 h c) = M s n) (ha : xs5 (ix2 h e) = W s f n) (hv : ∀ j, blkValue x6 x7 x8 j e = f (n + j.val)) (g : BufTy.Contents (Elt Ideal) arg25.view.ty) :
    arg25.view.read (Elt Ideal) (arg25.view.writes (Elt Ideal) g (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 d11 d12 d13 d14 d15 d16 d17 xs0 xs1 xs3 xs4 xs5 xs6 xs7).2.2.1) (ix2 h e) = W s f (n + 6528) := by
  unfold runB
  frame_open
  have hs' : ∀ j, blkScore i x0 x3 (arg20.view.read (Elt Ideal) (harg20.unread xs0)) (arg21.view.read (Elt Ideal) (harg21.unread xs1)) h j = s (n + j.val) := by
    rw [harg20.read_unread, harg21.read_unread]; exact hs
  have hX := scoreX c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (s := s) (n := n) (h := h) x0 x3 _ _ (BitVec.ofNat 32 (i 1).val) inb_S1x8x128_S1x8x128_0_0_0 inb_S8x6528_S8x6528_0_0 hs'
  rw [readAt_whole arg23.view, harg23.read_unread, readAt_whole arg25.view, harg25.read_unread]
  refine (read_append_full arg25.view g _ _ _ [] _).trans ?_
  exact accX c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hX hm ha hv _ _ _ _ _ _ _

end Cert.KernelIdeal.Body

end
-- ==== Proof.StepB.lean ====
/-
  A middle point of a head carries the account on.
-/
module

public import proofs.«01_k».proof.Proof.CaseB
public import proofs.«01_k».proof.Proof.Account

@[expose] public section

set_option maxRecDepth 16384

noncomputable section

namespace Cert.KernelIdeal.Body

open Cert.KernelIdeal Cert.KernelIdeal.Gen Cert.Online
open Idealize.ShloMosaic Idealize.ShloMosaic.TcCoe Idealize.ShloMosaic.Tactic
open Idealize.SL Idealize.SL.RA Idealize.SL.BI Idealize.SL.Sem

variable (m : (ℓ : Loc nD τ sig) → Buf (Elt Ideal) ℓ) (c : Dev nD)

set_option maxHeartbeats 8000000 in
/-- A middle point of a head carries the account on. -/
theorem stepB : ∀ (t : Fin cfg0.N) (h0 : ¬t.val % 160 = 0) (h1 : ¬t.val % 5 = 0) (h2 : ¬t.val % 5 = 4) (s : St Ideal) (d : Outs Ideal), (account (cacheK m c)).Inv t.val s → ∀ (g3 : scM0_3.view.ty.Contents (Elt Ideal)) (g4 : scM0_4.view.ty.Contents (Elt Ideal)) (g5 : scM0_5.view.ty.Contents (Elt Ideal)),
    (account (cacheK m c)).Inv (t.val + 1) ⟨s.k2, s.z2, (scM0_3.view.read (Elt Ideal) (scM0_3.view.writes (Elt Ideal) g3 (atB m c t h0 h1 h2 s d).1)), (scM0_4.view.read (Elt Ideal) (scM0_4.view.writes (Elt Ideal) g4 (atB m c t h0 h1 h2 s d).2.1)), (scM0_5.view.read (Elt Ideal) (scM0_5.view.writes (Elt Ideal) g5 (atB m c t h0 h1 h2 s d).2.2.1)), s.kd, s.vd⟩ := by
  intro t h0 h1 h2 s dd hi g3 g4 g5
  have M0 := hi.mid (head t) rfl h1
  refine Known.of (fun _ => hi.kd (by omega)) (fun _ => hi.vd (by omega)) fun n hn hk => ?mid
  obtain rfl : n = head t := Fin.ext (by show n.val = t.val / 5; omega)
  rw [show 6528 * ((t.val + 1) % 5) = 6528 * (t.val % 5) + 6528 by omega]
  have hs := score_eq m c t s.k2 s.z2 M0.k2 M0.z2
  exact Mid.of (M0.k2) (M0.z2) (fun h e => B_max c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) dd.o11 dd.o12 dd.o13 dd.o14 dd.o15 dd.o16 dd.o17 s.k2 s.z2 s.mx s.dn s.ac s.kd s.vd (f := fun _ => 0) (hs h) (M0.mx h) _) (fun h e => B_sum c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) dd.o11 dd.o12 dd.o13 dd.o14 dd.o15 dd.o16 dd.o17 s.k2 s.z2 s.mx s.dn s.ac s.kd s.vd (f := fun _ => 0) (hs h) (M0.mx h) (M0.dn h) _) (fun h e => B_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) dd.o11 dd.o12 dd.o13 dd.o14 dd.o15 dd.o16 dd.o17 s.k2 s.z2 s.mx s.dn s.ac s.kd s.vd (hs h) (M0.mx h) (M0.ac h e) (fun j => value_eq m c t j e) _)

end Cert.KernelIdeal.Body

end
-- ==== Proof.CaseC.lean ====
/-
  What the body leaves in each buffer at the last block of a head, element by element.
-/
module

public import proofs.«01_k».proof.Proof.CaseKit
public import proofs.«01_k».proof.Proof.KernelIdealRunC

@[expose] public section

set_option maxRecDepth 16384

noncomputable section

namespace Cert.KernelIdeal.Body

open Cert.KernelIdeal Cert.KernelIdeal.Gen Cert.Online
open Idealize.ShloMosaic Idealize.ShloMosaic.TcCoe Idealize.ShloMosaic.Tactic
open Idealize.SL Idealize.SL.RA Idealize.SL.BI Idealize.SL.Sem

variable (c : Dev nD) (i : grid0.Coords)
  (arg2 : Memref sig .tc .vmem S1x8x128 .bf16) (harg2 : arg2.IsWhole)
  (arg3 : Memref sig .tc .vmem S32x128 .bf16) (harg3 : arg3.IsWhole)
  (arg4 : Memref sig .tc .vmem S32x128 .bf16) (harg4 : arg4.IsWhole)
  (arg5 : Memref sig .tc .vmem S1x1x6528x64 .i8) (harg5 : arg5.IsWhole)
  (arg6 : Memref sig .tc .vmem S1x1x1020x128 .bf16) (harg6 : arg6.IsWhole)
  (arg7 : Memref sig .tc .vmem S1x1x1020x128 .bf16) (harg7 : arg7.IsWhole)
  (arg8 : Memref sig .tc .vmem S1x1x6528x64 .i8) (harg8 : arg8.IsWhole)
  (arg9 : Memref sig .tc .vmem S1x1x6528x4 .bf16) (harg9 : arg9.IsWhole)
  (arg10 : Memref sig .tc .vmem S1x1x6528x4 .bf16) (harg10 : arg10.IsWhole)
  (arg11 : Memref sig .tc .vmem S1x1x128x128 .bf16) (harg11 : arg11.IsWhole)
  (arg12 : Memref sig .tc .vmem S1x1x128x128 .bf16) (harg12 : arg12.IsWhole)
  (arg13 : Memref sig .tc .vmem S1x8x128 .bf16) (harg13 : arg13.IsWhole)
  (arg14 : Memref sig .tc .vmem S32x64 .i8) (harg14 : arg14.IsWhole)
  (arg15 : Memref sig .tc .vmem S32x4 .bf16) (harg15 : arg15.IsWhole)
  (arg16 : Memref sig .tc .vmem S32x4 .bf16) (harg16 : arg16.IsWhole)
  (arg17 : Memref sig .tc .vmem S32x64 .i8) (harg17 : arg17.IsWhole)
  (arg18 : Memref sig .tc .vmem S32x4 .bf16) (harg18 : arg18.IsWhole)
  (arg19 : Memref sig .tc .vmem S32x4 .bf16) (harg19 : arg19.IsWhole)
  (arg20 : Memref sig .tc .vmem S1024x128 .f32) (harg20 : arg20.IsWhole)
  (arg21 : Memref sig .tc .vmem S1024x128 .f32) (harg21 : arg21.IsWhole)
  (arg22 : Memref sig .tc .vmem S8x6528 .f32) (harg22 : arg22.IsWhole)
  (arg23 : Memref sig .tc .vmem S8x128 .f32) (harg23 : arg23.IsWhole)
  (arg24 : Memref sig .tc .vmem S8x128 .f32) (harg24 : arg24.IsWhole)
  (arg25 : Memref sig .tc .vmem S8x128 .f32) (harg25 : arg25.IsWhole)
  (arg26 : Memref sig .tc .vmem S32x128 .f32) (harg26 : arg26.IsWhole)
  (arg27 : Memref sig .tc .vmem S32x128 .f32) (harg27 : arg27.IsWhole)

/-- The last block of a head leaves the head in the result. -/
theorem C_out (hc0 : ¬cond0_0 i) (hc1 : ¬cond0_1 i) (hc2 : cond0_2 i)     (x0 : Vec Ideal S1x8x128 .bf16) (x1 : Vec Ideal S32x128 .bf16) (x2 : Vec Ideal S32x128 .bf16) (x3 : Vec Ideal S1x1x6528x64 .i8) (x4 : Vec Ideal S1x1x1020x128 .bf16) (x5 : Vec Ideal S1x1x1020x128 .bf16) (x6 : Vec Ideal S1x1x6528x64 .i8) (x7 : Vec Ideal S1x1x6528x4 .bf16) (x8 : Vec Ideal S1x1x6528x4 .bf16) (x9 : Vec Ideal S1x1x128x128 .bf16) (x10 : Vec Ideal S1x1x128x128 .bf16) (d12 : Vec Ideal S32x64 .i8) (d13 : Vec Ideal S32x4 .bf16) (d14 : Vec Ideal S32x4 .bf16) (d15 : Vec Ideal S32x64 .i8) (d16 : Vec Ideal S32x4 .bf16) (d17 : Vec Ideal S32x4 .bf16) (xs0 : Vec Ideal S1024x128 .f32) (xs1 : Vec Ideal S1024x128 .f32) (xs3 : Vec Ideal S8x128 .f32) (xs4 : Vec Ideal S8x128 .f32) (xs5 : Vec Ideal S8x128 .f32) (xs6 : Vec Ideal S32x128 .f32) (xs7 : Vec Ideal S32x128 .f32)
    {s : ℕ → EReal} {f : Fin 128 → ℕ → EReal} {n : ℕ} {h : Fin 8} (hs : ∀ j, blkScore i x0 x3 xs0 xs1 h j = s (n + j.val)) (hm : ∀ c, xs3 (ix2 h c) = M s n) (hl : ∀ c, xs4 (ix2 h c) = W s (fun _ => 1) n)
    (ha : ∀ e, xs5 (ix2 h e) = W s (f (src e)) n) (hv : ∀ j e, blkValue x6 x7 x8 j e = f (src e) (n + j.val))
    (ht : ∀ r : Fin 144, (if r.val ≤ 128 then (∑ d : Fin 128, x0 (ix3 0 h d) * (if hr : r.val < 128 then x9 (ix4 0 0 ⟨r.val, hr⟩ d) else xs6 (ix2 ⟨(i 0).val, (i 0).isLt⟩ d))) * SM else ⊥) = s (n + 6528 + r.val))
    (hw : ∀ (r : Fin 144) d, (if hr : r.val < 128 then x10 (ix4 0 0 ⟨r.val, hr⟩ d) else xs7 (ix2 ⟨(i 0).val, (i 0).isLt⟩ d)) = f d (n + 6528 + r.val))
    (d : Fin 128) (g : BufTy.Contents (Elt Ideal) arg13.view.ty) :
    arg13.view.read (Elt Ideal) (arg13.view.writes (Elt Ideal) g (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 d12 d13 d14 d15 d16 d17 xs0 xs1 xs3 xs4 xs5 xs6 xs7).1) (ix3 0 h d) = Ideal.div (W s (f d) (n + 6528 + 144)) (W s (fun _ => 1) (n + 6528 + 144)) := by
  unfold runC
  frame_open
  have hs' : ∀ j, blkScore i x0 x3 (arg20.view.read (Elt Ideal) (harg20.unread xs0)) (arg21.view.read (Elt Ideal) (harg21.unread xs1)) h j = s (n + j.val) := by
    rw [harg20.read_unread, harg21.read_unread]; exact hs
  have hX := scoreX c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (s := s) (n := n) (h := h) x0 x3 _ _ (BitVec.ofNat 32 (i 1).val) inb_S1x8x128_S1x8x128_0_0_0 inb_S8x6528_S8x6528_0_0 hs'
  rw [read_whole_write]
  rw [readAt_whole arg23.view, harg23.read_unread, readAt_whole arg24.view, harg24.read_unread, readAt_whole arg25.view, harg25.read_unread]
  repeat rw [readCov_full]
  rw [readAt_whole arg11.view, harg11.read_unread, readAt_whole arg12.view, harg12.read_unread]
  obtain ⟨X, hXe⟩ : ∃ X, X = arg22.view.readCov (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (BitVec.ofNat 32 (i 1).val)
        (View.readAt (Elt Ideal) arg2.view (Rect.unit (s := S1x8x128) ![0, 0, 0] S1x8x128.size inb_S1x8x128_S1x8x128_0_0_0).toLoadRect (harg2.unread x0)) (harg5.unread x3) (harg20.unread xs0) (harg21.unread xs1)
        (Scf.trips k0_t1_loop.lb k0_t1_loop.ub k0_t1_loop.st))
      (Rect.unit (s := S8x6528) ![0, 0] S8x6528.size inb_S8x6528_S8x6528_0_0).toLoadRect := ⟨_, rfl⟩
  rw [← hXe] at hX ⊢
  rw [readAt_whole arg2.view, harg2.read_unread]
  obtain ⟨Y, hYe⟩ : ∃ Y, Y = View.readAt (Elt Ideal) arg26.view (Rect.unit (s := S32x128) (k0_off7 i) S1x128.size (k0_off7_inb i hc2)).toLoadRect (harg26.unread xs6) := ⟨_, rfl⟩
  obtain ⟨Z, hZe⟩ : ∃ Z, Z = View.readAt (Elt Ideal) arg27.view (Rect.unit (s := S32x128) (k0_off7 i) S1x128.size (k0_off7_inb i hc2)).toLoadRect (harg27.unread xs7) := ⟨_, rfl⟩
  rw [← hYe, ← hZe]
  have hY : ∀ d, Y (ix2 0 d) = xs6 (ix2 ⟨(i 0).val, (i 0).isLt⟩ d) := fun d => by rw [hYe, row_read, harg26.read_unread]
  have hZ : ∀ d, Z (ix2 0 d) = xs7 (ix2 ⟨(i 0).val, (i 0).isLt⟩ d) := fun d => by rw [hZe, row_read, harg27.read_unread]
  have tx : ∀ r, k0_pay86 (F := Ideal) (k0_pay92 (F := Ideal) x0) Y x9 (ix2 h r) = s (n + 6528 + r.val) := fun r => by
    rw [tailscore_apply]
    simp only [hY]
    exact ht r
  have tm := step_max' hX hm
  refine out_apply (s := s) (n := n + 6528) (f := f) tx tm ?ta ?tw (last_sum tx tm (step_sum hX hm hl)) d
  case tw =>
    intro r e
    rw [tail_apply]
    simp only [hZ]
    exact hw r e
  case ta =>
    intro e
    refine (last_acc (s := s) (n := n + 6528) (h := h) tx tm _ e).trans ?_
    exact congrArg₂ (fun a b : EReal => a * b) rfl ((readCov_at _ _ _ _).trans (accX c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hX hm (ha e) (fun j => hv j e) _ _ _ _ _ _ _))

end Cert.KernelIdeal.Body

end
-- ==== Proof.StepC.lean ====
/-
  The last point of a head carries the account on.
-/
module

public import proofs.«01_k».proof.Proof.CaseC
public import proofs.«01_k».proof.Proof.Account

@[expose] public section

set_option maxRecDepth 16384

noncomputable section

namespace Cert.KernelIdeal.Body

open Cert.KernelIdeal Cert.KernelIdeal.Gen Cert.Online
open Idealize.ShloMosaic Idealize.ShloMosaic.TcCoe Idealize.ShloMosaic.Tactic
open Idealize.SL Idealize.SL.RA Idealize.SL.BI Idealize.SL.Sem

variable (m : (ℓ : Loc nD τ sig) → Buf (Elt Ideal) ℓ) (c : Dev nD)

set_option maxHeartbeats 8000000 in
/-- The last point of a head carries the account on. -/
theorem stepC : ∀ (t : Fin cfg0.N) (h0 : ¬t.val % 160 = 0) (h1 : ¬t.val % 5 = 0) (h2 : t.val % 5 = 4) (s : St Ideal) (d : Outs Ideal), (account (cacheK m c)).Inv t.val s → ∀ (f11 : (ms0_11 t).view.ty.Contents (Elt Ideal)) (g3 : scM0_3.view.ty.Contents (Elt Ideal)) (g4 : scM0_4.view.ty.Contents (Elt Ideal)) (g5 : scM0_5.view.ty.Contents (Elt Ideal)),
    (account (cacheK m c)).Inv (t.val + 1) ⟨s.k2, s.z2, (scM0_3.view.read (Elt Ideal) (scM0_3.view.writes (Elt Ideal) g3 (atC m c t h0 h1 h2 s d).2.1)), (scM0_4.view.read (Elt Ideal) (scM0_4.view.writes (Elt Ideal) g4 (atC m c t h0 h1 h2 s d).2.2.1)), (scM0_5.view.read (Elt Ideal) (scM0_5.view.writes (Elt Ideal) g5 (atC m c t h0 h1 h2 s d).2.2.2.1)), s.kd, s.vd⟩
      ∧ (account (cacheK m c)).Q11 t.val ((ms0_11 t).view.read (Elt Ideal) ((ms0_11 t).view.writes (Elt Ideal) f11 (atC m c t h0 h1 h2 s d).1)) := by
  intro t h0 h1 h2 s dd hi f11 g3 g4 g5
  have M0 := hi.mid (head t) rfl h1
  refine ⟨Known.of (fun _ => hi.kd (by omega)) (fun _ => hi.vd (by omega)) fun n hn hk => absurd (show (t.val + 1) % 5 = 0 by omega) hk, fun n hn h d => ?_⟩
  obtain rfl : n = head t := Fin.ext (by show n.val = t.val / 5; omega)
  refine (C_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) dd.o12 dd.o13 dd.o14 dd.o15 dd.o16 dd.o17 s.k2 s.z2 s.mx s.dn s.ac s.kd s.vd (score_eq m c t s.k2 s.z2 M0.k2 M0.z2 h) (M0.mx h) (M0.dn h) (M0.ac h)
    (fun j e => value_eq m c t j e) (fun r => tail_score_eq m c t h2 s.kd (hi.kd (by omega)) h r) (fun r d => tail_value_eq m c t h2 s.vd (hi.vd (by omega)) r d) d _).trans ?_
  rw [show 6528 * (t.val % 5) + 6528 + 144 = 32769 + 15 by omega]
  exact Cache.out_masked _ _ _ _

end Cert.KernelIdeal.Body

end
-- ==== Proof.CaseD.lean ====
/-
  What the body leaves in each buffer at the first block of a head, element by element.
-/
module

public import proofs.«01_k».proof.Proof.CaseKit
public import proofs.«01_k».proof.Proof.KernelIdealRunD

@[expose] public section

set_option maxRecDepth 16384

noncomputable section

namespace Cert.KernelIdeal.Body

open Cert.KernelIdeal Cert.KernelIdeal.Gen Cert.Online
open Idealize.ShloMosaic Idealize.ShloMosaic.TcCoe Idealize.ShloMosaic.Tactic
open Idealize.SL Idealize.SL.RA Idealize.SL.BI Idealize.SL.Sem

variable (c : Dev nD) (i : grid0.Coords)
  (arg2 : Memref sig .tc .vmem S1x8x128 .bf16) (harg2 : arg2.IsWhole)
  (arg3 : Memref sig .tc .vmem S32x128 .bf16) (harg3 : arg3.IsWhole)
  (arg4 : Memref sig .tc .vmem S32x128 .bf16) (harg4 : arg4.IsWhole)
  (arg5 : Memref sig .tc .vmem S1x1x6528x64 .i8) (harg5 : arg5.IsWhole)
  (arg6 : Memref sig .tc .vmem S1x1x1020x128 .bf16) (harg6 : arg6.IsWhole)
  (arg7 : Memref sig .tc .vmem S1x1x1020x128 .bf16) (harg7 : arg7.IsWhole)
  (arg8 : Memref sig .tc .vmem S1x1x6528x64 .i8) (harg8 : arg8.IsWhole)
  (arg9 : Memref sig .tc .vmem S1x1x6528x4 .bf16) (harg9 : arg9.IsWhole)
  (arg10 : Memref sig .tc .vmem S1x1x6528x4 .bf16) (harg10 : arg10.IsWhole)
  (arg11 : Memref sig .tc .vmem S1x1x128x128 .bf16) (harg11 : arg11.IsWhole)
  (arg12 : Memref sig .tc .vmem S1x1x128x128 .bf16) (harg12 : arg12.IsWhole)
  (arg13 : Memref sig .tc .vmem S1x8x128 .bf16) (harg13 : arg13.IsWhole)
  (arg14 : Memref sig .tc .vmem S32x64 .i8) (harg14 : arg14.IsWhole)
  (arg15 : Memref sig .tc .vmem S32x4 .bf16) (harg15 : arg15.IsWhole)
  (arg16 : Memref sig .tc .vmem S32x4 .bf16) (harg16 : arg16.IsWhole)
  (arg17 : Memref sig .tc .vmem S32x64 .i8) (harg17 : arg17.IsWhole)
  (arg18 : Memref sig .tc .vmem S32x4 .bf16) (harg18 : arg18.IsWhole)
  (arg19 : Memref sig .tc .vmem S32x4 .bf16) (harg19 : arg19.IsWhole)
  (arg20 : Memref sig .tc .vmem S1024x128 .f32) (harg20 : arg20.IsWhole)
  (arg21 : Memref sig .tc .vmem S1024x128 .f32) (harg21 : arg21.IsWhole)
  (arg22 : Memref sig .tc .vmem S8x6528 .f32) (harg22 : arg22.IsWhole)
  (arg23 : Memref sig .tc .vmem S8x128 .f32) (harg23 : arg23.IsWhole)
  (arg24 : Memref sig .tc .vmem S8x128 .f32) (harg24 : arg24.IsWhole)
  (arg25 : Memref sig .tc .vmem S8x128 .f32) (harg25 : arg25.IsWhole)
  (arg26 : Memref sig .tc .vmem S32x128 .f32) (harg26 : arg26.IsWhole)
  (arg27 : Memref sig .tc .vmem S32x128 .f32) (harg27 : arg27.IsWhole)

/-- The split scales after the first block of a head. -/
theorem D_scales (hc0 : ¬cond0_0 i) (hc1 : cond0_1 i) (hc2 : ¬cond0_2 i)     (x0 : Vec Ideal S1x8x128 .bf16) (x1 : Vec Ideal S32x128 .bf16) (x2 : Vec Ideal S32x128 .bf16) (x3 : Vec Ideal S1x1x6528x64 .i8) (x4 : Vec Ideal S1x1x1020x128 .bf16) (x5 : Vec Ideal S1x1x1020x128 .bf16) (x6 : Vec Ideal S1x1x6528x64 .i8) (x7 : Vec Ideal S1x1x6528x4 .bf16) (x8 : Vec Ideal S1x1x6528x4 .bf16) (x9 : Vec Ideal S1x1x128x128 .bf16) (x10 : Vec Ideal S1x1x128x128 .bf16) (d11 : Vec Ideal S1x8x128 .bf16) (d12 : Vec Ideal S32x64 .i8) (d13 : Vec Ideal S32x4 .bf16) (d14 : Vec Ideal S32x4 .bf16) (d15 : Vec Ideal S32x64 .i8) (d16 : Vec Ideal S32x4 .bf16) (d17 : Vec Ideal S32x4 .bf16) (xs0 : Vec Ideal S1024x128 .f32) (xs1 : Vec Ideal S1024x128 .f32) (xs6 : Vec Ideal S32x128 .f32) (xs7 : Vec Ideal S32x128 .f32)
    (r : Fin 1020) (e : Fin 128) :
    arg20.view.read (Elt Ideal) (arg20.view.writes (Elt Ideal) (harg20.unread xs0) (runD (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 d11 d12 d13 d14 d15 d16 d17 xs0 xs1 xs6 xs7).1) (ix2 ⟨r.val, by omega⟩ e) = x4 (ix4 0 0 r (src e)) := by
  unfold runD
  frame_open
  rw [split_read, ssplit_apply, readAt_whole, harg6.read_unread]
/-- The split zeros after the first block of a head. -/
theorem D_zeros (hc0 : ¬cond0_0 i) (hc1 : cond0_1 i) (hc2 : ¬cond0_2 i)     (x0 : Vec Ideal S1x8x128 .bf16) (x1 : Vec Ideal S32x128 .bf16) (x2 : Vec Ideal S32x128 .bf16) (x3 : Vec Ideal S1x1x6528x64 .i8) (x4 : Vec Ideal S1x1x1020x128 .bf16) (x5 : Vec Ideal S1x1x1020x128 .bf16) (x6 : Vec Ideal S1x1x6528x64 .i8) (x7 : Vec Ideal S1x1x6528x4 .bf16) (x8 : Vec Ideal S1x1x6528x4 .bf16) (x9 : Vec Ideal S1x1x128x128 .bf16) (x10 : Vec Ideal S1x1x128x128 .bf16) (d11 : Vec Ideal S1x8x128 .bf16) (d12 : Vec Ideal S32x64 .i8) (d13 : Vec Ideal S32x4 .bf16) (d14 : Vec Ideal S32x4 .bf16) (d15 : Vec Ideal S32x64 .i8) (d16 : Vec Ideal S32x4 .bf16) (d17 : Vec Ideal S32x4 .bf16) (xs0 : Vec Ideal S1024x128 .f32) (xs1 : Vec Ideal S1024x128 .f32) (xs6 : Vec Ideal S32x128 .f32) (xs7 : Vec Ideal S32x128 .f32)
    (r : Fin 1020) (e : Fin 128) :
    arg21.view.read (Elt Ideal) (arg21.view.writes (Elt Ideal) (harg21.unread xs1) (runD (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 d11 d12 d13 d14 d15 d16 d17 xs0 xs1 xs6 xs7).2.1) (ix2 ⟨r.val, by omega⟩ e) = x5 (ix4 0 0 r (src e)) := by
  unfold runD
  frame_open
  rw [split_read, zsplit_apply, readAt_whole, harg7.read_unread]
/-- The running maximum after the first block of a head. -/
theorem D_max (hc0 : ¬cond0_0 i) (hc1 : cond0_1 i) (hc2 : ¬cond0_2 i)     (x0 : Vec Ideal S1x8x128 .bf16) (x1 : Vec Ideal S32x128 .bf16) (x2 : Vec Ideal S32x128 .bf16) (x3 : Vec Ideal S1x1x6528x64 .i8) (x4 : Vec Ideal S1x1x1020x128 .bf16) (x5 : Vec Ideal S1x1x1020x128 .bf16) (x6 : Vec Ideal S1x1x6528x64 .i8) (x7 : Vec Ideal S1x1x6528x4 .bf16) (x8 : Vec Ideal S1x1x6528x4 .bf16) (x9 : Vec Ideal S1x1x128x128 .bf16) (x10 : Vec Ideal S1x1x128x128 .bf16) (d11 : Vec Ideal S1x8x128 .bf16) (d12 : Vec Ideal S32x64 .i8) (d13 : Vec Ideal S32x4 .bf16) (d14 : Vec Ideal S32x4 .bf16) (d15 : Vec Ideal S32x64 .i8) (d16 : Vec Ideal S32x4 .bf16) (d17 : Vec Ideal S32x4 .bf16) (xs0 : Vec Ideal S1024x128 .f32) (xs1 : Vec Ideal S1024x128 .f32) (xs6 : Vec Ideal S32x128 .f32) (xs7 : Vec Ideal S32x128 .f32)
    {s f : ℕ → EReal} {h : Fin 8} {e : Fin 128}
    (hs : ∀ K Z : Vec Ideal S1024x128 .f32, (∀ (r : Fin 1020) d, K (ix2 ⟨r.val, by omega⟩ d) = x4 (ix4 0 0 r (src d))) →
      (∀ (r : Fin 1020) d, Z (ix2 ⟨r.val, by omega⟩ d) = x5 (ix4 0 0 r (src d))) → ∀ j, blkScore i x0 x3 K Z h j = s (0 + j.val)) (g : BufTy.Contents (Elt Ideal) arg23.view.ty) :
    arg23.view.read (Elt Ideal) (arg23.view.writes (Elt Ideal) g (runD (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 d11 d12 d13 d14 d15 d16 d17 xs0 xs1 xs6 xs7).2.2.1) (ix2 h e) = M s (0 + 6528) := by
  unfold runD
  frame_open
  have hX := scoreX c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (s := s) (n := 0) (h := h) x0 x3
    (arg20.view.writes (Elt Ideal) (harg20.unread xs0) [(⟨Rect.unit (s := S1024x128) ![0, 0] S1020x128.size inb_S1024x128_S1020x128_0_0,
      k0_pay95 (F := Ideal) (View.readAt (Elt Ideal) arg6.view (Rect.unit (s := S1x1x1020x128) ![0, 0, 0, 0] S1x1x1020x128.size inb_S1x1x1020x128_S1x1x1020x128_0_0_0_0).toLoadRect (harg6.unread x4))⟩ : View.Piece (Elt Ideal) S1024x128 .f32)])
    (arg21.view.writes (Elt Ideal) (harg21.unread xs1) [(⟨Rect.unit (s := S1024x128) ![0, 0] S1020x128.size inb_S1024x128_S1020x128_0_0,
      k0_pay96 (F := Ideal) (View.readAt (Elt Ideal) arg7.view (Rect.unit (s := S1x1x1020x128) ![0, 0, 0, 0] S1x1x1020x128.size inb_S1x1x1020x128_S1x1x1020x128_0_0_0_0).toLoadRect (harg7.unread x5))⟩ : View.Piece (Elt Ideal) S1024x128 .f32)])
    (BitVec.ofNat 32 (i 1).val) inb_S1x8x128_S1x8x128_0_0_0 inb_S8x6528_S8x6528_0_0
    (hs _ _ (fun r d => by rw [split_read, ssplit_apply, readAt_whole, harg6.read_unread]) (fun r d => by rw [split_read, zsplit_apply, readAt_whole, harg7.read_unread]))
  have hm : ∀ c, k0_pay97 (F := Ideal) (ix2 h c) = M s 0 := fun c => start_max _
  rw [read_whole_write, readCov_full]
  exact step_max' hX hm e
/-- The running sum after the first block of a head. -/
theorem D_sum (hc0 : ¬cond0_0 i) (hc1 : cond0_1 i) (hc2 : ¬cond0_2 i)     (x0 : Vec Ideal S1x8x128 .bf16) (x1 : Vec Ideal S32x128 .bf16) (x2 : Vec Ideal S32x128 .bf16) (x3 : Vec Ideal S1x1x6528x64 .i8) (x4 : Vec Ideal S1x1x1020x128 .bf16) (x5 : Vec Ideal S1x1x1020x128 .bf16) (x6 : Vec Ideal S1x1x6528x64 .i8) (x7 : Vec Ideal S1x1x6528x4 .bf16) (x8 : Vec Ideal S1x1x6528x4 .bf16) (x9 : Vec Ideal S1x1x128x128 .bf16) (x10 : Vec Ideal S1x1x128x128 .bf16) (d11 : Vec Ideal S1x8x128 .bf16) (d12 : Vec Ideal S32x64 .i8) (d13 : Vec Ideal S32x4 .bf16) (d14 : Vec Ideal S32x4 .bf16) (d15 : Vec Ideal S32x64 .i8) (d16 : Vec Ideal S32x4 .bf16) (d17 : Vec Ideal S32x4 .bf16) (xs0 : Vec Ideal S1024x128 .f32) (xs1 : Vec Ideal S1024x128 .f32) (xs6 : Vec Ideal S32x128 .f32) (xs7 : Vec Ideal S32x128 .f32)
    {s f : ℕ → EReal} {h : Fin 8} {e : Fin 128}
    (hs : ∀ K Z : Vec Ideal S1024x128 .f32, (∀ (r : Fin 1020) d, K (ix2 ⟨r.val, by omega⟩ d) = x4 (ix4 0 0 r (src d))) →
      (∀ (r : Fin 1020) d, Z (ix2 ⟨r.val, by omega⟩ d) = x5 (ix4 0 0 r (src d))) → ∀ j, blkScore i x0 x3 K Z h j = s (0 + j.val)) (g : BufTy.Contents (Elt Ideal) arg24.view.ty) :
    arg24.view.read (Elt Ideal) (arg24.view.writes (Elt Ideal) g (runD (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 d11 d12 d13 d14 d15 d16 d17 xs0 xs1 xs6 xs7).2.2.2.1) (ix2 h e) = W s (fun _ => 1) (0 + 6528) := by
  unfold runD
  frame_open
  have hX := scoreX c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (s := s) (n := 0) (h := h) x0 x3
    (arg20.view.writes (Elt Ideal) (harg20.unread xs0) [(⟨Rect.unit (s := S1024x128) ![0, 0] S1020x128.size inb_S1024x128_S1020x128_0_0,
      k0_pay95 (F := Ideal) (View.readAt (Elt Ideal) arg6.view (Rect.unit (s := S1x1x1020x128) ![0, 0, 0, 0] S1x1x1020x128.size inb_S1x1x1020x128_S1x1x1020x128_0_0_0_0).toLoadRect (harg6.unread x4))⟩ : View.Piece (Elt Ideal) S1024x128 .f32)])
    (arg21.view.writes (Elt Ideal) (harg21.unread xs1) [(⟨Rect.unit (s := S1024x128) ![0, 0] S1020x128.size inb_S1024x128_S1020x128_0_0,
      k0_pay96 (F := Ideal) (View.readAt (Elt Ideal) arg7.view (Rect.unit (s := S1x1x1020x128) ![0, 0, 0, 0] S1x1x1020x128.size inb_S1x1x1020x128_S1x1x1020x128_0_0_0_0).toLoadRect (harg7.unread x5))⟩ : View.Piece (Elt Ideal) S1024x128 .f32)])
    (BitVec.ofNat 32 (i 1).val) inb_S1x8x128_S1x8x128_0_0_0 inb_S8x6528_S8x6528_0_0
    (hs _ _ (fun r d => by rw [split_read, ssplit_apply, readAt_whole, harg6.read_unread]) (fun r d => by rw [split_read, zsplit_apply, readAt_whole, harg7.read_unread]))
  have hm : ∀ c, k0_pay97 (F := Ideal) (ix2 h c) = M s 0 := fun c => start_max _
  rw [read_whole_write, readCov_full, readCov_full]
  exact step_sum hX hm (fun c => start_sum _) e
/-- The running weighted sum after the first block of a head. -/
theorem D_acc (hc0 : ¬cond0_0 i) (hc1 : cond0_1 i) (hc2 : ¬cond0_2 i)     (x0 : Vec Ideal S1x8x128 .bf16) (x1 : Vec Ideal S32x128 .bf16) (x2 : Vec Ideal S32x128 .bf16) (x3 : Vec Ideal S1x1x6528x64 .i8) (x4 : Vec Ideal S1x1x1020x128 .bf16) (x5 : Vec Ideal S1x1x1020x128 .bf16) (x6 : Vec Ideal S1x1x6528x64 .i8) (x7 : Vec Ideal S1x1x6528x4 .bf16) (x8 : Vec Ideal S1x1x6528x4 .bf16) (x9 : Vec Ideal S1x1x128x128 .bf16) (x10 : Vec Ideal S1x1x128x128 .bf16) (d11 : Vec Ideal S1x8x128 .bf16) (d12 : Vec Ideal S32x64 .i8) (d13 : Vec Ideal S32x4 .bf16) (d14 : Vec Ideal S32x4 .bf16) (d15 : Vec Ideal S32x64 .i8) (d16 : Vec Ideal S32x4 .bf16) (d17 : Vec Ideal S32x4 .bf16) (xs0 : Vec Ideal S1024x128 .f32) (xs1 : Vec Ideal S1024x128 .f32) (xs6 : Vec Ideal S32x128 .f32) (xs7 : Vec Ideal S32x128 .f32)
    {s f : ℕ → EReal} {h : Fin 8} {e : Fin 128}
    (hs : ∀ K Z : Vec Ideal S1024x128 .f32, (∀ (r : Fin 1020) d, K (ix2 ⟨r.val, by omega⟩ d) = x4 (ix4 0 0 r (src d))) →
      (∀ (r : Fin 1020) d, Z (ix2 ⟨r.val, by omega⟩ d) = x5 (ix4 0 0 r (src d))) → ∀ j, blkScore i x0 x3 K Z h j = s (0 + j.val)) (hv : ∀ j, blkValue x6 x7 x8 j e = f (0 + j.val)) (g : BufTy.Contents (Elt Ideal) arg25.view.ty) :
    arg25.view.read (Elt Ideal) (arg25.view.writes (Elt Ideal) g (runD (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 d11 d12 d13 d14 d15 d16 d17 xs0 xs1 xs6 xs7).2.2.2.2.1) (ix2 h e) = W s f (0 + 6528) := by
  unfold runD
  frame_open
  have hX := scoreX c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (s := s) (n := 0) (h := h) x0 x3
    (arg20.view.writes (Elt Ideal) (harg20.unread xs0) [(⟨Rect.unit (s := S1024x128) ![0, 0] S1020x128.size inb_S1024x128_S1020x128_0_0,
      k0_pay95 (F := Ideal) (View.readAt (Elt Ideal) arg6.view (Rect.unit (s := S1x1x1020x128) ![0, 0, 0, 0] S1x1x1020x128.size inb_S1x1x1020x128_S1x1x1020x128_0_0_0_0).toLoadRect (harg6.unread x4))⟩ : View.Piece (Elt Ideal) S1024x128 .f32)])
    (arg21.view.writes (Elt Ideal) (harg21.unread xs1) [(⟨Rect.unit (s := S1024x128) ![0, 0] S1020x128.size inb_S1024x128_S1020x128_0_0,
      k0_pay96 (F := Ideal) (View.readAt (Elt Ideal) arg7.view (Rect.unit (s := S1x1x1020x128) ![0, 0, 0, 0] S1x1x1020x128.size inb_S1x1x1020x128_S1x1x1020x128_0_0_0_0).toLoadRect (harg7.unread x5))⟩ : View.Piece (Elt Ideal) S1024x128 .f32)])
    (BitVec.ofNat 32 (i 1).val) inb_S1x8x128_S1x8x128_0_0_0 inb_S8x6528_S8x6528_0_0
    (hs _ _ (fun r d => by rw [split_read, ssplit_apply, readAt_whole, harg6.read_unread]) (fun r d => by rw [split_read, zsplit_apply, readAt_whole, harg7.read_unread]))
  have hm : ∀ c, k0_pay97 (F := Ideal) (ix2 h c) = M s 0 := fun c => start_max _
  repeat rw [readCov_full]
  refine (read_append_full arg25.view g _ _ _ _ _).trans ?_
  exact accX c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hX hm (start_acc _) hv _ _ _ _ _ _ _

end Cert.KernelIdeal.Body

end
-- ==== Proof.StepD.lean ====
/-
  The first point of a later head carries the account on.
-/
module

public import proofs.«01_k».proof.Proof.CaseD
public import proofs.«01_k».proof.Proof.Account

@[expose] public section

set_option maxRecDepth 16384

noncomputable section

namespace Cert.KernelIdeal.Body

open Cert.KernelIdeal Cert.KernelIdeal.Gen Cert.Online
open Idealize.ShloMosaic Idealize.ShloMosaic.TcCoe Idealize.ShloMosaic.Tactic
open Idealize.SL Idealize.SL.RA Idealize.SL.BI Idealize.SL.Sem

variable (m : (ℓ : Loc nD τ sig) → Buf (Elt Ideal) ℓ) (c : Dev nD)

set_option maxHeartbeats 8000000 in
/-- The first point of a later head carries the account on. -/
theorem stepD : ∀ (t : Fin cfg0.N) (h0 : ¬t.val % 160 = 0) (h1 : t.val % 5 = 0) (h2 : ¬t.val % 5 = 4) (s : St Ideal) (d : Outs Ideal), (account (cacheK m c)).Inv t.val s → ∀ (g3 : scM0_3.view.ty.Contents (Elt Ideal)) (g4 : scM0_4.view.ty.Contents (Elt Ideal)) (g5 : scM0_5.view.ty.Contents (Elt Ideal)),
    (account (cacheK m c)).Inv (t.val + 1) ⟨(scM0_0.view.read (Elt Ideal) (scM0_0.view.writes (Elt Ideal) ((Memref.isWhole_whole _ : scM0_0.IsWhole).unread s.k2) (atD m c t h0 h1 h2 s d).1)), (scM0_1.view.read (Elt Ideal) (scM0_1.view.writes (Elt Ideal) ((Memref.isWhole_whole _ : scM0_1.IsWhole).unread s.z2) (atD m c t h0 h1 h2 s d).2.1)), (scM0_3.view.read (Elt Ideal) (scM0_3.view.writes (Elt Ideal) g3 (atD m c t h0 h1 h2 s d).2.2.1)), (scM0_4.view.read (Elt Ideal) (scM0_4.view.writes (Elt Ideal) g4 (atD m c t h0 h1 h2 s d).2.2.2.1)), (scM0_5.view.read (Elt Ideal) (scM0_5.view.writes (Elt Ideal) g5 (atD m c t h0 h1 h2 s d).2.2.2.2.1)), s.kd, s.vd⟩ := by
  intro t h0 h1 h2 s dd hi g3 g4 g5
  have hs : ∀ h, ∀ K Z : Vec Ideal S1024x128 .f32, (∀ (r : Fin 1020) d, K (ix2 ⟨r.val, by omega⟩ d) = iblk m c 4 t (ix4 0 0 r (src d))) →
      (∀ (r : Fin 1020) d, Z (ix2 ⟨r.val, by omega⟩ d) = iblk m c 5 t (ix4 0 0 r (src d))) →
      ∀ j, blkScore (grid0.coords t) (iblk m c 0 t) (iblk m c 3 t) K Z h j = (cacheK m c).score (head t) h (0 + j.val) := by
    intro h K Z hK hZ j
    have e := score_eq m c t K Z (fun r d => (hK r d).trans (blk_ks m c t r _)) (fun r d => (hZ r d).trans (blk_kz m c t r _)) h j
    rw [h1] at e
    exact e
  have hv : ∀ e, ∀ j, blkValue (iblk m c 6 t) (iblk m c 7 t) (iblk m c 8 t) j e = (cacheK m c).val (head t) (src e) (0 + j.val) := by
    intro e j
    have e' := value_eq m c t j e
    rw [h1] at e'
    exact e'
  refine Known.of (fun _ => hi.kd (by omega)) (fun _ => hi.vd (by omega)) fun n hn hk => ?mid
  obtain rfl : n = head t := Fin.ext (by show n.val = t.val / 5; omega)
  rw [show 6528 * ((t.val + 1) % 5) = 0 + 6528 by omega]
  exact Mid.of (fun r d => (D_scales c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) dd.o11 dd.o12 dd.o13 dd.o14 dd.o15 dd.o16 dd.o17 s.k2 s.z2 s.kd s.vd r d).trans (blk_ks m c t r _)) (fun r d => (D_zeros c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) dd.o11 dd.o12 dd.o13 dd.o14 dd.o15 dd.o16 dd.o17 s.k2 s.z2 s.kd s.vd r d).trans (blk_kz m c t r _)) (fun h e => D_max c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) dd.o11 dd.o12 dd.o13 dd.o14 dd.o15 dd.o16 dd.o17 s.k2 s.z2 s.kd s.vd (f := fun _ => 0) (hs h) _) (fun h e => D_sum c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) dd.o11 dd.o12 dd.o13 dd.o14 dd.o15 dd.o16 dd.o17 s.k2 s.z2 s.kd s.vd (f := fun _ => 0) (hs h) _) (fun h e => D_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) dd.o11 dd.o12 dd.o13 dd.o14 dd.o15 dd.o16 dd.o17 s.k2 s.z2 s.kd s.vd (hs h) (hv e) _)

end Cert.KernelIdeal.Body

end
-- ==== Proof.Results.lean ====
/- What the kernel returns: the attention over each head's cache and the new tokens' codes, scales and zeros. -/
module

public import proofs.«01_k».proof.Proof.Account

@[expose] public section

noncomputable section

namespace Cert.KernelIdeal.Body

open Cert.KernelIdeal Cert.KernelIdeal.Gen Cert.Online
open Idealize.ShloMosaic Idealize.ShloMosaic.TcCoe Idealize.ShloMosaic.Tactic
open Idealize.SL Idealize.SL.RA Idealize.SL.BI Idealize.SL.Sem

variable (m : (ℓ : Loc nD τ sig) → Buf (Elt Ideal) ℓ) (A : Cache)

/-- The attention's result, as an array. -/
def arrY : Vec Ideal S32x8x128 .bf16 := fun i => A.out (i 0) (i 1) (i 2)
/-- A row's codes, as an array. -/
def arrCodes (x : Fin 32 → Fin 128 → EReal) : Vec Ideal S32x64 .i8 := fun i => gbyte (x (i 0)) (i 1)
/-- A row's scales, as an array. -/
def arrScales (x : Fin 32 → Fin 128 → EReal) : Vec Ideal S32x4 .bf16 := fun i => gscale (x (i 0)) (i 1).val
/-- A row's zeros, as an array. -/
def arrZeros (x : Fin 32 → Fin 128 → EReal) : Vec Ideal S32x4 .bf16 := fun i => gmin (x (i 0)) (i 1).val

/-- The block of the attention's result at a point. -/
theorem idx11 : ∀ t, win0_11.index t = ![t.val / 5, 0, 0] := by decide +kernel
/-- Where the attention's window of a grid point lies: its head. -/
theorem emb11 (t : Fin cfg0.N) (h : Fin 8) (d : Fin 128) : (win0_11.blk t).view.emb (ix3 0 h d) = ix3 (head t) h d := by
  have e := idx11 t
  blk_ext [e]

/-- After the run, result 1 is the attention. -/
theorem result0 {r : PUnit.{1} × MemSt nD τ sig (Elt Ideal)} (h : Pipeline.RDat.FramePost (cfgs 0) (rdat m (account A)) (V m) r) (c : Dev nD) :
    r.2.mem ((c.tc : Thread nD τ).loc main_v3_0) = arrY A := by
  obtain ⟨after, hL, hA⟩ := h.exists_exact c
  refine (hA 11).trans (((rdat m (account A) c).withAfter after).arrAt_eq_of_covers 11 (arrY A) (by decide +kernel) fun t hf y => ?_)
  obtain ⟨Y, _, hq⟩ := hL 11 t hf
  have hq' : (account A).Q11 t.val (after 11 t) := hq ((flush0_11 t).mp hf)
  blk_simp []
  have hy : ∃ (h : Fin 8) (d : Fin 128), y = ix3 0 h d := ⟨y 1, y 2, (eq_ix3 (n0 := 1) (n1 := 8) (n2 := 128) y).trans (congrArg (fun z : Fin 1 => ix3 z (y 1) (y 2)) (Subsingleton.elim _ _))⟩
  obtain ⟨h, d, rfl⟩ := hy
  exact (hq' (head t) rfl h d).trans (congrArg (arrY A) (emb11 t h d)).symm

/-- The block of the new keys' codes: the whole array. -/
theorem idx12 : ∀ t, win0_12.index t = ![0, 0] := by decide +kernel
/-- The window of the new keys' packed codes is the whole array. -/
theorem emb12 (t : Fin cfg0.N) (r : Fin 32) (j : Fin 64) : (win0_12.blk t).view.emb (ix2 r j) = ix2 r j := by
  have e := idx12 t
  blk_ext [e]

/-- After the run, result 2 is the new keys' packed codes. -/
theorem result1 {r : PUnit.{1} × MemSt nD τ sig (Elt Ideal)} (h : Pipeline.RDat.FramePost (cfgs 0) (rdat m (account A)) (V m) r) (c : Dev nD) :
    r.2.mem ((c.tc : Thread nD τ).loc main_v3_1) = arrCodes A.kn := by
  obtain ⟨after, hL, hA⟩ := h.exists_exact c
  refine (hA 12).trans (((rdat m (account A) c).withAfter after).arrAt_eq_of_covers 12 (arrCodes A.kn) (by decide +kernel) fun t hf y => ?_)
  obtain ⟨Y, _, hq⟩ := hL 12 t hf
  have hq' : (account A).Q12 (after 12 t) := hq
  blk_simp []
  have hy : ∃ (r : Fin 32) (j : Fin 64), y = ix2 r j := ⟨y 0, y 1, eq_ix2 (n0 := 32) (n1 := 64) y⟩
  obtain ⟨r, j, rfl⟩ := hy
  exact (hq' r j).trans (congrArg (arrCodes A.kn) (emb12 t r j)).symm

/-- The block of the new keys' scales: the whole array. -/
theorem idx13 : ∀ t, win0_13.index t = ![0, 0] := by decide +kernel
/-- The window of the new keys' scales is the whole array. -/
theorem emb13 (t : Fin cfg0.N) (r : Fin 32) (j : Fin 4) : (win0_13.blk t).view.emb (ix2 r j) = ix2 r j := by
  have e := idx13 t
  blk_ext [e]

/-- After the run, result 3 is the new keys' scales. -/
theorem result2 {r : PUnit.{1} × MemSt nD τ sig (Elt Ideal)} (h : Pipeline.RDat.FramePost (cfgs 0) (rdat m (account A)) (V m) r) (c : Dev nD) :
    r.2.mem ((c.tc : Thread nD τ).loc main_v3_2) = arrScales A.kn := by
  obtain ⟨after, hL, hA⟩ := h.exists_exact c
  refine (hA 13).trans (((rdat m (account A) c).withAfter after).arrAt_eq_of_covers 13 (arrScales A.kn) (by decide +kernel) fun t hf y => ?_)
  obtain ⟨Y, _, hq⟩ := hL 13 t hf
  have hq' : (account A).Q13 (after 13 t) := hq
  blk_simp []
  have hy : ∃ (r : Fin 32) (j : Fin 4), y = ix2 r j := ⟨y 0, y 1, eq_ix2 (n0 := 32) (n1 := 4) y⟩
  obtain ⟨r, j, rfl⟩ := hy
  exact (hq' r j).trans (congrArg (arrScales A.kn) (emb13 t r j)).symm

/-- The block of the new keys' zeros: the whole array. -/
theorem idx14 : ∀ t, win0_14.index t = ![0, 0] := by decide +kernel
/-- The window of the new keys' zeros is the whole array. -/
theorem emb14 (t : Fin cfg0.N) (r : Fin 32) (j : Fin 4) : (win0_14.blk t).view.emb (ix2 r j) = ix2 r j := by
  have e := idx14 t
  blk_ext [e]

/-- After the run, result 4 is the new keys' zeros. -/
theorem result3 {r : PUnit.{1} × MemSt nD τ sig (Elt Ideal)} (h : Pipeline.RDat.FramePost (cfgs 0) (rdat m (account A)) (V m) r) (c : Dev nD) :
    r.2.mem ((c.tc : Thread nD τ).loc main_v3_3) = arrZeros A.kn := by
  obtain ⟨after, hL, hA⟩ := h.exists_exact c
  refine (hA 14).trans (((rdat m (account A) c).withAfter after).arrAt_eq_of_covers 14 (arrZeros A.kn) (by decide +kernel) fun t hf y => ?_)
  obtain ⟨Y, _, hq⟩ := hL 14 t hf
  have hq' : (account A).Q14 (after 14 t) := hq
  blk_simp []
  have hy : ∃ (r : Fin 32) (j : Fin 4), y = ix2 r j := ⟨y 0, y 1, eq_ix2 (n0 := 32) (n1 := 4) y⟩
  obtain ⟨r, j, rfl⟩ := hy
  exact (hq' r j).trans (congrArg (arrZeros A.kn) (emb14 t r j)).symm

/-- The block of the new values' codes: the whole array. -/
theorem idx15 : ∀ t, win0_15.index t = ![0, 0] := by decide +kernel
/-- The window of the new values' packed codes is the whole array. -/
theorem emb15 (t : Fin cfg0.N) (r : Fin 32) (j : Fin 64) : (win0_15.blk t).view.emb (ix2 r j) = ix2 r j := by
  have e := idx15 t
  blk_ext [e]

/-- After the run, result 5 is the new values' packed codes. -/
theorem result4 {r : PUnit.{1} × MemSt nD τ sig (Elt Ideal)} (h : Pipeline.RDat.FramePost (cfgs 0) (rdat m (account A)) (V m) r) (c : Dev nD) :
    r.2.mem ((c.tc : Thread nD τ).loc main_v3_4) = arrCodes A.vn := by
  obtain ⟨after, hL, hA⟩ := h.exists_exact c
  refine (hA 15).trans (((rdat m (account A) c).withAfter after).arrAt_eq_of_covers 15 (arrCodes A.vn) (by decide +kernel) fun t hf y => ?_)
  obtain ⟨Y, _, hq⟩ := hL 15 t hf
  have hq' : (account A).Q15 (after 15 t) := hq
  blk_simp []
  have hy : ∃ (r : Fin 32) (j : Fin 64), y = ix2 r j := ⟨y 0, y 1, eq_ix2 (n0 := 32) (n1 := 64) y⟩
  obtain ⟨r, j, rfl⟩ := hy
  exact (hq' r j).trans (congrArg (arrCodes A.vn) (emb15 t r j)).symm

/-- The block of the new values' scales: the whole array. -/
theorem idx16 : ∀ t, win0_16.index t = ![0, 0] := by decide +kernel
/-- The window of the new values' scales is the whole array. -/
theorem emb16 (t : Fin cfg0.N) (r : Fin 32) (j : Fin 4) : (win0_16.blk t).view.emb (ix2 r j) = ix2 r j := by
  have e := idx16 t
  blk_ext [e]

/-- After the run, result 6 is the new values' scales. -/
theorem result5 {r : PUnit.{1} × MemSt nD τ sig (Elt Ideal)} (h : Pipeline.RDat.FramePost (cfgs 0) (rdat m (account A)) (V m) r) (c : Dev nD) :
    r.2.mem ((c.tc : Thread nD τ).loc main_v3_5) = arrScales A.vn := by
  obtain ⟨after, hL, hA⟩ := h.exists_exact c
  refine (hA 16).trans (((rdat m (account A) c).withAfter after).arrAt_eq_of_covers 16 (arrScales A.vn) (by decide +kernel) fun t hf y => ?_)
  obtain ⟨Y, _, hq⟩ := hL 16 t hf
  have hq' : (account A).Q16 (after 16 t) := hq
  blk_simp []
  have hy : ∃ (r : Fin 32) (j : Fin 4), y = ix2 r j := ⟨y 0, y 1, eq_ix2 (n0 := 32) (n1 := 4) y⟩
  obtain ⟨r, j, rfl⟩ := hy
  exact (hq' r j).trans (congrArg (arrScales A.vn) (emb16 t r j)).symm

/-- The block of the new values' zeros: the whole array. -/
theorem idx17 : ∀ t, win0_17.index t = ![0, 0] := by decide +kernel
/-- The window of the new values' zeros is the whole array. -/
theorem emb17 (t : Fin cfg0.N) (r : Fin 32) (j : Fin 4) : (win0_17.blk t).view.emb (ix2 r j) = ix2 r j := by
  have e := idx17 t
  blk_ext [e]

/-- After the run, result 7 is the new values' zeros. -/
theorem result6 {r : PUnit.{1} × MemSt nD τ sig (Elt Ideal)} (h : Pipeline.RDat.FramePost (cfgs 0) (rdat m (account A)) (V m) r) (c : Dev nD) :
    r.2.mem ((c.tc : Thread nD τ).loc main_v3_6) = arrZeros A.vn := by
  obtain ⟨after, hL, hA⟩ := h.exists_exact c
  refine (hA 17).trans (((rdat m (account A) c).withAfter after).arrAt_eq_of_covers 17 (arrZeros A.vn) (by decide +kernel) fun t hf y => ?_)
  obtain ⟨Y, _, hq⟩ := hL 17 t hf
  have hq' : (account A).Q17 (after 17 t) := hq
  blk_simp []
  have hy : ∃ (r : Fin 32) (j : Fin 4), y = ix2 r j := ⟨y 0, y 1, eq_ix2 (n0 := 32) (n1 := 4) y⟩
  obtain ⟨r, j, rfl⟩ := hy
  exact (hq' r j).trans (congrArg (arrZeros A.vn) (emb17 t r j)).symm

end Cert.KernelIdeal.Body

end
-- ==== Proof.RefQuant.lean ====
/- The reference's quantiser, entry by entry: groups of thirty-two channels, their least and greatest channel, the scale, the codes, the bytes and the round trip. -/
module

public import proofs.«01_k».proof.Proof.Gen.ReferenceIdeal.Run
public import proofs.«01_k».proof.Proof.Attend

@[expose] public section

noncomputable section

namespace Cert.ReferenceIdeal.Value

open Cert.ReferenceIdeal Cert.ReferenceIdeal.Gen Cert.Online
open Idealize.ShloMosaic Idealize.ShloMosaic.TcCoe Idealize.ShloMosaic.Tactic
open Idealize.SL.Sem Idealize.ShloMosaic.StableHlo

/-- The groups of a row, end to end. -/
def grow (x : FVec Ideal S32x4x32 .f32) (n : Fin 32) (d : Fin 128) : EReal := x (ix3 n (⟨d.val / 32, by omega⟩ : Fin 4) (⟨d.val % 32, by omega⟩ : Fin 32))

/-- The reference's least channel of each group. -/
def rmin (x : FVec Ideal S32x4x32 .f32) : FVec Ideal S32x4 .f32 :=
  Host.reduce FloatOps.minimumf x (constant S_ .f32 0x7F800000#32) reducesTo_S32x4x32_S32x4_d2 h_S_

/-- The reference's greatest channel of each group. -/
def rmax (x : FVec Ideal S32x4x32 .f32) : FVec Ideal S32x4 .f32 :=
  Host.reduce FloatOps.maximumf x (constant S_ .f32 0xFF800000#32) reducesTo_S32x4x32_S32x4_d2 h_S_

/-- The reference's range of each group. -/
def rrange (x : FVec Ideal S32x4x32 .f32) : FVec Ideal S32x4 .f32 := subf (rmax x) (rmin x)

/-- The reference's scale of each group. -/
def rscale (x : FVec Ideal S32x4x32 .f32) : FVec Ideal S32x4 .bf16 :=
  truncf .bf16 (select (cmpf .oeq (rrange x) (broadcastInDim S32x4 ![] bcast_S_S32x4 (constant S_ .f32 0x00000000#32))) (broadcastInDim S32x4 ![] bcast_S_S32x4 (id (constant S_ .f32 0x3F800000#32))) (Host.divf (rrange x) (broadcastInDim S32x4 ![] bcast_S_S32x4 (constant S_ .f32 0x41700000#32)))) bitsLt_bf16_f32

/-- The reference's codes, as numbers. -/
def rcode (x : FVec Ideal S32x4x32 .f32) : FVec Ideal S32x4x32 .f32 :=
  minimumf (broadcastInDim S32x4x32 ![] bcast_S_S32x4x32 (id (constant S_ .f32 0x41700000#32))) (maximumf (broadcastInDim S32x4x32 ![] bcast_S_S32x4x32 (id (constant S_ .f32 0x00000000#32))) (Host.roundeven (Host.divf (subf x (broadcastInDim S32x4x32 ![0, 1, 2] bcast_S32x4x1_S32x4x32_0_1_2 (broadcastInDim S32x4x1 ![0, 1] bcast_S32x4_S32x4x1_0_1 (extf .f32 (truncf .bf16 (rmin x) bitsLt_bf16_f32) bitsLt_bf16_f32)))) (broadcastInDim S32x4x32 ![0, 1, 2] bcast_S32x4x1_S32x4x32_0_1_2 (broadcastInDim S32x4x1 ![0, 1] bcast_S32x4_S32x4x1_0_1 (extf .f32 (rscale x) bitsLt_bf16_f32))))))

/-- The reference's round trip. -/
def rdeq (x : FVec Ideal S32x4x32 .f32) : FVec Ideal S32x1x128 .bf16 :=
  shapeCast _ (addf (mulf (truncf .bf16 (rcode x) bitsLt_bf16_f32) (broadcastInDim S32x4x32 ![0, 1, 2] bcast_S32x4x1_S32x4x32_0_1_2 (broadcastInDim S32x4x1 ![0, 1] bcast_S32x4_S32x4x1_0_1 (rscale x)))) (broadcastInDim S32x4x32 ![0, 1, 2] bcast_S32x4x1_S32x4x32_0_1_2 (broadcastInDim S32x4x1 ![0, 1] bcast_S32x4_S32x4x1_0_1 (truncf .bf16 (rmin x) bitsLt_bf16_f32)))) shapeCasts_S32x4x32_S32x1x128

/-- The reference's codes, two to a row of the last axis. -/
def rpair (x : FVec Ideal S32x4x32 .f32) : IVec S32x64x2 32 := shapeCast _ (fptosi 32 (rcode x)) shapeCasts_S32x4x32_S32x64x2

/-- The reference's packed codes. -/
def rbyte (x : FVec Ideal S32x4x32 .f32) : IVec S32x64 8 :=
  trunci 8 (ori (shapeCast _ (extractStridedSlice S32x64x1 ![0, 0, 0] (rpair x) slices_S32x64x2_S32x64x1_0_0_0) shapeCasts_S32x64x1_S32x64) (Host.shli (shapeCast _ (extractStridedSlice S32x64x1 ![0, 0, 1] (rpair x) slices_S32x64x2_S32x64x1_0_0_1) shapeCasts_S32x64x1_S32x64) (broadcastInDim S32x64 ![] bcast_S_S32x64 (constantI S_ 32 4#32)))) natLt_8_32

variable (x : FVec Ideal S32x4x32 .f32)

/-- A channel of a group, by the group and its place there. -/
theorem grow_at (n : Fin 32) (g : Fin 4) (j : Fin 32) : grow x n ⟨g.val * 32 + j.val, by omega⟩ = x (ix3 n g j) := by
  unfold grow
  have h1 : (⟨(g.val * 32 + j.val) / 32, by omega⟩ : Fin 4) = g := Fin.ext (by show (g.val * 32 + j.val) / 32 = g.val; omega)
  have h2 : (⟨(g.val * 32 + j.val) % 32, by omega⟩ : Fin 32) = j := Fin.ext (by show (g.val * 32 + j.val) % 32 = j.val; omega)
  simp only [h1, h2]

/-- The least channel of a group. -/
theorem rmin_apply (n : Fin 32) (g : Fin 4) : rmin x (ix2 n g) = gmin (grow x n) g.val := by
  rw [gmin_group]
  simp only [grow_at]
  unfold rmin
  pointwise []
  rw [show (Ideal.ofBits .f32 0x7F800000#32 : EReal) = ⊤ by simp [Ideal.ofBits, Ideal.ieee]]
  rfl

/-- The greatest channel of a group. -/
theorem rmax_apply (n : Fin 32) (g : Fin 4) : rmax x (ix2 n g) = gmax (grow x n) g.val := by
  rw [gmax_group]
  simp only [grow_at]
  unfold rmax
  pointwise []
  rw [show (Ideal.ofBits .f32 0xFF800000#32 : EReal) = ⊥ by simp [Ideal.ofBits, Ideal.ieee]]
  rfl

/-- Fifteen, as its bits. -/
theorem r15 : (Ideal.ofBits FTy.f32 0x41700000#32 : EReal) = 15 := by
  simp [Ideal.ofBits, Ideal.ieee]
  rw [← EReal.coe_mul, show (15728640 * (2 ^ 20)⁻¹ : ℝ) = 15 by norm_num]
  rfl

/-- One, as its bits. -/
theorem r1 : (Ideal.ofBits FTy.f32 0x3F800000#32 : EReal) = 1 := by
  simp [Ideal.ofBits, Ideal.ieee]
  rw [← EReal.coe_mul, show (8388608 * (2 ^ 23)⁻¹ : ℝ) = 1 by norm_num]
  rfl

/-- Zero, as its bits. -/
theorem r0 : (Ideal.ofBits FTy.f32 0x00000000#32 : EReal) = 0 := by
  simp [Ideal.ofBits, Ideal.ieee]

/-- The scale of a group. -/
theorem rscale_apply (n : Fin 32) (g : Fin 4) : rscale x (ix2 n g) = gscale (grow x n) g.val := by
  have h1 := rmin_apply x n g
  have h2 := rmax_apply x n g
  unfold rscale rrange gscale
  rw [← h1, ← h2]
  generalize rmin x = a at *
  generalize rmax x = b at *
  pointwise []
  rw [r15, show id (constant (F := Ideal) S_ FTy.f32 0x3F800000#32) ix0 = (1 : EReal) from r1]

/-- The code of a channel. -/
theorem rcode_apply (n : Fin 32) (g : Fin 4) (j : Fin 32) : rcode x (ix3 n g j) = gq (grow x n) ⟨g.val * 32 + j.val, by omega⟩ := by
  have h1 := rmin_apply x n g
  have h2 := rscale_apply x n g
  have h3 : (g.val * 32 + j.val) / 32 = g.val := by omega
  unfold rcode gq
  simp only [h3]
  rw [grow_at, ← h1, ← h2]
  generalize rmin x = a at *
  generalize rscale x = b at *
  pointwise []
  rw [show id (constant (F := Ideal) S_ FTy.f32 0x41700000#32) ix0 = (15 : EReal) from r15,
    show id (constant (F := Ideal) S_ FTy.f32 0x00000000#32) ix0 = (0 : EReal) from r0]

/-- A channel by its group and its place there. -/
theorem split_chan (d : Fin 128) (p : d.val / 32 * 32 + d.val % 32 < 128) : (⟨d.val / 32 * 32 + d.val % 32, p⟩ : Fin 128) = d :=
  Fin.ext (by show d.val / 32 * 32 + d.val % 32 = d.val; omega)

/-- The round trip of a channel. -/
theorem rdeq_apply (n : Fin 32) (d : Fin 128) : rdeq x (ix3 n 0 d) = gdq (grow x n) d := by
  have h0 := rcode_apply x n (⟨d.val / 32, by omega⟩ : Fin 4) (⟨d.val % 32, by omega⟩ : Fin 32)
  have h1 := rmin_apply x n (⟨d.val / 32, by omega⟩ : Fin 4)
  have h2 := rscale_apply x n (⟨d.val / 32, by omega⟩ : Fin 4)
  simp only [split_chan] at h0
  unfold rdeq gdq
  rw [← h0, ← h1, ← h2]
  generalize rmin x = a at *
  generalize rscale x = b at *
  generalize rcode x = e at *
  pointwise []

/-- A byte of two codes. -/
theorem pack (a b : ℕ) (ha : a ≤ 15) (hb : b ≤ 15) :
    BitVec.setWidth 8 (IntOp.ori (BitVec.ofNat 32 a) (IntOp.shli ArithUnit.host (BitVec.ofNat 32 b) 4#32)) = BitVec.ofNat 8 (a + 16 * b) :=
  (by decide +kernel : ∀ a b : Fin 16, BitVec.setWidth 8 (IntOp.ori (BitVec.ofNat 32 a.val) (IntOp.shli ArithUnit.host (BitVec.ofNat 32 b.val) 4#32))
    = BitVec.ofNat 8 (a.val + 16 * b.val)) ⟨a, by omega⟩ ⟨b, by omega⟩

/-- The packed codes. -/
theorem rbyte_apply (n : Fin 32) (j : Fin 64) : rbyte x (ix2 n j) = gbyte (grow x n) j := by
  have h0 := rcode_apply x n (⟨j.val / 16, by omega⟩ : Fin 4) (⟨j.val % 16 * 2, by omega⟩ : Fin 32)
  have h1 := rcode_apply x n (⟨j.val / 16, by omega⟩ : Fin 4) (⟨j.val % 16 * 2 + 1, by omega⟩ : Fin 32)
  have e0 : (⟨j.val / 16 * 32 + j.val % 16 * 2, by omega⟩ : Fin 128) = ⟨2 * j.val, by omega⟩ := Fin.ext (by show j.val / 16 * 32 + j.val % 16 * 2 = 2 * j.val; omega)
  have e1 : (⟨j.val / 16 * 32 + (j.val % 16 * 2 + 1), by omega⟩ : Fin 128) = ⟨2 * j.val + 1, by omega⟩ := Fin.ext (by show j.val / 16 * 32 + (j.val % 16 * 2 + 1) = 2 * j.val + 1; omega)
  simp only [e0] at h0
  simp only [e1] at h1
  unfold rbyte rpair
  generalize rcode x = e at *
  pointwise []
  rw [h0, h1, gq_eq, gq_eq]
  have f0 := fptosi_nat _ (show gnat (grow x n) ⟨2 * j.val, by omega⟩ < 256 from by have := gnat_le (grow x n) ⟨2 * j.val, by omega⟩; omega)
  have f1 := fptosi_nat _ (show gnat (grow x n) ⟨2 * j.val + 1, by omega⟩ < 256 from by have := gnat_le (grow x n) ⟨2 * j.val + 1, by omega⟩; omega)
  refine Eq.trans (congrArg₂ (fun a b => BitVec.setWidth 8 (IntOp.ori a (IntOp.shli ArithUnit.host b 4#32))) f0 f1) ?_
  exact pack _ _ (gnat_le _ _) (gnat_le _ _)

/-! ## The program's terms are these -/

variable (L : Valuation τ sig (Elt Ideal))

/-- The reference's scales of the new keys. -/
theorem out_kscale : res_main_v12 L = rscale (res_main_v3 L) := rfl
/-- The reference's zeros of the new keys. -/
theorem out_kzero : res_main_v13 L = truncf .bf16 (rmin (res_main_v3 L)) bitsLt_bf16_f32 := rfl
/-- The reference's scales of the new values. -/
theorem out_vscale : res_main_v35 L = rscale (res_main_v26 L) := rfl
/-- The reference's zeros of the new values. -/
theorem out_vzero : res_main_v36 L = truncf .bf16 (rmin (res_main_v26 L)) bitsLt_bf16_f32 := rfl
/-- The reference's codes of the new keys, by byte. -/
theorem out_kpair : res_main_v124 L = rpair (res_main_v3 L) := rfl
/-- The reference's codes of the new values, by byte. -/
theorem out_vpair : res_main_v134 L = rpair (res_main_v26 L) := rfl

end Cert.ReferenceIdeal.Value

end
-- ==== Proof.RefAttend.lean ====
/- The reference's attention, entry by entry: the cached keys and values, all tokens' scores, and the softmax's sums over all tokens. -/
module

public import proofs.«01_k».proof.Proof.RefQuant

@[expose] public section

noncomputable section

namespace Cert.ReferenceIdeal.Value

open Cert.ReferenceIdeal Cert.ReferenceIdeal.Gen Cert.Online
open Idealize.ShloMosaic Idealize.ShloMosaic.TcCoe Idealize.ShloMosaic.Tactic
open Idealize.SL.Sem Idealize.ShloMosaic.StableHlo

variable (L : Valuation τ sig (Elt Ideal))

/-- The reference's arguments, by head. -/
def cacheR : Cache where
  q n h d := L (Proc.devRef .tc main_arg0) (ix3 (⟨n.val / 4, by omega⟩ : Fin 8) (0 : Fin 1) (⟨n.val % 4 * 1024 + h.val * 128 + d.val, by omega⟩ : Fin 4096))
  kn n d := L (Proc.devRef .tc main_arg1) (ix4 (⟨n.val / 4, by omega⟩ : Fin 8) (0 : Fin 1) (⟨n.val % 4, by omega⟩ : Fin 4) d)
  vn n d := L (Proc.devRef .tc main_arg2) (ix4 (⟨n.val / 4, by omega⟩ : Fin 8) (0 : Fin 1) (⟨n.val % 4, by omega⟩ : Fin 4) d)
  kc n t d := L (Proc.devRef .tc main_arg3) (ix4 (⟨n.val / 4, by omega⟩ : Fin 8) (⟨n.val % 4, by omega⟩ : Fin 4) t d)
  ks n t d := L (Proc.devRef .tc main_arg4) (ix4 (⟨n.val / 4, by omega⟩ : Fin 8) (⟨n.val % 4, by omega⟩ : Fin 4) t d)
  kz n t d := L (Proc.devRef .tc main_arg5) (ix4 (⟨n.val / 4, by omega⟩ : Fin 8) (⟨n.val % 4, by omega⟩ : Fin 4) t d)
  vc n t d := L (Proc.devRef .tc main_arg6) (ix4 (⟨n.val / 4, by omega⟩ : Fin 8) (⟨n.val % 4, by omega⟩ : Fin 4) t d)
  vs n t d := L (Proc.devRef .tc main_arg7) (ix4 (⟨n.val / 4, by omega⟩ : Fin 8) (⟨n.val % 4, by omega⟩ : Fin 4) t d)
  vz n t d := L (Proc.devRef .tc main_arg8) (ix4 (⟨n.val / 4, by omega⟩ : Fin 8) (⟨n.val % 4, by omega⟩ : Fin 4) t d)
  kt n t d := L (Proc.devRef .tc main_arg9) (ix4 (⟨n.val / 4, by omega⟩ : Fin 8) (⟨n.val % 4, by omega⟩ : Fin 4) t d)
  vt n t d := L (Proc.devRef .tc main_arg10) (ix4 (⟨n.val / 4, by omega⟩ : Fin 8) (⟨n.val % 4, by omega⟩ : Fin 4) t d)

/-- The nibbles of the key codes. -/
def knib : IVec S32x1020x32x128 32 :=
  (shapeCast _ (concatenate S32x1020x32x64x2 4 [⟨S32x1020x32x64x1, (broadcastInDim S32x1020x32x64x1 ![0, 1, 2, 3] bcast_S32x1020x32x64_S32x1020x32x64x1_0_1_2_3 (andi (res_main_v64 L) (broadcastInDim S32x1020x32x64 ![] bcast_S_S32x1020x32x64 (constantI S_ 32 15#32))))⟩, ⟨S32x1020x32x64x1, (broadcastInDim S32x1020x32x64x1 ![0, 1, 2, 3] bcast_S32x1020x32x64_S32x1020x32x64x1_0_1_2_3 (andi (Host.shrsi (res_main_v64 L) (broadcastInDim S32x1020x32x64 ![] bcast_S_S32x1020x32x64 (constantI S_ 32 4#32))) (broadcastInDim S32x1020x32x64 ![] bcast_S_S32x1020x32x64 (constantI S_ 32 15#32))))⟩] concatenates_S32x1020x32x64x1_S32x1020x32x64x1_S32x1020x32x64x2_d4) shapeCasts_S32x1020x32x64x2_S32x1020x32x128)

/-- The cached keys. -/
def kcache : FVec Ideal S32x32640x128 .bf16 :=
  (shapeCast _ (addf (mulf (sitofp .bf16 (knib L)) (broadcastInDim S32x1020x32x128 ![0, 1, 2, 3] bcast_S32x1020x1x128_S32x1020x32x128_0_1_2_3 (shapeCast _ (L (Proc.devRef .tc main_arg4)) shapeCasts_S8x4x1020x128_S32x1020x1x128))) (broadcastInDim S32x1020x32x128 ![0, 1, 2, 3] bcast_S32x1020x1x128_S32x1020x32x128_0_1_2_3 (shapeCast _ (L (Proc.devRef .tc main_arg5)) shapeCasts_S8x4x1020x128_S32x1020x1x128))) shapeCasts_S32x1020x32x128_S32x32640x128)

/-- All keys. -/
def keys : FVec Ideal S32x32769x128 .bf16 :=
  (concatenate S32x32769x128 1 [⟨S32x32640x128, (kcache L : (⟨S32x32640x128, .bf16⟩ : BufTy).Contents (Elt Ideal))⟩, ⟨S32x128x128, ((shapeCast _ (L (Proc.devRef .tc main_arg9)) shapeCasts_S8x4x128x128_S32x128x128) : (⟨S32x128x128, .bf16⟩ : BufTy).Contents (Elt Ideal))⟩, ⟨S32x1x128, (rdeq (res_main_v3 L) : (⟨S32x1x128, .bf16⟩ : BufTy).Contents (Elt Ideal))⟩] concatenates_S32x32640x128_S32x128x128_S32x1x128_S32x32769x128_d1 : (⟨S32x32769x128, .bf16⟩ : BufTy).Contents (Elt Ideal))

/-- The nibbles of the value codes. -/
def vnib : IVec S32x32640x128 32 :=
  (shapeCast _ (concatenate S32x32640x64x2 3 [⟨S32x32640x64x1, (broadcastInDim S32x32640x64x1 ![0, 1, 2] bcast_S32x32640x64_S32x32640x64x1_0_1_2 (andi (res_main_v84 L) (broadcastInDim S32x32640x64 ![] bcast_S_S32x32640x64 (constantI S_ 32 15#32))))⟩, ⟨S32x32640x64x1, (broadcastInDim S32x32640x64x1 ![0, 1, 2] bcast_S32x32640x64_S32x32640x64x1_0_1_2 (andi (Host.shrsi (res_main_v84 L) (broadcastInDim S32x32640x64 ![] bcast_S_S32x32640x64 (constantI S_ 32 4#32))) (broadcastInDim S32x32640x64 ![] bcast_S_S32x32640x64 (constantI S_ 32 15#32))))⟩] concatenates_S32x32640x64x1_S32x32640x64x1_S32x32640x64x2_d3) shapeCasts_S32x32640x64x2_S32x32640x128)

/-- The cached values. -/
def vcache : FVec Ideal S32x32640x128 .bf16 :=
  (shapeCast _ (addf (mulf (shapeCast _ (sitofp .bf16 (vnib L)) shapeCasts_S32x32640x128_S32x32640x4x32) (broadcastInDim S32x32640x4x32 ![0, 1, 2, 3] bcast_S32x32640x4x1_S32x32640x4x32_0_1_2_3 (shapeCast _ (L (Proc.devRef .tc main_arg7)) shapeCasts_S8x4x32640x4_S32x32640x4x1))) (broadcastInDim S32x32640x4x32 ![0, 1, 2, 3] bcast_S32x32640x4x1_S32x32640x4x32_0_1_2_3 (shapeCast _ (L (Proc.devRef .tc main_arg8)) shapeCasts_S8x4x32640x4_S32x32640x4x1))) shapeCasts_S32x32640x4x32_S32x32640x128)

/-- All values. -/
def vals : FVec Ideal S32x32769x128 .bf16 :=
  (concatenate S32x32769x128 1 [⟨S32x32640x128, (vcache L : (⟨S32x32640x128, .bf16⟩ : BufTy).Contents (Elt Ideal))⟩, ⟨S32x128x128, ((shapeCast _ (L (Proc.devRef .tc main_arg10)) shapeCasts_S8x4x128x128_S32x128x128) : (⟨S32x128x128, .bf16⟩ : BufTy).Contents (Elt Ideal))⟩, ⟨S32x1x128, (rdeq (res_main_v26 L) : (⟨S32x1x128, .bf16⟩ : BufTy).Contents (Elt Ideal))⟩] concatenates_S32x32640x128_S32x128x128_S32x1x128_S32x32769x128_d1 : (⟨S32x32769x128, .bf16⟩ : BufTy).Contents (Elt Ideal))

/-- The weights of all scores. -/
def rexp (a : FVec Ideal S32x8x32769 .f32) : FVec Ideal S32x8x32769 .f32 :=

  Host.exp (subf a (broadcastInDim S32x8x32769 ![0, 1, 2] bcast_S32x8x1_S32x8x32769_0_1_2 (broadcastInDim S32x8x1 ![0, 1] bcast_S32x8_S32x8x1_0_1 (Host.reduce FloatOps.maximumf a (constant S_ .f32 0xFF800000#32) reducesTo_S32x8x32769_S32x8_d2 h_S_))))

/-- The scores of all keys. -/
def rscore (q : FVec Ideal S32x8x128 .bf16) (k : FVec Ideal S32x32769x128 .bf16) : FVec Ideal S32x8x32769 .f32 :=

  mulf (Host.dotGeneral dot_S32x8x128_S32x32769x128_S32x8x32769_2_2_1_1_0_0 none q (k)) (broadcastInDim S32x8x32769 ![] bcast_S_S32x8x32769 (constant S_ .f32 0x3DB504F3#32))

/-- The attention's result, of weights and values. -/
def ysoft (p : FVec Ideal S32x8x32769 .f32) (v : FVec Ideal S32x32769x128 .bf16) : FVec Ideal S32x8x128 .bf16 :=
  truncf .bf16 (Host.divf (Host.dotGeneral dot_S32x8x32769_S32x32769x128_S32x8x128_2_1_1_2_0_0 none p (extf .f32 (v) bitsLt_bf16_f32)) (broadcastInDim S32x8x128 ![0, 1, 2] bcast_S32x8x1_S32x8x128_0_1_2 (broadcastInDim S32x8x1 ![0, 1] bcast_S32x8_S32x8x1_0_1 (Host.reduceAdd p (constant S_ .f32 0x00000000#32) reducesTo_S32x8x32769_S32x8_d2 h_S_)))) bitsLt_bf16_f32

/-- The queries. -/
def queries : FVec Ideal S32x8x128 .bf16 := (shapeCast _ (L (Proc.devRef .tc main_arg0)) shapeCasts_S8x1x4096_S32x8x128)

/-- The reference's scores, by name. -/
theorem scores_eq : res_main_v110 L = rscore (queries L) (keys L) := rfl
/-- The reference's exponentials, by name. -/
theorem exp_eq : res_main_v115 L = rexp (res_main_v110 L) := rfl

/-- The reference's new keys, by head. -/
theorem row_k (n : Fin 32) : grow (res_main_v3 L) n = (cacheR L).kn n := by
  funext d
  unfold grow res_main_v3 cacheR
  pointwise []

/-- The reference's new values, by head. -/
theorem row_v (n : Fin 32) : grow (res_main_v26 L) n = (cacheR L).vn n := by
  funext d
  unfold grow res_main_v26 cacheR
  pointwise []

/-- The low code of a byte, as a word. -/
theorem low_int (b : BitVec 8) : (IntOp.andi (BitVec.setWidth 32 b) 15#32).toInt = ((b.toNat % 16 : ℕ) : ℤ) :=
  (by decide +kernel : ∀ b : Fin 256, (IntOp.andi (BitVec.setWidth 32 (BitVec.ofFin b : BitVec 8)) 15#32).toInt = ((b.val % 16 : ℕ) : ℤ)) b.toFin

/-- The high code of a byte, as a word. -/
theorem high_int (b : BitVec 8) : (IntOp.andi (IntOp.shrsi ArithUnit.host (BitVec.setWidth 32 b) 4#32) 15#32).toInt = ((b.toNat / 16 : ℕ) : ℤ) :=
  (by decide +kernel : ∀ b : Fin 256, (IntOp.andi (IntOp.shrsi ArithUnit.host (BitVec.setWidth 32 (BitVec.ofFin b : BitVec 8)) 4#32) 15#32).toInt = ((b.val / 16 : ℕ) : ℤ)) b.toFin

/-- A code by its channel. -/
theorem code_of (b : BitVec 8) (d : Fin 128) (z : BitVec 32)
    (hz : z = if h : d.val % 2 < 1 then IntOp.andi (BitVec.setWidth 32 b) 15#32
      else IntOp.andi (IntOp.shrsi ArithUnit.host (BitVec.setWidth 32 b) 4#32) 15#32) :
    (FloatOps.sitofp (F := Ideal) FTy.bf16 z : EReal) = code b (decide (d.val % 2 = 1)) := by
  show (((z.toInt : ℤ) : ℝ) : EReal) = _
  unfold code nib
  by_cases h : d.val % 2 < 1
  · rw [hz, dif_pos h, low_int, if_neg (by simp only [decide_eq_true_eq]; omega)]
    push_cast
    rfl
  · rw [hz, dif_neg h, high_int, if_pos (by simp only [decide_eq_true_eq]; omega)]
    push_cast
    rfl

/-- The key codes' nibbles. -/
theorem knib_apply (n : Fin 32) (t : Fin 32640) (d : Fin 128) :
    (FloatOps.sitofp (F := Ideal) FTy.bf16 (knib L (ix4 n (⟨t.val / 32, by omega⟩ : Fin 1020) (⟨t.val % 32, by omega⟩ : Fin 32) d)) : EReal)
      = code ((cacheR L).kc n t ⟨d.val / 2, by omega⟩) (decide (d.val % 2 = 1)) := by
  refine code_of _ d _ ?_
  unfold knib res_main_v64 cacheR
  pointwise []

/-- The value codes' nibbles. -/
theorem vnib_apply (n : Fin 32) (t : Fin 32640) (d : Fin 128) :
    (FloatOps.sitofp (F := Ideal) FTy.bf16 (vnib L (ix3 n t d)) : EReal)
      = code ((cacheR L).vc n t ⟨d.val / 2, by omega⟩) (decide (d.val % 2 = 1)) := by
  refine code_of _ d _ ?_
  unfold vnib res_main_v84 cacheR
  pointwise []

/-- The cached keys. -/
theorem kcache_apply (n : Fin 32) (t : Fin 32640) (d : Fin 128) : kcache L (ix3 n t d) = (cacheR L).key n d t.val := by
  have h := knib_apply L n t d
  unfold Cache.key
  rw [dif_pos t.isLt, ← h]
  unfold kcache cacheR
  generalize knib L = z
  pointwise []

/-- The cached values. -/
theorem vcache_apply (n : Fin 32) (t : Fin 32640) (d : Fin 128) : vcache L (ix3 n t d) = (cacheR L).val n d t.val := by
  have h := vnib_apply L n t d
  unfold Cache.val
  rw [dif_pos t.isLt, ← h]
  unfold vcache cacheR
  generalize vnib L = z
  pointwise []

/-- The keys of all tokens. -/
theorem keys_apply (n : Fin 32) (t : Fin 32769) (d : Fin 128) : keys L (ix3 n t d) = (cacheR L).key n d t.val := by
  have h1 := fun t : Fin 32640 => kcache_apply L n t d
  have h2 := rdeq_apply (res_main_v3 L) n d
  rw [row_k] at h2
  unfold keys
  generalize kcache L = a at h1
  generalize rdeq _ = b at h2
  pointwise []
  by_cases ht : t.val < 32640
  · rw [dif_pos ht, h1]
  · rw [dif_neg ht]
    unfold Cache.key
    rw [dif_neg ht]
    by_cases ht' : t.val - 32640 < 128
    · rw [dif_pos ht', dif_pos (by omega)]
      rfl
    · rw [dif_neg ht', dif_neg (by omega), ← h2]
      exact congrArg (fun z : Fin 1 => b (ix3 n z d)) (Subsingleton.elim _ _)

/-- The values of all tokens. -/
theorem vals_apply (n : Fin 32) (t : Fin 32769) (d : Fin 128) : vals L (ix3 n t d) = (cacheR L).val n d t.val := by
  have h1 := fun t : Fin 32640 => vcache_apply L n t d
  have h2 := rdeq_apply (res_main_v26 L) n d
  rw [row_v] at h2
  unfold vals
  generalize vcache L = a at h1
  generalize rdeq _ = b at h2
  pointwise []
  by_cases ht : t.val < 32640
  · rw [dif_pos ht, h1]
  · rw [dif_neg ht]
    unfold Cache.val
    rw [dif_neg ht]
    by_cases ht' : t.val - 32640 < 128
    · rw [dif_pos ht', dif_pos (by omega)]
      rfl
    · rw [dif_neg ht', dif_neg (by omega), ← h2]
      exact congrArg (fun z : Fin 1 => b (ix3 n z d)) (Subsingleton.elim _ _)

/-- A score is the product of a query row and a key, scaled. -/
theorem rscore_apply (q : FVec Ideal S32x8x128 .bf16) (k : FVec Ideal S32x32769x128 .bf16) (n : Fin 32) (h : Fin 8) (t : Fin 32769) :
    rscore q k (ix3 n h t) = (∑ d : Fin 128, q (ix3 n h d) * k (ix3 n t d)) * Cert.KernelIdeal.Body.SM := by
  unfold rscore
  pointwise []
  rfl

/-- A weight is the exponential of a score against the greatest. -/
theorem rexp_apply (a : FVec Ideal S32x8x32769 .f32) (n : Fin 32) (h : Fin 8) (t : Fin 32769) :
    rexp a (ix3 n h t) = Ideal.exp (a (ix3 n h t) - Finset.univ.sup fun u : Fin 32769 => a (ix3 n h u)) := by
  unfold rexp
  pointwise []
  rw [show (Ideal.ofBits .f32 0xFF800000#32 : EReal) = ⊥ by simp [Ideal.ofBits, Ideal.ieee]]
  rfl

/-- The result is the weighted sum of the values over the sum of the weights. -/
theorem ysoft_apply (p : FVec Ideal S32x8x32769 .f32) (v : FVec Ideal S32x32769x128 .bf16) (n : Fin 32) (h : Fin 8) (d : Fin 128) :
    ysoft p v (ix3 n h d) = Ideal.div (∑ t : Fin 32769, p (ix3 n h t) * v (ix3 n t d)) (∑ t : Fin 32769, p (ix3 n h t)) := by
  unfold ysoft
  pointwise []

/-- The queries, by head. -/
theorem queries_apply (n : Fin 32) (h : Fin 8) (d : Fin 128) : queries L (ix3 n h d) = (cacheR L).q n h d := by
  unfold queries cacheR
  pointwise []
  try rfl

/-- The scores of all tokens. -/
theorem scores_apply (n : Fin 32) (h : Fin 8) (t : Fin 32769) : res_main_v110 L (ix3 n h t) = (cacheR L).score n h t.val := by
  rw [scores_eq]
  refine (rscore_apply _ _ n h t).trans ?_
  simp only [keys_apply, queries_apply]
  unfold Cache.score
  rw [if_pos (by omega)]

/-- The greatest over all tokens, as the greatest of a prefix. -/
theorem sup_eq_M (s : ℕ → EReal) (k : ℕ) : (Finset.univ.sup fun u : Fin k => s u.val) = M s k := by
  have h := M_add s 0 k
  rw [M_zero, max_eq_right bot_le] at h
  simp only [Nat.zero_add] at h
  exact h.symm

/-- The attention's result is the account's. -/
theorem y_apply (n : Fin 32) (h : Fin 8) (d : Fin 128) : ysoft (res_main_v115 L) (vals L) (ix3 n h d) = (cacheR L).out n h d := by
  refine (ysoft_apply _ _ n h d).trans ?_
  have hp : ∀ t : Fin 32769, res_main_v115 L (ix3 n h t) = Ideal.exp ((cacheR L).score n h t.val - M ((cacheR L).score n h) 32769) := by
    intro t
    rw [exp_eq]
    refine (rexp_apply _ n h t).trans ?_
    have e : (fun u : Fin 32769 => res_main_v110 L (ix3 n h u)) = fun u : Fin 32769 => (cacheR L).score n h u.val := funext fun u => scores_apply L n h u
    rw [← sup_eq_M, ← e, ← scores_apply]
  unfold Cache.out W
  rw [Finset.sum_range, Finset.sum_range]
  simp only [mul_one]
  refine congrArg₂ Ideal.div (Finset.sum_congr rfl fun t _ => ?_) (Finset.sum_congr rfl fun t _ => hp t)
  exact congrArg₂ (fun a b : EReal => a * b) (hp t) (vals_apply L n t d)

end Cert.ReferenceIdeal.Value

end
-- ==== Proof.RefResults.lean ====
/- What the reference returns: the attention over each head's cache and the new tokens' codes, scales and zeros. -/
module

public import proofs.«01_k».proof.Proof.RefAttend

@[expose] public section

noncomputable section

namespace Cert.ReferenceIdeal.Value

open Cert.ReferenceIdeal Cert.ReferenceIdeal.Gen Cert.Online
open Idealize.ShloMosaic Idealize.ShloMosaic.TcCoe Idealize.ShloMosaic.Tactic
open Idealize.SL.Sem Idealize.ShloMosaic.StableHlo

variable (L : Valuation τ sig (Elt Ideal))

/-- The reference's first result. -/
theorem ref0 : ysoft (res_main_v115 L) (vals L) = fun i : S32x8x128.Idx => (cacheR L).out (i 0) (i 1) (i 2) :=
  funext fun i => (congrArg (ysoft (res_main_v115 L) (vals L)) (eq_ix3 (n0 := 32) (n1 := 8) (n2 := 128) i)).trans (y_apply L (i 0) (i 1) (i 2))

/-- The new keys' codes. -/
theorem ref1 : rbyte (res_main_v3 L) = fun i : S32x64.Idx => gbyte ((cacheR L).kn (i 0)) (i 1) :=
  funext fun i => (congrArg (rbyte (res_main_v3 L)) (eq_ix2 (n0 := 32) (n1 := 64) i)).trans
    ((rbyte_apply _ (i 0) (i 1)).trans (congrArg (fun x => gbyte x (i 1)) (row_k L (i 0))))

/-- The new keys' scales. -/
theorem ref2 : rscale (res_main_v3 L) = fun i : S32x4.Idx => gscale ((cacheR L).kn (i 0)) (i 1).val :=
  funext fun i => (congrArg (rscale (res_main_v3 L)) (eq_ix2 (n0 := 32) (n1 := 4) i)).trans
    ((rscale_apply _ (i 0) (i 1)).trans (congrArg (fun x => gscale x (i 1).val) (row_k L (i 0))))

/-- The new keys' zeros. -/
theorem ref3 : rmin (res_main_v3 L) = fun i : S32x4.Idx => gmin ((cacheR L).kn (i 0)) (i 1).val :=
  funext fun i => (congrArg (rmin (res_main_v3 L)) (eq_ix2 (n0 := 32) (n1 := 4) i)).trans
    ((rmin_apply _ (i 0) (i 1)).trans (congrArg (fun x => gmin x (i 1).val) (row_k L (i 0))))

/-- The new values' codes. -/
theorem ref4 : rbyte (res_main_v26 L) = fun i : S32x64.Idx => gbyte ((cacheR L).vn (i 0)) (i 1) :=
  funext fun i => (congrArg (rbyte (res_main_v26 L)) (eq_ix2 (n0 := 32) (n1 := 64) i)).trans
    ((rbyte_apply _ (i 0) (i 1)).trans (congrArg (fun x => gbyte x (i 1)) (row_v L (i 0))))

/-- The new values' scales. -/
theorem ref5 : rscale (res_main_v26 L) = fun i : S32x4.Idx => gscale ((cacheR L).vn (i 0)) (i 1).val :=
  funext fun i => (congrArg (rscale (res_main_v26 L)) (eq_ix2 (n0 := 32) (n1 := 4) i)).trans
    ((rscale_apply _ (i 0) (i 1)).trans (congrArg (fun x => gscale x (i 1).val) (row_v L (i 0))))

/-- The new values' zeros. -/
theorem ref6 : rmin (res_main_v26 L) = fun i : S32x4.Idx => gmin ((cacheR L).vn (i 0)) (i 1).val :=
  funext fun i => (congrArg (rmin (res_main_v26 L)) (eq_ix2 (n0 := 32) (n1 := 4) i)).trans
    ((rmin_apply _ (i 0) (i 1)).trans (congrArg (fun x => gmin x (i 1).val) (row_v L (i 0))))

/-- The reference leaves the account's results and its arguments as they were. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v122) = (fun i : S32x8x128.Idx => (cacheR (launchContents m c)).out (i 0) (i 1) (i 2))
      ∧ r.2.mem ((c.tc : Thread nD τ).loc main_v132) = (fun i : S32x64.Idx => gbyte ((cacheR (launchContents m c)).kn (i 0)) (i 1))
      ∧ r.2.mem ((c.tc : Thread nD τ).loc main_v12) = (fun i : S32x4.Idx => gscale ((cacheR (launchContents m c)).kn (i 0)) (i 1).val)
      ∧ r.2.mem ((c.tc : Thread nD τ).loc main_v13) = (fun i : S32x4.Idx => gmin ((cacheR (launchContents m c)).kn (i 0)) (i 1).val)
      ∧ r.2.mem ((c.tc : Thread nD τ).loc main_v142) = (fun i : S32x64.Idx => gbyte ((cacheR (launchContents m c)).vn (i 0)) (i 1))
      ∧ r.2.mem ((c.tc : Thread nD τ).loc main_v35) = (fun i : S32x4.Idx => gscale ((cacheR (launchContents m c)).vn (i 0)) (i 1).val)
      ∧ r.2.mem ((c.tc : Thread nD τ).loc main_v36) = (fun i : S32x4.Idx => gmin ((cacheR (launchContents m c)).vn (i 0)) (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => by
    obtain ⟨h0, h1, h2, h3, h4, h5, h6, hr⟩ := h c
    exact ⟨h0.trans (ref0 _), h1.trans (ref1 _), h2.trans (ref2 _), h3.trans (ref3 _), h4.trans (ref4 _), h5.trans (ref5 _), h6.trans (ref6 _), hr⟩)
    (run (F := Ideal) m ρ)

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelBody
public import proofs.«01_k».proof.Proof.KernelIdealBody
public import proofs.«01_k».proof.Proof.StepA
public import proofs.«01_k».proof.Proof.StepB
public import proofs.«01_k».proof.Proof.StepC
public import proofs.«01_k».proof.Proof.StepD
public import proofs.«01_k».proof.Proof.Results
public import proofs.«01_k».proof.Proof.RefResults
public import Idealize.ShloMosaic.Adequacy
public import Idealize.ShloMosaic.Init

@[expose] public section

noncomputable section

namespace Cert.Proof

open Idealize.ShloMosaic Idealize.SL.Sem Cert.Kernel

/-- The reference returns, leaves its arguments as it found them and every counter at zero. -/
theorem frame_r : Cert.quiescent_ReferenceIdeal := by
  intro m ρ _
  exact (θ_run Cert.ReferenceIdeal.defs _ _).mono (fun r h => ⟨fun c => (h c).2.2.2.2.2.2.2,
      Idealize.ShloMosaic.sem_eq_zero_of_no_sems (by decide) r.2⟩)
    (Cert.ReferenceIdeal.Value.run (F := Ideal) m ρ)

/-- Every point of the kernel's grid carries the account on. -/
theorem steps (m : (ℓ : Loc Cert.KernelIdeal.nD Cert.KernelIdeal.τ Cert.KernelIdeal.sig) → Buf (Elt Ideal) ℓ) (c : Dev Cert.KernelIdeal.nD) :
    Cert.KernelIdeal.Body.Steps m c (Cert.KernelIdeal.Body.account (Cert.KernelIdeal.Body.cacheK m c)) where
  zero s := ⟨fun h => absurd h (by omega), fun h => absurd h (by omega), fun n _ h => absurd rfl h⟩
  stepA := Cert.KernelIdeal.Body.stepA m c
  stepB := Cert.KernelIdeal.Body.stepB m c
  stepC := Cert.KernelIdeal.Body.stepC m c
  stepD := Cert.KernelIdeal.Body.stepD m c

/-- Both programs have the same cache in their arguments. -/
theorem cache_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Value.cacheR (Idealize.ShloMosaic.StableHlo.launchContents m' c) = Cert.KernelIdeal.Body.cacheK m c := by
  simp only [Cert.ReferenceIdeal.Value.cacheR, Cert.KernelIdeal.Body.cacheK, Cert.Online.Cache.mk.injEq]
  exact ⟨funext fun n => funext fun h => funext fun d => congrFun h0 _, funext fun n => funext fun d => congrFun h1 _, funext fun n => funext fun d => congrFun h2 _,
    funext fun n => funext fun t => funext fun d => congrFun h3 _,
    funext fun n => funext fun t => funext fun d => congrFun h4 _,
    funext fun n => funext fun t => funext fun d => congrFun h5 _,
    funext fun n => funext fun t => funext fun d => congrFun h6 _,
    funext fun n => funext fun t => funext fun d => congrFun h7 _,
    funext fun n => funext fun t => funext fun d => congrFun h8 _,
    funext fun n => funext fun t => funext fun d => congrFun h9 _,
    funext fun n => funext fun t => funext fun d => congrFun h10 _⟩

/-- The kernel and the reference end with the same results. -/
theorem alg : Cert.algebraic_KernelIdeal_ReferenceIdeal := by
  intro m g m' g' _ hag
  refine ⟨fun c => Cert.KernelIdeal.Body.arrY (Cert.KernelIdeal.Body.cacheK m c), fun c => Cert.KernelIdeal.Body.arrCodes (Cert.KernelIdeal.Body.cacheK m c).kn,
    fun c => Cert.KernelIdeal.Body.arrScales (Cert.KernelIdeal.Body.cacheK m c).kn, fun c => Cert.KernelIdeal.Body.arrZeros (Cert.KernelIdeal.Body.cacheK m c).kn,
    fun c => Cert.KernelIdeal.Body.arrCodes (Cert.KernelIdeal.Body.cacheK m c).vn, fun c => Cert.KernelIdeal.Body.arrScales (Cert.KernelIdeal.Body.cacheK m c).vn,
    fun c => Cert.KernelIdeal.Body.arrZeros (Cert.KernelIdeal.Body.cacheK m c).vn, ?_, ?_⟩
  · refine (θ_run Cert.KernelIdeal.defs _ _).mono (fun r h c => ?_) (Cert.KernelIdeal.Body.launched m (Cert.KernelIdeal.Body.account (Cert.KernelIdeal.Body.cacheK m 0)) g fun c => ?_)
    · obtain rfl : c = 0 := Subsingleton.elim _ _
      exact ⟨Cert.KernelIdeal.Body.result0 m _ h.1 0, Cert.KernelIdeal.Body.result1 m _ h.1 0, Cert.KernelIdeal.Body.result2 m _ h.1 0, Cert.KernelIdeal.Body.result3 m _ h.1 0,
        Cert.KernelIdeal.Body.result4 m _ h.1 0, Cert.KernelIdeal.Body.result5 m _ h.1 0, Cert.KernelIdeal.Body.result6 m _ h.1 0, Cert.KernelIdeal.Body.args_of m _ h.1 0⟩
    · obtain rfl : c = 0 := Subsingleton.elim _ _
      exact steps m 0
  · refine (θ_run Cert.ReferenceIdeal.defs _ _).mono (fun r h c => ?_) (Cert.ReferenceIdeal.Value.ref_run m' g')
    obtain ⟨h0, h1, h2, h3, h4, h5, h6, h7, h8, h9, h10⟩ := hag c
    have e := cache_eq m m' c h0 h1 h2 h3 h4 h5 h6 h7 h8 h9 h10
    have hc := h c
    rw [e] at hc
    exact hc

/-- Everything this certificate claims. -/
theorem claim : Cert.Claim := ⟨Cert.Kernel.Gen.facts, Cert.KernelIdeal.Gen.facts, Cert.ReferenceIdeal.Gen.facts,
  fun m ρ _ => Cert.Kernel.Body.frame m ρ, fun m ρ _ => Cert.KernelIdeal.Body.frame m ρ, frame_r, trivial, alg⟩

end Cert.Proof

end
